-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_idx_in_range : Cert.Pre_idx_in_range.Facts) (hPre_inputs_ok : Cert.Pre_inputs_ok.Facts),
    quiescent_Kernel (hKernel := hKernel) (hPre_idx_in_range := hPre_idx_in_range)
    ∧ quiescent_KernelIdeal (hKernelIdeal := hKernelIdeal) (hPre_idx_in_range := hPre_idx_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_idx_in_range.lean ====
abbrev S16384x26 : Shape := ⟨2, ![16384, 26]⟩
abbrev S832000 : Shape := ⟨1, ![832000]⟩
abbrev S1300x150 : Shape := ⟨2, ![1300, 150]⟩
abbrev S150 : Shape := ⟨1, ![150]⟩
abbrev S150x75 : Shape := ⟨2, ![150, 75]⟩
abbrev S75 : Shape := ⟨1, ![75]⟩
abbrev S75x1 : Shape := ⟨2, ![75, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : IVec S832000 32) (main_arg2 : FVec F S1300x150 .f32) (main_arg3 : FVec F S150 .f32) (main_arg4 : FVec F S150x75 .f32) (main_arg5 : FVec F S75 .f32) (main_arg6 : FVec F S75x1 .f32) (main_arg7 : FVec F S1 .f32) (main_arg8 : FVec F S150 .f32) (main_arg9 : FVec F S150 .f32) (main_arg10 : FVec F S75 .f32) (main_arg11 : FVec F S75 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Pre_inputs_ok.lean ====
abbrev S16384x26 : Shape := ⟨2, ![16384, 26]⟩
abbrev S832000 : Shape := ⟨1, ![832000]⟩
abbrev S1300x150 : Shape := ⟨2, ![1300, 150]⟩
abbrev S150 : Shape := ⟨1, ![150]⟩
abbrev S150x75 : Shape := ⟨2, ![150, 75]⟩
abbrev S75 : Shape := ⟨1, ![75]⟩
abbrev S75x1 : Shape := ⟨2, ![75, 1]⟩
abbrev S1 : Shape := ⟨1, ![1]⟩
abbrev S_ : Shape := ⟨0, ![]⟩
abbrev S26x1000x2x16 : Shape := ⟨4, ![26, 1000, 2, 16]⟩
abbrev S26x1000x2x1x16 : Shape := ⟨5, ![26, 1000, 2, 1, 16]⟩
abbrev S26x1000x2x2x16 : Shape := ⟨5, ![26, 1000, 2, 2, 16]⟩
abbrev S26x1000x64 : Shape := ⟨3, ![26, 1000, 64]⟩
abbrev S26x1000x50 : Shape := ⟨3, ![26, 1000, 50]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  shapeCasts_S832000_S26x1000x2x16 : S832000.ShapeCasts S26x1000x2x16
  bcast_S_S26x1000x2x16 : S_.BroadcastsInDim S26x1000x2x16 (![] : Fin 0 → Fin S26x1000x2x16.rank)
  bcast_S26x1000x2x16_S26x1000x2x1x16_0_1_2_4 : S26x1000x2x16.BroadcastsInDim S26x1000x2x1x16 (![0, 1, 2, 4] : Fin 4 → Fin S26x1000x2x1x16.rank)
  concatenates_S26x1000x2x1x16_S26x1000x2x1x16_S26x1000x2x2x16_d3 : Shape.Concatenates [S26x1000x2x1x16, S26x1000x2x1x16] S26x1000x2x2x16 3
  shapeCasts_S26x1000x2x2x16_S26x1000x64 : S26x1000x2x2x16.ShapeCasts S26x1000x64
  slices_S26x1000x64_S26x1000x50_0_0_0 : S26x1000x64.Slices ![0, 0, 0] S26x1000x50
  bcast_S_S26x1000x50 : S_.BroadcastsInDim S26x1000x50 (![] : Fin 0 → Fin S26x1000x50.rank)
  reducesTo_S26x1000x50_S_d0_1_2 : S26x1000x50.ReducesTo [0, 1, 2] S_
  bcast_S_S1300x150 : S_.BroadcastsInDim S1300x150 (![] : Fin 0 → Fin S1300x150.rank)
  reducesTo_S1300x150_S_d0_1 : S1300x150.ReducesTo [0, 1] S_
  bcast_S_S150 : S_.BroadcastsInDim S150 (![] : Fin 0 → Fin S150.rank)
  reducesTo_S150_S_d0 : S150.ReducesTo [0] S_
  bcast_S_S150x75 : S_.BroadcastsInDim S150x75 (![] : Fin 0 → Fin S150x75.rank)
  reducesTo_S150x75_S_d0_1 : S150x75.ReducesTo [0, 1] S_
  bcast_S_S75 : S_.BroadcastsInDim S75 (![] : Fin 0 → Fin S75.rank)
  reducesTo_S75_S_d0 : S75.ReducesTo [0] S_

variable [Facts]

def fn_part3 {F : FTy → Type} [FloatOps F] (main_arg10 : FVec F S75 .f32) (main_v52 : IVec S_ 1) : IVec S_ 1 :=
  let main_v53 : FVec F S75 .f32 := Host.absf main_arg10
  let main_cst_17 : FVec F S_ .f32 := constant S_ .f32 0x7F800000#32
  let main_v54 : FVec F S75 .f32 := broadcastInDim S75 ![] bcast_S_S75 main_cst_17
  let main_v55 : IVec S75 1 := cmpf .olt main_v53 main_v54
  let main_c_18 : IVec S_ 1 := constantI S_ 1 1#1
  let main_v56 : IVec S_ 1 := (fun x v => Host.reduce IntOp.andi x v reducesTo_S75_S_d0 h_S_) main_v55 main_c_18
  let main_v57 : IVec S_ 1 := andi main_v52 main_v56
  main_v57

def fn_part2 {F : FTy → Type} [FloatOps F] (main_arg5 : FVec F S75 .f32) (main_arg8 : FVec F S150 .f32) (main_arg9 : FVec F S150 .f32) (main_arg10 : FVec F S75 .f32) (main_v32 : IVec S_ 1) (main_v35 : IVec S150x75 1) : IVec S_ 1 :=
  let main_c_10 : IVec S_ 1 := constantI S_ 1 1#1
  let main_v36 : IVec S_ 1 := (fun x v => Host.reduce IntOp.andi x v reducesTo_S150x75_S_d0_1 h_S_) main_v35 main_c_10
  let main_v37 : IVec S_ 1 := andi main_v32 main_v36
  let main_v38 : FVec F S75 .f32 := Host.absf main_arg5
  let main_cst_11 : FVec F S_ .f32 := constant S_ .f32 0x7F800000#32
  let main_v39 : FVec F S75 .f32 := broadcastInDim S75 ![] bcast_S_S75 main_cst_11
  let main_v40 : IVec S75 1 := cmpf .olt main_v38 main_v39
  let main_c_12 : IVec S_ 1 := constantI S_ 1 1#1
  let main_v41 : IVec S_ 1 := (fun x v => Host.reduce IntOp.andi x v reducesTo_S75_S_d0 h_S_) main_v40 main_c_12
  let main_v42 : IVec S_ 1 := andi main_v37 main_v41
  let main_v43 : FVec F S150 .f32 := Host.absf main_arg8
  let main_cst_13 : FVec F S_ .f32 := constant S_ .f32 0x7F800000#32
  let main_v44 : FVec F S150 .f32 := broadcastInDim S150 ![] bcast_S_S150 main_cst_13
  let main_v45 : IVec S150 1 := cmpf .olt main_v43 main_v44
  let main_c_14 : IVec S_ 1 := constantI S_ 1 1#1
  let main_v46 : IVec S_ 1 := (fun x v => Host.reduce IntOp.andi x v reducesTo_S150_S_d0 h_S_) main_v45 main_c_14
  let main_v47 : IVec S_ 1 := andi main_v42 main_v46
  let main_v48 : FVec F S150 .f32 := Host.absf main_arg9
  let main_cst_15 : FVec F S_ .f32 := constant S_ .f32 0x7F800000#32
  let main_v49 : FVec F S150 .f32 := broadcastInDim S150 ![] bcast_S_S150 main_cst_15
  let main_v50 : IVec S150 1 := cmpf .olt main_v48 main_v49
  let main_c_16 : IVec S_ 1 := constantI S_ 1 1#1
  let main_v51 : IVec S_ 1 := (fun x v => Host.reduce IntOp.andi x v reducesTo_S150_S_d0 h_S_) main_v50 main_c_16
  let main_v52 : IVec S_ 1 := andi main_v47 main_v51
  fn_part3 (F := F) main_arg10 main_v52

def fn_part1 {F : FTy → Type} [FloatOps F] (main_arg2 : FVec F S1300x150 .f32) (main_arg3 : FVec F S150 .f32) (main_arg4 : FVec F S150x75 .f32) (main_arg5 : FVec F S75 .f32) (main_arg8 : FVec F S150 .f32) (main_arg9 : FVec F S150 .f32) (main_arg10 : FVec F S75 .f32) (main_v5 : IVec S_ 1) (main_v18 : FVec F S26x1000x50 .f32) : IVec S_ 1 :=
  let main_cst : FVec F S_ .f32 := constant S_ .f32 0x7F800000#32
  let main_v19 : FVec F S26x1000x50 .f32 := broadcastInDim S26x1000x50 ![] bcast_S_S26x1000x50 main_cst
  let main_v20 : IVec S26x1000x50 1 := cmpf .olt main_v18 main_v19
  let main_c_4 : IVec S_ 1 := constantI S_ 1 1#1
  let main_v21 : IVec S_ 1 := (fun x v => Host.reduce IntOp.andi x v reducesTo_S26x1000x50_S_d0_1_2 h_S_) main_v20 main_c_4
  let main_v22 : IVec S_ 1 := andi main_v5 main_v21
  let main_v23 : FVec F S1300x150 .f32 := Host.absf main_arg2
  let main_cst_5 : FVec F S_ .f32 := constant S_ .f32 0x7F800000#32
  let main_v24 : FVec F S1300x150 .f32 := broadcastInDim S1300x150 ![] bcast_S_S1300x150 main_cst_5
  let main_v25 : IVec S1300x150 1 := cmpf .olt main_v23 main_v24
  let main_c_6 : IVec S_ 1 := constantI S_ 1 1#1
  let main_v26 : IVec S_ 1 := (fun x v => Host.reduce IntOp.andi x v reducesTo_S1300x150_S_d0_1 h_S_) main_v25 main_c_6
  let main_v27 : IVec S_ 1 := andi main_v22 main_v26
  let main_v28 : FVec F S150 .f32 := Host.absf main_arg3
  let main_cst_7 : FVec F S_ .f32 := constant S_ .f32 0x7F800000#32
  let main_v29 : FVec F S150 .f32 := broadcastInDim S150 ![] bcast_S_S150 main_cst_7
  let main_v30 : IVec S150 1 := cmpf .olt main_v28 main_v29
  let main_c_8 : IVec S_ 1 := constantI S_ 1 1#1
  let main_v31 : IVec S_ 1 := (fun x v => Host.reduce IntOp.andi x v reducesTo_S150_S_d0 h_S_) main_v30 main_c_8
  let main_v32 : IVec S_ 1 := andi main_v27 main_v31
  let main_v33 : FVec F S150x75 .f32 := Host.absf main_arg4
  let main_cst_9 : FVec F S_ .f32 := constant S_ .f32 0x7F800000#32
  let main_v34 : FVec F S150x75 .f32 := broadcastInDim S150x75 ![] bcast_S_S150x75 main_cst_9
  let main_v35 : IVec S150x75 1 := cmpf .olt main_v33 main_v34
  fn_part2 (F := F) main_arg5 main_arg8 main_arg9 main_arg10 main_v32 main_v35

def fn {F : FTy → Type} [FloatOps F] (main_arg0 : IVec S16384x26 32) (main_arg1 : IVec S832000 32) (main_arg2 : FVec F S1300x150 .f32) (main_arg3 : FVec F S150 .f32) (main_arg4 : FVec F S150x75 .f32) (main_arg5 : FVec F S75 .f32) (main_arg6 : FVec F S75x1 .f32) (main_arg7 : FVec F S1 .f32) (main_arg8 : FVec F S150 .f32) (main_arg9 : FVec F S150 .f32) (main_arg10 : FVec F S75 .f32) (main_arg11 : FVec F S75 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  let main_v6 : IVec S26x1000x2x16 32 := shapeCast S26x1000x2x16 main_arg1 shapeCasts_S832000_S26x1000x2x16
  let main_c_2 : IVec S_ 32 := constantI S_ 32 16#32
  let main_v7 : IVec S26x1000x2x16 32 := broadcastInDim S26x1000x2x16 ![] bcast_S_S26x1000x2x16 main_c_2
  let main_v8 : IVec S26x1000x2x16 32 := Host.shli main_v6 main_v7
  let main_v9 : FVec F S26x1000x2x16 .f32 := bitcastToFloat .f32 main_v8
  let main_c_3 : IVec S_ 32 := constantI S_ 32 4294901760#32
  let main_v10 : IVec S26x1000x2x16 32 := broadcastInDim S26x1000x2x16 ![] bcast_S_S26x1000x2x16 main_c_3
  let main_v11 : IVec S26x1000x2x16 32 := andi main_v6 main_v10
  let main_v12 : FVec F S26x1000x2x16 .f32 := bitcastToFloat .f32 main_v11
  let main_v13 : FVec F S26x1000x2x1x16 .f32 := broadcastInDim S26x1000x2x1x16 ![0, 1, 2, 4] bcast_S26x1000x2x16_S26x1000x2x1x16_0_1_2_4 main_v9
  let main_v14 : FVec F S26x1000x2x1x16 .f32 := broadcastInDim S26x1000x2x1x16 ![0, 1, 2, 4] bcast_S26x1000x2x16_S26x1000x2x1x16_0_1_2_4 main_v12
  let main_v15 : FVec F S26x1000x2x2x16 .f32 := (fun a b => concatenate S26x1000x2x2x16 3 [⟨S26x1000x2x1x16, a⟩, ⟨S26x1000x2x1x16, b⟩] concatenates_S26x1000x2x1x16_S26x1000x2x1x16_S26x1000x2x2x16_d3) main_v13 main_v14
  let main_v16 : FVec F S26x1000x64 .f32 := shapeCast S26x1000x64 main_v15 shapeCasts_S26x1000x2x2x16_S26x1000x64
  let main_v17 : FVec F S26x1000x50 .f32 := (extractStridedSlice S26x1000x50 ![0, 0, 0] · slices_S26x1000x64_S26x1000x50_0_0_0) main_v16
  let main_v18 : FVec F S26x1000x50 .f32 := Host.absf main_v17
  fn_part1 (F := F) main_arg2 main_arg3 main_arg4 main_arg5 main_arg8 main_arg9 main_arg10 main_v5 main_v18
-- ==== Kernel.lean ====
abbrev S16384x26 : Shape := ⟨2, ![16384, 26]⟩
abbrev S832000 : Shape := ⟨1, ![832000]⟩
abbrev S1300x150 : Shape := ⟨2, ![1300, 150]⟩
abbrev S150 : Shape := ⟨1, ![150]⟩
abbrev S150x75 : Shape := ⟨2, ![150, 75]⟩
abbrev S75 : Shape := ⟨1, ![75]⟩
abbrev S75x1 : Shape := ⟨2, ![75, 1]⟩
abbrev S1 : Shape := ⟨1, ![1]⟩
abbrev S832 : Shape := ⟨1, ![832]⟩
abbrev S26x16384 : Shape := ⟨2, ![26, 16384]⟩
abbrev S26x32x1x512 : Shape := ⟨4, ![26, 32, 1, 512]⟩
abbrev S832x16384 : Shape := ⟨2, ![832, 16384]⟩
abbrev S32000 : Shape := ⟨1, ![32000]⟩
abbrev S512 : Shape := ⟨1, ![512]⟩
abbrev S32x512 : Shape := ⟨2, ![32, 512]⟩
abbrev S_ : Shape := ⟨0, ![]⟩
abbrev S1x1x1x512 : Shape := ⟨4, ![1, 1, 1, 512]⟩
abbrev S16 : Shape := ⟨1, ![16]⟩
abbrev S1x16 : Shape := ⟨2, ![1, 16]⟩
abbrev S832x1 : Shape := ⟨2, ![832, 1]⟩
abbrev S832x150 : Shape := ⟨2, ![832, 150]⟩
abbrev S1x150 : Shape := ⟨2, ![1, 150]⟩
abbrev S1x75 : Shape := ⟨2, ![1, 75]⟩
abbrev S1x1 : Shape := ⟨2, ![1, 1]⟩
abbrev S16384x1 : Shape := ⟨2, ![16384, 1]⟩
abbrev S832x512 : Shape := ⟨2, ![832, 512]⟩
abbrev S16384x150 : Shape := ⟨2, ![16384, 150]⟩
abbrev S512x150 : Shape := ⟨2, ![512, 150]⟩
abbrev S16384x75 : Shape := ⟨2, ![16384, 75]⟩

abbrev nBuf : Table → Nat
  | .hbm => 59
  | .local .tc .vmem => 17
  | .local .scVector .vmem => 5
  | _ => 0

abbrev bufTy : (tb : Table) → Fin (nBuf tb) → BufTy
  | .hbm, ⟨0, _⟩ => ⟨S16384x26, .i32⟩
  | .hbm, ⟨1, _⟩ => ⟨S832000, .i32⟩
  | .hbm, ⟨2, _⟩ => ⟨S1300x150, .f32⟩
  | .hbm, ⟨3, _⟩ => ⟨S150, .f32⟩
  | .hbm, ⟨4, _⟩ => ⟨S150x75, .f32⟩
  | .hbm, ⟨5, _⟩ => ⟨S75, .f32⟩
  | .hbm, ⟨6, _⟩ => ⟨S75x1, .f32⟩
  | .hbm, ⟨7, _⟩ => ⟨S1, .f32⟩
  | .hbm, ⟨8, _⟩ => ⟨S150, .f32⟩
  | .hbm, ⟨9, _⟩ => ⟨S150, .f32⟩
  | .hbm, ⟨10, _⟩ => ⟨S75, .f32⟩
  | .hbm, ⟨11, _⟩ => ⟨S75, .f32⟩
  | .hbm, ⟨12, _⟩ => ⟨S832, .i1⟩
  | .hbm, ⟨13, _⟩ => ⟨S832, .i32⟩
  | .hbm, ⟨14, _⟩ => ⟨S832, .i1⟩
  | .hbm, ⟨15, _⟩ => ⟨S832, .i32⟩
  | .hbm, ⟨16, _⟩ => ⟨S26x16384, .i32⟩
  | .hbm, ⟨17, _⟩ => ⟨S26x32x1x512, .i32⟩
  | .hbm, ⟨18, _⟩ => ⟨S832x16384, .i32⟩
  | .hbm, ⟨19, _⟩ => ⟨S832x1, .i1⟩
  | .hbm, ⟨20, _⟩ => ⟨S_, .i32⟩
  | .hbm, ⟨21, _⟩ => ⟨S832, .i32⟩
  | .hbm, ⟨22, _⟩ => ⟨S832, .i1⟩
  | .hbm, ⟨23, _⟩ => ⟨S_, .i32⟩
  | .hbm, ⟨24, _⟩ => ⟨S832, .i32⟩
  | .hbm, ⟨25, _⟩ => ⟨S832, .i32⟩
  | .hbm, ⟨26, _⟩ => ⟨S832, .i32⟩
  | .hbm, ⟨27, _⟩ => ⟨S832x1, .i32⟩
  | .hbm, ⟨28, _⟩ => ⟨S832x150, .f32⟩
  | .hbm, ⟨29, _⟩ => ⟨S_, .f32⟩
  | .hbm, ⟨30, _⟩ => ⟨S_, .f32⟩
  | .hbm, ⟨31, _⟩ => ⟨S832x150, .i1⟩
  | .hbm, ⟨32, _⟩ => ⟨S832x150, .f32⟩
  | .hbm, ⟨33, _⟩ => ⟨S832x150, .f32⟩
  | .hbm, ⟨34, _⟩ => ⟨S832x1, .i1⟩
  | .hbm, ⟨35, _⟩ => ⟨S_, .i32⟩
  | .hbm, ⟨36, _⟩ => ⟨S832, .i32⟩
  | .hbm, ⟨37, _⟩ => ⟨S832, .i1⟩
  | .hbm, ⟨38, _⟩ => ⟨S_, .i32⟩
  | .hbm, ⟨39, _⟩ => ⟨S832, .i32⟩
  | .hbm, ⟨40, _⟩ => ⟨S832, .i32⟩
  | .hbm, ⟨41, _⟩ => ⟨S832, .i32⟩
  | .hbm, ⟨42, _⟩ => ⟨S832x1, .i32⟩
  | .hbm, ⟨43, _⟩ => ⟨S832x150, .f32⟩
  | .hbm, ⟨44, _⟩ => ⟨S_, .f32⟩
  | .hbm, ⟨45, _⟩ => ⟨S_, .f32⟩
  | .hbm, ⟨46, _⟩ => ⟨S832x150, .i1⟩
  | .hbm, ⟨47, _⟩ => ⟨S832x150, .f32⟩
  | .hbm, ⟨48, _⟩ => ⟨S832x150, .f32⟩
  | .hbm, ⟨49, _⟩ => ⟨S832x150, .bf16⟩
  | .hbm, ⟨50, _⟩ => ⟨S832x150, .bf16⟩
  | .hbm, ⟨51, _⟩ => ⟨S1x150, .f32⟩
  | .hbm, ⟨52, _⟩ => ⟨S1x75, .f32⟩
  | .hbm, ⟨53, _⟩ => ⟨S1x1, .f32⟩
  | .hbm, ⟨54, _⟩ => ⟨S1x150, .f32⟩
  | .hbm, ⟨55, _⟩ => ⟨S1x150, .f32⟩
  | .hbm, ⟨56, _⟩ => ⟨S1x75, .f32⟩
  | .hbm, ⟨57, _⟩ => ⟨S1x75, .f32⟩
  | .hbm, ⟨58, _⟩ => ⟨S16384x1, .f32⟩
  | .local .tc .vmem, ⟨0, _⟩ => ⟨S832x512, .i32⟩
  | .local .tc .vmem, ⟨1, _⟩ => ⟨S832x512, .i32⟩
  | .local .tc .vmem, ⟨2, _⟩ => ⟨S832x150, .bf16⟩
  | .local .tc .vmem, ⟨3, _⟩ => ⟨S832x150, .bf16⟩
  | .local .tc .vmem, ⟨4, _⟩ => ⟨S1x150, .f32⟩
  | .local .tc .vmem, ⟨5, _⟩ => ⟨S150x75, .f32⟩
  | .local .tc .vmem, ⟨6, _⟩ => ⟨S1x75, .f32⟩
  | .local .tc .vmem, ⟨7, _⟩ => ⟨S75x1, .f32⟩
  | .local .tc .vmem, ⟨8, _⟩ => ⟨S1x1, .f32⟩
  | .local .tc .vmem, ⟨9, _⟩ => ⟨S1x150, .f32⟩
  | .local .tc .vmem, ⟨10, _⟩ => ⟨S1x150, .f32⟩
  | .local .tc .vmem, ⟨11, _⟩ => ⟨S1x75, .f32⟩
  | .local .tc .vmem, ⟨12, _⟩ => ⟨S1x75, .f32⟩
  | .local .tc .vmem, ⟨13, _⟩ => ⟨S16384x1, .f32⟩
  | .local .tc .vmem, ⟨14, _⟩ => ⟨S16384x150, .f32⟩
  | .local .tc .vmem, ⟨15, _⟩ => ⟨S1x150, .f32⟩
  | .local .tc .vmem, ⟨16, _⟩ => ⟨S1x150, .f32⟩
  | .local .scVector .vmem, ⟨0, _⟩ => ⟨S32000, .i32⟩
  | .local .scVector .vmem, ⟨1, _⟩ => ⟨S512, .i32⟩
  | .local .scVector .vmem, ⟨2, _⟩ => ⟨S512, .i32⟩
  | .local .scVector .vmem, ⟨3, _⟩ => ⟨S32x512, .i32⟩
  | .local .scVector .vmem, ⟨4, _⟩ => ⟨S32x512, .i32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_3 : Ref sig .tc := ⟨.hbm, 20, rfl⟩
abbrev main_v4 : Ref sig .tc := ⟨.hbm, 21, rfl⟩
abbrev main_v5 : Ref sig .tc := ⟨.hbm, 22, rfl⟩
abbrev main_c_4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v11 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_arg1_scv : Ref sig .scVector := ⟨.hbm, 1, rfl⟩
abbrev main_v1_scv : Ref sig .scVector := ⟨.hbm, 17, rfl⟩
abbrev main_v2_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_3 : BitVec 32 := 1#32
  ⟨c0_i32, v8, c1_i32_3⟩
def k0_mult1 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32000_i32 : BitVec 32 := 32000#32
  let v38 : BitVec 32 := Scalar.muli v35 c32000_i32
  v38
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32000_i32 : BitVec 32 := 32000#32
  let v38 : BitVec 32 := Scalar.muli v35 c32000_i32
  let v39 : BitVec 32 := v38
  ![v39.toNat]
def k0_off2 (i : grid0.Coords) (k0_t1 : Fin (k0_t1_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c0_i32_19 : BitVec 32 := 0#32
  let c0_i32_20 : BitVec 32 := 0#32
  ![v35.toNat, v45.toNat, 0, 0]
def k0_mult2 (arg16 : BitVec 32) : BitVec 32 :=
  let c32_i32_141 : BitVec 32 := 32#32
  let v204 : BitVec 32 := Scalar.muli arg16 c32_i32_141
  v204
def k0_cond1 (arg17 : BitVec 32) : BitVec 1 :=
  let c0_i32_25 : BitVec 32 := 0#32
  let v55 : BitVec 1 := Scalar.cmpi .sge arg17 c0_i32_25
  let v56 : BitVec 32 := Scalar.extui v55
  let c0_i32_26 : BitVec 32 := 0#32
  let v57 : BitVec 1 := Scalar.cmpi .ne v56 c0_i32_26
  v57

def k0_mult3 (arg17 : BitVec 32) : BitVec 32 :=
  arg17
def k0_off3 (arg16 : BitVec 32) (arg17 : BitVec 32) : Fin 2 → Nat :=
  let c32_i32_141 : BitVec 32 := 32#32
  let v204 : BitVec 32 := Scalar.muli arg16 c32_i32_141
  let v205 : BitVec 32 := v204
  let v206 : BitVec 32 := arg17
  ![v205.toNat, v206.toNat]

def k0_chk1 (arg16 : BitVec 32) (arg17 : BitVec 32) : Prop :=
  (∀ (k0_h1 : k0_cond1 arg17 = 1#1), 32 ∣ (k0_mult2 arg16).toNat) ∧
  (∀ (k0_h1 : k0_cond1 arg17 = 1#1), 512 ∣ (k0_mult3 arg17).toNat) ∧
  (∀ (k0_h1 : k0_cond1 arg17 = 1#1), ∀ a, (k0_off3 arg16 arg17) a + S32x512.size a ≤ S832x16384.size a)
theorem k0_mult2_dvd : ∀ (arg16 : BitVec 32) (arg17 : BitVec 32) (k0_hw1 : k0_chk1 arg16 arg17), ∀ (k0_h1 : k0_cond1 arg17 = 1#1), 32 ∣ (k0_mult2 arg16).toNat := fun arg16 arg17 k0_hw1 k0_h1 => k0_hw1.1 k0_h1
theorem k0_mult3_dvd : ∀ (arg16 : BitVec 32) (arg17 : BitVec 32) (k0_hw1 : k0_chk1 arg16 arg17), ∀ (k0_h1 : k0_cond1 arg17 = 1#1), 512 ∣ (k0_mult3 arg17).toNat := fun arg16 arg17 k0_hw1 k0_h1 => k0_hw1.2.1 k0_h1
theorem k0_off3_inb : ∀ (arg16 : BitVec 32) (arg17 : BitVec 32) (k0_hw1 : k0_chk1 arg16 arg17), ∀ (k0_h1 : k0_cond1 arg17 = 1#1), ∀ a, (k0_off3 arg16 arg17) a + S32x512.size a ≤ S832x16384.size a := fun arg16 arg17 k0_hw1 k0_h1 => k0_hw1.2.2 k0_h1

@[reducible] def k0_t2_loop : Scf.Loop 32 :=
  let c0_i32_27 : BitVec 32 := 0#32
  let c32_i32_28 : BitVec 32 := 32#32
  let v58 : BitVec 32 := Scalar.addi c0_i32_27 c32_i32_28
  let c1_i32_29 : BitVec 32 := 1#32
  ⟨c0_i32_27, v58, c1_i32_29⟩
def k0_off4 (k0_t2 : Fin k0_t2_loop.trips) : Fin 1 → Nat :=
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk2 (v212 : IVec S16 32) : Prop :=
  (∀ a x, ((![v212] : Fin 1 → IVec S16 32) a x).toNat < S32000.size a)
theorem k0_idx1_inb : ∀ (v212 : IVec S16 32) (k0_hw2 : k0_chk2 v212), ∀ a x, ((![v212] : Fin 1 → IVec S16 32) a x).toNat < S32000.size a := fun v212 k0_hw2 => k0_hw2
def k0_off5 (k0_t2 : Fin k0_t2_loop.trips) : Fin 2 → Nat :=
  let c0_i32_146 : BitVec 32 := 0#32
  let v215 : Index := Scalar.indexCast c0_i32_146
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk3 (v219 : IVec S16 32) : Prop :=
  (∀ a x, ((![v219] : Fin 1 → IVec S16 32) a x).toNat < S32000.size a)
theorem k0_idx2_inb : ∀ (v219 : IVec S16 32) (k0_hw3 : k0_chk3 v219), ∀ a x, ((![v219] : Fin 1 → IVec S16 32) a x).toNat < S32000.size a := fun v219 k0_hw3 => k0_hw3
def k0_off6 (k0_t2 : Fin k0_t2_loop.trips) : Fin 2 → Nat :=
  let c1_i32_149 : BitVec 32 := 1#32
  let v222 : Index := Scalar.indexCast c1_i32_149
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk4 (v226 : IVec S16 32) : Prop :=
  (∀ a x, ((![v226] : Fin 1 → IVec S16 32) a x).toNat < S32000.size a)
theorem k0_idx3_inb : ∀ (v226 : IVec S16 32) (k0_hw4 : k0_chk4 v226), ∀ a x, ((![v226] : Fin 1 → IVec S16 32) a x).toNat < S32000.size a := fun v226 k0_hw4 => k0_hw4
def k0_off7 (k0_t2 : Fin k0_t2_loop.trips) : Fin 2 → Nat :=
  let c2_i32_152 : BitVec 32 := 2#32
  let v229 : Index := Scalar.indexCast c2_i32_152
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk5 (v233 : IVec S16 32) : Prop :=
  (∀ a x, ((![v233] : Fin 1 → IVec S16 32) a x).toNat < S32000.size a)
theorem k0_idx4_inb : ∀ (v233 : IVec S16 32) (k0_hw5 : k0_chk5 v233), ∀ a x, ((![v233] : Fin 1 → IVec S16 32) a x).toNat < S32000.size a := fun v233 k0_hw5 => k0_hw5
def k0_off8 (k0_t2 : Fin k0_t2_loop.trips) : Fin 2 → Nat :=
  let c3_i32_155 : BitVec 32 := 3#32
  let v236 : Index := Scalar.indexCast c3_i32_155
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk6 (v240 : IVec S16 32) : Prop :=
  (∀ a x, ((![v240] : Fin 1 → IVec S16 32) a x).toNat < S32000.size a)
theorem k0_idx5_inb : ∀ (v240 : IVec S16 32) (k0_hw6 : k0_chk6 v240), ∀ a x, ((![v240] : Fin 1 → IVec S16 32) a x).toNat < S32000.size a := fun v240 k0_hw6 => k0_hw6
def k0_off9 (k0_t2 : Fin k0_t2_loop.trips) : Fin 2 → Nat :=
  let c4_i32_158 : BitVec 32 := 4#32
  let v243 : Index := Scalar.indexCast c4_i32_158
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk7 (v247 : IVec S16 32) : Prop :=
  (∀ a x, ((![v247] : Fin 1 → IVec S16 32) a x).toNat < S32000.size a)
theorem k0_idx6_inb : ∀ (v247 : IVec S16 32) (k0_hw7 : k0_chk7 v247), ∀ a x, ((![v247] : Fin 1 → IVec S16 32) a x).toNat < S32000.size a := fun v247 k0_hw7 => k0_hw7
def k0_off10 (k0_t2 : Fin k0_t2_loop.trips) : Fin 2 → Nat :=
  let c5_i32_161 : BitVec 32 := 5#32
  let v250 : Index := Scalar.indexCast c5_i32_161
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk8 (v254 : IVec S16 32) : Prop :=
  (∀ a x, ((![v254] : Fin 1 → IVec S16 32) a x).toNat < S32000.size a)
theorem k0_idx7_inb : ∀ (v254 : IVec S16 32) (k0_hw8 : k0_chk8 v254), ∀ a x, ((![v254] : Fin 1 → IVec S16 32) a x).toNat < S32000.size a := fun v254 k0_hw8 => k0_hw8
def k0_off11 (k0_t2 : Fin k0_t2_loop.trips) : Fin 2 → Nat :=
  let c6_i32_164 : BitVec 32 := 6#32
  let v257 : Index := Scalar.indexCast c6_i32_164
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk9 (v261 : IVec S16 32) : Prop :=
  (∀ a x, ((![v261] : Fin 1 → IVec S16 32) a x).toNat < S32000.size a)
theorem k0_idx8_inb : ∀ (v261 : IVec S16 32) (k0_hw9 : k0_chk9 v261), ∀ a x, ((![v261] : Fin 1 → IVec S16 32) a x).toNat < S32000.size a := fun v261 k0_hw9 => k0_hw9
def k0_off12 (k0_t2 : Fin k0_t2_loop.trips) : Fin 2 → Nat :=
  let c7_i32_167 : BitVec 32 := 7#32
  let v264 : Index := Scalar.indexCast c7_i32_167
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk10 (v268 : IVec S16 32) : Prop :=
  (∀ a x, ((![v268] : Fin 1 → IVec S16 32) a x).toNat < S32000.size a)
theorem k0_idx9_inb : ∀ (v268 : IVec S16 32) (k0_hw10 : k0_chk10 v268), ∀ a x, ((![v268] : Fin 1 → IVec S16 32) a x).toNat < S32000.size a := fun v268 k0_hw10 => k0_hw10
def k0_off13 (k0_t2 : Fin k0_t2_loop.trips) : Fin 2 → Nat :=
  let c8_i32_170 : BitVec 32 := 8#32
  let v271 : Index := Scalar.indexCast c8_i32_170
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk11 (v275 : IVec S16 32) : Prop :=
  (∀ a x, ((![v275] : Fin 1 → IVec S16 32) a x).toNat < S32000.size a)
theorem k0_idx10_inb : ∀ (v275 : IVec S16 32) (k0_hw11 : k0_chk11 v275), ∀ a x, ((![v275] : Fin 1 → IVec S16 32) a x).toNat < S32000.size a := fun v275 k0_hw11 => k0_hw11
def k0_off14 (k0_t2 : Fin k0_t2_loop.trips) : Fin 2 → Nat :=
  let c9_i32_172 : BitVec 32 := 9#32
  let v278 : Index := Scalar.indexCast c9_i32_172
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk12 (v282 : IVec S16 32) : Prop :=
  (∀ a x, ((![v282] : Fin 1 → IVec S16 32) a x).toNat < S32000.size a)
theorem k0_idx11_inb : ∀ (v282 : IVec S16 32) (k0_hw12 : k0_chk12 v282), ∀ a x, ((![v282] : Fin 1 → IVec S16 32) a x).toNat < S32000.size a := fun v282 k0_hw12 => k0_hw12
def k0_off15 (k0_t2 : Fin k0_t2_loop.trips) : Fin 2 → Nat :=
  let c10_i32_174 : BitVec 32 := 10#32
  let v285 : Index := Scalar.indexCast c10_i32_174
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk13 (v289 : IVec S16 32) : Prop :=
  (∀ a x, ((![v289] : Fin 1 → IVec S16 32) a x).toNat < S32000.size a)
theorem k0_idx12_inb : ∀ (v289 : IVec S16 32) (k0_hw13 : k0_chk13 v289), ∀ a x, ((![v289] : Fin 1 → IVec S16 32) a x).toNat < S32000.size a := fun v289 k0_hw13 => k0_hw13
def k0_off16 (k0_t2 : Fin k0_t2_loop.trips) : Fin 2 → Nat :=
  let c11_i32_176 : BitVec 32 := 11#32
  let v292 : Index := Scalar.indexCast c11_i32_176
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk14 (v296 : IVec S16 32) : Prop :=
  (∀ a x, ((![v296] : Fin 1 → IVec S16 32) a x).toNat < S32000.size a)
theorem k0_idx13_inb : ∀ (v296 : IVec S16 32) (k0_hw14 : k0_chk14 v296), ∀ a x, ((![v296] : Fin 1 → IVec S16 32) a x).toNat < S32000.size a := fun v296 k0_hw14 => k0_hw14
def k0_off17 (k0_t2 : Fin k0_t2_loop.trips) : Fin 2 → Nat :=
  let c12_i32_178 : BitVec 32 := 12#32
  let v299 : Index := Scalar.indexCast c12_i32_178
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk15 (v303 : IVec S16 32) : Prop :=
  (∀ a x, ((![v303] : Fin 1 → IVec S16 32) a x).toNat < S32000.size a)
theorem k0_idx14_inb : ∀ (v303 : IVec S16 32) (k0_hw15 : k0_chk15 v303), ∀ a x, ((![v303] : Fin 1 → IVec S16 32) a x).toNat < S32000.size a := fun v303 k0_hw15 => k0_hw15
def k0_off18 (k0_t2 : Fin k0_t2_loop.trips) : Fin 2 → Nat :=
  let c13_i32_180 : BitVec 32 := 13#32
  let v306 : Index := Scalar.indexCast c13_i32_180
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk16 (v310 : IVec S16 32) : Prop :=
  (∀ a x, ((![v310] : Fin 1 → IVec S16 32) a x).toNat < S32000.size a)
theorem k0_idx15_inb : ∀ (v310 : IVec S16 32) (k0_hw16 : k0_chk16 v310), ∀ a x, ((![v310] : Fin 1 → IVec S16 32) a x).toNat < S32000.size a := fun v310 k0_hw16 => k0_hw16
def k0_off19 (k0_t2 : Fin k0_t2_loop.trips) : Fin 2 → Nat :=
  let c14_i32_182 : BitVec 32 := 14#32
  let v313 : Index := Scalar.indexCast c14_i32_182
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk17 (v317 : IVec S16 32) : Prop :=
  (∀ a x, ((![v317] : Fin 1 → IVec S16 32) a x).toNat < S32000.size a)
theorem k0_idx16_inb : ∀ (v317 : IVec S16 32) (k0_hw17 : k0_chk17 v317), ∀ a x, ((![v317] : Fin 1 → IVec S16 32) a x).toNat < S32000.size a := fun v317 k0_hw17 => k0_hw17
def k0_off20 (k0_t2 : Fin k0_t2_loop.trips) : Fin 2 → Nat :=
  let c15_i32_184 : BitVec 32 := 15#32
  let v320 : Index := Scalar.indexCast c15_i32_184
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk18 (v324 : IVec S16 32) : Prop :=
  (∀ a x, ((![v324] : Fin 1 → IVec S16 32) a x).toNat < S32000.size a)
theorem k0_idx17_inb : ∀ (v324 : IVec S16 32) (k0_hw18 : k0_chk18 v324), ∀ a x, ((![v324] : Fin 1 → IVec S16 32) a x).toNat < S32000.size a := fun v324 k0_hw18 => k0_hw18
def k0_off21 (k0_t2 : Fin k0_t2_loop.trips) : Fin 2 → Nat :=
  let c16_i32_187 : BitVec 32 := 16#32
  let v327 : Index := Scalar.indexCast c16_i32_187
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk19 (v331 : IVec S16 32) : Prop :=
  (∀ a x, ((![v331] : Fin 1 → IVec S16 32) a x).toNat < S32000.size a)
theorem k0_idx18_inb : ∀ (v331 : IVec S16 32) (k0_hw19 : k0_chk19 v331), ∀ a x, ((![v331] : Fin 1 → IVec S16 32) a x).toNat < S32000.size a := fun v331 k0_hw19 => k0_hw19
def k0_off22 (k0_t2 : Fin k0_t2_loop.trips) : Fin 2 → Nat :=
  let c17_i32_189 : BitVec 32 := 17#32
  let v334 : Index := Scalar.indexCast c17_i32_189
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk20 (v338 : IVec S16 32) : Prop :=
  (∀ a x, ((![v338] : Fin 1 → IVec S16 32) a x).toNat < S32000.size a)
theorem k0_idx19_inb : ∀ (v338 : IVec S16 32) (k0_hw20 : k0_chk20 v338), ∀ a x, ((![v338] : Fin 1 → IVec S16 32) a x).toNat < S32000.size a := fun v338 k0_hw20 => k0_hw20
def k0_off23 (k0_t2 : Fin k0_t2_loop.trips) : Fin 2 → Nat :=
  let c18_i32_191 : BitVec 32 := 18#32
  let v341 : Index := Scalar.indexCast c18_i32_191
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk21 (v345 : IVec S16 32) : Prop :=
  (∀ a x, ((![v345] : Fin 1 → IVec S16 32) a x).toNat < S32000.size a)
theorem k0_idx20_inb : ∀ (v345 : IVec S16 32) (k0_hw21 : k0_chk21 v345), ∀ a x, ((![v345] : Fin 1 → IVec S16 32) a x).toNat < S32000.size a := fun v345 k0_hw21 => k0_hw21
def k0_off24 (k0_t2 : Fin k0_t2_loop.trips) : Fin 2 → Nat :=
  let c19_i32_193 : BitVec 32 := 19#32
  let v348 : Index := Scalar.indexCast c19_i32_193
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk22 (v352 : IVec S16 32) : Prop :=
  (∀ a x, ((![v352] : Fin 1 → IVec S16 32) a x).toNat < S32000.size a)
theorem k0_idx21_inb : ∀ (v352 : IVec S16 32) (k0_hw22 : k0_chk22 v352), ∀ a x, ((![v352] : Fin 1 → IVec S16 32) a x).toNat < S32000.size a := fun v352 k0_hw22 => k0_hw22
def k0_off25 (k0_t2 : Fin k0_t2_loop.trips) : Fin 2 → Nat :=
  let c20_i32_195 : BitVec 32 := 20#32
  let v355 : Index := Scalar.indexCast c20_i32_195
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk23 (v359 : IVec S16 32) : Prop :=
  (∀ a x, ((![v359] : Fin 1 → IVec S16 32) a x).toNat < S32000.size a)
theorem k0_idx22_inb : ∀ (v359 : IVec S16 32) (k0_hw23 : k0_chk23 v359), ∀ a x, ((![v359] : Fin 1 → IVec S16 32) a x).toNat < S32000.size a := fun v359 k0_hw23 => k0_hw23
def k0_off26 (k0_t2 : Fin k0_t2_loop.trips) : Fin 2 → Nat :=
  let c21_i32_197 : BitVec 32 := 21#32
  let v362 : Index := Scalar.indexCast c21_i32_197
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk24 (v366 : IVec S16 32) : Prop :=
  (∀ a x, ((![v366] : Fin 1 → IVec S16 32) a x).toNat < S32000.size a)
theorem k0_idx23_inb : ∀ (v366 : IVec S16 32) (k0_hw24 : k0_chk24 v366), ∀ a x, ((![v366] : Fin 1 → IVec S16 32) a x).toNat < S32000.size a := fun v366 k0_hw24 => k0_hw24
def k0_off27 (k0_t2 : Fin k0_t2_loop.trips) : Fin 2 → Nat :=
  let c22_i32_199 : BitVec 32 := 22#32
  let v369 : Index := Scalar.indexCast c22_i32_199
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk25 (v373 : IVec S16 32) : Prop :=
  (∀ a x, ((![v373] : Fin 1 → IVec S16 32) a x).toNat < S32000.size a)
theorem k0_idx24_inb : ∀ (v373 : IVec S16 32) (k0_hw25 : k0_chk25 v373), ∀ a x, ((![v373] : Fin 1 → IVec S16 32) a x).toNat < S32000.size a := fun v373 k0_hw25 => k0_hw25
def k0_off28 (k0_t2 : Fin k0_t2_loop.trips) : Fin 2 → Nat :=
  let c23_i32_201 : BitVec 32 := 23#32
  let v376 : Index := Scalar.indexCast c23_i32_201
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk26 (v380 : IVec S16 32) : Prop :=
  (∀ a x, ((![v380] : Fin 1 → IVec S16 32) a x).toNat < S32000.size a)
theorem k0_idx25_inb : ∀ (v380 : IVec S16 32) (k0_hw26 : k0_chk26 v380), ∀ a x, ((![v380] : Fin 1 → IVec S16 32) a x).toNat < S32000.size a := fun v380 k0_hw26 => k0_hw26
def k0_off29 (k0_t2 : Fin k0_t2_loop.trips) : Fin 2 → Nat :=
  let c24_i32_203 : BitVec 32 := 24#32
  let v383 : Index := Scalar.indexCast c24_i32_203
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk27 (v387 : IVec S16 32) : Prop :=
  (∀ a x, ((![v387] : Fin 1 → IVec S16 32) a x).toNat < S32000.size a)
theorem k0_idx26_inb : ∀ (v387 : IVec S16 32) (k0_hw27 : k0_chk27 v387), ∀ a x, ((![v387] : Fin 1 → IVec S16 32) a x).toNat < S32000.size a := fun v387 k0_hw27 => k0_hw27
def k0_off30 (k0_t2 : Fin k0_t2_loop.trips) : Fin 2 → Nat :=
  let c25_i32_205 : BitVec 32 := 25#32
  let v390 : Index := Scalar.indexCast c25_i32_205
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk28 (v394 : IVec S16 32) : Prop :=
  (∀ a x, ((![v394] : Fin 1 → IVec S16 32) a x).toNat < S32000.size a)
theorem k0_idx27_inb : ∀ (v394 : IVec S16 32) (k0_hw28 : k0_chk28 v394), ∀ a x, ((![v394] : Fin 1 → IVec S16 32) a x).toNat < S32000.size a := fun v394 k0_hw28 => k0_hw28
def k0_off31 (k0_t2 : Fin k0_t2_loop.trips) : Fin 2 → Nat :=
  let c26_i32_207 : BitVec 32 := 26#32
  let v397 : Index := Scalar.indexCast c26_i32_207
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk29 (v401 : IVec S16 32) : Prop :=
  (∀ a x, ((![v401] : Fin 1 → IVec S16 32) a x).toNat < S32000.size a)
theorem k0_idx28_inb : ∀ (v401 : IVec S16 32) (k0_hw29 : k0_chk29 v401), ∀ a x, ((![v401] : Fin 1 → IVec S16 32) a x).toNat < S32000.size a := fun v401 k0_hw29 => k0_hw29
def k0_off32 (k0_t2 : Fin k0_t2_loop.trips) : Fin 2 → Nat :=
  let c27_i32_209 : BitVec 32 := 27#32
  let v404 : Index := Scalar.indexCast c27_i32_209
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk30 (v408 : IVec S16 32) : Prop :=
  (∀ a x, ((![v408] : Fin 1 → IVec S16 32) a x).toNat < S32000.size a)
theorem k0_idx29_inb : ∀ (v408 : IVec S16 32) (k0_hw30 : k0_chk30 v408), ∀ a x, ((![v408] : Fin 1 → IVec S16 32) a x).toNat < S32000.size a := fun v408 k0_hw30 => k0_hw30
def k0_off33 (k0_t2 : Fin k0_t2_loop.trips) : Fin 2 → Nat :=
  let c28_i32_211 : BitVec 32 := 28#32
  let v411 : Index := Scalar.indexCast c28_i32_211
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk31 (v415 : IVec S16 32) : Prop :=
  (∀ a x, ((![v415] : Fin 1 → IVec S16 32) a x).toNat < S32000.size a)
theorem k0_idx30_inb : ∀ (v415 : IVec S16 32) (k0_hw31 : k0_chk31 v415), ∀ a x, ((![v415] : Fin 1 → IVec S16 32) a x).toNat < S32000.size a := fun v415 k0_hw31 => k0_hw31
def k0_off34 (k0_t2 : Fin k0_t2_loop.trips) : Fin 2 → Nat :=
  let c29_i32_213 : BitVec 32 := 29#32
  let v418 : Index := Scalar.indexCast c29_i32_213
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk32 (v422 : IVec S16 32) : Prop :=
  (∀ a x, ((![v422] : Fin 1 → IVec S16 32) a x).toNat < S32000.size a)
theorem k0_idx31_inb : ∀ (v422 : IVec S16 32) (k0_hw32 : k0_chk32 v422), ∀ a x, ((![v422] : Fin 1 → IVec S16 32) a x).toNat < S32000.size a := fun v422 k0_hw32 => k0_hw32
def k0_off35 (k0_t2 : Fin k0_t2_loop.trips) : Fin 2 → Nat :=
  let c30_i32_215 : BitVec 32 := 30#32
  let v425 : Index := Scalar.indexCast c30_i32_215
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk33 (v429 : IVec S16 32) : Prop :=
  (∀ a x, ((![v429] : Fin 1 → IVec S16 32) a x).toNat < S32000.size a)
theorem k0_idx32_inb : ∀ (v429 : IVec S16 32) (k0_hw33 : k0_chk33 v429), ∀ a x, ((![v429] : Fin 1 → IVec S16 32) a x).toNat < S32000.size a := fun v429 k0_hw33 => k0_hw33
def k0_off36 (k0_t2 : Fin k0_t2_loop.trips) : Fin 2 → Nat :=
  let c31_i32_217 : BitVec 32 := 31#32
  let v432 : Index := Scalar.indexCast c31_i32_217
  let c0_i32_142 : BitVec 32 := 0#32
  let c0_i32_27 : BitVec 32 := 0#32
  let c1_i32_29 : BitVec 32 := 1#32
  let arg20 : BitVec 32 := Scf.iv c0_i32_27 c1_i32_29 k0_t2
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult4 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_31 : BitVec 32 := 32#32
  let v59 : BitVec 32 := Scalar.muli v35 c32_i32_31
  v59
def k0_mult5 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  v46
def k0_off37 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_31 : BitVec 32 := 32#32
  let v59 : BitVec 32 := Scalar.muli v35 c32_i32_31
  let v60 : BitVec 32 := v59
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let v61 : BitVec 32 := v46
  ![v60.toNat, v61.toNat]
def k0_off38 (i : grid0.Coords) (k0_t1 : Fin (k0_t1_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c0_i32_35 : BitVec 32 := 0#32
  let c0_i32_36 : BitVec 32 := 0#32
  ![v35.toNat, v65.toNat, 0, 0]
def k0_mult6 (arg18 : BitVec 32) : BitVec 32 :=
  let c32_i32_141 : BitVec 32 := 32#32
  let v204 : BitVec 32 := Scalar.muli arg18 c32_i32_141
  v204
def k0_cond2 (arg19 : BitVec 32) : BitVec 1 :=
  let c0_i32_41 : BitVec 32 := 0#32
  let v75 : BitVec 1 := Scalar.cmpi .sge arg19 c0_i32_41
  let v76 : BitVec 32 := Scalar.extui v75
  let c0_i32_42 : BitVec 32 := 0#32
  let v77 : BitVec 1 := Scalar.cmpi .ne v76 c0_i32_42
  v77

def k0_mult7 (arg19 : BitVec 32) : BitVec 32 :=
  arg19
def k0_off39 (arg18 : BitVec 32) (arg19 : BitVec 32) : Fin 2 → Nat :=
  let c32_i32_141 : BitVec 32 := 32#32
  let v204 : BitVec 32 := Scalar.muli arg18 c32_i32_141
  let v205 : BitVec 32 := v204
  let v206 : BitVec 32 := arg19
  ![v205.toNat, v206.toNat]

def k0_chk34 (arg18 : BitVec 32) (arg19 : BitVec 32) : Prop :=
  (∀ (k0_h2 : k0_cond2 arg19 = 1#1), 32 ∣ (k0_mult6 arg18).toNat) ∧
  (∀ (k0_h2 : k0_cond2 arg19 = 1#1), 512 ∣ (k0_mult7 arg19).toNat) ∧
  (∀ (k0_h2 : k0_cond2 arg19 = 1#1), ∀ a, (k0_off39 arg18 arg19) a + S32x512.size a ≤ S832x16384.size a)
theorem k0_mult6_dvd : ∀ (arg18 : BitVec 32) (arg19 : BitVec 32) (k0_hw34 : k0_chk34 arg18 arg19), ∀ (k0_h2 : k0_cond2 arg19 = 1#1), 32 ∣ (k0_mult6 arg18).toNat := fun arg18 arg19 k0_hw34 k0_h2 => k0_hw34.1 k0_h2
theorem k0_mult7_dvd : ∀ (arg18 : BitVec 32) (arg19 : BitVec 32) (k0_hw34 : k0_chk34 arg18 arg19), ∀ (k0_h2 : k0_cond2 arg19 = 1#1), 512 ∣ (k0_mult7 arg19).toNat := fun arg18 arg19 k0_hw34 k0_h2 => k0_hw34.2.1 k0_h2
theorem k0_off39_inb : ∀ (arg18 : BitVec 32) (arg19 : BitVec 32) (k0_hw34 : k0_chk34 arg18 arg19), ∀ (k0_h2 : k0_cond2 arg19 = 1#1), ∀ a, (k0_off39 arg18 arg19) a + S32x512.size a ≤ S832x16384.size a := fun arg18 arg19 k0_hw34 k0_h2 => k0_hw34.2.2 k0_h2

@[reducible] def k0_t3_loop : Scf.Loop 32 :=
  let c0_i32_43 : BitVec 32 := 0#32
  let c32_i32_44 : BitVec 32 := 32#32
  let v78 : BitVec 32 := Scalar.addi c0_i32_43 c32_i32_44
  let c1_i32_45 : BitVec 32 := 1#32
  ⟨c0_i32_43, v78, c1_i32_45⟩
def k0_off40 (k0_t3 : Fin k0_t3_loop.trips) : Fin 1 → Nat :=
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk35 (v212 : IVec S16 32) : Prop :=
  (∀ a x, ((![v212] : Fin 1 → IVec S16 32) a x).toNat < S32000.size a)
theorem k0_idx33_inb : ∀ (v212 : IVec S16 32) (k0_hw35 : k0_chk35 v212), ∀ a x, ((![v212] : Fin 1 → IVec S16 32) a x).toNat < S32000.size a := fun v212 k0_hw35 => k0_hw35
def k0_off41 (k0_t3 : Fin k0_t3_loop.trips) : Fin 2 → Nat :=
  let c0_i32_146 : BitVec 32 := 0#32
  let v215 : Index := Scalar.indexCast c0_i32_146
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk36 (v219 : IVec S16 32) : Prop :=
  (∀ a x, ((![v219] : Fin 1 → IVec S16 32) a x).toNat < S32000.size a)
theorem k0_idx34_inb : ∀ (v219 : IVec S16 32) (k0_hw36 : k0_chk36 v219), ∀ a x, ((![v219] : Fin 1 → IVec S16 32) a x).toNat < S32000.size a := fun v219 k0_hw36 => k0_hw36
def k0_off42 (k0_t3 : Fin k0_t3_loop.trips) : Fin 2 → Nat :=
  let c1_i32_149 : BitVec 32 := 1#32
  let v222 : Index := Scalar.indexCast c1_i32_149
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk37 (v226 : IVec S16 32) : Prop :=
  (∀ a x, ((![v226] : Fin 1 → IVec S16 32) a x).toNat < S32000.size a)
theorem k0_idx35_inb : ∀ (v226 : IVec S16 32) (k0_hw37 : k0_chk37 v226), ∀ a x, ((![v226] : Fin 1 → IVec S16 32) a x).toNat < S32000.size a := fun v226 k0_hw37 => k0_hw37
def k0_off43 (k0_t3 : Fin k0_t3_loop.trips) : Fin 2 → Nat :=
  let c2_i32_152 : BitVec 32 := 2#32
  let v229 : Index := Scalar.indexCast c2_i32_152
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk38 (v233 : IVec S16 32) : Prop :=
  (∀ a x, ((![v233] : Fin 1 → IVec S16 32) a x).toNat < S32000.size a)
theorem k0_idx36_inb : ∀ (v233 : IVec S16 32) (k0_hw38 : k0_chk38 v233), ∀ a x, ((![v233] : Fin 1 → IVec S16 32) a x).toNat < S32000.size a := fun v233 k0_hw38 => k0_hw38
def k0_off44 (k0_t3 : Fin k0_t3_loop.trips) : Fin 2 → Nat :=
  let c3_i32_155 : BitVec 32 := 3#32
  let v236 : Index := Scalar.indexCast c3_i32_155
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk39 (v240 : IVec S16 32) : Prop :=
  (∀ a x, ((![v240] : Fin 1 → IVec S16 32) a x).toNat < S32000.size a)
theorem k0_idx37_inb : ∀ (v240 : IVec S16 32) (k0_hw39 : k0_chk39 v240), ∀ a x, ((![v240] : Fin 1 → IVec S16 32) a x).toNat < S32000.size a := fun v240 k0_hw39 => k0_hw39
def k0_off45 (k0_t3 : Fin k0_t3_loop.trips) : Fin 2 → Nat :=
  let c4_i32_158 : BitVec 32 := 4#32
  let v243 : Index := Scalar.indexCast c4_i32_158
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk40 (v247 : IVec S16 32) : Prop :=
  (∀ a x, ((![v247] : Fin 1 → IVec S16 32) a x).toNat < S32000.size a)
theorem k0_idx38_inb : ∀ (v247 : IVec S16 32) (k0_hw40 : k0_chk40 v247), ∀ a x, ((![v247] : Fin 1 → IVec S16 32) a x).toNat < S32000.size a := fun v247 k0_hw40 => k0_hw40
def k0_off46 (k0_t3 : Fin k0_t3_loop.trips) : Fin 2 → Nat :=
  let c5_i32_161 : BitVec 32 := 5#32
  let v250 : Index := Scalar.indexCast c5_i32_161
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk41 (v254 : IVec S16 32) : Prop :=
  (∀ a x, ((![v254] : Fin 1 → IVec S16 32) a x).toNat < S32000.size a)
theorem k0_idx39_inb : ∀ (v254 : IVec S16 32) (k0_hw41 : k0_chk41 v254), ∀ a x, ((![v254] : Fin 1 → IVec S16 32) a x).toNat < S32000.size a := fun v254 k0_hw41 => k0_hw41
def k0_off47 (k0_t3 : Fin k0_t3_loop.trips) : Fin 2 → Nat :=
  let c6_i32_164 : BitVec 32 := 6#32
  let v257 : Index := Scalar.indexCast c6_i32_164
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk42 (v261 : IVec S16 32) : Prop :=
  (∀ a x, ((![v261] : Fin 1 → IVec S16 32) a x).toNat < S32000.size a)
theorem k0_idx40_inb : ∀ (v261 : IVec S16 32) (k0_hw42 : k0_chk42 v261), ∀ a x, ((![v261] : Fin 1 → IVec S16 32) a x).toNat < S32000.size a := fun v261 k0_hw42 => k0_hw42
def k0_off48 (k0_t3 : Fin k0_t3_loop.trips) : Fin 2 → Nat :=
  let c7_i32_167 : BitVec 32 := 7#32
  let v264 : Index := Scalar.indexCast c7_i32_167
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk43 (v268 : IVec S16 32) : Prop :=
  (∀ a x, ((![v268] : Fin 1 → IVec S16 32) a x).toNat < S32000.size a)
theorem k0_idx41_inb : ∀ (v268 : IVec S16 32) (k0_hw43 : k0_chk43 v268), ∀ a x, ((![v268] : Fin 1 → IVec S16 32) a x).toNat < S32000.size a := fun v268 k0_hw43 => k0_hw43
def k0_off49 (k0_t3 : Fin k0_t3_loop.trips) : Fin 2 → Nat :=
  let c8_i32_170 : BitVec 32 := 8#32
  let v271 : Index := Scalar.indexCast c8_i32_170
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk44 (v275 : IVec S16 32) : Prop :=
  (∀ a x, ((![v275] : Fin 1 → IVec S16 32) a x).toNat < S32000.size a)
theorem k0_idx42_inb : ∀ (v275 : IVec S16 32) (k0_hw44 : k0_chk44 v275), ∀ a x, ((![v275] : Fin 1 → IVec S16 32) a x).toNat < S32000.size a := fun v275 k0_hw44 => k0_hw44
def k0_off50 (k0_t3 : Fin k0_t3_loop.trips) : Fin 2 → Nat :=
  let c9_i32_172 : BitVec 32 := 9#32
  let v278 : Index := Scalar.indexCast c9_i32_172
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk45 (v282 : IVec S16 32) : Prop :=
  (∀ a x, ((![v282] : Fin 1 → IVec S16 32) a x).toNat < S32000.size a)
theorem k0_idx43_inb : ∀ (v282 : IVec S16 32) (k0_hw45 : k0_chk45 v282), ∀ a x, ((![v282] : Fin 1 → IVec S16 32) a x).toNat < S32000.size a := fun v282 k0_hw45 => k0_hw45
def k0_off51 (k0_t3 : Fin k0_t3_loop.trips) : Fin 2 → Nat :=
  let c10_i32_174 : BitVec 32 := 10#32
  let v285 : Index := Scalar.indexCast c10_i32_174
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk46 (v289 : IVec S16 32) : Prop :=
  (∀ a x, ((![v289] : Fin 1 → IVec S16 32) a x).toNat < S32000.size a)
theorem k0_idx44_inb : ∀ (v289 : IVec S16 32) (k0_hw46 : k0_chk46 v289), ∀ a x, ((![v289] : Fin 1 → IVec S16 32) a x).toNat < S32000.size a := fun v289 k0_hw46 => k0_hw46
def k0_off52 (k0_t3 : Fin k0_t3_loop.trips) : Fin 2 → Nat :=
  let c11_i32_176 : BitVec 32 := 11#32
  let v292 : Index := Scalar.indexCast c11_i32_176
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk47 (v296 : IVec S16 32) : Prop :=
  (∀ a x, ((![v296] : Fin 1 → IVec S16 32) a x).toNat < S32000.size a)
theorem k0_idx45_inb : ∀ (v296 : IVec S16 32) (k0_hw47 : k0_chk47 v296), ∀ a x, ((![v296] : Fin 1 → IVec S16 32) a x).toNat < S32000.size a := fun v296 k0_hw47 => k0_hw47
def k0_off53 (k0_t3 : Fin k0_t3_loop.trips) : Fin 2 → Nat :=
  let c12_i32_178 : BitVec 32 := 12#32
  let v299 : Index := Scalar.indexCast c12_i32_178
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk48 (v303 : IVec S16 32) : Prop :=
  (∀ a x, ((![v303] : Fin 1 → IVec S16 32) a x).toNat < S32000.size a)
theorem k0_idx46_inb : ∀ (v303 : IVec S16 32) (k0_hw48 : k0_chk48 v303), ∀ a x, ((![v303] : Fin 1 → IVec S16 32) a x).toNat < S32000.size a := fun v303 k0_hw48 => k0_hw48
def k0_off54 (k0_t3 : Fin k0_t3_loop.trips) : Fin 2 → Nat :=
  let c13_i32_180 : BitVec 32 := 13#32
  let v306 : Index := Scalar.indexCast c13_i32_180
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk49 (v310 : IVec S16 32) : Prop :=
  (∀ a x, ((![v310] : Fin 1 → IVec S16 32) a x).toNat < S32000.size a)
theorem k0_idx47_inb : ∀ (v310 : IVec S16 32) (k0_hw49 : k0_chk49 v310), ∀ a x, ((![v310] : Fin 1 → IVec S16 32) a x).toNat < S32000.size a := fun v310 k0_hw49 => k0_hw49
def k0_off55 (k0_t3 : Fin k0_t3_loop.trips) : Fin 2 → Nat :=
  let c14_i32_182 : BitVec 32 := 14#32
  let v313 : Index := Scalar.indexCast c14_i32_182
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk50 (v317 : IVec S16 32) : Prop :=
  (∀ a x, ((![v317] : Fin 1 → IVec S16 32) a x).toNat < S32000.size a)
theorem k0_idx48_inb : ∀ (v317 : IVec S16 32) (k0_hw50 : k0_chk50 v317), ∀ a x, ((![v317] : Fin 1 → IVec S16 32) a x).toNat < S32000.size a := fun v317 k0_hw50 => k0_hw50
def k0_off56 (k0_t3 : Fin k0_t3_loop.trips) : Fin 2 → Nat :=
  let c15_i32_184 : BitVec 32 := 15#32
  let v320 : Index := Scalar.indexCast c15_i32_184
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk51 (v324 : IVec S16 32) : Prop :=
  (∀ a x, ((![v324] : Fin 1 → IVec S16 32) a x).toNat < S32000.size a)
theorem k0_idx49_inb : ∀ (v324 : IVec S16 32) (k0_hw51 : k0_chk51 v324), ∀ a x, ((![v324] : Fin 1 → IVec S16 32) a x).toNat < S32000.size a := fun v324 k0_hw51 => k0_hw51
def k0_off57 (k0_t3 : Fin k0_t3_loop.trips) : Fin 2 → Nat :=
  let c16_i32_187 : BitVec 32 := 16#32
  let v327 : Index := Scalar.indexCast c16_i32_187
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk52 (v331 : IVec S16 32) : Prop :=
  (∀ a x, ((![v331] : Fin 1 → IVec S16 32) a x).toNat < S32000.size a)
theorem k0_idx50_inb : ∀ (v331 : IVec S16 32) (k0_hw52 : k0_chk52 v331), ∀ a x, ((![v331] : Fin 1 → IVec S16 32) a x).toNat < S32000.size a := fun v331 k0_hw52 => k0_hw52
def k0_off58 (k0_t3 : Fin k0_t3_loop.trips) : Fin 2 → Nat :=
  let c17_i32_189 : BitVec 32 := 17#32
  let v334 : Index := Scalar.indexCast c17_i32_189
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk53 (v338 : IVec S16 32) : Prop :=
  (∀ a x, ((![v338] : Fin 1 → IVec S16 32) a x).toNat < S32000.size a)
theorem k0_idx51_inb : ∀ (v338 : IVec S16 32) (k0_hw53 : k0_chk53 v338), ∀ a x, ((![v338] : Fin 1 → IVec S16 32) a x).toNat < S32000.size a := fun v338 k0_hw53 => k0_hw53
def k0_off59 (k0_t3 : Fin k0_t3_loop.trips) : Fin 2 → Nat :=
  let c18_i32_191 : BitVec 32 := 18#32
  let v341 : Index := Scalar.indexCast c18_i32_191
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk54 (v345 : IVec S16 32) : Prop :=
  (∀ a x, ((![v345] : Fin 1 → IVec S16 32) a x).toNat < S32000.size a)
theorem k0_idx52_inb : ∀ (v345 : IVec S16 32) (k0_hw54 : k0_chk54 v345), ∀ a x, ((![v345] : Fin 1 → IVec S16 32) a x).toNat < S32000.size a := fun v345 k0_hw54 => k0_hw54
def k0_off60 (k0_t3 : Fin k0_t3_loop.trips) : Fin 2 → Nat :=
  let c19_i32_193 : BitVec 32 := 19#32
  let v348 : Index := Scalar.indexCast c19_i32_193
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk55 (v352 : IVec S16 32) : Prop :=
  (∀ a x, ((![v352] : Fin 1 → IVec S16 32) a x).toNat < S32000.size a)
theorem k0_idx53_inb : ∀ (v352 : IVec S16 32) (k0_hw55 : k0_chk55 v352), ∀ a x, ((![v352] : Fin 1 → IVec S16 32) a x).toNat < S32000.size a := fun v352 k0_hw55 => k0_hw55
def k0_off61 (k0_t3 : Fin k0_t3_loop.trips) : Fin 2 → Nat :=
  let c20_i32_195 : BitVec 32 := 20#32
  let v355 : Index := Scalar.indexCast c20_i32_195
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk56 (v359 : IVec S16 32) : Prop :=
  (∀ a x, ((![v359] : Fin 1 → IVec S16 32) a x).toNat < S32000.size a)
theorem k0_idx54_inb : ∀ (v359 : IVec S16 32) (k0_hw56 : k0_chk56 v359), ∀ a x, ((![v359] : Fin 1 → IVec S16 32) a x).toNat < S32000.size a := fun v359 k0_hw56 => k0_hw56
def k0_off62 (k0_t3 : Fin k0_t3_loop.trips) : Fin 2 → Nat :=
  let c21_i32_197 : BitVec 32 := 21#32
  let v362 : Index := Scalar.indexCast c21_i32_197
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk57 (v366 : IVec S16 32) : Prop :=
  (∀ a x, ((![v366] : Fin 1 → IVec S16 32) a x).toNat < S32000.size a)
theorem k0_idx55_inb : ∀ (v366 : IVec S16 32) (k0_hw57 : k0_chk57 v366), ∀ a x, ((![v366] : Fin 1 → IVec S16 32) a x).toNat < S32000.size a := fun v366 k0_hw57 => k0_hw57
def k0_off63 (k0_t3 : Fin k0_t3_loop.trips) : Fin 2 → Nat :=
  let c22_i32_199 : BitVec 32 := 22#32
  let v369 : Index := Scalar.indexCast c22_i32_199
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk58 (v373 : IVec S16 32) : Prop :=
  (∀ a x, ((![v373] : Fin 1 → IVec S16 32) a x).toNat < S32000.size a)
theorem k0_idx56_inb : ∀ (v373 : IVec S16 32) (k0_hw58 : k0_chk58 v373), ∀ a x, ((![v373] : Fin 1 → IVec S16 32) a x).toNat < S32000.size a := fun v373 k0_hw58 => k0_hw58
def k0_off64 (k0_t3 : Fin k0_t3_loop.trips) : Fin 2 → Nat :=
  let c23_i32_201 : BitVec 32 := 23#32
  let v376 : Index := Scalar.indexCast c23_i32_201
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk59 (v380 : IVec S16 32) : Prop :=
  (∀ a x, ((![v380] : Fin 1 → IVec S16 32) a x).toNat < S32000.size a)
theorem k0_idx57_inb : ∀ (v380 : IVec S16 32) (k0_hw59 : k0_chk59 v380), ∀ a x, ((![v380] : Fin 1 → IVec S16 32) a x).toNat < S32000.size a := fun v380 k0_hw59 => k0_hw59
def k0_off65 (k0_t3 : Fin k0_t3_loop.trips) : Fin 2 → Nat :=
  let c24_i32_203 : BitVec 32 := 24#32
  let v383 : Index := Scalar.indexCast c24_i32_203
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk60 (v387 : IVec S16 32) : Prop :=
  (∀ a x, ((![v387] : Fin 1 → IVec S16 32) a x).toNat < S32000.size a)
theorem k0_idx58_inb : ∀ (v387 : IVec S16 32) (k0_hw60 : k0_chk60 v387), ∀ a x, ((![v387] : Fin 1 → IVec S16 32) a x).toNat < S32000.size a := fun v387 k0_hw60 => k0_hw60
def k0_off66 (k0_t3 : Fin k0_t3_loop.trips) : Fin 2 → Nat :=
  let c25_i32_205 : BitVec 32 := 25#32
  let v390 : Index := Scalar.indexCast c25_i32_205
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk61 (v394 : IVec S16 32) : Prop :=
  (∀ a x, ((![v394] : Fin 1 → IVec S16 32) a x).toNat < S32000.size a)
theorem k0_idx59_inb : ∀ (v394 : IVec S16 32) (k0_hw61 : k0_chk61 v394), ∀ a x, ((![v394] : Fin 1 → IVec S16 32) a x).toNat < S32000.size a := fun v394 k0_hw61 => k0_hw61
def k0_off67 (k0_t3 : Fin k0_t3_loop.trips) : Fin 2 → Nat :=
  let c26_i32_207 : BitVec 32 := 26#32
  let v397 : Index := Scalar.indexCast c26_i32_207
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk62 (v401 : IVec S16 32) : Prop :=
  (∀ a x, ((![v401] : Fin 1 → IVec S16 32) a x).toNat < S32000.size a)
theorem k0_idx60_inb : ∀ (v401 : IVec S16 32) (k0_hw62 : k0_chk62 v401), ∀ a x, ((![v401] : Fin 1 → IVec S16 32) a x).toNat < S32000.size a := fun v401 k0_hw62 => k0_hw62
def k0_off68 (k0_t3 : Fin k0_t3_loop.trips) : Fin 2 → Nat :=
  let c27_i32_209 : BitVec 32 := 27#32
  let v404 : Index := Scalar.indexCast c27_i32_209
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk63 (v408 : IVec S16 32) : Prop :=
  (∀ a x, ((![v408] : Fin 1 → IVec S16 32) a x).toNat < S32000.size a)
theorem k0_idx61_inb : ∀ (v408 : IVec S16 32) (k0_hw63 : k0_chk63 v408), ∀ a x, ((![v408] : Fin 1 → IVec S16 32) a x).toNat < S32000.size a := fun v408 k0_hw63 => k0_hw63
def k0_off69 (k0_t3 : Fin k0_t3_loop.trips) : Fin 2 → Nat :=
  let c28_i32_211 : BitVec 32 := 28#32
  let v411 : Index := Scalar.indexCast c28_i32_211
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk64 (v415 : IVec S16 32) : Prop :=
  (∀ a x, ((![v415] : Fin 1 → IVec S16 32) a x).toNat < S32000.size a)
theorem k0_idx62_inb : ∀ (v415 : IVec S16 32) (k0_hw64 : k0_chk64 v415), ∀ a x, ((![v415] : Fin 1 → IVec S16 32) a x).toNat < S32000.size a := fun v415 k0_hw64 => k0_hw64
def k0_off70 (k0_t3 : Fin k0_t3_loop.trips) : Fin 2 → Nat :=
  let c29_i32_213 : BitVec 32 := 29#32
  let v418 : Index := Scalar.indexCast c29_i32_213
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk65 (v422 : IVec S16 32) : Prop :=
  (∀ a x, ((![v422] : Fin 1 → IVec S16 32) a x).toNat < S32000.size a)
theorem k0_idx63_inb : ∀ (v422 : IVec S16 32) (k0_hw65 : k0_chk65 v422), ∀ a x, ((![v422] : Fin 1 → IVec S16 32) a x).toNat < S32000.size a := fun v422 k0_hw65 => k0_hw65
def k0_off71 (k0_t3 : Fin k0_t3_loop.trips) : Fin 2 → Nat :=
  let c30_i32_215 : BitVec 32 := 30#32
  let v425 : Index := Scalar.indexCast c30_i32_215
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk66 (v429 : IVec S16 32) : Prop :=
  (∀ a x, ((![v429] : Fin 1 → IVec S16 32) a x).toNat < S32000.size a)
theorem k0_idx64_inb : ∀ (v429 : IVec S16 32) (k0_hw66 : k0_chk66 v429), ∀ a x, ((![v429] : Fin 1 → IVec S16 32) a x).toNat < S32000.size a := fun v429 k0_hw66 => k0_hw66
def k0_off72 (k0_t3 : Fin k0_t3_loop.trips) : Fin 2 → Nat :=
  let c31_i32_217 : BitVec 32 := 31#32
  let v432 : Index := Scalar.indexCast c31_i32_217
  let c0_i32_142 : BitVec 32 := 0#32
  let c0_i32_43 : BitVec 32 := 0#32
  let c1_i32_45 : BitVec 32 := 1#32
  let arg20 : BitVec 32 := Scf.iv c0_i32_43 c1_i32_45 k0_t3
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult8 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_47 : BitVec 32 := 32#32
  let v79 : BitVec 32 := Scalar.muli v35 c32_i32_47
  v79
def k0_mult9 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  v66
def k0_off73 (i : grid0.Coords) (k0_t1 : Fin (k0_t1_loop i).trips) (c1_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_47 : BitVec 32 := 32#32
  let v79 : BitVec 32 := Scalar.muli v35 c32_i32_47
  let v80 : BitVec 32 := v79
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let v65 : BitVec 32 := Scalar.addi v64 c1_i32_33
  let c512_i32_34 : BitVec 32 := 512#32
  let v66 : BitVec 32 := Scalar.muli v65 c512_i32_34
  let v81 : BitVec 32 := v66
  ![v80.toNat, v81.toNat]
def k0_off74 (i : grid0.Coords) (k0_t1 : Fin (k0_t1_loop i).trips) (c2_i32_49 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_48 : BitVec 32 := 8#32
  let v84 : BitVec 32 := Scalar.muli v37 c8_i32_48
  let v85 : BitVec 32 := Scalar.addi v84 c2_i32_49
  let c0_i32_51 : BitVec 32 := 0#32
  let c0_i32_52 : BitVec 32 := 0#32
  ![v35.toNat, v85.toNat, 0, 0]
def k0_cond3 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let c0_i32_57 : BitVec 32 := 0#32
  let v95 : BitVec 1 := Scalar.cmpi .sge v46 c0_i32_57
  let v96 : BitVec 32 := Scalar.extui v95
  let c0_i32_58 : BitVec 32 := 0#32
  let v97 : BitVec 1 := Scalar.cmpi .ne v96 c0_i32_58
  v97

def k0_mult10 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult11 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  v46
def k0_off75 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let v206 : BitVec 32 := v46
  ![v205.toNat, v206.toNat]
@[reducible] def k0_t4_loop : Scf.Loop 32 :=
  let c0_i32_59 : BitVec 32 := 0#32
  let c32_i32_60 : BitVec 32 := 32#32
  let v98 : BitVec 32 := Scalar.addi c0_i32_59 c32_i32_60
  let c1_i32_61 : BitVec 32 := 1#32
  ⟨c0_i32_59, v98, c1_i32_61⟩
def k0_off76 (k0_t4 : Fin k0_t4_loop.trips) : Fin 1 → Nat :=
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk67 (v212 : IVec S16 32) : Prop :=
  (∀ a x, ((![v212] : Fin 1 → IVec S16 32) a x).toNat < S32000.size a)
theorem k0_idx65_inb : ∀ (v212 : IVec S16 32) (k0_hw67 : k0_chk67 v212), ∀ a x, ((![v212] : Fin 1 → IVec S16 32) a x).toNat < S32000.size a := fun v212 k0_hw67 => k0_hw67
def k0_off77 (k0_t4 : Fin k0_t4_loop.trips) : Fin 2 → Nat :=
  let c0_i32_146 : BitVec 32 := 0#32
  let v215 : Index := Scalar.indexCast c0_i32_146
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk68 (v219 : IVec S16 32) : Prop :=
  (∀ a x, ((![v219] : Fin 1 → IVec S16 32) a x).toNat < S32000.size a)
theorem k0_idx66_inb : ∀ (v219 : IVec S16 32) (k0_hw68 : k0_chk68 v219), ∀ a x, ((![v219] : Fin 1 → IVec S16 32) a x).toNat < S32000.size a := fun v219 k0_hw68 => k0_hw68
def k0_off78 (k0_t4 : Fin k0_t4_loop.trips) : Fin 2 → Nat :=
  let c1_i32_149 : BitVec 32 := 1#32
  let v222 : Index := Scalar.indexCast c1_i32_149
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk69 (v226 : IVec S16 32) : Prop :=
  (∀ a x, ((![v226] : Fin 1 → IVec S16 32) a x).toNat < S32000.size a)
theorem k0_idx67_inb : ∀ (v226 : IVec S16 32) (k0_hw69 : k0_chk69 v226), ∀ a x, ((![v226] : Fin 1 → IVec S16 32) a x).toNat < S32000.size a := fun v226 k0_hw69 => k0_hw69
def k0_off79 (k0_t4 : Fin k0_t4_loop.trips) : Fin 2 → Nat :=
  let c2_i32_152 : BitVec 32 := 2#32
  let v229 : Index := Scalar.indexCast c2_i32_152
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk70 (v233 : IVec S16 32) : Prop :=
  (∀ a x, ((![v233] : Fin 1 → IVec S16 32) a x).toNat < S32000.size a)
theorem k0_idx68_inb : ∀ (v233 : IVec S16 32) (k0_hw70 : k0_chk70 v233), ∀ a x, ((![v233] : Fin 1 → IVec S16 32) a x).toNat < S32000.size a := fun v233 k0_hw70 => k0_hw70
def k0_off80 (k0_t4 : Fin k0_t4_loop.trips) : Fin 2 → Nat :=
  let c3_i32_155 : BitVec 32 := 3#32
  let v236 : Index := Scalar.indexCast c3_i32_155
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk71 (v240 : IVec S16 32) : Prop :=
  (∀ a x, ((![v240] : Fin 1 → IVec S16 32) a x).toNat < S32000.size a)
theorem k0_idx69_inb : ∀ (v240 : IVec S16 32) (k0_hw71 : k0_chk71 v240), ∀ a x, ((![v240] : Fin 1 → IVec S16 32) a x).toNat < S32000.size a := fun v240 k0_hw71 => k0_hw71
def k0_off81 (k0_t4 : Fin k0_t4_loop.trips) : Fin 2 → Nat :=
  let c4_i32_158 : BitVec 32 := 4#32
  let v243 : Index := Scalar.indexCast c4_i32_158
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk72 (v247 : IVec S16 32) : Prop :=
  (∀ a x, ((![v247] : Fin 1 → IVec S16 32) a x).toNat < S32000.size a)
theorem k0_idx70_inb : ∀ (v247 : IVec S16 32) (k0_hw72 : k0_chk72 v247), ∀ a x, ((![v247] : Fin 1 → IVec S16 32) a x).toNat < S32000.size a := fun v247 k0_hw72 => k0_hw72
def k0_off82 (k0_t4 : Fin k0_t4_loop.trips) : Fin 2 → Nat :=
  let c5_i32_161 : BitVec 32 := 5#32
  let v250 : Index := Scalar.indexCast c5_i32_161
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk73 (v254 : IVec S16 32) : Prop :=
  (∀ a x, ((![v254] : Fin 1 → IVec S16 32) a x).toNat < S32000.size a)
theorem k0_idx71_inb : ∀ (v254 : IVec S16 32) (k0_hw73 : k0_chk73 v254), ∀ a x, ((![v254] : Fin 1 → IVec S16 32) a x).toNat < S32000.size a := fun v254 k0_hw73 => k0_hw73
def k0_off83 (k0_t4 : Fin k0_t4_loop.trips) : Fin 2 → Nat :=
  let c6_i32_164 : BitVec 32 := 6#32
  let v257 : Index := Scalar.indexCast c6_i32_164
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk74 (v261 : IVec S16 32) : Prop :=
  (∀ a x, ((![v261] : Fin 1 → IVec S16 32) a x).toNat < S32000.size a)
theorem k0_idx72_inb : ∀ (v261 : IVec S16 32) (k0_hw74 : k0_chk74 v261), ∀ a x, ((![v261] : Fin 1 → IVec S16 32) a x).toNat < S32000.size a := fun v261 k0_hw74 => k0_hw74
def k0_off84 (k0_t4 : Fin k0_t4_loop.trips) : Fin 2 → Nat :=
  let c7_i32_167 : BitVec 32 := 7#32
  let v264 : Index := Scalar.indexCast c7_i32_167
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk75 (v268 : IVec S16 32) : Prop :=
  (∀ a x, ((![v268] : Fin 1 → IVec S16 32) a x).toNat < S32000.size a)
theorem k0_idx73_inb : ∀ (v268 : IVec S16 32) (k0_hw75 : k0_chk75 v268), ∀ a x, ((![v268] : Fin 1 → IVec S16 32) a x).toNat < S32000.size a := fun v268 k0_hw75 => k0_hw75
def k0_off85 (k0_t4 : Fin k0_t4_loop.trips) : Fin 2 → Nat :=
  let c8_i32_170 : BitVec 32 := 8#32
  let v271 : Index := Scalar.indexCast c8_i32_170
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk76 (v275 : IVec S16 32) : Prop :=
  (∀ a x, ((![v275] : Fin 1 → IVec S16 32) a x).toNat < S32000.size a)
theorem k0_idx74_inb : ∀ (v275 : IVec S16 32) (k0_hw76 : k0_chk76 v275), ∀ a x, ((![v275] : Fin 1 → IVec S16 32) a x).toNat < S32000.size a := fun v275 k0_hw76 => k0_hw76
def k0_off86 (k0_t4 : Fin k0_t4_loop.trips) : Fin 2 → Nat :=
  let c9_i32_172 : BitVec 32 := 9#32
  let v278 : Index := Scalar.indexCast c9_i32_172
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk77 (v282 : IVec S16 32) : Prop :=
  (∀ a x, ((![v282] : Fin 1 → IVec S16 32) a x).toNat < S32000.size a)
theorem k0_idx75_inb : ∀ (v282 : IVec S16 32) (k0_hw77 : k0_chk77 v282), ∀ a x, ((![v282] : Fin 1 → IVec S16 32) a x).toNat < S32000.size a := fun v282 k0_hw77 => k0_hw77
def k0_off87 (k0_t4 : Fin k0_t4_loop.trips) : Fin 2 → Nat :=
  let c10_i32_174 : BitVec 32 := 10#32
  let v285 : Index := Scalar.indexCast c10_i32_174
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk78 (v289 : IVec S16 32) : Prop :=
  (∀ a x, ((![v289] : Fin 1 → IVec S16 32) a x).toNat < S32000.size a)
theorem k0_idx76_inb : ∀ (v289 : IVec S16 32) (k0_hw78 : k0_chk78 v289), ∀ a x, ((![v289] : Fin 1 → IVec S16 32) a x).toNat < S32000.size a := fun v289 k0_hw78 => k0_hw78
def k0_off88 (k0_t4 : Fin k0_t4_loop.trips) : Fin 2 → Nat :=
  let c11_i32_176 : BitVec 32 := 11#32
  let v292 : Index := Scalar.indexCast c11_i32_176
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk79 (v296 : IVec S16 32) : Prop :=
  (∀ a x, ((![v296] : Fin 1 → IVec S16 32) a x).toNat < S32000.size a)
theorem k0_idx77_inb : ∀ (v296 : IVec S16 32) (k0_hw79 : k0_chk79 v296), ∀ a x, ((![v296] : Fin 1 → IVec S16 32) a x).toNat < S32000.size a := fun v296 k0_hw79 => k0_hw79
def k0_off89 (k0_t4 : Fin k0_t4_loop.trips) : Fin 2 → Nat :=
  let c12_i32_178 : BitVec 32 := 12#32
  let v299 : Index := Scalar.indexCast c12_i32_178
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk80 (v303 : IVec S16 32) : Prop :=
  (∀ a x, ((![v303] : Fin 1 → IVec S16 32) a x).toNat < S32000.size a)
theorem k0_idx78_inb : ∀ (v303 : IVec S16 32) (k0_hw80 : k0_chk80 v303), ∀ a x, ((![v303] : Fin 1 → IVec S16 32) a x).toNat < S32000.size a := fun v303 k0_hw80 => k0_hw80
def k0_off90 (k0_t4 : Fin k0_t4_loop.trips) : Fin 2 → Nat :=
  let c13_i32_180 : BitVec 32 := 13#32
  let v306 : Index := Scalar.indexCast c13_i32_180
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk81 (v310 : IVec S16 32) : Prop :=
  (∀ a x, ((![v310] : Fin 1 → IVec S16 32) a x).toNat < S32000.size a)
theorem k0_idx79_inb : ∀ (v310 : IVec S16 32) (k0_hw81 : k0_chk81 v310), ∀ a x, ((![v310] : Fin 1 → IVec S16 32) a x).toNat < S32000.size a := fun v310 k0_hw81 => k0_hw81
def k0_off91 (k0_t4 : Fin k0_t4_loop.trips) : Fin 2 → Nat :=
  let c14_i32_182 : BitVec 32 := 14#32
  let v313 : Index := Scalar.indexCast c14_i32_182
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk82 (v317 : IVec S16 32) : Prop :=
  (∀ a x, ((![v317] : Fin 1 → IVec S16 32) a x).toNat < S32000.size a)
theorem k0_idx80_inb : ∀ (v317 : IVec S16 32) (k0_hw82 : k0_chk82 v317), ∀ a x, ((![v317] : Fin 1 → IVec S16 32) a x).toNat < S32000.size a := fun v317 k0_hw82 => k0_hw82
def k0_off92 (k0_t4 : Fin k0_t4_loop.trips) : Fin 2 → Nat :=
  let c15_i32_184 : BitVec 32 := 15#32
  let v320 : Index := Scalar.indexCast c15_i32_184
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk83 (v324 : IVec S16 32) : Prop :=
  (∀ a x, ((![v324] : Fin 1 → IVec S16 32) a x).toNat < S32000.size a)
theorem k0_idx81_inb : ∀ (v324 : IVec S16 32) (k0_hw83 : k0_chk83 v324), ∀ a x, ((![v324] : Fin 1 → IVec S16 32) a x).toNat < S32000.size a := fun v324 k0_hw83 => k0_hw83
def k0_off93 (k0_t4 : Fin k0_t4_loop.trips) : Fin 2 → Nat :=
  let c16_i32_187 : BitVec 32 := 16#32
  let v327 : Index := Scalar.indexCast c16_i32_187
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk84 (v331 : IVec S16 32) : Prop :=
  (∀ a x, ((![v331] : Fin 1 → IVec S16 32) a x).toNat < S32000.size a)
theorem k0_idx82_inb : ∀ (v331 : IVec S16 32) (k0_hw84 : k0_chk84 v331), ∀ a x, ((![v331] : Fin 1 → IVec S16 32) a x).toNat < S32000.size a := fun v331 k0_hw84 => k0_hw84
def k0_off94 (k0_t4 : Fin k0_t4_loop.trips) : Fin 2 → Nat :=
  let c17_i32_189 : BitVec 32 := 17#32
  let v334 : Index := Scalar.indexCast c17_i32_189
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk85 (v338 : IVec S16 32) : Prop :=
  (∀ a x, ((![v338] : Fin 1 → IVec S16 32) a x).toNat < S32000.size a)
theorem k0_idx83_inb : ∀ (v338 : IVec S16 32) (k0_hw85 : k0_chk85 v338), ∀ a x, ((![v338] : Fin 1 → IVec S16 32) a x).toNat < S32000.size a := fun v338 k0_hw85 => k0_hw85
def k0_off95 (k0_t4 : Fin k0_t4_loop.trips) : Fin 2 → Nat :=
  let c18_i32_191 : BitVec 32 := 18#32
  let v341 : Index := Scalar.indexCast c18_i32_191
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk86 (v345 : IVec S16 32) : Prop :=
  (∀ a x, ((![v345] : Fin 1 → IVec S16 32) a x).toNat < S32000.size a)
theorem k0_idx84_inb : ∀ (v345 : IVec S16 32) (k0_hw86 : k0_chk86 v345), ∀ a x, ((![v345] : Fin 1 → IVec S16 32) a x).toNat < S32000.size a := fun v345 k0_hw86 => k0_hw86
def k0_off96 (k0_t4 : Fin k0_t4_loop.trips) : Fin 2 → Nat :=
  let c19_i32_193 : BitVec 32 := 19#32
  let v348 : Index := Scalar.indexCast c19_i32_193
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk87 (v352 : IVec S16 32) : Prop :=
  (∀ a x, ((![v352] : Fin 1 → IVec S16 32) a x).toNat < S32000.size a)
theorem k0_idx85_inb : ∀ (v352 : IVec S16 32) (k0_hw87 : k0_chk87 v352), ∀ a x, ((![v352] : Fin 1 → IVec S16 32) a x).toNat < S32000.size a := fun v352 k0_hw87 => k0_hw87
def k0_off97 (k0_t4 : Fin k0_t4_loop.trips) : Fin 2 → Nat :=
  let c20_i32_195 : BitVec 32 := 20#32
  let v355 : Index := Scalar.indexCast c20_i32_195
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk88 (v359 : IVec S16 32) : Prop :=
  (∀ a x, ((![v359] : Fin 1 → IVec S16 32) a x).toNat < S32000.size a)
theorem k0_idx86_inb : ∀ (v359 : IVec S16 32) (k0_hw88 : k0_chk88 v359), ∀ a x, ((![v359] : Fin 1 → IVec S16 32) a x).toNat < S32000.size a := fun v359 k0_hw88 => k0_hw88
def k0_off98 (k0_t4 : Fin k0_t4_loop.trips) : Fin 2 → Nat :=
  let c21_i32_197 : BitVec 32 := 21#32
  let v362 : Index := Scalar.indexCast c21_i32_197
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk89 (v366 : IVec S16 32) : Prop :=
  (∀ a x, ((![v366] : Fin 1 → IVec S16 32) a x).toNat < S32000.size a)
theorem k0_idx87_inb : ∀ (v366 : IVec S16 32) (k0_hw89 : k0_chk89 v366), ∀ a x, ((![v366] : Fin 1 → IVec S16 32) a x).toNat < S32000.size a := fun v366 k0_hw89 => k0_hw89
def k0_off99 (k0_t4 : Fin k0_t4_loop.trips) : Fin 2 → Nat :=
  let c22_i32_199 : BitVec 32 := 22#32
  let v369 : Index := Scalar.indexCast c22_i32_199
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk90 (v373 : IVec S16 32) : Prop :=
  (∀ a x, ((![v373] : Fin 1 → IVec S16 32) a x).toNat < S32000.size a)
theorem k0_idx88_inb : ∀ (v373 : IVec S16 32) (k0_hw90 : k0_chk90 v373), ∀ a x, ((![v373] : Fin 1 → IVec S16 32) a x).toNat < S32000.size a := fun v373 k0_hw90 => k0_hw90
def k0_off100 (k0_t4 : Fin k0_t4_loop.trips) : Fin 2 → Nat :=
  let c23_i32_201 : BitVec 32 := 23#32
  let v376 : Index := Scalar.indexCast c23_i32_201
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk91 (v380 : IVec S16 32) : Prop :=
  (∀ a x, ((![v380] : Fin 1 → IVec S16 32) a x).toNat < S32000.size a)
theorem k0_idx89_inb : ∀ (v380 : IVec S16 32) (k0_hw91 : k0_chk91 v380), ∀ a x, ((![v380] : Fin 1 → IVec S16 32) a x).toNat < S32000.size a := fun v380 k0_hw91 => k0_hw91
def k0_off101 (k0_t4 : Fin k0_t4_loop.trips) : Fin 2 → Nat :=
  let c24_i32_203 : BitVec 32 := 24#32
  let v383 : Index := Scalar.indexCast c24_i32_203
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk92 (v387 : IVec S16 32) : Prop :=
  (∀ a x, ((![v387] : Fin 1 → IVec S16 32) a x).toNat < S32000.size a)
theorem k0_idx90_inb : ∀ (v387 : IVec S16 32) (k0_hw92 : k0_chk92 v387), ∀ a x, ((![v387] : Fin 1 → IVec S16 32) a x).toNat < S32000.size a := fun v387 k0_hw92 => k0_hw92
def k0_off102 (k0_t4 : Fin k0_t4_loop.trips) : Fin 2 → Nat :=
  let c25_i32_205 : BitVec 32 := 25#32
  let v390 : Index := Scalar.indexCast c25_i32_205
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk93 (v394 : IVec S16 32) : Prop :=
  (∀ a x, ((![v394] : Fin 1 → IVec S16 32) a x).toNat < S32000.size a)
theorem k0_idx91_inb : ∀ (v394 : IVec S16 32) (k0_hw93 : k0_chk93 v394), ∀ a x, ((![v394] : Fin 1 → IVec S16 32) a x).toNat < S32000.size a := fun v394 k0_hw93 => k0_hw93
def k0_off103 (k0_t4 : Fin k0_t4_loop.trips) : Fin 2 → Nat :=
  let c26_i32_207 : BitVec 32 := 26#32
  let v397 : Index := Scalar.indexCast c26_i32_207
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk94 (v401 : IVec S16 32) : Prop :=
  (∀ a x, ((![v401] : Fin 1 → IVec S16 32) a x).toNat < S32000.size a)
theorem k0_idx92_inb : ∀ (v401 : IVec S16 32) (k0_hw94 : k0_chk94 v401), ∀ a x, ((![v401] : Fin 1 → IVec S16 32) a x).toNat < S32000.size a := fun v401 k0_hw94 => k0_hw94
def k0_off104 (k0_t4 : Fin k0_t4_loop.trips) : Fin 2 → Nat :=
  let c27_i32_209 : BitVec 32 := 27#32
  let v404 : Index := Scalar.indexCast c27_i32_209
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk95 (v408 : IVec S16 32) : Prop :=
  (∀ a x, ((![v408] : Fin 1 → IVec S16 32) a x).toNat < S32000.size a)
theorem k0_idx93_inb : ∀ (v408 : IVec S16 32) (k0_hw95 : k0_chk95 v408), ∀ a x, ((![v408] : Fin 1 → IVec S16 32) a x).toNat < S32000.size a := fun v408 k0_hw95 => k0_hw95
def k0_off105 (k0_t4 : Fin k0_t4_loop.trips) : Fin 2 → Nat :=
  let c28_i32_211 : BitVec 32 := 28#32
  let v411 : Index := Scalar.indexCast c28_i32_211
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk96 (v415 : IVec S16 32) : Prop :=
  (∀ a x, ((![v415] : Fin 1 → IVec S16 32) a x).toNat < S32000.size a)
theorem k0_idx94_inb : ∀ (v415 : IVec S16 32) (k0_hw96 : k0_chk96 v415), ∀ a x, ((![v415] : Fin 1 → IVec S16 32) a x).toNat < S32000.size a := fun v415 k0_hw96 => k0_hw96
def k0_off106 (k0_t4 : Fin k0_t4_loop.trips) : Fin 2 → Nat :=
  let c29_i32_213 : BitVec 32 := 29#32
  let v418 : Index := Scalar.indexCast c29_i32_213
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk97 (v422 : IVec S16 32) : Prop :=
  (∀ a x, ((![v422] : Fin 1 → IVec S16 32) a x).toNat < S32000.size a)
theorem k0_idx95_inb : ∀ (v422 : IVec S16 32) (k0_hw97 : k0_chk97 v422), ∀ a x, ((![v422] : Fin 1 → IVec S16 32) a x).toNat < S32000.size a := fun v422 k0_hw97 => k0_hw97
def k0_off107 (k0_t4 : Fin k0_t4_loop.trips) : Fin 2 → Nat :=
  let c30_i32_215 : BitVec 32 := 30#32
  let v425 : Index := Scalar.indexCast c30_i32_215
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk98 (v429 : IVec S16 32) : Prop :=
  (∀ a x, ((![v429] : Fin 1 → IVec S16 32) a x).toNat < S32000.size a)
theorem k0_idx96_inb : ∀ (v429 : IVec S16 32) (k0_hw98 : k0_chk98 v429), ∀ a x, ((![v429] : Fin 1 → IVec S16 32) a x).toNat < S32000.size a := fun v429 k0_hw98 => k0_hw98
def k0_off108 (k0_t4 : Fin k0_t4_loop.trips) : Fin 2 → Nat :=
  let c31_i32_217 : BitVec 32 := 31#32
  let v432 : Index := Scalar.indexCast c31_i32_217
  let c0_i32_142 : BitVec 32 := 0#32
  let c0_i32_59 : BitVec 32 := 0#32
  let c1_i32_61 : BitVec 32 := 1#32
  let arg20 : BitVec 32 := Scf.iv c0_i32_59 c1_i32_61 k0_t4
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult12 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_63 : BitVec 32 := 32#32
  let v99 : BitVec 32 := Scalar.muli v35 c32_i32_63
  v99
def k0_mult13 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  v86
def k0_cond4 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  let c0_i32_73 : BitVec 32 := 0#32
  let v115 : BitVec 1 := Scalar.cmpi .sge v66 c0_i32_73
  let v116 : BitVec 32 := Scalar.extui v115
  let c0_i32_74 : BitVec 32 := 0#32
  let v117 : BitVec 1 := Scalar.cmpi .ne v116 c0_i32_74
  v117

def k0_mult14 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult15 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  v66
def k0_off109 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  let v206 : BitVec 32 := v66
  ![v205.toNat, v206.toNat]
@[reducible] def k0_t5_loop : Scf.Loop 32 :=
  let c0_i32_75 : BitVec 32 := 0#32
  let c32_i32_76 : BitVec 32 := 32#32
  let v118 : BitVec 32 := Scalar.addi c0_i32_75 c32_i32_76
  let c1_i32_77 : BitVec 32 := 1#32
  ⟨c0_i32_75, v118, c1_i32_77⟩
def k0_off110 (k0_t5 : Fin k0_t5_loop.trips) : Fin 1 → Nat :=
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk99 (v212 : IVec S16 32) : Prop :=
  (∀ a x, ((![v212] : Fin 1 → IVec S16 32) a x).toNat < S32000.size a)
theorem k0_idx97_inb : ∀ (v212 : IVec S16 32) (k0_hw99 : k0_chk99 v212), ∀ a x, ((![v212] : Fin 1 → IVec S16 32) a x).toNat < S32000.size a := fun v212 k0_hw99 => k0_hw99
def k0_off111 (k0_t5 : Fin k0_t5_loop.trips) : Fin 2 → Nat :=
  let c0_i32_146 : BitVec 32 := 0#32
  let v215 : Index := Scalar.indexCast c0_i32_146
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk100 (v219 : IVec S16 32) : Prop :=
  (∀ a x, ((![v219] : Fin 1 → IVec S16 32) a x).toNat < S32000.size a)
theorem k0_idx98_inb : ∀ (v219 : IVec S16 32) (k0_hw100 : k0_chk100 v219), ∀ a x, ((![v219] : Fin 1 → IVec S16 32) a x).toNat < S32000.size a := fun v219 k0_hw100 => k0_hw100
def k0_off112 (k0_t5 : Fin k0_t5_loop.trips) : Fin 2 → Nat :=
  let c1_i32_149 : BitVec 32 := 1#32
  let v222 : Index := Scalar.indexCast c1_i32_149
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk101 (v226 : IVec S16 32) : Prop :=
  (∀ a x, ((![v226] : Fin 1 → IVec S16 32) a x).toNat < S32000.size a)
theorem k0_idx99_inb : ∀ (v226 : IVec S16 32) (k0_hw101 : k0_chk101 v226), ∀ a x, ((![v226] : Fin 1 → IVec S16 32) a x).toNat < S32000.size a := fun v226 k0_hw101 => k0_hw101
def k0_off113 (k0_t5 : Fin k0_t5_loop.trips) : Fin 2 → Nat :=
  let c2_i32_152 : BitVec 32 := 2#32
  let v229 : Index := Scalar.indexCast c2_i32_152
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk102 (v233 : IVec S16 32) : Prop :=
  (∀ a x, ((![v233] : Fin 1 → IVec S16 32) a x).toNat < S32000.size a)
theorem k0_idx100_inb : ∀ (v233 : IVec S16 32) (k0_hw102 : k0_chk102 v233), ∀ a x, ((![v233] : Fin 1 → IVec S16 32) a x).toNat < S32000.size a := fun v233 k0_hw102 => k0_hw102
def k0_off114 (k0_t5 : Fin k0_t5_loop.trips) : Fin 2 → Nat :=
  let c3_i32_155 : BitVec 32 := 3#32
  let v236 : Index := Scalar.indexCast c3_i32_155
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk103 (v240 : IVec S16 32) : Prop :=
  (∀ a x, ((![v240] : Fin 1 → IVec S16 32) a x).toNat < S32000.size a)
theorem k0_idx101_inb : ∀ (v240 : IVec S16 32) (k0_hw103 : k0_chk103 v240), ∀ a x, ((![v240] : Fin 1 → IVec S16 32) a x).toNat < S32000.size a := fun v240 k0_hw103 => k0_hw103
def k0_off115 (k0_t5 : Fin k0_t5_loop.trips) : Fin 2 → Nat :=
  let c4_i32_158 : BitVec 32 := 4#32
  let v243 : Index := Scalar.indexCast c4_i32_158
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk104 (v247 : IVec S16 32) : Prop :=
  (∀ a x, ((![v247] : Fin 1 → IVec S16 32) a x).toNat < S32000.size a)
theorem k0_idx102_inb : ∀ (v247 : IVec S16 32) (k0_hw104 : k0_chk104 v247), ∀ a x, ((![v247] : Fin 1 → IVec S16 32) a x).toNat < S32000.size a := fun v247 k0_hw104 => k0_hw104
def k0_off116 (k0_t5 : Fin k0_t5_loop.trips) : Fin 2 → Nat :=
  let c5_i32_161 : BitVec 32 := 5#32
  let v250 : Index := Scalar.indexCast c5_i32_161
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk105 (v254 : IVec S16 32) : Prop :=
  (∀ a x, ((![v254] : Fin 1 → IVec S16 32) a x).toNat < S32000.size a)
theorem k0_idx103_inb : ∀ (v254 : IVec S16 32) (k0_hw105 : k0_chk105 v254), ∀ a x, ((![v254] : Fin 1 → IVec S16 32) a x).toNat < S32000.size a := fun v254 k0_hw105 => k0_hw105
def k0_off117 (k0_t5 : Fin k0_t5_loop.trips) : Fin 2 → Nat :=
  let c6_i32_164 : BitVec 32 := 6#32
  let v257 : Index := Scalar.indexCast c6_i32_164
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk106 (v261 : IVec S16 32) : Prop :=
  (∀ a x, ((![v261] : Fin 1 → IVec S16 32) a x).toNat < S32000.size a)
theorem k0_idx104_inb : ∀ (v261 : IVec S16 32) (k0_hw106 : k0_chk106 v261), ∀ a x, ((![v261] : Fin 1 → IVec S16 32) a x).toNat < S32000.size a := fun v261 k0_hw106 => k0_hw106
def k0_off118 (k0_t5 : Fin k0_t5_loop.trips) : Fin 2 → Nat :=
  let c7_i32_167 : BitVec 32 := 7#32
  let v264 : Index := Scalar.indexCast c7_i32_167
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk107 (v268 : IVec S16 32) : Prop :=
  (∀ a x, ((![v268] : Fin 1 → IVec S16 32) a x).toNat < S32000.size a)
theorem k0_idx105_inb : ∀ (v268 : IVec S16 32) (k0_hw107 : k0_chk107 v268), ∀ a x, ((![v268] : Fin 1 → IVec S16 32) a x).toNat < S32000.size a := fun v268 k0_hw107 => k0_hw107
def k0_off119 (k0_t5 : Fin k0_t5_loop.trips) : Fin 2 → Nat :=
  let c8_i32_170 : BitVec 32 := 8#32
  let v271 : Index := Scalar.indexCast c8_i32_170
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk108 (v275 : IVec S16 32) : Prop :=
  (∀ a x, ((![v275] : Fin 1 → IVec S16 32) a x).toNat < S32000.size a)
theorem k0_idx106_inb : ∀ (v275 : IVec S16 32) (k0_hw108 : k0_chk108 v275), ∀ a x, ((![v275] : Fin 1 → IVec S16 32) a x).toNat < S32000.size a := fun v275 k0_hw108 => k0_hw108
def k0_off120 (k0_t5 : Fin k0_t5_loop.trips) : Fin 2 → Nat :=
  let c9_i32_172 : BitVec 32 := 9#32
  let v278 : Index := Scalar.indexCast c9_i32_172
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk109 (v282 : IVec S16 32) : Prop :=
  (∀ a x, ((![v282] : Fin 1 → IVec S16 32) a x).toNat < S32000.size a)
theorem k0_idx107_inb : ∀ (v282 : IVec S16 32) (k0_hw109 : k0_chk109 v282), ∀ a x, ((![v282] : Fin 1 → IVec S16 32) a x).toNat < S32000.size a := fun v282 k0_hw109 => k0_hw109
def k0_off121 (k0_t5 : Fin k0_t5_loop.trips) : Fin 2 → Nat :=
  let c10_i32_174 : BitVec 32 := 10#32
  let v285 : Index := Scalar.indexCast c10_i32_174
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk110 (v289 : IVec S16 32) : Prop :=
  (∀ a x, ((![v289] : Fin 1 → IVec S16 32) a x).toNat < S32000.size a)
theorem k0_idx108_inb : ∀ (v289 : IVec S16 32) (k0_hw110 : k0_chk110 v289), ∀ a x, ((![v289] : Fin 1 → IVec S16 32) a x).toNat < S32000.size a := fun v289 k0_hw110 => k0_hw110
def k0_off122 (k0_t5 : Fin k0_t5_loop.trips) : Fin 2 → Nat :=
  let c11_i32_176 : BitVec 32 := 11#32
  let v292 : Index := Scalar.indexCast c11_i32_176
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk111 (v296 : IVec S16 32) : Prop :=
  (∀ a x, ((![v296] : Fin 1 → IVec S16 32) a x).toNat < S32000.size a)
theorem k0_idx109_inb : ∀ (v296 : IVec S16 32) (k0_hw111 : k0_chk111 v296), ∀ a x, ((![v296] : Fin 1 → IVec S16 32) a x).toNat < S32000.size a := fun v296 k0_hw111 => k0_hw111
def k0_off123 (k0_t5 : Fin k0_t5_loop.trips) : Fin 2 → Nat :=
  let c12_i32_178 : BitVec 32 := 12#32
  let v299 : Index := Scalar.indexCast c12_i32_178
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk112 (v303 : IVec S16 32) : Prop :=
  (∀ a x, ((![v303] : Fin 1 → IVec S16 32) a x).toNat < S32000.size a)
theorem k0_idx110_inb : ∀ (v303 : IVec S16 32) (k0_hw112 : k0_chk112 v303), ∀ a x, ((![v303] : Fin 1 → IVec S16 32) a x).toNat < S32000.size a := fun v303 k0_hw112 => k0_hw112
def k0_off124 (k0_t5 : Fin k0_t5_loop.trips) : Fin 2 → Nat :=
  let c13_i32_180 : BitVec 32 := 13#32
  let v306 : Index := Scalar.indexCast c13_i32_180
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk113 (v310 : IVec S16 32) : Prop :=
  (∀ a x, ((![v310] : Fin 1 → IVec S16 32) a x).toNat < S32000.size a)
theorem k0_idx111_inb : ∀ (v310 : IVec S16 32) (k0_hw113 : k0_chk113 v310), ∀ a x, ((![v310] : Fin 1 → IVec S16 32) a x).toNat < S32000.size a := fun v310 k0_hw113 => k0_hw113
def k0_off125 (k0_t5 : Fin k0_t5_loop.trips) : Fin 2 → Nat :=
  let c14_i32_182 : BitVec 32 := 14#32
  let v313 : Index := Scalar.indexCast c14_i32_182
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk114 (v317 : IVec S16 32) : Prop :=
  (∀ a x, ((![v317] : Fin 1 → IVec S16 32) a x).toNat < S32000.size a)
theorem k0_idx112_inb : ∀ (v317 : IVec S16 32) (k0_hw114 : k0_chk114 v317), ∀ a x, ((![v317] : Fin 1 → IVec S16 32) a x).toNat < S32000.size a := fun v317 k0_hw114 => k0_hw114
def k0_off126 (k0_t5 : Fin k0_t5_loop.trips) : Fin 2 → Nat :=
  let c15_i32_184 : BitVec 32 := 15#32
  let v320 : Index := Scalar.indexCast c15_i32_184
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk115 (v324 : IVec S16 32) : Prop :=
  (∀ a x, ((![v324] : Fin 1 → IVec S16 32) a x).toNat < S32000.size a)
theorem k0_idx113_inb : ∀ (v324 : IVec S16 32) (k0_hw115 : k0_chk115 v324), ∀ a x, ((![v324] : Fin 1 → IVec S16 32) a x).toNat < S32000.size a := fun v324 k0_hw115 => k0_hw115
def k0_off127 (k0_t5 : Fin k0_t5_loop.trips) : Fin 2 → Nat :=
  let c16_i32_187 : BitVec 32 := 16#32
  let v327 : Index := Scalar.indexCast c16_i32_187
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk116 (v331 : IVec S16 32) : Prop :=
  (∀ a x, ((![v331] : Fin 1 → IVec S16 32) a x).toNat < S32000.size a)
theorem k0_idx114_inb : ∀ (v331 : IVec S16 32) (k0_hw116 : k0_chk116 v331), ∀ a x, ((![v331] : Fin 1 → IVec S16 32) a x).toNat < S32000.size a := fun v331 k0_hw116 => k0_hw116
def k0_off128 (k0_t5 : Fin k0_t5_loop.trips) : Fin 2 → Nat :=
  let c17_i32_189 : BitVec 32 := 17#32
  let v334 : Index := Scalar.indexCast c17_i32_189
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk117 (v338 : IVec S16 32) : Prop :=
  (∀ a x, ((![v338] : Fin 1 → IVec S16 32) a x).toNat < S32000.size a)
theorem k0_idx115_inb : ∀ (v338 : IVec S16 32) (k0_hw117 : k0_chk117 v338), ∀ a x, ((![v338] : Fin 1 → IVec S16 32) a x).toNat < S32000.size a := fun v338 k0_hw117 => k0_hw117
def k0_off129 (k0_t5 : Fin k0_t5_loop.trips) : Fin 2 → Nat :=
  let c18_i32_191 : BitVec 32 := 18#32
  let v341 : Index := Scalar.indexCast c18_i32_191
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk118 (v345 : IVec S16 32) : Prop :=
  (∀ a x, ((![v345] : Fin 1 → IVec S16 32) a x).toNat < S32000.size a)
theorem k0_idx116_inb : ∀ (v345 : IVec S16 32) (k0_hw118 : k0_chk118 v345), ∀ a x, ((![v345] : Fin 1 → IVec S16 32) a x).toNat < S32000.size a := fun v345 k0_hw118 => k0_hw118
def k0_off130 (k0_t5 : Fin k0_t5_loop.trips) : Fin 2 → Nat :=
  let c19_i32_193 : BitVec 32 := 19#32
  let v348 : Index := Scalar.indexCast c19_i32_193
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk119 (v352 : IVec S16 32) : Prop :=
  (∀ a x, ((![v352] : Fin 1 → IVec S16 32) a x).toNat < S32000.size a)
theorem k0_idx117_inb : ∀ (v352 : IVec S16 32) (k0_hw119 : k0_chk119 v352), ∀ a x, ((![v352] : Fin 1 → IVec S16 32) a x).toNat < S32000.size a := fun v352 k0_hw119 => k0_hw119
def k0_off131 (k0_t5 : Fin k0_t5_loop.trips) : Fin 2 → Nat :=
  let c20_i32_195 : BitVec 32 := 20#32
  let v355 : Index := Scalar.indexCast c20_i32_195
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk120 (v359 : IVec S16 32) : Prop :=
  (∀ a x, ((![v359] : Fin 1 → IVec S16 32) a x).toNat < S32000.size a)
theorem k0_idx118_inb : ∀ (v359 : IVec S16 32) (k0_hw120 : k0_chk120 v359), ∀ a x, ((![v359] : Fin 1 → IVec S16 32) a x).toNat < S32000.size a := fun v359 k0_hw120 => k0_hw120
def k0_off132 (k0_t5 : Fin k0_t5_loop.trips) : Fin 2 → Nat :=
  let c21_i32_197 : BitVec 32 := 21#32
  let v362 : Index := Scalar.indexCast c21_i32_197
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk121 (v366 : IVec S16 32) : Prop :=
  (∀ a x, ((![v366] : Fin 1 → IVec S16 32) a x).toNat < S32000.size a)
theorem k0_idx119_inb : ∀ (v366 : IVec S16 32) (k0_hw121 : k0_chk121 v366), ∀ a x, ((![v366] : Fin 1 → IVec S16 32) a x).toNat < S32000.size a := fun v366 k0_hw121 => k0_hw121
def k0_off133 (k0_t5 : Fin k0_t5_loop.trips) : Fin 2 → Nat :=
  let c22_i32_199 : BitVec 32 := 22#32
  let v369 : Index := Scalar.indexCast c22_i32_199
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk122 (v373 : IVec S16 32) : Prop :=
  (∀ a x, ((![v373] : Fin 1 → IVec S16 32) a x).toNat < S32000.size a)
theorem k0_idx120_inb : ∀ (v373 : IVec S16 32) (k0_hw122 : k0_chk122 v373), ∀ a x, ((![v373] : Fin 1 → IVec S16 32) a x).toNat < S32000.size a := fun v373 k0_hw122 => k0_hw122
def k0_off134 (k0_t5 : Fin k0_t5_loop.trips) : Fin 2 → Nat :=
  let c23_i32_201 : BitVec 32 := 23#32
  let v376 : Index := Scalar.indexCast c23_i32_201
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk123 (v380 : IVec S16 32) : Prop :=
  (∀ a x, ((![v380] : Fin 1 → IVec S16 32) a x).toNat < S32000.size a)
theorem k0_idx121_inb : ∀ (v380 : IVec S16 32) (k0_hw123 : k0_chk123 v380), ∀ a x, ((![v380] : Fin 1 → IVec S16 32) a x).toNat < S32000.size a := fun v380 k0_hw123 => k0_hw123
def k0_off135 (k0_t5 : Fin k0_t5_loop.trips) : Fin 2 → Nat :=
  let c24_i32_203 : BitVec 32 := 24#32
  let v383 : Index := Scalar.indexCast c24_i32_203
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk124 (v387 : IVec S16 32) : Prop :=
  (∀ a x, ((![v387] : Fin 1 → IVec S16 32) a x).toNat < S32000.size a)
theorem k0_idx122_inb : ∀ (v387 : IVec S16 32) (k0_hw124 : k0_chk124 v387), ∀ a x, ((![v387] : Fin 1 → IVec S16 32) a x).toNat < S32000.size a := fun v387 k0_hw124 => k0_hw124
def k0_off136 (k0_t5 : Fin k0_t5_loop.trips) : Fin 2 → Nat :=
  let c25_i32_205 : BitVec 32 := 25#32
  let v390 : Index := Scalar.indexCast c25_i32_205
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk125 (v394 : IVec S16 32) : Prop :=
  (∀ a x, ((![v394] : Fin 1 → IVec S16 32) a x).toNat < S32000.size a)
theorem k0_idx123_inb : ∀ (v394 : IVec S16 32) (k0_hw125 : k0_chk125 v394), ∀ a x, ((![v394] : Fin 1 → IVec S16 32) a x).toNat < S32000.size a := fun v394 k0_hw125 => k0_hw125
def k0_off137 (k0_t5 : Fin k0_t5_loop.trips) : Fin 2 → Nat :=
  let c26_i32_207 : BitVec 32 := 26#32
  let v397 : Index := Scalar.indexCast c26_i32_207
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk126 (v401 : IVec S16 32) : Prop :=
  (∀ a x, ((![v401] : Fin 1 → IVec S16 32) a x).toNat < S32000.size a)
theorem k0_idx124_inb : ∀ (v401 : IVec S16 32) (k0_hw126 : k0_chk126 v401), ∀ a x, ((![v401] : Fin 1 → IVec S16 32) a x).toNat < S32000.size a := fun v401 k0_hw126 => k0_hw126
def k0_off138 (k0_t5 : Fin k0_t5_loop.trips) : Fin 2 → Nat :=
  let c27_i32_209 : BitVec 32 := 27#32
  let v404 : Index := Scalar.indexCast c27_i32_209
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk127 (v408 : IVec S16 32) : Prop :=
  (∀ a x, ((![v408] : Fin 1 → IVec S16 32) a x).toNat < S32000.size a)
theorem k0_idx125_inb : ∀ (v408 : IVec S16 32) (k0_hw127 : k0_chk127 v408), ∀ a x, ((![v408] : Fin 1 → IVec S16 32) a x).toNat < S32000.size a := fun v408 k0_hw127 => k0_hw127
def k0_off139 (k0_t5 : Fin k0_t5_loop.trips) : Fin 2 → Nat :=
  let c28_i32_211 : BitVec 32 := 28#32
  let v411 : Index := Scalar.indexCast c28_i32_211
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk128 (v415 : IVec S16 32) : Prop :=
  (∀ a x, ((![v415] : Fin 1 → IVec S16 32) a x).toNat < S32000.size a)
theorem k0_idx126_inb : ∀ (v415 : IVec S16 32) (k0_hw128 : k0_chk128 v415), ∀ a x, ((![v415] : Fin 1 → IVec S16 32) a x).toNat < S32000.size a := fun v415 k0_hw128 => k0_hw128
def k0_off140 (k0_t5 : Fin k0_t5_loop.trips) : Fin 2 → Nat :=
  let c29_i32_213 : BitVec 32 := 29#32
  let v418 : Index := Scalar.indexCast c29_i32_213
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk129 (v422 : IVec S16 32) : Prop :=
  (∀ a x, ((![v422] : Fin 1 → IVec S16 32) a x).toNat < S32000.size a)
theorem k0_idx127_inb : ∀ (v422 : IVec S16 32) (k0_hw129 : k0_chk129 v422), ∀ a x, ((![v422] : Fin 1 → IVec S16 32) a x).toNat < S32000.size a := fun v422 k0_hw129 => k0_hw129
def k0_off141 (k0_t5 : Fin k0_t5_loop.trips) : Fin 2 → Nat :=
  let c30_i32_215 : BitVec 32 := 30#32
  let v425 : Index := Scalar.indexCast c30_i32_215
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk130 (v429 : IVec S16 32) : Prop :=
  (∀ a x, ((![v429] : Fin 1 → IVec S16 32) a x).toNat < S32000.size a)
theorem k0_idx128_inb : ∀ (v429 : IVec S16 32) (k0_hw130 : k0_chk130 v429), ∀ a x, ((![v429] : Fin 1 → IVec S16 32) a x).toNat < S32000.size a := fun v429 k0_hw130 => k0_hw130
def k0_off142 (k0_t5 : Fin k0_t5_loop.trips) : Fin 2 → Nat :=
  let c31_i32_217 : BitVec 32 := 31#32
  let v432 : Index := Scalar.indexCast c31_i32_217
  let c0_i32_142 : BitVec 32 := 0#32
  let c0_i32_75 : BitVec 32 := 0#32
  let c1_i32_77 : BitVec 32 := 1#32
  let arg20 : BitVec 32 := Scf.iv c0_i32_75 c1_i32_77 k0_t5
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult16 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_79 : BitVec 32 := 32#32
  let v119 : BitVec 32 := Scalar.muli v35 c32_i32_79
  v119
def k0_mult17 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  v106
def k0_cond5 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  let c0_i32_89 : BitVec 32 := 0#32
  let v135 : BitVec 1 := Scalar.cmpi .sge v86 c0_i32_89
  let v136 : BitVec 32 := Scalar.extui v135
  let c0_i32_90 : BitVec 32 := 0#32
  let v137 : BitVec 1 := Scalar.cmpi .ne v136 c0_i32_90
  v137

def k0_mult18 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult19 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  v86
def k0_off143 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  let v206 : BitVec 32 := v86
  ![v205.toNat, v206.toNat]
@[reducible] def k0_t6_loop : Scf.Loop 32 :=
  let c0_i32_91 : BitVec 32 := 0#32
  let c32_i32_92 : BitVec 32 := 32#32
  let v138 : BitVec 32 := Scalar.addi c0_i32_91 c32_i32_92
  let c1_i32_93 : BitVec 32 := 1#32
  ⟨c0_i32_91, v138, c1_i32_93⟩
def k0_off144 (k0_t6 : Fin k0_t6_loop.trips) : Fin 1 → Nat :=
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk131 (v212 : IVec S16 32) : Prop :=
  (∀ a x, ((![v212] : Fin 1 → IVec S16 32) a x).toNat < S32000.size a)
theorem k0_idx129_inb : ∀ (v212 : IVec S16 32) (k0_hw131 : k0_chk131 v212), ∀ a x, ((![v212] : Fin 1 → IVec S16 32) a x).toNat < S32000.size a := fun v212 k0_hw131 => k0_hw131
def k0_off145 (k0_t6 : Fin k0_t6_loop.trips) : Fin 2 → Nat :=
  let c0_i32_146 : BitVec 32 := 0#32
  let v215 : Index := Scalar.indexCast c0_i32_146
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk132 (v219 : IVec S16 32) : Prop :=
  (∀ a x, ((![v219] : Fin 1 → IVec S16 32) a x).toNat < S32000.size a)
theorem k0_idx130_inb : ∀ (v219 : IVec S16 32) (k0_hw132 : k0_chk132 v219), ∀ a x, ((![v219] : Fin 1 → IVec S16 32) a x).toNat < S32000.size a := fun v219 k0_hw132 => k0_hw132
def k0_off146 (k0_t6 : Fin k0_t6_loop.trips) : Fin 2 → Nat :=
  let c1_i32_149 : BitVec 32 := 1#32
  let v222 : Index := Scalar.indexCast c1_i32_149
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk133 (v226 : IVec S16 32) : Prop :=
  (∀ a x, ((![v226] : Fin 1 → IVec S16 32) a x).toNat < S32000.size a)
theorem k0_idx131_inb : ∀ (v226 : IVec S16 32) (k0_hw133 : k0_chk133 v226), ∀ a x, ((![v226] : Fin 1 → IVec S16 32) a x).toNat < S32000.size a := fun v226 k0_hw133 => k0_hw133
def k0_off147 (k0_t6 : Fin k0_t6_loop.trips) : Fin 2 → Nat :=
  let c2_i32_152 : BitVec 32 := 2#32
  let v229 : Index := Scalar.indexCast c2_i32_152
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk134 (v233 : IVec S16 32) : Prop :=
  (∀ a x, ((![v233] : Fin 1 → IVec S16 32) a x).toNat < S32000.size a)
theorem k0_idx132_inb : ∀ (v233 : IVec S16 32) (k0_hw134 : k0_chk134 v233), ∀ a x, ((![v233] : Fin 1 → IVec S16 32) a x).toNat < S32000.size a := fun v233 k0_hw134 => k0_hw134
def k0_off148 (k0_t6 : Fin k0_t6_loop.trips) : Fin 2 → Nat :=
  let c3_i32_155 : BitVec 32 := 3#32
  let v236 : Index := Scalar.indexCast c3_i32_155
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk135 (v240 : IVec S16 32) : Prop :=
  (∀ a x, ((![v240] : Fin 1 → IVec S16 32) a x).toNat < S32000.size a)
theorem k0_idx133_inb : ∀ (v240 : IVec S16 32) (k0_hw135 : k0_chk135 v240), ∀ a x, ((![v240] : Fin 1 → IVec S16 32) a x).toNat < S32000.size a := fun v240 k0_hw135 => k0_hw135
def k0_off149 (k0_t6 : Fin k0_t6_loop.trips) : Fin 2 → Nat :=
  let c4_i32_158 : BitVec 32 := 4#32
  let v243 : Index := Scalar.indexCast c4_i32_158
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk136 (v247 : IVec S16 32) : Prop :=
  (∀ a x, ((![v247] : Fin 1 → IVec S16 32) a x).toNat < S32000.size a)
theorem k0_idx134_inb : ∀ (v247 : IVec S16 32) (k0_hw136 : k0_chk136 v247), ∀ a x, ((![v247] : Fin 1 → IVec S16 32) a x).toNat < S32000.size a := fun v247 k0_hw136 => k0_hw136
def k0_off150 (k0_t6 : Fin k0_t6_loop.trips) : Fin 2 → Nat :=
  let c5_i32_161 : BitVec 32 := 5#32
  let v250 : Index := Scalar.indexCast c5_i32_161
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk137 (v254 : IVec S16 32) : Prop :=
  (∀ a x, ((![v254] : Fin 1 → IVec S16 32) a x).toNat < S32000.size a)
theorem k0_idx135_inb : ∀ (v254 : IVec S16 32) (k0_hw137 : k0_chk137 v254), ∀ a x, ((![v254] : Fin 1 → IVec S16 32) a x).toNat < S32000.size a := fun v254 k0_hw137 => k0_hw137
def k0_off151 (k0_t6 : Fin k0_t6_loop.trips) : Fin 2 → Nat :=
  let c6_i32_164 : BitVec 32 := 6#32
  let v257 : Index := Scalar.indexCast c6_i32_164
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk138 (v261 : IVec S16 32) : Prop :=
  (∀ a x, ((![v261] : Fin 1 → IVec S16 32) a x).toNat < S32000.size a)
theorem k0_idx136_inb : ∀ (v261 : IVec S16 32) (k0_hw138 : k0_chk138 v261), ∀ a x, ((![v261] : Fin 1 → IVec S16 32) a x).toNat < S32000.size a := fun v261 k0_hw138 => k0_hw138
def k0_off152 (k0_t6 : Fin k0_t6_loop.trips) : Fin 2 → Nat :=
  let c7_i32_167 : BitVec 32 := 7#32
  let v264 : Index := Scalar.indexCast c7_i32_167
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk139 (v268 : IVec S16 32) : Prop :=
  (∀ a x, ((![v268] : Fin 1 → IVec S16 32) a x).toNat < S32000.size a)
theorem k0_idx137_inb : ∀ (v268 : IVec S16 32) (k0_hw139 : k0_chk139 v268), ∀ a x, ((![v268] : Fin 1 → IVec S16 32) a x).toNat < S32000.size a := fun v268 k0_hw139 => k0_hw139
def k0_off153 (k0_t6 : Fin k0_t6_loop.trips) : Fin 2 → Nat :=
  let c8_i32_170 : BitVec 32 := 8#32
  let v271 : Index := Scalar.indexCast c8_i32_170
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk140 (v275 : IVec S16 32) : Prop :=
  (∀ a x, ((![v275] : Fin 1 → IVec S16 32) a x).toNat < S32000.size a)
theorem k0_idx138_inb : ∀ (v275 : IVec S16 32) (k0_hw140 : k0_chk140 v275), ∀ a x, ((![v275] : Fin 1 → IVec S16 32) a x).toNat < S32000.size a := fun v275 k0_hw140 => k0_hw140
def k0_off154 (k0_t6 : Fin k0_t6_loop.trips) : Fin 2 → Nat :=
  let c9_i32_172 : BitVec 32 := 9#32
  let v278 : Index := Scalar.indexCast c9_i32_172
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk141 (v282 : IVec S16 32) : Prop :=
  (∀ a x, ((![v282] : Fin 1 → IVec S16 32) a x).toNat < S32000.size a)
theorem k0_idx139_inb : ∀ (v282 : IVec S16 32) (k0_hw141 : k0_chk141 v282), ∀ a x, ((![v282] : Fin 1 → IVec S16 32) a x).toNat < S32000.size a := fun v282 k0_hw141 => k0_hw141
def k0_off155 (k0_t6 : Fin k0_t6_loop.trips) : Fin 2 → Nat :=
  let c10_i32_174 : BitVec 32 := 10#32
  let v285 : Index := Scalar.indexCast c10_i32_174
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk142 (v289 : IVec S16 32) : Prop :=
  (∀ a x, ((![v289] : Fin 1 → IVec S16 32) a x).toNat < S32000.size a)
theorem k0_idx140_inb : ∀ (v289 : IVec S16 32) (k0_hw142 : k0_chk142 v289), ∀ a x, ((![v289] : Fin 1 → IVec S16 32) a x).toNat < S32000.size a := fun v289 k0_hw142 => k0_hw142
def k0_off156 (k0_t6 : Fin k0_t6_loop.trips) : Fin 2 → Nat :=
  let c11_i32_176 : BitVec 32 := 11#32
  let v292 : Index := Scalar.indexCast c11_i32_176
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk143 (v296 : IVec S16 32) : Prop :=
  (∀ a x, ((![v296] : Fin 1 → IVec S16 32) a x).toNat < S32000.size a)
theorem k0_idx141_inb : ∀ (v296 : IVec S16 32) (k0_hw143 : k0_chk143 v296), ∀ a x, ((![v296] : Fin 1 → IVec S16 32) a x).toNat < S32000.size a := fun v296 k0_hw143 => k0_hw143
def k0_off157 (k0_t6 : Fin k0_t6_loop.trips) : Fin 2 → Nat :=
  let c12_i32_178 : BitVec 32 := 12#32
  let v299 : Index := Scalar.indexCast c12_i32_178
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk144 (v303 : IVec S16 32) : Prop :=
  (∀ a x, ((![v303] : Fin 1 → IVec S16 32) a x).toNat < S32000.size a)
theorem k0_idx142_inb : ∀ (v303 : IVec S16 32) (k0_hw144 : k0_chk144 v303), ∀ a x, ((![v303] : Fin 1 → IVec S16 32) a x).toNat < S32000.size a := fun v303 k0_hw144 => k0_hw144
def k0_off158 (k0_t6 : Fin k0_t6_loop.trips) : Fin 2 → Nat :=
  let c13_i32_180 : BitVec 32 := 13#32
  let v306 : Index := Scalar.indexCast c13_i32_180
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk145 (v310 : IVec S16 32) : Prop :=
  (∀ a x, ((![v310] : Fin 1 → IVec S16 32) a x).toNat < S32000.size a)
theorem k0_idx143_inb : ∀ (v310 : IVec S16 32) (k0_hw145 : k0_chk145 v310), ∀ a x, ((![v310] : Fin 1 → IVec S16 32) a x).toNat < S32000.size a := fun v310 k0_hw145 => k0_hw145
def k0_off159 (k0_t6 : Fin k0_t6_loop.trips) : Fin 2 → Nat :=
  let c14_i32_182 : BitVec 32 := 14#32
  let v313 : Index := Scalar.indexCast c14_i32_182
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk146 (v317 : IVec S16 32) : Prop :=
  (∀ a x, ((![v317] : Fin 1 → IVec S16 32) a x).toNat < S32000.size a)
theorem k0_idx144_inb : ∀ (v317 : IVec S16 32) (k0_hw146 : k0_chk146 v317), ∀ a x, ((![v317] : Fin 1 → IVec S16 32) a x).toNat < S32000.size a := fun v317 k0_hw146 => k0_hw146
def k0_off160 (k0_t6 : Fin k0_t6_loop.trips) : Fin 2 → Nat :=
  let c15_i32_184 : BitVec 32 := 15#32
  let v320 : Index := Scalar.indexCast c15_i32_184
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk147 (v324 : IVec S16 32) : Prop :=
  (∀ a x, ((![v324] : Fin 1 → IVec S16 32) a x).toNat < S32000.size a)
theorem k0_idx145_inb : ∀ (v324 : IVec S16 32) (k0_hw147 : k0_chk147 v324), ∀ a x, ((![v324] : Fin 1 → IVec S16 32) a x).toNat < S32000.size a := fun v324 k0_hw147 => k0_hw147
def k0_off161 (k0_t6 : Fin k0_t6_loop.trips) : Fin 2 → Nat :=
  let c16_i32_187 : BitVec 32 := 16#32
  let v327 : Index := Scalar.indexCast c16_i32_187
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk148 (v331 : IVec S16 32) : Prop :=
  (∀ a x, ((![v331] : Fin 1 → IVec S16 32) a x).toNat < S32000.size a)
theorem k0_idx146_inb : ∀ (v331 : IVec S16 32) (k0_hw148 : k0_chk148 v331), ∀ a x, ((![v331] : Fin 1 → IVec S16 32) a x).toNat < S32000.size a := fun v331 k0_hw148 => k0_hw148
def k0_off162 (k0_t6 : Fin k0_t6_loop.trips) : Fin 2 → Nat :=
  let c17_i32_189 : BitVec 32 := 17#32
  let v334 : Index := Scalar.indexCast c17_i32_189
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk149 (v338 : IVec S16 32) : Prop :=
  (∀ a x, ((![v338] : Fin 1 → IVec S16 32) a x).toNat < S32000.size a)
theorem k0_idx147_inb : ∀ (v338 : IVec S16 32) (k0_hw149 : k0_chk149 v338), ∀ a x, ((![v338] : Fin 1 → IVec S16 32) a x).toNat < S32000.size a := fun v338 k0_hw149 => k0_hw149
def k0_off163 (k0_t6 : Fin k0_t6_loop.trips) : Fin 2 → Nat :=
  let c18_i32_191 : BitVec 32 := 18#32
  let v341 : Index := Scalar.indexCast c18_i32_191
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk150 (v345 : IVec S16 32) : Prop :=
  (∀ a x, ((![v345] : Fin 1 → IVec S16 32) a x).toNat < S32000.size a)
theorem k0_idx148_inb : ∀ (v345 : IVec S16 32) (k0_hw150 : k0_chk150 v345), ∀ a x, ((![v345] : Fin 1 → IVec S16 32) a x).toNat < S32000.size a := fun v345 k0_hw150 => k0_hw150
def k0_off164 (k0_t6 : Fin k0_t6_loop.trips) : Fin 2 → Nat :=
  let c19_i32_193 : BitVec 32 := 19#32
  let v348 : Index := Scalar.indexCast c19_i32_193
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk151 (v352 : IVec S16 32) : Prop :=
  (∀ a x, ((![v352] : Fin 1 → IVec S16 32) a x).toNat < S32000.size a)
theorem k0_idx149_inb : ∀ (v352 : IVec S16 32) (k0_hw151 : k0_chk151 v352), ∀ a x, ((![v352] : Fin 1 → IVec S16 32) a x).toNat < S32000.size a := fun v352 k0_hw151 => k0_hw151
def k0_off165 (k0_t6 : Fin k0_t6_loop.trips) : Fin 2 → Nat :=
  let c20_i32_195 : BitVec 32 := 20#32
  let v355 : Index := Scalar.indexCast c20_i32_195
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk152 (v359 : IVec S16 32) : Prop :=
  (∀ a x, ((![v359] : Fin 1 → IVec S16 32) a x).toNat < S32000.size a)
theorem k0_idx150_inb : ∀ (v359 : IVec S16 32) (k0_hw152 : k0_chk152 v359), ∀ a x, ((![v359] : Fin 1 → IVec S16 32) a x).toNat < S32000.size a := fun v359 k0_hw152 => k0_hw152
def k0_off166 (k0_t6 : Fin k0_t6_loop.trips) : Fin 2 → Nat :=
  let c21_i32_197 : BitVec 32 := 21#32
  let v362 : Index := Scalar.indexCast c21_i32_197
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk153 (v366 : IVec S16 32) : Prop :=
  (∀ a x, ((![v366] : Fin 1 → IVec S16 32) a x).toNat < S32000.size a)
theorem k0_idx151_inb : ∀ (v366 : IVec S16 32) (k0_hw153 : k0_chk153 v366), ∀ a x, ((![v366] : Fin 1 → IVec S16 32) a x).toNat < S32000.size a := fun v366 k0_hw153 => k0_hw153
def k0_off167 (k0_t6 : Fin k0_t6_loop.trips) : Fin 2 → Nat :=
  let c22_i32_199 : BitVec 32 := 22#32
  let v369 : Index := Scalar.indexCast c22_i32_199
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk154 (v373 : IVec S16 32) : Prop :=
  (∀ a x, ((![v373] : Fin 1 → IVec S16 32) a x).toNat < S32000.size a)
theorem k0_idx152_inb : ∀ (v373 : IVec S16 32) (k0_hw154 : k0_chk154 v373), ∀ a x, ((![v373] : Fin 1 → IVec S16 32) a x).toNat < S32000.size a := fun v373 k0_hw154 => k0_hw154
def k0_off168 (k0_t6 : Fin k0_t6_loop.trips) : Fin 2 → Nat :=
  let c23_i32_201 : BitVec 32 := 23#32
  let v376 : Index := Scalar.indexCast c23_i32_201
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk155 (v380 : IVec S16 32) : Prop :=
  (∀ a x, ((![v380] : Fin 1 → IVec S16 32) a x).toNat < S32000.size a)
theorem k0_idx153_inb : ∀ (v380 : IVec S16 32) (k0_hw155 : k0_chk155 v380), ∀ a x, ((![v380] : Fin 1 → IVec S16 32) a x).toNat < S32000.size a := fun v380 k0_hw155 => k0_hw155
def k0_off169 (k0_t6 : Fin k0_t6_loop.trips) : Fin 2 → Nat :=
  let c24_i32_203 : BitVec 32 := 24#32
  let v383 : Index := Scalar.indexCast c24_i32_203
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk156 (v387 : IVec S16 32) : Prop :=
  (∀ a x, ((![v387] : Fin 1 → IVec S16 32) a x).toNat < S32000.size a)
theorem k0_idx154_inb : ∀ (v387 : IVec S16 32) (k0_hw156 : k0_chk156 v387), ∀ a x, ((![v387] : Fin 1 → IVec S16 32) a x).toNat < S32000.size a := fun v387 k0_hw156 => k0_hw156
def k0_off170 (k0_t6 : Fin k0_t6_loop.trips) : Fin 2 → Nat :=
  let c25_i32_205 : BitVec 32 := 25#32
  let v390 : Index := Scalar.indexCast c25_i32_205
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk157 (v394 : IVec S16 32) : Prop :=
  (∀ a x, ((![v394] : Fin 1 → IVec S16 32) a x).toNat < S32000.size a)
theorem k0_idx155_inb : ∀ (v394 : IVec S16 32) (k0_hw157 : k0_chk157 v394), ∀ a x, ((![v394] : Fin 1 → IVec S16 32) a x).toNat < S32000.size a := fun v394 k0_hw157 => k0_hw157
def k0_off171 (k0_t6 : Fin k0_t6_loop.trips) : Fin 2 → Nat :=
  let c26_i32_207 : BitVec 32 := 26#32
  let v397 : Index := Scalar.indexCast c26_i32_207
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk158 (v401 : IVec S16 32) : Prop :=
  (∀ a x, ((![v401] : Fin 1 → IVec S16 32) a x).toNat < S32000.size a)
theorem k0_idx156_inb : ∀ (v401 : IVec S16 32) (k0_hw158 : k0_chk158 v401), ∀ a x, ((![v401] : Fin 1 → IVec S16 32) a x).toNat < S32000.size a := fun v401 k0_hw158 => k0_hw158
def k0_off172 (k0_t6 : Fin k0_t6_loop.trips) : Fin 2 → Nat :=
  let c27_i32_209 : BitVec 32 := 27#32
  let v404 : Index := Scalar.indexCast c27_i32_209
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk159 (v408 : IVec S16 32) : Prop :=
  (∀ a x, ((![v408] : Fin 1 → IVec S16 32) a x).toNat < S32000.size a)
theorem k0_idx157_inb : ∀ (v408 : IVec S16 32) (k0_hw159 : k0_chk159 v408), ∀ a x, ((![v408] : Fin 1 → IVec S16 32) a x).toNat < S32000.size a := fun v408 k0_hw159 => k0_hw159
def k0_off173 (k0_t6 : Fin k0_t6_loop.trips) : Fin 2 → Nat :=
  let c28_i32_211 : BitVec 32 := 28#32
  let v411 : Index := Scalar.indexCast c28_i32_211
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk160 (v415 : IVec S16 32) : Prop :=
  (∀ a x, ((![v415] : Fin 1 → IVec S16 32) a x).toNat < S32000.size a)
theorem k0_idx158_inb : ∀ (v415 : IVec S16 32) (k0_hw160 : k0_chk160 v415), ∀ a x, ((![v415] : Fin 1 → IVec S16 32) a x).toNat < S32000.size a := fun v415 k0_hw160 => k0_hw160
def k0_off174 (k0_t6 : Fin k0_t6_loop.trips) : Fin 2 → Nat :=
  let c29_i32_213 : BitVec 32 := 29#32
  let v418 : Index := Scalar.indexCast c29_i32_213
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk161 (v422 : IVec S16 32) : Prop :=
  (∀ a x, ((![v422] : Fin 1 → IVec S16 32) a x).toNat < S32000.size a)
theorem k0_idx159_inb : ∀ (v422 : IVec S16 32) (k0_hw161 : k0_chk161 v422), ∀ a x, ((![v422] : Fin 1 → IVec S16 32) a x).toNat < S32000.size a := fun v422 k0_hw161 => k0_hw161
def k0_off175 (k0_t6 : Fin k0_t6_loop.trips) : Fin 2 → Nat :=
  let c30_i32_215 : BitVec 32 := 30#32
  let v425 : Index := Scalar.indexCast c30_i32_215
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk162 (v429 : IVec S16 32) : Prop :=
  (∀ a x, ((![v429] : Fin 1 → IVec S16 32) a x).toNat < S32000.size a)
theorem k0_idx160_inb : ∀ (v429 : IVec S16 32) (k0_hw162 : k0_chk162 v429), ∀ a x, ((![v429] : Fin 1 → IVec S16 32) a x).toNat < S32000.size a := fun v429 k0_hw162 => k0_hw162
def k0_off176 (k0_t6 : Fin k0_t6_loop.trips) : Fin 2 → Nat :=
  let c31_i32_217 : BitVec 32 := 31#32
  let v432 : Index := Scalar.indexCast c31_i32_217
  let c0_i32_142 : BitVec 32 := 0#32
  let c0_i32_91 : BitVec 32 := 0#32
  let c1_i32_93 : BitVec 32 := 1#32
  let arg20 : BitVec 32 := Scf.iv c0_i32_91 c1_i32_93 k0_t6
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult20 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_95 : BitVec 32 := 32#32
  let v139 : BitVec 32 := Scalar.muli v35 c32_i32_95
  v139
def k0_mult21 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  v126
def k0_cond6 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  let c0_i32_104 : BitVec 32 := 0#32
  let v155 : BitVec 1 := Scalar.cmpi .sge v106 c0_i32_104
  let v156 : BitVec 32 := Scalar.extui v155
  let c0_i32_105 : BitVec 32 := 0#32
  let v157 : BitVec 1 := Scalar.cmpi .ne v156 c0_i32_105
  v157

def k0_mult22 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult23 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  v106
def k0_off177 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  let v206 : BitVec 32 := v106
  ![v205.toNat, v206.toNat]
@[reducible] def k0_t7_loop : Scf.Loop 32 :=
  let c0_i32_106 : BitVec 32 := 0#32
  let c32_i32_107 : BitVec 32 := 32#32
  let v158 : BitVec 32 := Scalar.addi c0_i32_106 c32_i32_107
  let c1_i32_108 : BitVec 32 := 1#32
  ⟨c0_i32_106, v158, c1_i32_108⟩
def k0_off178 (k0_t7 : Fin k0_t7_loop.trips) : Fin 1 → Nat :=
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk163 (v212 : IVec S16 32) : Prop :=
  (∀ a x, ((![v212] : Fin 1 → IVec S16 32) a x).toNat < S32000.size a)
theorem k0_idx161_inb : ∀ (v212 : IVec S16 32) (k0_hw163 : k0_chk163 v212), ∀ a x, ((![v212] : Fin 1 → IVec S16 32) a x).toNat < S32000.size a := fun v212 k0_hw163 => k0_hw163
def k0_off179 (k0_t7 : Fin k0_t7_loop.trips) : Fin 2 → Nat :=
  let c0_i32_146 : BitVec 32 := 0#32
  let v215 : Index := Scalar.indexCast c0_i32_146
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk164 (v219 : IVec S16 32) : Prop :=
  (∀ a x, ((![v219] : Fin 1 → IVec S16 32) a x).toNat < S32000.size a)
theorem k0_idx162_inb : ∀ (v219 : IVec S16 32) (k0_hw164 : k0_chk164 v219), ∀ a x, ((![v219] : Fin 1 → IVec S16 32) a x).toNat < S32000.size a := fun v219 k0_hw164 => k0_hw164
def k0_off180 (k0_t7 : Fin k0_t7_loop.trips) : Fin 2 → Nat :=
  let c1_i32_149 : BitVec 32 := 1#32
  let v222 : Index := Scalar.indexCast c1_i32_149
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk165 (v226 : IVec S16 32) : Prop :=
  (∀ a x, ((![v226] : Fin 1 → IVec S16 32) a x).toNat < S32000.size a)
theorem k0_idx163_inb : ∀ (v226 : IVec S16 32) (k0_hw165 : k0_chk165 v226), ∀ a x, ((![v226] : Fin 1 → IVec S16 32) a x).toNat < S32000.size a := fun v226 k0_hw165 => k0_hw165
def k0_off181 (k0_t7 : Fin k0_t7_loop.trips) : Fin 2 → Nat :=
  let c2_i32_152 : BitVec 32 := 2#32
  let v229 : Index := Scalar.indexCast c2_i32_152
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk166 (v233 : IVec S16 32) : Prop :=
  (∀ a x, ((![v233] : Fin 1 → IVec S16 32) a x).toNat < S32000.size a)
theorem k0_idx164_inb : ∀ (v233 : IVec S16 32) (k0_hw166 : k0_chk166 v233), ∀ a x, ((![v233] : Fin 1 → IVec S16 32) a x).toNat < S32000.size a := fun v233 k0_hw166 => k0_hw166
def k0_off182 (k0_t7 : Fin k0_t7_loop.trips) : Fin 2 → Nat :=
  let c3_i32_155 : BitVec 32 := 3#32
  let v236 : Index := Scalar.indexCast c3_i32_155
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk167 (v240 : IVec S16 32) : Prop :=
  (∀ a x, ((![v240] : Fin 1 → IVec S16 32) a x).toNat < S32000.size a)
theorem k0_idx165_inb : ∀ (v240 : IVec S16 32) (k0_hw167 : k0_chk167 v240), ∀ a x, ((![v240] : Fin 1 → IVec S16 32) a x).toNat < S32000.size a := fun v240 k0_hw167 => k0_hw167
def k0_off183 (k0_t7 : Fin k0_t7_loop.trips) : Fin 2 → Nat :=
  let c4_i32_158 : BitVec 32 := 4#32
  let v243 : Index := Scalar.indexCast c4_i32_158
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk168 (v247 : IVec S16 32) : Prop :=
  (∀ a x, ((![v247] : Fin 1 → IVec S16 32) a x).toNat < S32000.size a)
theorem k0_idx166_inb : ∀ (v247 : IVec S16 32) (k0_hw168 : k0_chk168 v247), ∀ a x, ((![v247] : Fin 1 → IVec S16 32) a x).toNat < S32000.size a := fun v247 k0_hw168 => k0_hw168
def k0_off184 (k0_t7 : Fin k0_t7_loop.trips) : Fin 2 → Nat :=
  let c5_i32_161 : BitVec 32 := 5#32
  let v250 : Index := Scalar.indexCast c5_i32_161
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk169 (v254 : IVec S16 32) : Prop :=
  (∀ a x, ((![v254] : Fin 1 → IVec S16 32) a x).toNat < S32000.size a)
theorem k0_idx167_inb : ∀ (v254 : IVec S16 32) (k0_hw169 : k0_chk169 v254), ∀ a x, ((![v254] : Fin 1 → IVec S16 32) a x).toNat < S32000.size a := fun v254 k0_hw169 => k0_hw169
def k0_off185 (k0_t7 : Fin k0_t7_loop.trips) : Fin 2 → Nat :=
  let c6_i32_164 : BitVec 32 := 6#32
  let v257 : Index := Scalar.indexCast c6_i32_164
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk170 (v261 : IVec S16 32) : Prop :=
  (∀ a x, ((![v261] : Fin 1 → IVec S16 32) a x).toNat < S32000.size a)
theorem k0_idx168_inb : ∀ (v261 : IVec S16 32) (k0_hw170 : k0_chk170 v261), ∀ a x, ((![v261] : Fin 1 → IVec S16 32) a x).toNat < S32000.size a := fun v261 k0_hw170 => k0_hw170
def k0_off186 (k0_t7 : Fin k0_t7_loop.trips) : Fin 2 → Nat :=
  let c7_i32_167 : BitVec 32 := 7#32
  let v264 : Index := Scalar.indexCast c7_i32_167
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk171 (v268 : IVec S16 32) : Prop :=
  (∀ a x, ((![v268] : Fin 1 → IVec S16 32) a x).toNat < S32000.size a)
theorem k0_idx169_inb : ∀ (v268 : IVec S16 32) (k0_hw171 : k0_chk171 v268), ∀ a x, ((![v268] : Fin 1 → IVec S16 32) a x).toNat < S32000.size a := fun v268 k0_hw171 => k0_hw171
def k0_off187 (k0_t7 : Fin k0_t7_loop.trips) : Fin 2 → Nat :=
  let c8_i32_170 : BitVec 32 := 8#32
  let v271 : Index := Scalar.indexCast c8_i32_170
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk172 (v275 : IVec S16 32) : Prop :=
  (∀ a x, ((![v275] : Fin 1 → IVec S16 32) a x).toNat < S32000.size a)
theorem k0_idx170_inb : ∀ (v275 : IVec S16 32) (k0_hw172 : k0_chk172 v275), ∀ a x, ((![v275] : Fin 1 → IVec S16 32) a x).toNat < S32000.size a := fun v275 k0_hw172 => k0_hw172
def k0_off188 (k0_t7 : Fin k0_t7_loop.trips) : Fin 2 → Nat :=
  let c9_i32_172 : BitVec 32 := 9#32
  let v278 : Index := Scalar.indexCast c9_i32_172
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk173 (v282 : IVec S16 32) : Prop :=
  (∀ a x, ((![v282] : Fin 1 → IVec S16 32) a x).toNat < S32000.size a)
theorem k0_idx171_inb : ∀ (v282 : IVec S16 32) (k0_hw173 : k0_chk173 v282), ∀ a x, ((![v282] : Fin 1 → IVec S16 32) a x).toNat < S32000.size a := fun v282 k0_hw173 => k0_hw173
def k0_off189 (k0_t7 : Fin k0_t7_loop.trips) : Fin 2 → Nat :=
  let c10_i32_174 : BitVec 32 := 10#32
  let v285 : Index := Scalar.indexCast c10_i32_174
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk174 (v289 : IVec S16 32) : Prop :=
  (∀ a x, ((![v289] : Fin 1 → IVec S16 32) a x).toNat < S32000.size a)
theorem k0_idx172_inb : ∀ (v289 : IVec S16 32) (k0_hw174 : k0_chk174 v289), ∀ a x, ((![v289] : Fin 1 → IVec S16 32) a x).toNat < S32000.size a := fun v289 k0_hw174 => k0_hw174
def k0_off190 (k0_t7 : Fin k0_t7_loop.trips) : Fin 2 → Nat :=
  let c11_i32_176 : BitVec 32 := 11#32
  let v292 : Index := Scalar.indexCast c11_i32_176
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk175 (v296 : IVec S16 32) : Prop :=
  (∀ a x, ((![v296] : Fin 1 → IVec S16 32) a x).toNat < S32000.size a)
theorem k0_idx173_inb : ∀ (v296 : IVec S16 32) (k0_hw175 : k0_chk175 v296), ∀ a x, ((![v296] : Fin 1 → IVec S16 32) a x).toNat < S32000.size a := fun v296 k0_hw175 => k0_hw175
def k0_off191 (k0_t7 : Fin k0_t7_loop.trips) : Fin 2 → Nat :=
  let c12_i32_178 : BitVec 32 := 12#32
  let v299 : Index := Scalar.indexCast c12_i32_178
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk176 (v303 : IVec S16 32) : Prop :=
  (∀ a x, ((![v303] : Fin 1 → IVec S16 32) a x).toNat < S32000.size a)
theorem k0_idx174_inb : ∀ (v303 : IVec S16 32) (k0_hw176 : k0_chk176 v303), ∀ a x, ((![v303] : Fin 1 → IVec S16 32) a x).toNat < S32000.size a := fun v303 k0_hw176 => k0_hw176
def k0_off192 (k0_t7 : Fin k0_t7_loop.trips) : Fin 2 → Nat :=
  let c13_i32_180 : BitVec 32 := 13#32
  let v306 : Index := Scalar.indexCast c13_i32_180
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk177 (v310 : IVec S16 32) : Prop :=
  (∀ a x, ((![v310] : Fin 1 → IVec S16 32) a x).toNat < S32000.size a)
theorem k0_idx175_inb : ∀ (v310 : IVec S16 32) (k0_hw177 : k0_chk177 v310), ∀ a x, ((![v310] : Fin 1 → IVec S16 32) a x).toNat < S32000.size a := fun v310 k0_hw177 => k0_hw177
def k0_off193 (k0_t7 : Fin k0_t7_loop.trips) : Fin 2 → Nat :=
  let c14_i32_182 : BitVec 32 := 14#32
  let v313 : Index := Scalar.indexCast c14_i32_182
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk178 (v317 : IVec S16 32) : Prop :=
  (∀ a x, ((![v317] : Fin 1 → IVec S16 32) a x).toNat < S32000.size a)
theorem k0_idx176_inb : ∀ (v317 : IVec S16 32) (k0_hw178 : k0_chk178 v317), ∀ a x, ((![v317] : Fin 1 → IVec S16 32) a x).toNat < S32000.size a := fun v317 k0_hw178 => k0_hw178
def k0_off194 (k0_t7 : Fin k0_t7_loop.trips) : Fin 2 → Nat :=
  let c15_i32_184 : BitVec 32 := 15#32
  let v320 : Index := Scalar.indexCast c15_i32_184
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk179 (v324 : IVec S16 32) : Prop :=
  (∀ a x, ((![v324] : Fin 1 → IVec S16 32) a x).toNat < S32000.size a)
theorem k0_idx177_inb : ∀ (v324 : IVec S16 32) (k0_hw179 : k0_chk179 v324), ∀ a x, ((![v324] : Fin 1 → IVec S16 32) a x).toNat < S32000.size a := fun v324 k0_hw179 => k0_hw179
def k0_off195 (k0_t7 : Fin k0_t7_loop.trips) : Fin 2 → Nat :=
  let c16_i32_187 : BitVec 32 := 16#32
  let v327 : Index := Scalar.indexCast c16_i32_187
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk180 (v331 : IVec S16 32) : Prop :=
  (∀ a x, ((![v331] : Fin 1 → IVec S16 32) a x).toNat < S32000.size a)
theorem k0_idx178_inb : ∀ (v331 : IVec S16 32) (k0_hw180 : k0_chk180 v331), ∀ a x, ((![v331] : Fin 1 → IVec S16 32) a x).toNat < S32000.size a := fun v331 k0_hw180 => k0_hw180
def k0_off196 (k0_t7 : Fin k0_t7_loop.trips) : Fin 2 → Nat :=
  let c17_i32_189 : BitVec 32 := 17#32
  let v334 : Index := Scalar.indexCast c17_i32_189
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk181 (v338 : IVec S16 32) : Prop :=
  (∀ a x, ((![v338] : Fin 1 → IVec S16 32) a x).toNat < S32000.size a)
theorem k0_idx179_inb : ∀ (v338 : IVec S16 32) (k0_hw181 : k0_chk181 v338), ∀ a x, ((![v338] : Fin 1 → IVec S16 32) a x).toNat < S32000.size a := fun v338 k0_hw181 => k0_hw181
def k0_off197 (k0_t7 : Fin k0_t7_loop.trips) : Fin 2 → Nat :=
  let c18_i32_191 : BitVec 32 := 18#32
  let v341 : Index := Scalar.indexCast c18_i32_191
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk182 (v345 : IVec S16 32) : Prop :=
  (∀ a x, ((![v345] : Fin 1 → IVec S16 32) a x).toNat < S32000.size a)
theorem k0_idx180_inb : ∀ (v345 : IVec S16 32) (k0_hw182 : k0_chk182 v345), ∀ a x, ((![v345] : Fin 1 → IVec S16 32) a x).toNat < S32000.size a := fun v345 k0_hw182 => k0_hw182
def k0_off198 (k0_t7 : Fin k0_t7_loop.trips) : Fin 2 → Nat :=
  let c19_i32_193 : BitVec 32 := 19#32
  let v348 : Index := Scalar.indexCast c19_i32_193
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk183 (v352 : IVec S16 32) : Prop :=
  (∀ a x, ((![v352] : Fin 1 → IVec S16 32) a x).toNat < S32000.size a)
theorem k0_idx181_inb : ∀ (v352 : IVec S16 32) (k0_hw183 : k0_chk183 v352), ∀ a x, ((![v352] : Fin 1 → IVec S16 32) a x).toNat < S32000.size a := fun v352 k0_hw183 => k0_hw183
def k0_off199 (k0_t7 : Fin k0_t7_loop.trips) : Fin 2 → Nat :=
  let c20_i32_195 : BitVec 32 := 20#32
  let v355 : Index := Scalar.indexCast c20_i32_195
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk184 (v359 : IVec S16 32) : Prop :=
  (∀ a x, ((![v359] : Fin 1 → IVec S16 32) a x).toNat < S32000.size a)
theorem k0_idx182_inb : ∀ (v359 : IVec S16 32) (k0_hw184 : k0_chk184 v359), ∀ a x, ((![v359] : Fin 1 → IVec S16 32) a x).toNat < S32000.size a := fun v359 k0_hw184 => k0_hw184
def k0_off200 (k0_t7 : Fin k0_t7_loop.trips) : Fin 2 → Nat :=
  let c21_i32_197 : BitVec 32 := 21#32
  let v362 : Index := Scalar.indexCast c21_i32_197
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk185 (v366 : IVec S16 32) : Prop :=
  (∀ a x, ((![v366] : Fin 1 → IVec S16 32) a x).toNat < S32000.size a)
theorem k0_idx183_inb : ∀ (v366 : IVec S16 32) (k0_hw185 : k0_chk185 v366), ∀ a x, ((![v366] : Fin 1 → IVec S16 32) a x).toNat < S32000.size a := fun v366 k0_hw185 => k0_hw185
def k0_off201 (k0_t7 : Fin k0_t7_loop.trips) : Fin 2 → Nat :=
  let c22_i32_199 : BitVec 32 := 22#32
  let v369 : Index := Scalar.indexCast c22_i32_199
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk186 (v373 : IVec S16 32) : Prop :=
  (∀ a x, ((![v373] : Fin 1 → IVec S16 32) a x).toNat < S32000.size a)
theorem k0_idx184_inb : ∀ (v373 : IVec S16 32) (k0_hw186 : k0_chk186 v373), ∀ a x, ((![v373] : Fin 1 → IVec S16 32) a x).toNat < S32000.size a := fun v373 k0_hw186 => k0_hw186
def k0_off202 (k0_t7 : Fin k0_t7_loop.trips) : Fin 2 → Nat :=
  let c23_i32_201 : BitVec 32 := 23#32
  let v376 : Index := Scalar.indexCast c23_i32_201
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk187 (v380 : IVec S16 32) : Prop :=
  (∀ a x, ((![v380] : Fin 1 → IVec S16 32) a x).toNat < S32000.size a)
theorem k0_idx185_inb : ∀ (v380 : IVec S16 32) (k0_hw187 : k0_chk187 v380), ∀ a x, ((![v380] : Fin 1 → IVec S16 32) a x).toNat < S32000.size a := fun v380 k0_hw187 => k0_hw187
def k0_off203 (k0_t7 : Fin k0_t7_loop.trips) : Fin 2 → Nat :=
  let c24_i32_203 : BitVec 32 := 24#32
  let v383 : Index := Scalar.indexCast c24_i32_203
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk188 (v387 : IVec S16 32) : Prop :=
  (∀ a x, ((![v387] : Fin 1 → IVec S16 32) a x).toNat < S32000.size a)
theorem k0_idx186_inb : ∀ (v387 : IVec S16 32) (k0_hw188 : k0_chk188 v387), ∀ a x, ((![v387] : Fin 1 → IVec S16 32) a x).toNat < S32000.size a := fun v387 k0_hw188 => k0_hw188
def k0_off204 (k0_t7 : Fin k0_t7_loop.trips) : Fin 2 → Nat :=
  let c25_i32_205 : BitVec 32 := 25#32
  let v390 : Index := Scalar.indexCast c25_i32_205
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk189 (v394 : IVec S16 32) : Prop :=
  (∀ a x, ((![v394] : Fin 1 → IVec S16 32) a x).toNat < S32000.size a)
theorem k0_idx187_inb : ∀ (v394 : IVec S16 32) (k0_hw189 : k0_chk189 v394), ∀ a x, ((![v394] : Fin 1 → IVec S16 32) a x).toNat < S32000.size a := fun v394 k0_hw189 => k0_hw189
def k0_off205 (k0_t7 : Fin k0_t7_loop.trips) : Fin 2 → Nat :=
  let c26_i32_207 : BitVec 32 := 26#32
  let v397 : Index := Scalar.indexCast c26_i32_207
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk190 (v401 : IVec S16 32) : Prop :=
  (∀ a x, ((![v401] : Fin 1 → IVec S16 32) a x).toNat < S32000.size a)
theorem k0_idx188_inb : ∀ (v401 : IVec S16 32) (k0_hw190 : k0_chk190 v401), ∀ a x, ((![v401] : Fin 1 → IVec S16 32) a x).toNat < S32000.size a := fun v401 k0_hw190 => k0_hw190
def k0_off206 (k0_t7 : Fin k0_t7_loop.trips) : Fin 2 → Nat :=
  let c27_i32_209 : BitVec 32 := 27#32
  let v404 : Index := Scalar.indexCast c27_i32_209
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk191 (v408 : IVec S16 32) : Prop :=
  (∀ a x, ((![v408] : Fin 1 → IVec S16 32) a x).toNat < S32000.size a)
theorem k0_idx189_inb : ∀ (v408 : IVec S16 32) (k0_hw191 : k0_chk191 v408), ∀ a x, ((![v408] : Fin 1 → IVec S16 32) a x).toNat < S32000.size a := fun v408 k0_hw191 => k0_hw191
def k0_off207 (k0_t7 : Fin k0_t7_loop.trips) : Fin 2 → Nat :=
  let c28_i32_211 : BitVec 32 := 28#32
  let v411 : Index := Scalar.indexCast c28_i32_211
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk192 (v415 : IVec S16 32) : Prop :=
  (∀ a x, ((![v415] : Fin 1 → IVec S16 32) a x).toNat < S32000.size a)
theorem k0_idx190_inb : ∀ (v415 : IVec S16 32) (k0_hw192 : k0_chk192 v415), ∀ a x, ((![v415] : Fin 1 → IVec S16 32) a x).toNat < S32000.size a := fun v415 k0_hw192 => k0_hw192
def k0_off208 (k0_t7 : Fin k0_t7_loop.trips) : Fin 2 → Nat :=
  let c29_i32_213 : BitVec 32 := 29#32
  let v418 : Index := Scalar.indexCast c29_i32_213
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk193 (v422 : IVec S16 32) : Prop :=
  (∀ a x, ((![v422] : Fin 1 → IVec S16 32) a x).toNat < S32000.size a)
theorem k0_idx191_inb : ∀ (v422 : IVec S16 32) (k0_hw193 : k0_chk193 v422), ∀ a x, ((![v422] : Fin 1 → IVec S16 32) a x).toNat < S32000.size a := fun v422 k0_hw193 => k0_hw193
def k0_off209 (k0_t7 : Fin k0_t7_loop.trips) : Fin 2 → Nat :=
  let c30_i32_215 : BitVec 32 := 30#32
  let v425 : Index := Scalar.indexCast c30_i32_215
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk194 (v429 : IVec S16 32) : Prop :=
  (∀ a x, ((![v429] : Fin 1 → IVec S16 32) a x).toNat < S32000.size a)
theorem k0_idx192_inb : ∀ (v429 : IVec S16 32) (k0_hw194 : k0_chk194 v429), ∀ a x, ((![v429] : Fin 1 → IVec S16 32) a x).toNat < S32000.size a := fun v429 k0_hw194 => k0_hw194
def k0_off210 (k0_t7 : Fin k0_t7_loop.trips) : Fin 2 → Nat :=
  let c31_i32_217 : BitVec 32 := 31#32
  let v432 : Index := Scalar.indexCast c31_i32_217
  let c0_i32_142 : BitVec 32 := 0#32
  let c0_i32_106 : BitVec 32 := 0#32
  let c1_i32_108 : BitVec 32 := 1#32
  let arg20 : BitVec 32 := Scf.iv c0_i32_106 c1_i32_108 k0_t7
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult24 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_110 : BitVec 32 := 32#32
  let v159 : BitVec 32 := Scalar.muli v35 c32_i32_110
  v159
def k0_mult25 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  v146
def k0_cond7 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  let c0_i32_119 : BitVec 32 := 0#32
  let v175 : BitVec 1 := Scalar.cmpi .sge v126 c0_i32_119
  let v176 : BitVec 32 := Scalar.extui v175
  let c0_i32_120 : BitVec 32 := 0#32
  let v177 : BitVec 1 := Scalar.cmpi .ne v176 c0_i32_120
  v177

def k0_mult26 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult27 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  v126
def k0_off211 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  let v206 : BitVec 32 := v126
  ![v205.toNat, v206.toNat]
@[reducible] def k0_t8_loop : Scf.Loop 32 :=
  let c0_i32_121 : BitVec 32 := 0#32
  let c32_i32_122 : BitVec 32 := 32#32
  let v178 : BitVec 32 := Scalar.addi c0_i32_121 c32_i32_122
  let c1_i32_123 : BitVec 32 := 1#32
  ⟨c0_i32_121, v178, c1_i32_123⟩
def k0_off212 (k0_t8 : Fin k0_t8_loop.trips) : Fin 1 → Nat :=
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk195 (v212 : IVec S16 32) : Prop :=
  (∀ a x, ((![v212] : Fin 1 → IVec S16 32) a x).toNat < S32000.size a)
theorem k0_idx193_inb : ∀ (v212 : IVec S16 32) (k0_hw195 : k0_chk195 v212), ∀ a x, ((![v212] : Fin 1 → IVec S16 32) a x).toNat < S32000.size a := fun v212 k0_hw195 => k0_hw195
def k0_off213 (k0_t8 : Fin k0_t8_loop.trips) : Fin 2 → Nat :=
  let c0_i32_146 : BitVec 32 := 0#32
  let v215 : Index := Scalar.indexCast c0_i32_146
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk196 (v219 : IVec S16 32) : Prop :=
  (∀ a x, ((![v219] : Fin 1 → IVec S16 32) a x).toNat < S32000.size a)
theorem k0_idx194_inb : ∀ (v219 : IVec S16 32) (k0_hw196 : k0_chk196 v219), ∀ a x, ((![v219] : Fin 1 → IVec S16 32) a x).toNat < S32000.size a := fun v219 k0_hw196 => k0_hw196
def k0_off214 (k0_t8 : Fin k0_t8_loop.trips) : Fin 2 → Nat :=
  let c1_i32_149 : BitVec 32 := 1#32
  let v222 : Index := Scalar.indexCast c1_i32_149
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk197 (v226 : IVec S16 32) : Prop :=
  (∀ a x, ((![v226] : Fin 1 → IVec S16 32) a x).toNat < S32000.size a)
theorem k0_idx195_inb : ∀ (v226 : IVec S16 32) (k0_hw197 : k0_chk197 v226), ∀ a x, ((![v226] : Fin 1 → IVec S16 32) a x).toNat < S32000.size a := fun v226 k0_hw197 => k0_hw197
def k0_off215 (k0_t8 : Fin k0_t8_loop.trips) : Fin 2 → Nat :=
  let c2_i32_152 : BitVec 32 := 2#32
  let v229 : Index := Scalar.indexCast c2_i32_152
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk198 (v233 : IVec S16 32) : Prop :=
  (∀ a x, ((![v233] : Fin 1 → IVec S16 32) a x).toNat < S32000.size a)
theorem k0_idx196_inb : ∀ (v233 : IVec S16 32) (k0_hw198 : k0_chk198 v233), ∀ a x, ((![v233] : Fin 1 → IVec S16 32) a x).toNat < S32000.size a := fun v233 k0_hw198 => k0_hw198
def k0_off216 (k0_t8 : Fin k0_t8_loop.trips) : Fin 2 → Nat :=
  let c3_i32_155 : BitVec 32 := 3#32
  let v236 : Index := Scalar.indexCast c3_i32_155
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk199 (v240 : IVec S16 32) : Prop :=
  (∀ a x, ((![v240] : Fin 1 → IVec S16 32) a x).toNat < S32000.size a)
theorem k0_idx197_inb : ∀ (v240 : IVec S16 32) (k0_hw199 : k0_chk199 v240), ∀ a x, ((![v240] : Fin 1 → IVec S16 32) a x).toNat < S32000.size a := fun v240 k0_hw199 => k0_hw199
def k0_off217 (k0_t8 : Fin k0_t8_loop.trips) : Fin 2 → Nat :=
  let c4_i32_158 : BitVec 32 := 4#32
  let v243 : Index := Scalar.indexCast c4_i32_158
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk200 (v247 : IVec S16 32) : Prop :=
  (∀ a x, ((![v247] : Fin 1 → IVec S16 32) a x).toNat < S32000.size a)
theorem k0_idx198_inb : ∀ (v247 : IVec S16 32) (k0_hw200 : k0_chk200 v247), ∀ a x, ((![v247] : Fin 1 → IVec S16 32) a x).toNat < S32000.size a := fun v247 k0_hw200 => k0_hw200
def k0_off218 (k0_t8 : Fin k0_t8_loop.trips) : Fin 2 → Nat :=
  let c5_i32_161 : BitVec 32 := 5#32
  let v250 : Index := Scalar.indexCast c5_i32_161
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk201 (v254 : IVec S16 32) : Prop :=
  (∀ a x, ((![v254] : Fin 1 → IVec S16 32) a x).toNat < S32000.size a)
theorem k0_idx199_inb : ∀ (v254 : IVec S16 32) (k0_hw201 : k0_chk201 v254), ∀ a x, ((![v254] : Fin 1 → IVec S16 32) a x).toNat < S32000.size a := fun v254 k0_hw201 => k0_hw201
def k0_off219 (k0_t8 : Fin k0_t8_loop.trips) : Fin 2 → Nat :=
  let c6_i32_164 : BitVec 32 := 6#32
  let v257 : Index := Scalar.indexCast c6_i32_164
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk202 (v261 : IVec S16 32) : Prop :=
  (∀ a x, ((![v261] : Fin 1 → IVec S16 32) a x).toNat < S32000.size a)
theorem k0_idx200_inb : ∀ (v261 : IVec S16 32) (k0_hw202 : k0_chk202 v261), ∀ a x, ((![v261] : Fin 1 → IVec S16 32) a x).toNat < S32000.size a := fun v261 k0_hw202 => k0_hw202
def k0_off220 (k0_t8 : Fin k0_t8_loop.trips) : Fin 2 → Nat :=
  let c7_i32_167 : BitVec 32 := 7#32
  let v264 : Index := Scalar.indexCast c7_i32_167
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk203 (v268 : IVec S16 32) : Prop :=
  (∀ a x, ((![v268] : Fin 1 → IVec S16 32) a x).toNat < S32000.size a)
theorem k0_idx201_inb : ∀ (v268 : IVec S16 32) (k0_hw203 : k0_chk203 v268), ∀ a x, ((![v268] : Fin 1 → IVec S16 32) a x).toNat < S32000.size a := fun v268 k0_hw203 => k0_hw203
def k0_off221 (k0_t8 : Fin k0_t8_loop.trips) : Fin 2 → Nat :=
  let c8_i32_170 : BitVec 32 := 8#32
  let v271 : Index := Scalar.indexCast c8_i32_170
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk204 (v275 : IVec S16 32) : Prop :=
  (∀ a x, ((![v275] : Fin 1 → IVec S16 32) a x).toNat < S32000.size a)
theorem k0_idx202_inb : ∀ (v275 : IVec S16 32) (k0_hw204 : k0_chk204 v275), ∀ a x, ((![v275] : Fin 1 → IVec S16 32) a x).toNat < S32000.size a := fun v275 k0_hw204 => k0_hw204
def k0_off222 (k0_t8 : Fin k0_t8_loop.trips) : Fin 2 → Nat :=
  let c9_i32_172 : BitVec 32 := 9#32
  let v278 : Index := Scalar.indexCast c9_i32_172
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk205 (v282 : IVec S16 32) : Prop :=
  (∀ a x, ((![v282] : Fin 1 → IVec S16 32) a x).toNat < S32000.size a)
theorem k0_idx203_inb : ∀ (v282 : IVec S16 32) (k0_hw205 : k0_chk205 v282), ∀ a x, ((![v282] : Fin 1 → IVec S16 32) a x).toNat < S32000.size a := fun v282 k0_hw205 => k0_hw205
def k0_off223 (k0_t8 : Fin k0_t8_loop.trips) : Fin 2 → Nat :=
  let c10_i32_174 : BitVec 32 := 10#32
  let v285 : Index := Scalar.indexCast c10_i32_174
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk206 (v289 : IVec S16 32) : Prop :=
  (∀ a x, ((![v289] : Fin 1 → IVec S16 32) a x).toNat < S32000.size a)
theorem k0_idx204_inb : ∀ (v289 : IVec S16 32) (k0_hw206 : k0_chk206 v289), ∀ a x, ((![v289] : Fin 1 → IVec S16 32) a x).toNat < S32000.size a := fun v289 k0_hw206 => k0_hw206
def k0_off224 (k0_t8 : Fin k0_t8_loop.trips) : Fin 2 → Nat :=
  let c11_i32_176 : BitVec 32 := 11#32
  let v292 : Index := Scalar.indexCast c11_i32_176
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk207 (v296 : IVec S16 32) : Prop :=
  (∀ a x, ((![v296] : Fin 1 → IVec S16 32) a x).toNat < S32000.size a)
theorem k0_idx205_inb : ∀ (v296 : IVec S16 32) (k0_hw207 : k0_chk207 v296), ∀ a x, ((![v296] : Fin 1 → IVec S16 32) a x).toNat < S32000.size a := fun v296 k0_hw207 => k0_hw207
def k0_off225 (k0_t8 : Fin k0_t8_loop.trips) : Fin 2 → Nat :=
  let c12_i32_178 : BitVec 32 := 12#32
  let v299 : Index := Scalar.indexCast c12_i32_178
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk208 (v303 : IVec S16 32) : Prop :=
  (∀ a x, ((![v303] : Fin 1 → IVec S16 32) a x).toNat < S32000.size a)
theorem k0_idx206_inb : ∀ (v303 : IVec S16 32) (k0_hw208 : k0_chk208 v303), ∀ a x, ((![v303] : Fin 1 → IVec S16 32) a x).toNat < S32000.size a := fun v303 k0_hw208 => k0_hw208
def k0_off226 (k0_t8 : Fin k0_t8_loop.trips) : Fin 2 → Nat :=
  let c13_i32_180 : BitVec 32 := 13#32
  let v306 : Index := Scalar.indexCast c13_i32_180
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk209 (v310 : IVec S16 32) : Prop :=
  (∀ a x, ((![v310] : Fin 1 → IVec S16 32) a x).toNat < S32000.size a)
theorem k0_idx207_inb : ∀ (v310 : IVec S16 32) (k0_hw209 : k0_chk209 v310), ∀ a x, ((![v310] : Fin 1 → IVec S16 32) a x).toNat < S32000.size a := fun v310 k0_hw209 => k0_hw209
def k0_off227 (k0_t8 : Fin k0_t8_loop.trips) : Fin 2 → Nat :=
  let c14_i32_182 : BitVec 32 := 14#32
  let v313 : Index := Scalar.indexCast c14_i32_182
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk210 (v317 : IVec S16 32) : Prop :=
  (∀ a x, ((![v317] : Fin 1 → IVec S16 32) a x).toNat < S32000.size a)
theorem k0_idx208_inb : ∀ (v317 : IVec S16 32) (k0_hw210 : k0_chk210 v317), ∀ a x, ((![v317] : Fin 1 → IVec S16 32) a x).toNat < S32000.size a := fun v317 k0_hw210 => k0_hw210
def k0_off228 (k0_t8 : Fin k0_t8_loop.trips) : Fin 2 → Nat :=
  let c15_i32_184 : BitVec 32 := 15#32
  let v320 : Index := Scalar.indexCast c15_i32_184
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk211 (v324 : IVec S16 32) : Prop :=
  (∀ a x, ((![v324] : Fin 1 → IVec S16 32) a x).toNat < S32000.size a)
theorem k0_idx209_inb : ∀ (v324 : IVec S16 32) (k0_hw211 : k0_chk211 v324), ∀ a x, ((![v324] : Fin 1 → IVec S16 32) a x).toNat < S32000.size a := fun v324 k0_hw211 => k0_hw211
def k0_off229 (k0_t8 : Fin k0_t8_loop.trips) : Fin 2 → Nat :=
  let c16_i32_187 : BitVec 32 := 16#32
  let v327 : Index := Scalar.indexCast c16_i32_187
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk212 (v331 : IVec S16 32) : Prop :=
  (∀ a x, ((![v331] : Fin 1 → IVec S16 32) a x).toNat < S32000.size a)
theorem k0_idx210_inb : ∀ (v331 : IVec S16 32) (k0_hw212 : k0_chk212 v331), ∀ a x, ((![v331] : Fin 1 → IVec S16 32) a x).toNat < S32000.size a := fun v331 k0_hw212 => k0_hw212
def k0_off230 (k0_t8 : Fin k0_t8_loop.trips) : Fin 2 → Nat :=
  let c17_i32_189 : BitVec 32 := 17#32
  let v334 : Index := Scalar.indexCast c17_i32_189
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk213 (v338 : IVec S16 32) : Prop :=
  (∀ a x, ((![v338] : Fin 1 → IVec S16 32) a x).toNat < S32000.size a)
theorem k0_idx211_inb : ∀ (v338 : IVec S16 32) (k0_hw213 : k0_chk213 v338), ∀ a x, ((![v338] : Fin 1 → IVec S16 32) a x).toNat < S32000.size a := fun v338 k0_hw213 => k0_hw213
def k0_off231 (k0_t8 : Fin k0_t8_loop.trips) : Fin 2 → Nat :=
  let c18_i32_191 : BitVec 32 := 18#32
  let v341 : Index := Scalar.indexCast c18_i32_191
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk214 (v345 : IVec S16 32) : Prop :=
  (∀ a x, ((![v345] : Fin 1 → IVec S16 32) a x).toNat < S32000.size a)
theorem k0_idx212_inb : ∀ (v345 : IVec S16 32) (k0_hw214 : k0_chk214 v345), ∀ a x, ((![v345] : Fin 1 → IVec S16 32) a x).toNat < S32000.size a := fun v345 k0_hw214 => k0_hw214
def k0_off232 (k0_t8 : Fin k0_t8_loop.trips) : Fin 2 → Nat :=
  let c19_i32_193 : BitVec 32 := 19#32
  let v348 : Index := Scalar.indexCast c19_i32_193
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk215 (v352 : IVec S16 32) : Prop :=
  (∀ a x, ((![v352] : Fin 1 → IVec S16 32) a x).toNat < S32000.size a)
theorem k0_idx213_inb : ∀ (v352 : IVec S16 32) (k0_hw215 : k0_chk215 v352), ∀ a x, ((![v352] : Fin 1 → IVec S16 32) a x).toNat < S32000.size a := fun v352 k0_hw215 => k0_hw215
def k0_off233 (k0_t8 : Fin k0_t8_loop.trips) : Fin 2 → Nat :=
  let c20_i32_195 : BitVec 32 := 20#32
  let v355 : Index := Scalar.indexCast c20_i32_195
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk216 (v359 : IVec S16 32) : Prop :=
  (∀ a x, ((![v359] : Fin 1 → IVec S16 32) a x).toNat < S32000.size a)
theorem k0_idx214_inb : ∀ (v359 : IVec S16 32) (k0_hw216 : k0_chk216 v359), ∀ a x, ((![v359] : Fin 1 → IVec S16 32) a x).toNat < S32000.size a := fun v359 k0_hw216 => k0_hw216
def k0_off234 (k0_t8 : Fin k0_t8_loop.trips) : Fin 2 → Nat :=
  let c21_i32_197 : BitVec 32 := 21#32
  let v362 : Index := Scalar.indexCast c21_i32_197
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk217 (v366 : IVec S16 32) : Prop :=
  (∀ a x, ((![v366] : Fin 1 → IVec S16 32) a x).toNat < S32000.size a)
theorem k0_idx215_inb : ∀ (v366 : IVec S16 32) (k0_hw217 : k0_chk217 v366), ∀ a x, ((![v366] : Fin 1 → IVec S16 32) a x).toNat < S32000.size a := fun v366 k0_hw217 => k0_hw217
def k0_off235 (k0_t8 : Fin k0_t8_loop.trips) : Fin 2 → Nat :=
  let c22_i32_199 : BitVec 32 := 22#32
  let v369 : Index := Scalar.indexCast c22_i32_199
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk218 (v373 : IVec S16 32) : Prop :=
  (∀ a x, ((![v373] : Fin 1 → IVec S16 32) a x).toNat < S32000.size a)
theorem k0_idx216_inb : ∀ (v373 : IVec S16 32) (k0_hw218 : k0_chk218 v373), ∀ a x, ((![v373] : Fin 1 → IVec S16 32) a x).toNat < S32000.size a := fun v373 k0_hw218 => k0_hw218
def k0_off236 (k0_t8 : Fin k0_t8_loop.trips) : Fin 2 → Nat :=
  let c23_i32_201 : BitVec 32 := 23#32
  let v376 : Index := Scalar.indexCast c23_i32_201
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk219 (v380 : IVec S16 32) : Prop :=
  (∀ a x, ((![v380] : Fin 1 → IVec S16 32) a x).toNat < S32000.size a)
theorem k0_idx217_inb : ∀ (v380 : IVec S16 32) (k0_hw219 : k0_chk219 v380), ∀ a x, ((![v380] : Fin 1 → IVec S16 32) a x).toNat < S32000.size a := fun v380 k0_hw219 => k0_hw219
def k0_off237 (k0_t8 : Fin k0_t8_loop.trips) : Fin 2 → Nat :=
  let c24_i32_203 : BitVec 32 := 24#32
  let v383 : Index := Scalar.indexCast c24_i32_203
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk220 (v387 : IVec S16 32) : Prop :=
  (∀ a x, ((![v387] : Fin 1 → IVec S16 32) a x).toNat < S32000.size a)
theorem k0_idx218_inb : ∀ (v387 : IVec S16 32) (k0_hw220 : k0_chk220 v387), ∀ a x, ((![v387] : Fin 1 → IVec S16 32) a x).toNat < S32000.size a := fun v387 k0_hw220 => k0_hw220
def k0_off238 (k0_t8 : Fin k0_t8_loop.trips) : Fin 2 → Nat :=
  let c25_i32_205 : BitVec 32 := 25#32
  let v390 : Index := Scalar.indexCast c25_i32_205
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk221 (v394 : IVec S16 32) : Prop :=
  (∀ a x, ((![v394] : Fin 1 → IVec S16 32) a x).toNat < S32000.size a)
theorem k0_idx219_inb : ∀ (v394 : IVec S16 32) (k0_hw221 : k0_chk221 v394), ∀ a x, ((![v394] : Fin 1 → IVec S16 32) a x).toNat < S32000.size a := fun v394 k0_hw221 => k0_hw221
def k0_off239 (k0_t8 : Fin k0_t8_loop.trips) : Fin 2 → Nat :=
  let c26_i32_207 : BitVec 32 := 26#32
  let v397 : Index := Scalar.indexCast c26_i32_207
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk222 (v401 : IVec S16 32) : Prop :=
  (∀ a x, ((![v401] : Fin 1 → IVec S16 32) a x).toNat < S32000.size a)
theorem k0_idx220_inb : ∀ (v401 : IVec S16 32) (k0_hw222 : k0_chk222 v401), ∀ a x, ((![v401] : Fin 1 → IVec S16 32) a x).toNat < S32000.size a := fun v401 k0_hw222 => k0_hw222
def k0_off240 (k0_t8 : Fin k0_t8_loop.trips) : Fin 2 → Nat :=
  let c27_i32_209 : BitVec 32 := 27#32
  let v404 : Index := Scalar.indexCast c27_i32_209
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk223 (v408 : IVec S16 32) : Prop :=
  (∀ a x, ((![v408] : Fin 1 → IVec S16 32) a x).toNat < S32000.size a)
theorem k0_idx221_inb : ∀ (v408 : IVec S16 32) (k0_hw223 : k0_chk223 v408), ∀ a x, ((![v408] : Fin 1 → IVec S16 32) a x).toNat < S32000.size a := fun v408 k0_hw223 => k0_hw223
def k0_off241 (k0_t8 : Fin k0_t8_loop.trips) : Fin 2 → Nat :=
  let c28_i32_211 : BitVec 32 := 28#32
  let v411 : Index := Scalar.indexCast c28_i32_211
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk224 (v415 : IVec S16 32) : Prop :=
  (∀ a x, ((![v415] : Fin 1 → IVec S16 32) a x).toNat < S32000.size a)
theorem k0_idx222_inb : ∀ (v415 : IVec S16 32) (k0_hw224 : k0_chk224 v415), ∀ a x, ((![v415] : Fin 1 → IVec S16 32) a x).toNat < S32000.size a := fun v415 k0_hw224 => k0_hw224
def k0_off242 (k0_t8 : Fin k0_t8_loop.trips) : Fin 2 → Nat :=
  let c29_i32_213 : BitVec 32 := 29#32
  let v418 : Index := Scalar.indexCast c29_i32_213
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk225 (v422 : IVec S16 32) : Prop :=
  (∀ a x, ((![v422] : Fin 1 → IVec S16 32) a x).toNat < S32000.size a)
theorem k0_idx223_inb : ∀ (v422 : IVec S16 32) (k0_hw225 : k0_chk225 v422), ∀ a x, ((![v422] : Fin 1 → IVec S16 32) a x).toNat < S32000.size a := fun v422 k0_hw225 => k0_hw225
def k0_off243 (k0_t8 : Fin k0_t8_loop.trips) : Fin 2 → Nat :=
  let c30_i32_215 : BitVec 32 := 30#32
  let v425 : Index := Scalar.indexCast c30_i32_215
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk226 (v429 : IVec S16 32) : Prop :=
  (∀ a x, ((![v429] : Fin 1 → IVec S16 32) a x).toNat < S32000.size a)
theorem k0_idx224_inb : ∀ (v429 : IVec S16 32) (k0_hw226 : k0_chk226 v429), ∀ a x, ((![v429] : Fin 1 → IVec S16 32) a x).toNat < S32000.size a := fun v429 k0_hw226 => k0_hw226
def k0_off244 (k0_t8 : Fin k0_t8_loop.trips) : Fin 2 → Nat :=
  let c31_i32_217 : BitVec 32 := 31#32
  let v432 : Index := Scalar.indexCast c31_i32_217
  let c0_i32_142 : BitVec 32 := 0#32
  let c0_i32_121 : BitVec 32 := 0#32
  let c1_i32_123 : BitVec 32 := 1#32
  let arg20 : BitVec 32 := Scf.iv c0_i32_121 c1_i32_123 k0_t8
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult28 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_125 : BitVec 32 := 32#32
  let v179 : BitVec 32 := Scalar.muli v35 c32_i32_125
  v179
def k0_mult29 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_111 : BitVec 32 := 8#32
  let v164 : BitVec 32 := Scalar.muli v37 c8_i32_111
  let c6_i32 : BitVec 32 := 6#32
  let v165 : BitVec 32 := Scalar.addi v164 c6_i32
  let c512_i32_112 : BitVec 32 := 512#32
  let v166 : BitVec 32 := Scalar.muli v165 c512_i32_112
  v166
def k0_cond8 (i : grid0.Coords) (k0_t1 : Fin (k0_t1_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  let c0_i32_134 : BitVec 32 := 0#32
  let v195 : BitVec 1 := Scalar.cmpi .sge v146 c0_i32_134
  let v196 : BitVec 32 := Scalar.extui v195
  let c0_i32_135 : BitVec 32 := 0#32
  let v197 : BitVec 1 := Scalar.cmpi .ne v196 c0_i32_135
  v197

def k0_mult30 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult31 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  v146
def k0_off245 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  let v206 : BitVec 32 := v146
  ![v205.toNat, v206.toNat]
@[reducible] def k0_t9_loop : Scf.Loop 32 :=
  let c0_i32_136 : BitVec 32 := 0#32
  let c32_i32_137 : BitVec 32 := 32#32
  let v198 : BitVec 32 := Scalar.addi c0_i32_136 c32_i32_137
  let c1_i32_138 : BitVec 32 := 1#32
  ⟨c0_i32_136, v198, c1_i32_138⟩
def k0_off246 (k0_t9 : Fin k0_t9_loop.trips) : Fin 1 → Nat :=
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk227 (v212 : IVec S16 32) : Prop :=
  (∀ a x, ((![v212] : Fin 1 → IVec S16 32) a x).toNat < S32000.size a)
theorem k0_idx225_inb : ∀ (v212 : IVec S16 32) (k0_hw227 : k0_chk227 v212), ∀ a x, ((![v212] : Fin 1 → IVec S16 32) a x).toNat < S32000.size a := fun v212 k0_hw227 => k0_hw227
def k0_off247 (k0_t9 : Fin k0_t9_loop.trips) : Fin 2 → Nat :=
  let c0_i32_146 : BitVec 32 := 0#32
  let v215 : Index := Scalar.indexCast c0_i32_146
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk228 (v219 : IVec S16 32) : Prop :=
  (∀ a x, ((![v219] : Fin 1 → IVec S16 32) a x).toNat < S32000.size a)
theorem k0_idx226_inb : ∀ (v219 : IVec S16 32) (k0_hw228 : k0_chk228 v219), ∀ a x, ((![v219] : Fin 1 → IVec S16 32) a x).toNat < S32000.size a := fun v219 k0_hw228 => k0_hw228
def k0_off248 (k0_t9 : Fin k0_t9_loop.trips) : Fin 2 → Nat :=
  let c1_i32_149 : BitVec 32 := 1#32
  let v222 : Index := Scalar.indexCast c1_i32_149
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk229 (v226 : IVec S16 32) : Prop :=
  (∀ a x, ((![v226] : Fin 1 → IVec S16 32) a x).toNat < S32000.size a)
theorem k0_idx227_inb : ∀ (v226 : IVec S16 32) (k0_hw229 : k0_chk229 v226), ∀ a x, ((![v226] : Fin 1 → IVec S16 32) a x).toNat < S32000.size a := fun v226 k0_hw229 => k0_hw229
def k0_off249 (k0_t9 : Fin k0_t9_loop.trips) : Fin 2 → Nat :=
  let c2_i32_152 : BitVec 32 := 2#32
  let v229 : Index := Scalar.indexCast c2_i32_152
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk230 (v233 : IVec S16 32) : Prop :=
  (∀ a x, ((![v233] : Fin 1 → IVec S16 32) a x).toNat < S32000.size a)
theorem k0_idx228_inb : ∀ (v233 : IVec S16 32) (k0_hw230 : k0_chk230 v233), ∀ a x, ((![v233] : Fin 1 → IVec S16 32) a x).toNat < S32000.size a := fun v233 k0_hw230 => k0_hw230
def k0_off250 (k0_t9 : Fin k0_t9_loop.trips) : Fin 2 → Nat :=
  let c3_i32_155 : BitVec 32 := 3#32
  let v236 : Index := Scalar.indexCast c3_i32_155
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk231 (v240 : IVec S16 32) : Prop :=
  (∀ a x, ((![v240] : Fin 1 → IVec S16 32) a x).toNat < S32000.size a)
theorem k0_idx229_inb : ∀ (v240 : IVec S16 32) (k0_hw231 : k0_chk231 v240), ∀ a x, ((![v240] : Fin 1 → IVec S16 32) a x).toNat < S32000.size a := fun v240 k0_hw231 => k0_hw231
def k0_off251 (k0_t9 : Fin k0_t9_loop.trips) : Fin 2 → Nat :=
  let c4_i32_158 : BitVec 32 := 4#32
  let v243 : Index := Scalar.indexCast c4_i32_158
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk232 (v247 : IVec S16 32) : Prop :=
  (∀ a x, ((![v247] : Fin 1 → IVec S16 32) a x).toNat < S32000.size a)
theorem k0_idx230_inb : ∀ (v247 : IVec S16 32) (k0_hw232 : k0_chk232 v247), ∀ a x, ((![v247] : Fin 1 → IVec S16 32) a x).toNat < S32000.size a := fun v247 k0_hw232 => k0_hw232
def k0_off252 (k0_t9 : Fin k0_t9_loop.trips) : Fin 2 → Nat :=
  let c5_i32_161 : BitVec 32 := 5#32
  let v250 : Index := Scalar.indexCast c5_i32_161
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk233 (v254 : IVec S16 32) : Prop :=
  (∀ a x, ((![v254] : Fin 1 → IVec S16 32) a x).toNat < S32000.size a)
theorem k0_idx231_inb : ∀ (v254 : IVec S16 32) (k0_hw233 : k0_chk233 v254), ∀ a x, ((![v254] : Fin 1 → IVec S16 32) a x).toNat < S32000.size a := fun v254 k0_hw233 => k0_hw233
def k0_off253 (k0_t9 : Fin k0_t9_loop.trips) : Fin 2 → Nat :=
  let c6_i32_164 : BitVec 32 := 6#32
  let v257 : Index := Scalar.indexCast c6_i32_164
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk234 (v261 : IVec S16 32) : Prop :=
  (∀ a x, ((![v261] : Fin 1 → IVec S16 32) a x).toNat < S32000.size a)
theorem k0_idx232_inb : ∀ (v261 : IVec S16 32) (k0_hw234 : k0_chk234 v261), ∀ a x, ((![v261] : Fin 1 → IVec S16 32) a x).toNat < S32000.size a := fun v261 k0_hw234 => k0_hw234
def k0_off254 (k0_t9 : Fin k0_t9_loop.trips) : Fin 2 → Nat :=
  let c7_i32_167 : BitVec 32 := 7#32
  let v264 : Index := Scalar.indexCast c7_i32_167
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk235 (v268 : IVec S16 32) : Prop :=
  (∀ a x, ((![v268] : Fin 1 → IVec S16 32) a x).toNat < S32000.size a)
theorem k0_idx233_inb : ∀ (v268 : IVec S16 32) (k0_hw235 : k0_chk235 v268), ∀ a x, ((![v268] : Fin 1 → IVec S16 32) a x).toNat < S32000.size a := fun v268 k0_hw235 => k0_hw235
def k0_off255 (k0_t9 : Fin k0_t9_loop.trips) : Fin 2 → Nat :=
  let c8_i32_170 : BitVec 32 := 8#32
  let v271 : Index := Scalar.indexCast c8_i32_170
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk236 (v275 : IVec S16 32) : Prop :=
  (∀ a x, ((![v275] : Fin 1 → IVec S16 32) a x).toNat < S32000.size a)
theorem k0_idx234_inb : ∀ (v275 : IVec S16 32) (k0_hw236 : k0_chk236 v275), ∀ a x, ((![v275] : Fin 1 → IVec S16 32) a x).toNat < S32000.size a := fun v275 k0_hw236 => k0_hw236
def k0_off256 (k0_t9 : Fin k0_t9_loop.trips) : Fin 2 → Nat :=
  let c9_i32_172 : BitVec 32 := 9#32
  let v278 : Index := Scalar.indexCast c9_i32_172
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk237 (v282 : IVec S16 32) : Prop :=
  (∀ a x, ((![v282] : Fin 1 → IVec S16 32) a x).toNat < S32000.size a)
theorem k0_idx235_inb : ∀ (v282 : IVec S16 32) (k0_hw237 : k0_chk237 v282), ∀ a x, ((![v282] : Fin 1 → IVec S16 32) a x).toNat < S32000.size a := fun v282 k0_hw237 => k0_hw237
def k0_off257 (k0_t9 : Fin k0_t9_loop.trips) : Fin 2 → Nat :=
  let c10_i32_174 : BitVec 32 := 10#32
  let v285 : Index := Scalar.indexCast c10_i32_174
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk238 (v289 : IVec S16 32) : Prop :=
  (∀ a x, ((![v289] : Fin 1 → IVec S16 32) a x).toNat < S32000.size a)
theorem k0_idx236_inb : ∀ (v289 : IVec S16 32) (k0_hw238 : k0_chk238 v289), ∀ a x, ((![v289] : Fin 1 → IVec S16 32) a x).toNat < S32000.size a := fun v289 k0_hw238 => k0_hw238
def k0_off258 (k0_t9 : Fin k0_t9_loop.trips) : Fin 2 → Nat :=
  let c11_i32_176 : BitVec 32 := 11#32
  let v292 : Index := Scalar.indexCast c11_i32_176
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk239 (v296 : IVec S16 32) : Prop :=
  (∀ a x, ((![v296] : Fin 1 → IVec S16 32) a x).toNat < S32000.size a)
theorem k0_idx237_inb : ∀ (v296 : IVec S16 32) (k0_hw239 : k0_chk239 v296), ∀ a x, ((![v296] : Fin 1 → IVec S16 32) a x).toNat < S32000.size a := fun v296 k0_hw239 => k0_hw239
def k0_off259 (k0_t9 : Fin k0_t9_loop.trips) : Fin 2 → Nat :=
  let c12_i32_178 : BitVec 32 := 12#32
  let v299 : Index := Scalar.indexCast c12_i32_178
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk240 (v303 : IVec S16 32) : Prop :=
  (∀ a x, ((![v303] : Fin 1 → IVec S16 32) a x).toNat < S32000.size a)
theorem k0_idx238_inb : ∀ (v303 : IVec S16 32) (k0_hw240 : k0_chk240 v303), ∀ a x, ((![v303] : Fin 1 → IVec S16 32) a x).toNat < S32000.size a := fun v303 k0_hw240 => k0_hw240
def k0_off260 (k0_t9 : Fin k0_t9_loop.trips) : Fin 2 → Nat :=
  let c13_i32_180 : BitVec 32 := 13#32
  let v306 : Index := Scalar.indexCast c13_i32_180
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk241 (v310 : IVec S16 32) : Prop :=
  (∀ a x, ((![v310] : Fin 1 → IVec S16 32) a x).toNat < S32000.size a)
theorem k0_idx239_inb : ∀ (v310 : IVec S16 32) (k0_hw241 : k0_chk241 v310), ∀ a x, ((![v310] : Fin 1 → IVec S16 32) a x).toNat < S32000.size a := fun v310 k0_hw241 => k0_hw241
def k0_off261 (k0_t9 : Fin k0_t9_loop.trips) : Fin 2 → Nat :=
  let c14_i32_182 : BitVec 32 := 14#32
  let v313 : Index := Scalar.indexCast c14_i32_182
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk242 (v317 : IVec S16 32) : Prop :=
  (∀ a x, ((![v317] : Fin 1 → IVec S16 32) a x).toNat < S32000.size a)
theorem k0_idx240_inb : ∀ (v317 : IVec S16 32) (k0_hw242 : k0_chk242 v317), ∀ a x, ((![v317] : Fin 1 → IVec S16 32) a x).toNat < S32000.size a := fun v317 k0_hw242 => k0_hw242
def k0_off262 (k0_t9 : Fin k0_t9_loop.trips) : Fin 2 → Nat :=
  let c15_i32_184 : BitVec 32 := 15#32
  let v320 : Index := Scalar.indexCast c15_i32_184
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk243 (v324 : IVec S16 32) : Prop :=
  (∀ a x, ((![v324] : Fin 1 → IVec S16 32) a x).toNat < S32000.size a)
theorem k0_idx241_inb : ∀ (v324 : IVec S16 32) (k0_hw243 : k0_chk243 v324), ∀ a x, ((![v324] : Fin 1 → IVec S16 32) a x).toNat < S32000.size a := fun v324 k0_hw243 => k0_hw243
def k0_off263 (k0_t9 : Fin k0_t9_loop.trips) : Fin 2 → Nat :=
  let c16_i32_187 : BitVec 32 := 16#32
  let v327 : Index := Scalar.indexCast c16_i32_187
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk244 (v331 : IVec S16 32) : Prop :=
  (∀ a x, ((![v331] : Fin 1 → IVec S16 32) a x).toNat < S32000.size a)
theorem k0_idx242_inb : ∀ (v331 : IVec S16 32) (k0_hw244 : k0_chk244 v331), ∀ a x, ((![v331] : Fin 1 → IVec S16 32) a x).toNat < S32000.size a := fun v331 k0_hw244 => k0_hw244
def k0_off264 (k0_t9 : Fin k0_t9_loop.trips) : Fin 2 → Nat :=
  let c17_i32_189 : BitVec 32 := 17#32
  let v334 : Index := Scalar.indexCast c17_i32_189
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk245 (v338 : IVec S16 32) : Prop :=
  (∀ a x, ((![v338] : Fin 1 → IVec S16 32) a x).toNat < S32000.size a)
theorem k0_idx243_inb : ∀ (v338 : IVec S16 32) (k0_hw245 : k0_chk245 v338), ∀ a x, ((![v338] : Fin 1 → IVec S16 32) a x).toNat < S32000.size a := fun v338 k0_hw245 => k0_hw245
def k0_off265 (k0_t9 : Fin k0_t9_loop.trips) : Fin 2 → Nat :=
  let c18_i32_191 : BitVec 32 := 18#32
  let v341 : Index := Scalar.indexCast c18_i32_191
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk246 (v345 : IVec S16 32) : Prop :=
  (∀ a x, ((![v345] : Fin 1 → IVec S16 32) a x).toNat < S32000.size a)
theorem k0_idx244_inb : ∀ (v345 : IVec S16 32) (k0_hw246 : k0_chk246 v345), ∀ a x, ((![v345] : Fin 1 → IVec S16 32) a x).toNat < S32000.size a := fun v345 k0_hw246 => k0_hw246
def k0_off266 (k0_t9 : Fin k0_t9_loop.trips) : Fin 2 → Nat :=
  let c19_i32_193 : BitVec 32 := 19#32
  let v348 : Index := Scalar.indexCast c19_i32_193
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk247 (v352 : IVec S16 32) : Prop :=
  (∀ a x, ((![v352] : Fin 1 → IVec S16 32) a x).toNat < S32000.size a)
theorem k0_idx245_inb : ∀ (v352 : IVec S16 32) (k0_hw247 : k0_chk247 v352), ∀ a x, ((![v352] : Fin 1 → IVec S16 32) a x).toNat < S32000.size a := fun v352 k0_hw247 => k0_hw247
def k0_off267 (k0_t9 : Fin k0_t9_loop.trips) : Fin 2 → Nat :=
  let c20_i32_195 : BitVec 32 := 20#32
  let v355 : Index := Scalar.indexCast c20_i32_195
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk248 (v359 : IVec S16 32) : Prop :=
  (∀ a x, ((![v359] : Fin 1 → IVec S16 32) a x).toNat < S32000.size a)
theorem k0_idx246_inb : ∀ (v359 : IVec S16 32) (k0_hw248 : k0_chk248 v359), ∀ a x, ((![v359] : Fin 1 → IVec S16 32) a x).toNat < S32000.size a := fun v359 k0_hw248 => k0_hw248
def k0_off268 (k0_t9 : Fin k0_t9_loop.trips) : Fin 2 → Nat :=
  let c21_i32_197 : BitVec 32 := 21#32
  let v362 : Index := Scalar.indexCast c21_i32_197
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk249 (v366 : IVec S16 32) : Prop :=
  (∀ a x, ((![v366] : Fin 1 → IVec S16 32) a x).toNat < S32000.size a)
theorem k0_idx247_inb : ∀ (v366 : IVec S16 32) (k0_hw249 : k0_chk249 v366), ∀ a x, ((![v366] : Fin 1 → IVec S16 32) a x).toNat < S32000.size a := fun v366 k0_hw249 => k0_hw249
def k0_off269 (k0_t9 : Fin k0_t9_loop.trips) : Fin 2 → Nat :=
  let c22_i32_199 : BitVec 32 := 22#32
  let v369 : Index := Scalar.indexCast c22_i32_199
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk250 (v373 : IVec S16 32) : Prop :=
  (∀ a x, ((![v373] : Fin 1 → IVec S16 32) a x).toNat < S32000.size a)
theorem k0_idx248_inb : ∀ (v373 : IVec S16 32) (k0_hw250 : k0_chk250 v373), ∀ a x, ((![v373] : Fin 1 → IVec S16 32) a x).toNat < S32000.size a := fun v373 k0_hw250 => k0_hw250
def k0_off270 (k0_t9 : Fin k0_t9_loop.trips) : Fin 2 → Nat :=
  let c23_i32_201 : BitVec 32 := 23#32
  let v376 : Index := Scalar.indexCast c23_i32_201
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk251 (v380 : IVec S16 32) : Prop :=
  (∀ a x, ((![v380] : Fin 1 → IVec S16 32) a x).toNat < S32000.size a)
theorem k0_idx249_inb : ∀ (v380 : IVec S16 32) (k0_hw251 : k0_chk251 v380), ∀ a x, ((![v380] : Fin 1 → IVec S16 32) a x).toNat < S32000.size a := fun v380 k0_hw251 => k0_hw251
def k0_off271 (k0_t9 : Fin k0_t9_loop.trips) : Fin 2 → Nat :=
  let c24_i32_203 : BitVec 32 := 24#32
  let v383 : Index := Scalar.indexCast c24_i32_203
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk252 (v387 : IVec S16 32) : Prop :=
  (∀ a x, ((![v387] : Fin 1 → IVec S16 32) a x).toNat < S32000.size a)
theorem k0_idx250_inb : ∀ (v387 : IVec S16 32) (k0_hw252 : k0_chk252 v387), ∀ a x, ((![v387] : Fin 1 → IVec S16 32) a x).toNat < S32000.size a := fun v387 k0_hw252 => k0_hw252
def k0_off272 (k0_t9 : Fin k0_t9_loop.trips) : Fin 2 → Nat :=
  let c25_i32_205 : BitVec 32 := 25#32
  let v390 : Index := Scalar.indexCast c25_i32_205
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk253 (v394 : IVec S16 32) : Prop :=
  (∀ a x, ((![v394] : Fin 1 → IVec S16 32) a x).toNat < S32000.size a)
theorem k0_idx251_inb : ∀ (v394 : IVec S16 32) (k0_hw253 : k0_chk253 v394), ∀ a x, ((![v394] : Fin 1 → IVec S16 32) a x).toNat < S32000.size a := fun v394 k0_hw253 => k0_hw253
def k0_off273 (k0_t9 : Fin k0_t9_loop.trips) : Fin 2 → Nat :=
  let c26_i32_207 : BitVec 32 := 26#32
  let v397 : Index := Scalar.indexCast c26_i32_207
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk254 (v401 : IVec S16 32) : Prop :=
  (∀ a x, ((![v401] : Fin 1 → IVec S16 32) a x).toNat < S32000.size a)
theorem k0_idx252_inb : ∀ (v401 : IVec S16 32) (k0_hw254 : k0_chk254 v401), ∀ a x, ((![v401] : Fin 1 → IVec S16 32) a x).toNat < S32000.size a := fun v401 k0_hw254 => k0_hw254
def k0_off274 (k0_t9 : Fin k0_t9_loop.trips) : Fin 2 → Nat :=
  let c27_i32_209 : BitVec 32 := 27#32
  let v404 : Index := Scalar.indexCast c27_i32_209
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk255 (v408 : IVec S16 32) : Prop :=
  (∀ a x, ((![v408] : Fin 1 → IVec S16 32) a x).toNat < S32000.size a)
theorem k0_idx253_inb : ∀ (v408 : IVec S16 32) (k0_hw255 : k0_chk255 v408), ∀ a x, ((![v408] : Fin 1 → IVec S16 32) a x).toNat < S32000.size a := fun v408 k0_hw255 => k0_hw255
def k0_off275 (k0_t9 : Fin k0_t9_loop.trips) : Fin 2 → Nat :=
  let c28_i32_211 : BitVec 32 := 28#32
  let v411 : Index := Scalar.indexCast c28_i32_211
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk256 (v415 : IVec S16 32) : Prop :=
  (∀ a x, ((![v415] : Fin 1 → IVec S16 32) a x).toNat < S32000.size a)
theorem k0_idx254_inb : ∀ (v415 : IVec S16 32) (k0_hw256 : k0_chk256 v415), ∀ a x, ((![v415] : Fin 1 → IVec S16 32) a x).toNat < S32000.size a := fun v415 k0_hw256 => k0_hw256
def k0_off276 (k0_t9 : Fin k0_t9_loop.trips) : Fin 2 → Nat :=
  let c29_i32_213 : BitVec 32 := 29#32
  let v418 : Index := Scalar.indexCast c29_i32_213
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk257 (v422 : IVec S16 32) : Prop :=
  (∀ a x, ((![v422] : Fin 1 → IVec S16 32) a x).toNat < S32000.size a)
theorem k0_idx255_inb : ∀ (v422 : IVec S16 32) (k0_hw257 : k0_chk257 v422), ∀ a x, ((![v422] : Fin 1 → IVec S16 32) a x).toNat < S32000.size a := fun v422 k0_hw257 => k0_hw257
def k0_off277 (k0_t9 : Fin k0_t9_loop.trips) : Fin 2 → Nat :=
  let c30_i32_215 : BitVec 32 := 30#32
  let v425 : Index := Scalar.indexCast c30_i32_215
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk258 (v429 : IVec S16 32) : Prop :=
  (∀ a x, ((![v429] : Fin 1 → IVec S16 32) a x).toNat < S32000.size a)
theorem k0_idx256_inb : ∀ (v429 : IVec S16 32) (k0_hw258 : k0_chk258 v429), ∀ a x, ((![v429] : Fin 1 → IVec S16 32) a x).toNat < S32000.size a := fun v429 k0_hw258 => k0_hw258
def k0_off278 (k0_t9 : Fin k0_t9_loop.trips) : Fin 2 → Nat :=
  let c31_i32_217 : BitVec 32 := 31#32
  let v432 : Index := Scalar.indexCast c31_i32_217
  let c0_i32_142 : BitVec 32 := 0#32
  let c0_i32_136 : BitVec 32 := 0#32
  let c1_i32_138 : BitVec 32 := 1#32
  let arg20 : BitVec 32 := Scf.iv c0_i32_136 c1_i32_138 k0_t9
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult32 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_140 : BitVec 32 := 32#32
  let v199 : BitVec 32 := Scalar.muli v35 c32_i32_140
  v199
def k0_mult33 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c1_i32_3 : BitVec 32 := 1#32
  let arg15 : BitVec 32 := Scf.iv c0_i32 c1_i32_3 k0_t1
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_126 : BitVec 32 := 8#32
  let v184 : BitVec 32 := Scalar.muli v37 c8_i32_126
  let c7_i32 : BitVec 32 := 7#32
  let v185 : BitVec 32 := Scalar.addi v184 c7_i32
  let c512_i32_127 : BitVec 32 := 512#32
  let v186 : BitVec 32 := Scalar.muli v185 c512_i32_127
  v186
@[reducible] def k0_t10_loop (i : grid0.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_4 : BitVec 32 := 1#32
  ⟨v8, v5, c1_i32_4⟩
def k0_mult34 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32000_i32 : BitVec 32 := 32000#32
  let v38 : BitVec 32 := Scalar.muli v35 c32000_i32
  v38
def k0_off279 (i : grid0.Coords) (k0_t10 : Fin (k0_t10_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32000_i32 : BitVec 32 := 32000#32
  let v38 : BitVec 32 := Scalar.muli v35 c32000_i32
  let v39 : BitVec 32 := v38
  ![v39.toNat]
def k0_off280 (i : grid0.Coords) (k0_t10 : Fin (k0_t10_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c0_i32_19 : BitVec 32 := 0#32
  let c0_i32_20 : BitVec 32 := 0#32
  ![v35.toNat, v45.toNat, 0, 0]
def k0_mult35 (arg16 : BitVec 32) : BitVec 32 :=
  let c32_i32_141 : BitVec 32 := 32#32
  let v204 : BitVec 32 := Scalar.muli arg16 c32_i32_141
  v204
def k0_cond9 (arg17 : BitVec 32) : BitVec 1 :=
  let c0_i32_25 : BitVec 32 := 0#32
  let v55 : BitVec 1 := Scalar.cmpi .sge arg17 c0_i32_25
  let v56 : BitVec 32 := Scalar.extui v55
  let c0_i32_26 : BitVec 32 := 0#32
  let v57 : BitVec 1 := Scalar.cmpi .ne v56 c0_i32_26
  v57

def k0_mult36 (arg17 : BitVec 32) : BitVec 32 :=
  arg17
def k0_off281 (arg16 : BitVec 32) (arg17 : BitVec 32) : Fin 2 → Nat :=
  let c32_i32_141 : BitVec 32 := 32#32
  let v204 : BitVec 32 := Scalar.muli arg16 c32_i32_141
  let v205 : BitVec 32 := v204
  let v206 : BitVec 32 := arg17
  ![v205.toNat, v206.toNat]

def k0_chk259 (i : grid0.Coords) (k0_t10 : Fin (k0_t10_loop i).trips) (arg16 : BitVec 32) (arg17 : BitVec 32) : Prop :=
  (∀ (k0_h9 : k0_cond9 arg17 = 1#1), 32 ∣ (k0_mult35 arg16).toNat) ∧
  (∀ (k0_h9 : k0_cond9 arg17 = 1#1), 512 ∣ (k0_mult36 arg17).toNat) ∧
  (∀ (k0_h9 : k0_cond9 arg17 = 1#1), ∀ a, (k0_off281 arg16 arg17) a + S32x512.size a ≤ S832x16384.size a)
theorem k0_mult35_dvd : ∀ (i : grid0.Coords) (k0_t10 : Fin (k0_t10_loop i).trips) (arg16 : BitVec 32) (arg17 : BitVec 32) (k0_hw259 : k0_chk259 i k0_t10 arg16 arg17), ∀ (k0_h9 : k0_cond9 arg17 = 1#1), 32 ∣ (k0_mult35 arg16).toNat := fun i k0_t10 arg16 arg17 k0_hw259 k0_h9 => k0_hw259.1 k0_h9
theorem k0_mult36_dvd : ∀ (i : grid0.Coords) (k0_t10 : Fin (k0_t10_loop i).trips) (arg16 : BitVec 32) (arg17 : BitVec 32) (k0_hw259 : k0_chk259 i k0_t10 arg16 arg17), ∀ (k0_h9 : k0_cond9 arg17 = 1#1), 512 ∣ (k0_mult36 arg17).toNat := fun i k0_t10 arg16 arg17 k0_hw259 k0_h9 => k0_hw259.2.1 k0_h9
theorem k0_off281_inb : ∀ (i : grid0.Coords) (k0_t10 : Fin (k0_t10_loop i).trips) (arg16 : BitVec 32) (arg17 : BitVec 32) (k0_hw259 : k0_chk259 i k0_t10 arg16 arg17), ∀ (k0_h9 : k0_cond9 arg17 = 1#1), ∀ a, (k0_off281 arg16 arg17) a + S32x512.size a ≤ S832x16384.size a := fun i k0_t10 arg16 arg17 k0_hw259 k0_h9 => k0_hw259.2.2 k0_h9

@[reducible] def k0_t11_loop : Scf.Loop 32 :=
  let c0_i32_27 : BitVec 32 := 0#32
  let c32_i32_28 : BitVec 32 := 32#32
  let v58 : BitVec 32 := Scalar.addi c0_i32_27 c32_i32_28
  let c1_i32_29 : BitVec 32 := 1#32
  ⟨c0_i32_27, v58, c1_i32_29⟩
def k0_off282 (k0_t11 : Fin k0_t11_loop.trips) : Fin 1 → Nat :=
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk260 (i : grid0.Coords) (k0_t10 : Fin (k0_t10_loop i).trips) (v212 : IVec S16 32) : Prop :=
  (∀ a x, ((![v212] : Fin 1 → IVec S16 32) a x).toNat < S32000.size a)
theorem k0_idx257_inb : ∀ (i : grid0.Coords) (k0_t10 : Fin (k0_t10_loop i).trips) (v212 : IVec S16 32) (k0_hw260 : k0_chk260 i k0_t10 v212), ∀ a x, ((![v212] : Fin 1 → IVec S16 32) a x).toNat < S32000.size a := fun i k0_t10 v212 k0_hw260 => k0_hw260
def k0_off283 (k0_t11 : Fin k0_t11_loop.trips) : Fin 2 → Nat :=
  let c0_i32_146 : BitVec 32 := 0#32
  let v215 : Index := Scalar.indexCast c0_i32_146
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk261 (i : grid0.Coords) (k0_t10 : Fin (k0_t10_loop i).trips) (v219 : IVec S16 32) : Prop :=
  (∀ a x, ((![v219] : Fin 1 → IVec S16 32) a x).toNat < S32000.size a)
theorem k0_idx258_inb : ∀ (i : grid0.Coords) (k0_t10 : Fin (k0_t10_loop i).trips) (v219 : IVec S16 32) (k0_hw261 : k0_chk261 i k0_t10 v219), ∀ a x, ((![v219] : Fin 1 → IVec S16 32) a x).toNat < S32000.size a := fun i k0_t10 v219 k0_hw261 => k0_hw261
def k0_off284 (k0_t11 : Fin k0_t11_loop.trips) : Fin 2 → Nat :=
  let c1_i32_149 : BitVec 32 := 1#32
  let v222 : Index := Scalar.indexCast c1_i32_149
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk262 (i : grid0.Coords) (k0_t10 : Fin (k0_t10_loop i).trips) (v226 : IVec S16 32) : Prop :=
  (∀ a x, ((![v226] : Fin 1 → IVec S16 32) a x).toNat < S32000.size a)
theorem k0_idx259_inb : ∀ (i : grid0.Coords) (k0_t10 : Fin (k0_t10_loop i).trips) (v226 : IVec S16 32) (k0_hw262 : k0_chk262 i k0_t10 v226), ∀ a x, ((![v226] : Fin 1 → IVec S16 32) a x).toNat < S32000.size a := fun i k0_t10 v226 k0_hw262 => k0_hw262
def k0_off285 (k0_t11 : Fin k0_t11_loop.trips) : Fin 2 → Nat :=
  let c2_i32_152 : BitVec 32 := 2#32
  let v229 : Index := Scalar.indexCast c2_i32_152
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk263 (i : grid0.Coords) (k0_t10 : Fin (k0_t10_loop i).trips) (v233 : IVec S16 32) : Prop :=
  (∀ a x, ((![v233] : Fin 1 → IVec S16 32) a x).toNat < S32000.size a)
theorem k0_idx260_inb : ∀ (i : grid0.Coords) (k0_t10 : Fin (k0_t10_loop i).trips) (v233 : IVec S16 32) (k0_hw263 : k0_chk263 i k0_t10 v233), ∀ a x, ((![v233] : Fin 1 → IVec S16 32) a x).toNat < S32000.size a := fun i k0_t10 v233 k0_hw263 => k0_hw263
def k0_off286 (k0_t11 : Fin k0_t11_loop.trips) : Fin 2 → Nat :=
  let c3_i32_155 : BitVec 32 := 3#32
  let v236 : Index := Scalar.indexCast c3_i32_155
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk264 (i : grid0.Coords) (k0_t10 : Fin (k0_t10_loop i).trips) (v240 : IVec S16 32) : Prop :=
  (∀ a x, ((![v240] : Fin 1 → IVec S16 32) a x).toNat < S32000.size a)
theorem k0_idx261_inb : ∀ (i : grid0.Coords) (k0_t10 : Fin (k0_t10_loop i).trips) (v240 : IVec S16 32) (k0_hw264 : k0_chk264 i k0_t10 v240), ∀ a x, ((![v240] : Fin 1 → IVec S16 32) a x).toNat < S32000.size a := fun i k0_t10 v240 k0_hw264 => k0_hw264
def k0_off287 (k0_t11 : Fin k0_t11_loop.trips) : Fin 2 → Nat :=
  let c4_i32_158 : BitVec 32 := 4#32
  let v243 : Index := Scalar.indexCast c4_i32_158
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk265 (i : grid0.Coords) (k0_t10 : Fin (k0_t10_loop i).trips) (v247 : IVec S16 32) : Prop :=
  (∀ a x, ((![v247] : Fin 1 → IVec S16 32) a x).toNat < S32000.size a)
theorem k0_idx262_inb : ∀ (i : grid0.Coords) (k0_t10 : Fin (k0_t10_loop i).trips) (v247 : IVec S16 32) (k0_hw265 : k0_chk265 i k0_t10 v247), ∀ a x, ((![v247] : Fin 1 → IVec S16 32) a x).toNat < S32000.size a := fun i k0_t10 v247 k0_hw265 => k0_hw265
def k0_off288 (k0_t11 : Fin k0_t11_loop.trips) : Fin 2 → Nat :=
  let c5_i32_161 : BitVec 32 := 5#32
  let v250 : Index := Scalar.indexCast c5_i32_161
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk266 (i : grid0.Coords) (k0_t10 : Fin (k0_t10_loop i).trips) (v254 : IVec S16 32) : Prop :=
  (∀ a x, ((![v254] : Fin 1 → IVec S16 32) a x).toNat < S32000.size a)
theorem k0_idx263_inb : ∀ (i : grid0.Coords) (k0_t10 : Fin (k0_t10_loop i).trips) (v254 : IVec S16 32) (k0_hw266 : k0_chk266 i k0_t10 v254), ∀ a x, ((![v254] : Fin 1 → IVec S16 32) a x).toNat < S32000.size a := fun i k0_t10 v254 k0_hw266 => k0_hw266
def k0_off289 (k0_t11 : Fin k0_t11_loop.trips) : Fin 2 → Nat :=
  let c6_i32_164 : BitVec 32 := 6#32
  let v257 : Index := Scalar.indexCast c6_i32_164
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk267 (i : grid0.Coords) (k0_t10 : Fin (k0_t10_loop i).trips) (v261 : IVec S16 32) : Prop :=
  (∀ a x, ((![v261] : Fin 1 → IVec S16 32) a x).toNat < S32000.size a)
theorem k0_idx264_inb : ∀ (i : grid0.Coords) (k0_t10 : Fin (k0_t10_loop i).trips) (v261 : IVec S16 32) (k0_hw267 : k0_chk267 i k0_t10 v261), ∀ a x, ((![v261] : Fin 1 → IVec S16 32) a x).toNat < S32000.size a := fun i k0_t10 v261 k0_hw267 => k0_hw267
def k0_off290 (k0_t11 : Fin k0_t11_loop.trips) : Fin 2 → Nat :=
  let c7_i32_167 : BitVec 32 := 7#32
  let v264 : Index := Scalar.indexCast c7_i32_167
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk268 (i : grid0.Coords) (k0_t10 : Fin (k0_t10_loop i).trips) (v268 : IVec S16 32) : Prop :=
  (∀ a x, ((![v268] : Fin 1 → IVec S16 32) a x).toNat < S32000.size a)
theorem k0_idx265_inb : ∀ (i : grid0.Coords) (k0_t10 : Fin (k0_t10_loop i).trips) (v268 : IVec S16 32) (k0_hw268 : k0_chk268 i k0_t10 v268), ∀ a x, ((![v268] : Fin 1 → IVec S16 32) a x).toNat < S32000.size a := fun i k0_t10 v268 k0_hw268 => k0_hw268
def k0_off291 (k0_t11 : Fin k0_t11_loop.trips) : Fin 2 → Nat :=
  let c8_i32_170 : BitVec 32 := 8#32
  let v271 : Index := Scalar.indexCast c8_i32_170
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk269 (i : grid0.Coords) (k0_t10 : Fin (k0_t10_loop i).trips) (v275 : IVec S16 32) : Prop :=
  (∀ a x, ((![v275] : Fin 1 → IVec S16 32) a x).toNat < S32000.size a)
theorem k0_idx266_inb : ∀ (i : grid0.Coords) (k0_t10 : Fin (k0_t10_loop i).trips) (v275 : IVec S16 32) (k0_hw269 : k0_chk269 i k0_t10 v275), ∀ a x, ((![v275] : Fin 1 → IVec S16 32) a x).toNat < S32000.size a := fun i k0_t10 v275 k0_hw269 => k0_hw269
def k0_off292 (k0_t11 : Fin k0_t11_loop.trips) : Fin 2 → Nat :=
  let c9_i32_172 : BitVec 32 := 9#32
  let v278 : Index := Scalar.indexCast c9_i32_172
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk270 (i : grid0.Coords) (k0_t10 : Fin (k0_t10_loop i).trips) (v282 : IVec S16 32) : Prop :=
  (∀ a x, ((![v282] : Fin 1 → IVec S16 32) a x).toNat < S32000.size a)
theorem k0_idx267_inb : ∀ (i : grid0.Coords) (k0_t10 : Fin (k0_t10_loop i).trips) (v282 : IVec S16 32) (k0_hw270 : k0_chk270 i k0_t10 v282), ∀ a x, ((![v282] : Fin 1 → IVec S16 32) a x).toNat < S32000.size a := fun i k0_t10 v282 k0_hw270 => k0_hw270
def k0_off293 (k0_t11 : Fin k0_t11_loop.trips) : Fin 2 → Nat :=
  let c10_i32_174 : BitVec 32 := 10#32
  let v285 : Index := Scalar.indexCast c10_i32_174
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk271 (i : grid0.Coords) (k0_t10 : Fin (k0_t10_loop i).trips) (v289 : IVec S16 32) : Prop :=
  (∀ a x, ((![v289] : Fin 1 → IVec S16 32) a x).toNat < S32000.size a)
theorem k0_idx268_inb : ∀ (i : grid0.Coords) (k0_t10 : Fin (k0_t10_loop i).trips) (v289 : IVec S16 32) (k0_hw271 : k0_chk271 i k0_t10 v289), ∀ a x, ((![v289] : Fin 1 → IVec S16 32) a x).toNat < S32000.size a := fun i k0_t10 v289 k0_hw271 => k0_hw271
def k0_off294 (k0_t11 : Fin k0_t11_loop.trips) : Fin 2 → Nat :=
  let c11_i32_176 : BitVec 32 := 11#32
  let v292 : Index := Scalar.indexCast c11_i32_176
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk272 (i : grid0.Coords) (k0_t10 : Fin (k0_t10_loop i).trips) (v296 : IVec S16 32) : Prop :=
  (∀ a x, ((![v296] : Fin 1 → IVec S16 32) a x).toNat < S32000.size a)
theorem k0_idx269_inb : ∀ (i : grid0.Coords) (k0_t10 : Fin (k0_t10_loop i).trips) (v296 : IVec S16 32) (k0_hw272 : k0_chk272 i k0_t10 v296), ∀ a x, ((![v296] : Fin 1 → IVec S16 32) a x).toNat < S32000.size a := fun i k0_t10 v296 k0_hw272 => k0_hw272
def k0_off295 (k0_t11 : Fin k0_t11_loop.trips) : Fin 2 → Nat :=
  let c12_i32_178 : BitVec 32 := 12#32
  let v299 : Index := Scalar.indexCast c12_i32_178
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk273 (i : grid0.Coords) (k0_t10 : Fin (k0_t10_loop i).trips) (v303 : IVec S16 32) : Prop :=
  (∀ a x, ((![v303] : Fin 1 → IVec S16 32) a x).toNat < S32000.size a)
theorem k0_idx270_inb : ∀ (i : grid0.Coords) (k0_t10 : Fin (k0_t10_loop i).trips) (v303 : IVec S16 32) (k0_hw273 : k0_chk273 i k0_t10 v303), ∀ a x, ((![v303] : Fin 1 → IVec S16 32) a x).toNat < S32000.size a := fun i k0_t10 v303 k0_hw273 => k0_hw273
def k0_off296 (k0_t11 : Fin k0_t11_loop.trips) : Fin 2 → Nat :=
  let c13_i32_180 : BitVec 32 := 13#32
  let v306 : Index := Scalar.indexCast c13_i32_180
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk274 (i : grid0.Coords) (k0_t10 : Fin (k0_t10_loop i).trips) (v310 : IVec S16 32) : Prop :=
  (∀ a x, ((![v310] : Fin 1 → IVec S16 32) a x).toNat < S32000.size a)
theorem k0_idx271_inb : ∀ (i : grid0.Coords) (k0_t10 : Fin (k0_t10_loop i).trips) (v310 : IVec S16 32) (k0_hw274 : k0_chk274 i k0_t10 v310), ∀ a x, ((![v310] : Fin 1 → IVec S16 32) a x).toNat < S32000.size a := fun i k0_t10 v310 k0_hw274 => k0_hw274
def k0_off297 (k0_t11 : Fin k0_t11_loop.trips) : Fin 2 → Nat :=
  let c14_i32_182 : BitVec 32 := 14#32
  let v313 : Index := Scalar.indexCast c14_i32_182
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk275 (i : grid0.Coords) (k0_t10 : Fin (k0_t10_loop i).trips) (v317 : IVec S16 32) : Prop :=
  (∀ a x, ((![v317] : Fin 1 → IVec S16 32) a x).toNat < S32000.size a)
theorem k0_idx272_inb : ∀ (i : grid0.Coords) (k0_t10 : Fin (k0_t10_loop i).trips) (v317 : IVec S16 32) (k0_hw275 : k0_chk275 i k0_t10 v317), ∀ a x, ((![v317] : Fin 1 → IVec S16 32) a x).toNat < S32000.size a := fun i k0_t10 v317 k0_hw275 => k0_hw275
def k0_off298 (k0_t11 : Fin k0_t11_loop.trips) : Fin 2 → Nat :=
  let c15_i32_184 : BitVec 32 := 15#32
  let v320 : Index := Scalar.indexCast c15_i32_184
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk276 (i : grid0.Coords) (k0_t10 : Fin (k0_t10_loop i).trips) (v324 : IVec S16 32) : Prop :=
  (∀ a x, ((![v324] : Fin 1 → IVec S16 32) a x).toNat < S32000.size a)
theorem k0_idx273_inb : ∀ (i : grid0.Coords) (k0_t10 : Fin (k0_t10_loop i).trips) (v324 : IVec S16 32) (k0_hw276 : k0_chk276 i k0_t10 v324), ∀ a x, ((![v324] : Fin 1 → IVec S16 32) a x).toNat < S32000.size a := fun i k0_t10 v324 k0_hw276 => k0_hw276
def k0_off299 (k0_t11 : Fin k0_t11_loop.trips) : Fin 2 → Nat :=
  let c16_i32_187 : BitVec 32 := 16#32
  let v327 : Index := Scalar.indexCast c16_i32_187
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk277 (i : grid0.Coords) (k0_t10 : Fin (k0_t10_loop i).trips) (v331 : IVec S16 32) : Prop :=
  (∀ a x, ((![v331] : Fin 1 → IVec S16 32) a x).toNat < S32000.size a)
theorem k0_idx274_inb : ∀ (i : grid0.Coords) (k0_t10 : Fin (k0_t10_loop i).trips) (v331 : IVec S16 32) (k0_hw277 : k0_chk277 i k0_t10 v331), ∀ a x, ((![v331] : Fin 1 → IVec S16 32) a x).toNat < S32000.size a := fun i k0_t10 v331 k0_hw277 => k0_hw277
def k0_off300 (k0_t11 : Fin k0_t11_loop.trips) : Fin 2 → Nat :=
  let c17_i32_189 : BitVec 32 := 17#32
  let v334 : Index := Scalar.indexCast c17_i32_189
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk278 (i : grid0.Coords) (k0_t10 : Fin (k0_t10_loop i).trips) (v338 : IVec S16 32) : Prop :=
  (∀ a x, ((![v338] : Fin 1 → IVec S16 32) a x).toNat < S32000.size a)
theorem k0_idx275_inb : ∀ (i : grid0.Coords) (k0_t10 : Fin (k0_t10_loop i).trips) (v338 : IVec S16 32) (k0_hw278 : k0_chk278 i k0_t10 v338), ∀ a x, ((![v338] : Fin 1 → IVec S16 32) a x).toNat < S32000.size a := fun i k0_t10 v338 k0_hw278 => k0_hw278
def k0_off301 (k0_t11 : Fin k0_t11_loop.trips) : Fin 2 → Nat :=
  let c18_i32_191 : BitVec 32 := 18#32
  let v341 : Index := Scalar.indexCast c18_i32_191
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk279 (i : grid0.Coords) (k0_t10 : Fin (k0_t10_loop i).trips) (v345 : IVec S16 32) : Prop :=
  (∀ a x, ((![v345] : Fin 1 → IVec S16 32) a x).toNat < S32000.size a)
theorem k0_idx276_inb : ∀ (i : grid0.Coords) (k0_t10 : Fin (k0_t10_loop i).trips) (v345 : IVec S16 32) (k0_hw279 : k0_chk279 i k0_t10 v345), ∀ a x, ((![v345] : Fin 1 → IVec S16 32) a x).toNat < S32000.size a := fun i k0_t10 v345 k0_hw279 => k0_hw279
def k0_off302 (k0_t11 : Fin k0_t11_loop.trips) : Fin 2 → Nat :=
  let c19_i32_193 : BitVec 32 := 19#32
  let v348 : Index := Scalar.indexCast c19_i32_193
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk280 (i : grid0.Coords) (k0_t10 : Fin (k0_t10_loop i).trips) (v352 : IVec S16 32) : Prop :=
  (∀ a x, ((![v352] : Fin 1 → IVec S16 32) a x).toNat < S32000.size a)
theorem k0_idx277_inb : ∀ (i : grid0.Coords) (k0_t10 : Fin (k0_t10_loop i).trips) (v352 : IVec S16 32) (k0_hw280 : k0_chk280 i k0_t10 v352), ∀ a x, ((![v352] : Fin 1 → IVec S16 32) a x).toNat < S32000.size a := fun i k0_t10 v352 k0_hw280 => k0_hw280
def k0_off303 (k0_t11 : Fin k0_t11_loop.trips) : Fin 2 → Nat :=
  let c20_i32_195 : BitVec 32 := 20#32
  let v355 : Index := Scalar.indexCast c20_i32_195
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk281 (i : grid0.Coords) (k0_t10 : Fin (k0_t10_loop i).trips) (v359 : IVec S16 32) : Prop :=
  (∀ a x, ((![v359] : Fin 1 → IVec S16 32) a x).toNat < S32000.size a)
theorem k0_idx278_inb : ∀ (i : grid0.Coords) (k0_t10 : Fin (k0_t10_loop i).trips) (v359 : IVec S16 32) (k0_hw281 : k0_chk281 i k0_t10 v359), ∀ a x, ((![v359] : Fin 1 → IVec S16 32) a x).toNat < S32000.size a := fun i k0_t10 v359 k0_hw281 => k0_hw281
def k0_off304 (k0_t11 : Fin k0_t11_loop.trips) : Fin 2 → Nat :=
  let c21_i32_197 : BitVec 32 := 21#32
  let v362 : Index := Scalar.indexCast c21_i32_197
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk282 (i : grid0.Coords) (k0_t10 : Fin (k0_t10_loop i).trips) (v366 : IVec S16 32) : Prop :=
  (∀ a x, ((![v366] : Fin 1 → IVec S16 32) a x).toNat < S32000.size a)
theorem k0_idx279_inb : ∀ (i : grid0.Coords) (k0_t10 : Fin (k0_t10_loop i).trips) (v366 : IVec S16 32) (k0_hw282 : k0_chk282 i k0_t10 v366), ∀ a x, ((![v366] : Fin 1 → IVec S16 32) a x).toNat < S32000.size a := fun i k0_t10 v366 k0_hw282 => k0_hw282
def k0_off305 (k0_t11 : Fin k0_t11_loop.trips) : Fin 2 → Nat :=
  let c22_i32_199 : BitVec 32 := 22#32
  let v369 : Index := Scalar.indexCast c22_i32_199
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk283 (i : grid0.Coords) (k0_t10 : Fin (k0_t10_loop i).trips) (v373 : IVec S16 32) : Prop :=
  (∀ a x, ((![v373] : Fin 1 → IVec S16 32) a x).toNat < S32000.size a)
theorem k0_idx280_inb : ∀ (i : grid0.Coords) (k0_t10 : Fin (k0_t10_loop i).trips) (v373 : IVec S16 32) (k0_hw283 : k0_chk283 i k0_t10 v373), ∀ a x, ((![v373] : Fin 1 → IVec S16 32) a x).toNat < S32000.size a := fun i k0_t10 v373 k0_hw283 => k0_hw283
def k0_off306 (k0_t11 : Fin k0_t11_loop.trips) : Fin 2 → Nat :=
  let c23_i32_201 : BitVec 32 := 23#32
  let v376 : Index := Scalar.indexCast c23_i32_201
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk284 (i : grid0.Coords) (k0_t10 : Fin (k0_t10_loop i).trips) (v380 : IVec S16 32) : Prop :=
  (∀ a x, ((![v380] : Fin 1 → IVec S16 32) a x).toNat < S32000.size a)
theorem k0_idx281_inb : ∀ (i : grid0.Coords) (k0_t10 : Fin (k0_t10_loop i).trips) (v380 : IVec S16 32) (k0_hw284 : k0_chk284 i k0_t10 v380), ∀ a x, ((![v380] : Fin 1 → IVec S16 32) a x).toNat < S32000.size a := fun i k0_t10 v380 k0_hw284 => k0_hw284
def k0_off307 (k0_t11 : Fin k0_t11_loop.trips) : Fin 2 → Nat :=
  let c24_i32_203 : BitVec 32 := 24#32
  let v383 : Index := Scalar.indexCast c24_i32_203
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk285 (i : grid0.Coords) (k0_t10 : Fin (k0_t10_loop i).trips) (v387 : IVec S16 32) : Prop :=
  (∀ a x, ((![v387] : Fin 1 → IVec S16 32) a x).toNat < S32000.size a)
theorem k0_idx282_inb : ∀ (i : grid0.Coords) (k0_t10 : Fin (k0_t10_loop i).trips) (v387 : IVec S16 32) (k0_hw285 : k0_chk285 i k0_t10 v387), ∀ a x, ((![v387] : Fin 1 → IVec S16 32) a x).toNat < S32000.size a := fun i k0_t10 v387 k0_hw285 => k0_hw285
def k0_off308 (k0_t11 : Fin k0_t11_loop.trips) : Fin 2 → Nat :=
  let c25_i32_205 : BitVec 32 := 25#32
  let v390 : Index := Scalar.indexCast c25_i32_205
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk286 (i : grid0.Coords) (k0_t10 : Fin (k0_t10_loop i).trips) (v394 : IVec S16 32) : Prop :=
  (∀ a x, ((![v394] : Fin 1 → IVec S16 32) a x).toNat < S32000.size a)
theorem k0_idx283_inb : ∀ (i : grid0.Coords) (k0_t10 : Fin (k0_t10_loop i).trips) (v394 : IVec S16 32) (k0_hw286 : k0_chk286 i k0_t10 v394), ∀ a x, ((![v394] : Fin 1 → IVec S16 32) a x).toNat < S32000.size a := fun i k0_t10 v394 k0_hw286 => k0_hw286
def k0_off309 (k0_t11 : Fin k0_t11_loop.trips) : Fin 2 → Nat :=
  let c26_i32_207 : BitVec 32 := 26#32
  let v397 : Index := Scalar.indexCast c26_i32_207
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk287 (i : grid0.Coords) (k0_t10 : Fin (k0_t10_loop i).trips) (v401 : IVec S16 32) : Prop :=
  (∀ a x, ((![v401] : Fin 1 → IVec S16 32) a x).toNat < S32000.size a)
theorem k0_idx284_inb : ∀ (i : grid0.Coords) (k0_t10 : Fin (k0_t10_loop i).trips) (v401 : IVec S16 32) (k0_hw287 : k0_chk287 i k0_t10 v401), ∀ a x, ((![v401] : Fin 1 → IVec S16 32) a x).toNat < S32000.size a := fun i k0_t10 v401 k0_hw287 => k0_hw287
def k0_off310 (k0_t11 : Fin k0_t11_loop.trips) : Fin 2 → Nat :=
  let c27_i32_209 : BitVec 32 := 27#32
  let v404 : Index := Scalar.indexCast c27_i32_209
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk288 (i : grid0.Coords) (k0_t10 : Fin (k0_t10_loop i).trips) (v408 : IVec S16 32) : Prop :=
  (∀ a x, ((![v408] : Fin 1 → IVec S16 32) a x).toNat < S32000.size a)
theorem k0_idx285_inb : ∀ (i : grid0.Coords) (k0_t10 : Fin (k0_t10_loop i).trips) (v408 : IVec S16 32) (k0_hw288 : k0_chk288 i k0_t10 v408), ∀ a x, ((![v408] : Fin 1 → IVec S16 32) a x).toNat < S32000.size a := fun i k0_t10 v408 k0_hw288 => k0_hw288
def k0_off311 (k0_t11 : Fin k0_t11_loop.trips) : Fin 2 → Nat :=
  let c28_i32_211 : BitVec 32 := 28#32
  let v411 : Index := Scalar.indexCast c28_i32_211
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk289 (i : grid0.Coords) (k0_t10 : Fin (k0_t10_loop i).trips) (v415 : IVec S16 32) : Prop :=
  (∀ a x, ((![v415] : Fin 1 → IVec S16 32) a x).toNat < S32000.size a)
theorem k0_idx286_inb : ∀ (i : grid0.Coords) (k0_t10 : Fin (k0_t10_loop i).trips) (v415 : IVec S16 32) (k0_hw289 : k0_chk289 i k0_t10 v415), ∀ a x, ((![v415] : Fin 1 → IVec S16 32) a x).toNat < S32000.size a := fun i k0_t10 v415 k0_hw289 => k0_hw289
def k0_off312 (k0_t11 : Fin k0_t11_loop.trips) : Fin 2 → Nat :=
  let c29_i32_213 : BitVec 32 := 29#32
  let v418 : Index := Scalar.indexCast c29_i32_213
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk290 (i : grid0.Coords) (k0_t10 : Fin (k0_t10_loop i).trips) (v422 : IVec S16 32) : Prop :=
  (∀ a x, ((![v422] : Fin 1 → IVec S16 32) a x).toNat < S32000.size a)
theorem k0_idx287_inb : ∀ (i : grid0.Coords) (k0_t10 : Fin (k0_t10_loop i).trips) (v422 : IVec S16 32) (k0_hw290 : k0_chk290 i k0_t10 v422), ∀ a x, ((![v422] : Fin 1 → IVec S16 32) a x).toNat < S32000.size a := fun i k0_t10 v422 k0_hw290 => k0_hw290
def k0_off313 (k0_t11 : Fin k0_t11_loop.trips) : Fin 2 → Nat :=
  let c30_i32_215 : BitVec 32 := 30#32
  let v425 : Index := Scalar.indexCast c30_i32_215
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk291 (i : grid0.Coords) (k0_t10 : Fin (k0_t10_loop i).trips) (v429 : IVec S16 32) : Prop :=
  (∀ a x, ((![v429] : Fin 1 → IVec S16 32) a x).toNat < S32000.size a)
theorem k0_idx288_inb : ∀ (i : grid0.Coords) (k0_t10 : Fin (k0_t10_loop i).trips) (v429 : IVec S16 32) (k0_hw291 : k0_chk291 i k0_t10 v429), ∀ a x, ((![v429] : Fin 1 → IVec S16 32) a x).toNat < S32000.size a := fun i k0_t10 v429 k0_hw291 => k0_hw291
def k0_off314 (k0_t11 : Fin k0_t11_loop.trips) : Fin 2 → Nat :=
  let c31_i32_217 : BitVec 32 := 31#32
  let v432 : Index := Scalar.indexCast c31_i32_217
  let c0_i32_142 : BitVec 32 := 0#32
  let c0_i32_27 : BitVec 32 := 0#32
  let c1_i32_29 : BitVec 32 := 1#32
  let arg20 : BitVec 32 := Scf.iv c0_i32_27 c1_i32_29 k0_t11
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult37 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_31 : BitVec 32 := 32#32
  let v59 : BitVec 32 := Scalar.muli v35 c32_i32_31
  v59
def k0_mult38 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  v46
def k0_off315 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_31 : BitVec 32 := 32#32
  let v59 : BitVec 32 := Scalar.muli v35 c32_i32_31
  let v60 : BitVec 32 := v59
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let v61 : BitVec 32 := v46
  ![v60.toNat, v61.toNat]
def k0_off316 (i : grid0.Coords) (k0_t10 : Fin (k0_t10_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c0_i32_35 : BitVec 32 := 0#32
  let c0_i32_36 : BitVec 32 := 0#32
  ![v35.toNat, v65.toNat, 0, 0]
def k0_mult39 (arg18 : BitVec 32) : BitVec 32 :=
  let c32_i32_141 : BitVec 32 := 32#32
  let v204 : BitVec 32 := Scalar.muli arg18 c32_i32_141
  v204
def k0_cond10 (arg19 : BitVec 32) : BitVec 1 :=
  let c0_i32_41 : BitVec 32 := 0#32
  let v75 : BitVec 1 := Scalar.cmpi .sge arg19 c0_i32_41
  let v76 : BitVec 32 := Scalar.extui v75
  let c0_i32_42 : BitVec 32 := 0#32
  let v77 : BitVec 1 := Scalar.cmpi .ne v76 c0_i32_42
  v77

def k0_mult40 (arg19 : BitVec 32) : BitVec 32 :=
  arg19
def k0_off317 (arg18 : BitVec 32) (arg19 : BitVec 32) : Fin 2 → Nat :=
  let c32_i32_141 : BitVec 32 := 32#32
  let v204 : BitVec 32 := Scalar.muli arg18 c32_i32_141
  let v205 : BitVec 32 := v204
  let v206 : BitVec 32 := arg19
  ![v205.toNat, v206.toNat]

def k0_chk292 (i : grid0.Coords) (k0_t10 : Fin (k0_t10_loop i).trips) (arg18 : BitVec 32) (arg19 : BitVec 32) : Prop :=
  (∀ (k0_h10 : k0_cond10 arg19 = 1#1), 32 ∣ (k0_mult39 arg18).toNat) ∧
  (∀ (k0_h10 : k0_cond10 arg19 = 1#1), 512 ∣ (k0_mult40 arg19).toNat) ∧
  (∀ (k0_h10 : k0_cond10 arg19 = 1#1), ∀ a, (k0_off317 arg18 arg19) a + S32x512.size a ≤ S832x16384.size a)
theorem k0_mult39_dvd : ∀ (i : grid0.Coords) (k0_t10 : Fin (k0_t10_loop i).trips) (arg18 : BitVec 32) (arg19 : BitVec 32) (k0_hw292 : k0_chk292 i k0_t10 arg18 arg19), ∀ (k0_h10 : k0_cond10 arg19 = 1#1), 32 ∣ (k0_mult39 arg18).toNat := fun i k0_t10 arg18 arg19 k0_hw292 k0_h10 => k0_hw292.1 k0_h10
theorem k0_mult40_dvd : ∀ (i : grid0.Coords) (k0_t10 : Fin (k0_t10_loop i).trips) (arg18 : BitVec 32) (arg19 : BitVec 32) (k0_hw292 : k0_chk292 i k0_t10 arg18 arg19), ∀ (k0_h10 : k0_cond10 arg19 = 1#1), 512 ∣ (k0_mult40 arg19).toNat := fun i k0_t10 arg18 arg19 k0_hw292 k0_h10 => k0_hw292.2.1 k0_h10
theorem k0_off317_inb : ∀ (i : grid0.Coords) (k0_t10 : Fin (k0_t10_loop i).trips) (arg18 : BitVec 32) (arg19 : BitVec 32) (k0_hw292 : k0_chk292 i k0_t10 arg18 arg19), ∀ (k0_h10 : k0_cond10 arg19 = 1#1), ∀ a, (k0_off317 arg18 arg19) a + S32x512.size a ≤ S832x16384.size a := fun i k0_t10 arg18 arg19 k0_hw292 k0_h10 => k0_hw292.2.2 k0_h10

@[reducible] def k0_t12_loop : Scf.Loop 32 :=
  let c0_i32_43 : BitVec 32 := 0#32
  let c32_i32_44 : BitVec 32 := 32#32
  let v78 : BitVec 32 := Scalar.addi c0_i32_43 c32_i32_44
  let c1_i32_45 : BitVec 32 := 1#32
  ⟨c0_i32_43, v78, c1_i32_45⟩
def k0_off318 (k0_t12 : Fin k0_t12_loop.trips) : Fin 1 → Nat :=
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk293 (i : grid0.Coords) (k0_t10 : Fin (k0_t10_loop i).trips) (v212 : IVec S16 32) : Prop :=
  (∀ a x, ((![v212] : Fin 1 → IVec S16 32) a x).toNat < S32000.size a)
theorem k0_idx289_inb : ∀ (i : grid0.Coords) (k0_t10 : Fin (k0_t10_loop i).trips) (v212 : IVec S16 32) (k0_hw293 : k0_chk293 i k0_t10 v212), ∀ a x, ((![v212] : Fin 1 → IVec S16 32) a x).toNat < S32000.size a := fun i k0_t10 v212 k0_hw293 => k0_hw293
def k0_off319 (k0_t12 : Fin k0_t12_loop.trips) : Fin 2 → Nat :=
  let c0_i32_146 : BitVec 32 := 0#32
  let v215 : Index := Scalar.indexCast c0_i32_146
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk294 (i : grid0.Coords) (k0_t10 : Fin (k0_t10_loop i).trips) (v219 : IVec S16 32) : Prop :=
  (∀ a x, ((![v219] : Fin 1 → IVec S16 32) a x).toNat < S32000.size a)
theorem k0_idx290_inb : ∀ (i : grid0.Coords) (k0_t10 : Fin (k0_t10_loop i).trips) (v219 : IVec S16 32) (k0_hw294 : k0_chk294 i k0_t10 v219), ∀ a x, ((![v219] : Fin 1 → IVec S16 32) a x).toNat < S32000.size a := fun i k0_t10 v219 k0_hw294 => k0_hw294
def k0_off320 (k0_t12 : Fin k0_t12_loop.trips) : Fin 2 → Nat :=
  let c1_i32_149 : BitVec 32 := 1#32
  let v222 : Index := Scalar.indexCast c1_i32_149
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk295 (i : grid0.Coords) (k0_t10 : Fin (k0_t10_loop i).trips) (v226 : IVec S16 32) : Prop :=
  (∀ a x, ((![v226] : Fin 1 → IVec S16 32) a x).toNat < S32000.size a)
theorem k0_idx291_inb : ∀ (i : grid0.Coords) (k0_t10 : Fin (k0_t10_loop i).trips) (v226 : IVec S16 32) (k0_hw295 : k0_chk295 i k0_t10 v226), ∀ a x, ((![v226] : Fin 1 → IVec S16 32) a x).toNat < S32000.size a := fun i k0_t10 v226 k0_hw295 => k0_hw295
def k0_off321 (k0_t12 : Fin k0_t12_loop.trips) : Fin 2 → Nat :=
  let c2_i32_152 : BitVec 32 := 2#32
  let v229 : Index := Scalar.indexCast c2_i32_152
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk296 (i : grid0.Coords) (k0_t10 : Fin (k0_t10_loop i).trips) (v233 : IVec S16 32) : Prop :=
  (∀ a x, ((![v233] : Fin 1 → IVec S16 32) a x).toNat < S32000.size a)
theorem k0_idx292_inb : ∀ (i : grid0.Coords) (k0_t10 : Fin (k0_t10_loop i).trips) (v233 : IVec S16 32) (k0_hw296 : k0_chk296 i k0_t10 v233), ∀ a x, ((![v233] : Fin 1 → IVec S16 32) a x).toNat < S32000.size a := fun i k0_t10 v233 k0_hw296 => k0_hw296
def k0_off322 (k0_t12 : Fin k0_t12_loop.trips) : Fin 2 → Nat :=
  let c3_i32_155 : BitVec 32 := 3#32
  let v236 : Index := Scalar.indexCast c3_i32_155
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk297 (i : grid0.Coords) (k0_t10 : Fin (k0_t10_loop i).trips) (v240 : IVec S16 32) : Prop :=
  (∀ a x, ((![v240] : Fin 1 → IVec S16 32) a x).toNat < S32000.size a)
theorem k0_idx293_inb : ∀ (i : grid0.Coords) (k0_t10 : Fin (k0_t10_loop i).trips) (v240 : IVec S16 32) (k0_hw297 : k0_chk297 i k0_t10 v240), ∀ a x, ((![v240] : Fin 1 → IVec S16 32) a x).toNat < S32000.size a := fun i k0_t10 v240 k0_hw297 => k0_hw297
def k0_off323 (k0_t12 : Fin k0_t12_loop.trips) : Fin 2 → Nat :=
  let c4_i32_158 : BitVec 32 := 4#32
  let v243 : Index := Scalar.indexCast c4_i32_158
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk298 (i : grid0.Coords) (k0_t10 : Fin (k0_t10_loop i).trips) (v247 : IVec S16 32) : Prop :=
  (∀ a x, ((![v247] : Fin 1 → IVec S16 32) a x).toNat < S32000.size a)
theorem k0_idx294_inb : ∀ (i : grid0.Coords) (k0_t10 : Fin (k0_t10_loop i).trips) (v247 : IVec S16 32) (k0_hw298 : k0_chk298 i k0_t10 v247), ∀ a x, ((![v247] : Fin 1 → IVec S16 32) a x).toNat < S32000.size a := fun i k0_t10 v247 k0_hw298 => k0_hw298
def k0_off324 (k0_t12 : Fin k0_t12_loop.trips) : Fin 2 → Nat :=
  let c5_i32_161 : BitVec 32 := 5#32
  let v250 : Index := Scalar.indexCast c5_i32_161
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk299 (i : grid0.Coords) (k0_t10 : Fin (k0_t10_loop i).trips) (v254 : IVec S16 32) : Prop :=
  (∀ a x, ((![v254] : Fin 1 → IVec S16 32) a x).toNat < S32000.size a)
theorem k0_idx295_inb : ∀ (i : grid0.Coords) (k0_t10 : Fin (k0_t10_loop i).trips) (v254 : IVec S16 32) (k0_hw299 : k0_chk299 i k0_t10 v254), ∀ a x, ((![v254] : Fin 1 → IVec S16 32) a x).toNat < S32000.size a := fun i k0_t10 v254 k0_hw299 => k0_hw299
def k0_off325 (k0_t12 : Fin k0_t12_loop.trips) : Fin 2 → Nat :=
  let c6_i32_164 : BitVec 32 := 6#32
  let v257 : Index := Scalar.indexCast c6_i32_164
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk300 (i : grid0.Coords) (k0_t10 : Fin (k0_t10_loop i).trips) (v261 : IVec S16 32) : Prop :=
  (∀ a x, ((![v261] : Fin 1 → IVec S16 32) a x).toNat < S32000.size a)
theorem k0_idx296_inb : ∀ (i : grid0.Coords) (k0_t10 : Fin (k0_t10_loop i).trips) (v261 : IVec S16 32) (k0_hw300 : k0_chk300 i k0_t10 v261), ∀ a x, ((![v261] : Fin 1 → IVec S16 32) a x).toNat < S32000.size a := fun i k0_t10 v261 k0_hw300 => k0_hw300
def k0_off326 (k0_t12 : Fin k0_t12_loop.trips) : Fin 2 → Nat :=
  let c7_i32_167 : BitVec 32 := 7#32
  let v264 : Index := Scalar.indexCast c7_i32_167
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk301 (i : grid0.Coords) (k0_t10 : Fin (k0_t10_loop i).trips) (v268 : IVec S16 32) : Prop :=
  (∀ a x, ((![v268] : Fin 1 → IVec S16 32) a x).toNat < S32000.size a)
theorem k0_idx297_inb : ∀ (i : grid0.Coords) (k0_t10 : Fin (k0_t10_loop i).trips) (v268 : IVec S16 32) (k0_hw301 : k0_chk301 i k0_t10 v268), ∀ a x, ((![v268] : Fin 1 → IVec S16 32) a x).toNat < S32000.size a := fun i k0_t10 v268 k0_hw301 => k0_hw301
def k0_off327 (k0_t12 : Fin k0_t12_loop.trips) : Fin 2 → Nat :=
  let c8_i32_170 : BitVec 32 := 8#32
  let v271 : Index := Scalar.indexCast c8_i32_170
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk302 (i : grid0.Coords) (k0_t10 : Fin (k0_t10_loop i).trips) (v275 : IVec S16 32) : Prop :=
  (∀ a x, ((![v275] : Fin 1 → IVec S16 32) a x).toNat < S32000.size a)
theorem k0_idx298_inb : ∀ (i : grid0.Coords) (k0_t10 : Fin (k0_t10_loop i).trips) (v275 : IVec S16 32) (k0_hw302 : k0_chk302 i k0_t10 v275), ∀ a x, ((![v275] : Fin 1 → IVec S16 32) a x).toNat < S32000.size a := fun i k0_t10 v275 k0_hw302 => k0_hw302
def k0_off328 (k0_t12 : Fin k0_t12_loop.trips) : Fin 2 → Nat :=
  let c9_i32_172 : BitVec 32 := 9#32
  let v278 : Index := Scalar.indexCast c9_i32_172
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk303 (i : grid0.Coords) (k0_t10 : Fin (k0_t10_loop i).trips) (v282 : IVec S16 32) : Prop :=
  (∀ a x, ((![v282] : Fin 1 → IVec S16 32) a x).toNat < S32000.size a)
theorem k0_idx299_inb : ∀ (i : grid0.Coords) (k0_t10 : Fin (k0_t10_loop i).trips) (v282 : IVec S16 32) (k0_hw303 : k0_chk303 i k0_t10 v282), ∀ a x, ((![v282] : Fin 1 → IVec S16 32) a x).toNat < S32000.size a := fun i k0_t10 v282 k0_hw303 => k0_hw303
def k0_off329 (k0_t12 : Fin k0_t12_loop.trips) : Fin 2 → Nat :=
  let c10_i32_174 : BitVec 32 := 10#32
  let v285 : Index := Scalar.indexCast c10_i32_174
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk304 (i : grid0.Coords) (k0_t10 : Fin (k0_t10_loop i).trips) (v289 : IVec S16 32) : Prop :=
  (∀ a x, ((![v289] : Fin 1 → IVec S16 32) a x).toNat < S32000.size a)
theorem k0_idx300_inb : ∀ (i : grid0.Coords) (k0_t10 : Fin (k0_t10_loop i).trips) (v289 : IVec S16 32) (k0_hw304 : k0_chk304 i k0_t10 v289), ∀ a x, ((![v289] : Fin 1 → IVec S16 32) a x).toNat < S32000.size a := fun i k0_t10 v289 k0_hw304 => k0_hw304
def k0_off330 (k0_t12 : Fin k0_t12_loop.trips) : Fin 2 → Nat :=
  let c11_i32_176 : BitVec 32 := 11#32
  let v292 : Index := Scalar.indexCast c11_i32_176
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk305 (i : grid0.Coords) (k0_t10 : Fin (k0_t10_loop i).trips) (v296 : IVec S16 32) : Prop :=
  (∀ a x, ((![v296] : Fin 1 → IVec S16 32) a x).toNat < S32000.size a)
theorem k0_idx301_inb : ∀ (i : grid0.Coords) (k0_t10 : Fin (k0_t10_loop i).trips) (v296 : IVec S16 32) (k0_hw305 : k0_chk305 i k0_t10 v296), ∀ a x, ((![v296] : Fin 1 → IVec S16 32) a x).toNat < S32000.size a := fun i k0_t10 v296 k0_hw305 => k0_hw305
def k0_off331 (k0_t12 : Fin k0_t12_loop.trips) : Fin 2 → Nat :=
  let c12_i32_178 : BitVec 32 := 12#32
  let v299 : Index := Scalar.indexCast c12_i32_178
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk306 (i : grid0.Coords) (k0_t10 : Fin (k0_t10_loop i).trips) (v303 : IVec S16 32) : Prop :=
  (∀ a x, ((![v303] : Fin 1 → IVec S16 32) a x).toNat < S32000.size a)
theorem k0_idx302_inb : ∀ (i : grid0.Coords) (k0_t10 : Fin (k0_t10_loop i).trips) (v303 : IVec S16 32) (k0_hw306 : k0_chk306 i k0_t10 v303), ∀ a x, ((![v303] : Fin 1 → IVec S16 32) a x).toNat < S32000.size a := fun i k0_t10 v303 k0_hw306 => k0_hw306
def k0_off332 (k0_t12 : Fin k0_t12_loop.trips) : Fin 2 → Nat :=
  let c13_i32_180 : BitVec 32 := 13#32
  let v306 : Index := Scalar.indexCast c13_i32_180
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk307 (i : grid0.Coords) (k0_t10 : Fin (k0_t10_loop i).trips) (v310 : IVec S16 32) : Prop :=
  (∀ a x, ((![v310] : Fin 1 → IVec S16 32) a x).toNat < S32000.size a)
theorem k0_idx303_inb : ∀ (i : grid0.Coords) (k0_t10 : Fin (k0_t10_loop i).trips) (v310 : IVec S16 32) (k0_hw307 : k0_chk307 i k0_t10 v310), ∀ a x, ((![v310] : Fin 1 → IVec S16 32) a x).toNat < S32000.size a := fun i k0_t10 v310 k0_hw307 => k0_hw307
def k0_off333 (k0_t12 : Fin k0_t12_loop.trips) : Fin 2 → Nat :=
  let c14_i32_182 : BitVec 32 := 14#32
  let v313 : Index := Scalar.indexCast c14_i32_182
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk308 (i : grid0.Coords) (k0_t10 : Fin (k0_t10_loop i).trips) (v317 : IVec S16 32) : Prop :=
  (∀ a x, ((![v317] : Fin 1 → IVec S16 32) a x).toNat < S32000.size a)
theorem k0_idx304_inb : ∀ (i : grid0.Coords) (k0_t10 : Fin (k0_t10_loop i).trips) (v317 : IVec S16 32) (k0_hw308 : k0_chk308 i k0_t10 v317), ∀ a x, ((![v317] : Fin 1 → IVec S16 32) a x).toNat < S32000.size a := fun i k0_t10 v317 k0_hw308 => k0_hw308
def k0_off334 (k0_t12 : Fin k0_t12_loop.trips) : Fin 2 → Nat :=
  let c15_i32_184 : BitVec 32 := 15#32
  let v320 : Index := Scalar.indexCast c15_i32_184
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk309 (i : grid0.Coords) (k0_t10 : Fin (k0_t10_loop i).trips) (v324 : IVec S16 32) : Prop :=
  (∀ a x, ((![v324] : Fin 1 → IVec S16 32) a x).toNat < S32000.size a)
theorem k0_idx305_inb : ∀ (i : grid0.Coords) (k0_t10 : Fin (k0_t10_loop i).trips) (v324 : IVec S16 32) (k0_hw309 : k0_chk309 i k0_t10 v324), ∀ a x, ((![v324] : Fin 1 → IVec S16 32) a x).toNat < S32000.size a := fun i k0_t10 v324 k0_hw309 => k0_hw309
def k0_off335 (k0_t12 : Fin k0_t12_loop.trips) : Fin 2 → Nat :=
  let c16_i32_187 : BitVec 32 := 16#32
  let v327 : Index := Scalar.indexCast c16_i32_187
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk310 (i : grid0.Coords) (k0_t10 : Fin (k0_t10_loop i).trips) (v331 : IVec S16 32) : Prop :=
  (∀ a x, ((![v331] : Fin 1 → IVec S16 32) a x).toNat < S32000.size a)
theorem k0_idx306_inb : ∀ (i : grid0.Coords) (k0_t10 : Fin (k0_t10_loop i).trips) (v331 : IVec S16 32) (k0_hw310 : k0_chk310 i k0_t10 v331), ∀ a x, ((![v331] : Fin 1 → IVec S16 32) a x).toNat < S32000.size a := fun i k0_t10 v331 k0_hw310 => k0_hw310
def k0_off336 (k0_t12 : Fin k0_t12_loop.trips) : Fin 2 → Nat :=
  let c17_i32_189 : BitVec 32 := 17#32
  let v334 : Index := Scalar.indexCast c17_i32_189
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk311 (i : grid0.Coords) (k0_t10 : Fin (k0_t10_loop i).trips) (v338 : IVec S16 32) : Prop :=
  (∀ a x, ((![v338] : Fin 1 → IVec S16 32) a x).toNat < S32000.size a)
theorem k0_idx307_inb : ∀ (i : grid0.Coords) (k0_t10 : Fin (k0_t10_loop i).trips) (v338 : IVec S16 32) (k0_hw311 : k0_chk311 i k0_t10 v338), ∀ a x, ((![v338] : Fin 1 → IVec S16 32) a x).toNat < S32000.size a := fun i k0_t10 v338 k0_hw311 => k0_hw311
def k0_off337 (k0_t12 : Fin k0_t12_loop.trips) : Fin 2 → Nat :=
  let c18_i32_191 : BitVec 32 := 18#32
  let v341 : Index := Scalar.indexCast c18_i32_191
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk312 (i : grid0.Coords) (k0_t10 : Fin (k0_t10_loop i).trips) (v345 : IVec S16 32) : Prop :=
  (∀ a x, ((![v345] : Fin 1 → IVec S16 32) a x).toNat < S32000.size a)
theorem k0_idx308_inb : ∀ (i : grid0.Coords) (k0_t10 : Fin (k0_t10_loop i).trips) (v345 : IVec S16 32) (k0_hw312 : k0_chk312 i k0_t10 v345), ∀ a x, ((![v345] : Fin 1 → IVec S16 32) a x).toNat < S32000.size a := fun i k0_t10 v345 k0_hw312 => k0_hw312
def k0_off338 (k0_t12 : Fin k0_t12_loop.trips) : Fin 2 → Nat :=
  let c19_i32_193 : BitVec 32 := 19#32
  let v348 : Index := Scalar.indexCast c19_i32_193
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk313 (i : grid0.Coords) (k0_t10 : Fin (k0_t10_loop i).trips) (v352 : IVec S16 32) : Prop :=
  (∀ a x, ((![v352] : Fin 1 → IVec S16 32) a x).toNat < S32000.size a)
theorem k0_idx309_inb : ∀ (i : grid0.Coords) (k0_t10 : Fin (k0_t10_loop i).trips) (v352 : IVec S16 32) (k0_hw313 : k0_chk313 i k0_t10 v352), ∀ a x, ((![v352] : Fin 1 → IVec S16 32) a x).toNat < S32000.size a := fun i k0_t10 v352 k0_hw313 => k0_hw313
def k0_off339 (k0_t12 : Fin k0_t12_loop.trips) : Fin 2 → Nat :=
  let c20_i32_195 : BitVec 32 := 20#32
  let v355 : Index := Scalar.indexCast c20_i32_195
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk314 (i : grid0.Coords) (k0_t10 : Fin (k0_t10_loop i).trips) (v359 : IVec S16 32) : Prop :=
  (∀ a x, ((![v359] : Fin 1 → IVec S16 32) a x).toNat < S32000.size a)
theorem k0_idx310_inb : ∀ (i : grid0.Coords) (k0_t10 : Fin (k0_t10_loop i).trips) (v359 : IVec S16 32) (k0_hw314 : k0_chk314 i k0_t10 v359), ∀ a x, ((![v359] : Fin 1 → IVec S16 32) a x).toNat < S32000.size a := fun i k0_t10 v359 k0_hw314 => k0_hw314
def k0_off340 (k0_t12 : Fin k0_t12_loop.trips) : Fin 2 → Nat :=
  let c21_i32_197 : BitVec 32 := 21#32
  let v362 : Index := Scalar.indexCast c21_i32_197
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk315 (i : grid0.Coords) (k0_t10 : Fin (k0_t10_loop i).trips) (v366 : IVec S16 32) : Prop :=
  (∀ a x, ((![v366] : Fin 1 → IVec S16 32) a x).toNat < S32000.size a)
theorem k0_idx311_inb : ∀ (i : grid0.Coords) (k0_t10 : Fin (k0_t10_loop i).trips) (v366 : IVec S16 32) (k0_hw315 : k0_chk315 i k0_t10 v366), ∀ a x, ((![v366] : Fin 1 → IVec S16 32) a x).toNat < S32000.size a := fun i k0_t10 v366 k0_hw315 => k0_hw315
def k0_off341 (k0_t12 : Fin k0_t12_loop.trips) : Fin 2 → Nat :=
  let c22_i32_199 : BitVec 32 := 22#32
  let v369 : Index := Scalar.indexCast c22_i32_199
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk316 (i : grid0.Coords) (k0_t10 : Fin (k0_t10_loop i).trips) (v373 : IVec S16 32) : Prop :=
  (∀ a x, ((![v373] : Fin 1 → IVec S16 32) a x).toNat < S32000.size a)
theorem k0_idx312_inb : ∀ (i : grid0.Coords) (k0_t10 : Fin (k0_t10_loop i).trips) (v373 : IVec S16 32) (k0_hw316 : k0_chk316 i k0_t10 v373), ∀ a x, ((![v373] : Fin 1 → IVec S16 32) a x).toNat < S32000.size a := fun i k0_t10 v373 k0_hw316 => k0_hw316
def k0_off342 (k0_t12 : Fin k0_t12_loop.trips) : Fin 2 → Nat :=
  let c23_i32_201 : BitVec 32 := 23#32
  let v376 : Index := Scalar.indexCast c23_i32_201
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk317 (i : grid0.Coords) (k0_t10 : Fin (k0_t10_loop i).trips) (v380 : IVec S16 32) : Prop :=
  (∀ a x, ((![v380] : Fin 1 → IVec S16 32) a x).toNat < S32000.size a)
theorem k0_idx313_inb : ∀ (i : grid0.Coords) (k0_t10 : Fin (k0_t10_loop i).trips) (v380 : IVec S16 32) (k0_hw317 : k0_chk317 i k0_t10 v380), ∀ a x, ((![v380] : Fin 1 → IVec S16 32) a x).toNat < S32000.size a := fun i k0_t10 v380 k0_hw317 => k0_hw317
def k0_off343 (k0_t12 : Fin k0_t12_loop.trips) : Fin 2 → Nat :=
  let c24_i32_203 : BitVec 32 := 24#32
  let v383 : Index := Scalar.indexCast c24_i32_203
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk318 (i : grid0.Coords) (k0_t10 : Fin (k0_t10_loop i).trips) (v387 : IVec S16 32) : Prop :=
  (∀ a x, ((![v387] : Fin 1 → IVec S16 32) a x).toNat < S32000.size a)
theorem k0_idx314_inb : ∀ (i : grid0.Coords) (k0_t10 : Fin (k0_t10_loop i).trips) (v387 : IVec S16 32) (k0_hw318 : k0_chk318 i k0_t10 v387), ∀ a x, ((![v387] : Fin 1 → IVec S16 32) a x).toNat < S32000.size a := fun i k0_t10 v387 k0_hw318 => k0_hw318
def k0_off344 (k0_t12 : Fin k0_t12_loop.trips) : Fin 2 → Nat :=
  let c25_i32_205 : BitVec 32 := 25#32
  let v390 : Index := Scalar.indexCast c25_i32_205
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk319 (i : grid0.Coords) (k0_t10 : Fin (k0_t10_loop i).trips) (v394 : IVec S16 32) : Prop :=
  (∀ a x, ((![v394] : Fin 1 → IVec S16 32) a x).toNat < S32000.size a)
theorem k0_idx315_inb : ∀ (i : grid0.Coords) (k0_t10 : Fin (k0_t10_loop i).trips) (v394 : IVec S16 32) (k0_hw319 : k0_chk319 i k0_t10 v394), ∀ a x, ((![v394] : Fin 1 → IVec S16 32) a x).toNat < S32000.size a := fun i k0_t10 v394 k0_hw319 => k0_hw319
def k0_off345 (k0_t12 : Fin k0_t12_loop.trips) : Fin 2 → Nat :=
  let c26_i32_207 : BitVec 32 := 26#32
  let v397 : Index := Scalar.indexCast c26_i32_207
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk320 (i : grid0.Coords) (k0_t10 : Fin (k0_t10_loop i).trips) (v401 : IVec S16 32) : Prop :=
  (∀ a x, ((![v401] : Fin 1 → IVec S16 32) a x).toNat < S32000.size a)
theorem k0_idx316_inb : ∀ (i : grid0.Coords) (k0_t10 : Fin (k0_t10_loop i).trips) (v401 : IVec S16 32) (k0_hw320 : k0_chk320 i k0_t10 v401), ∀ a x, ((![v401] : Fin 1 → IVec S16 32) a x).toNat < S32000.size a := fun i k0_t10 v401 k0_hw320 => k0_hw320
def k0_off346 (k0_t12 : Fin k0_t12_loop.trips) : Fin 2 → Nat :=
  let c27_i32_209 : BitVec 32 := 27#32
  let v404 : Index := Scalar.indexCast c27_i32_209
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk321 (i : grid0.Coords) (k0_t10 : Fin (k0_t10_loop i).trips) (v408 : IVec S16 32) : Prop :=
  (∀ a x, ((![v408] : Fin 1 → IVec S16 32) a x).toNat < S32000.size a)
theorem k0_idx317_inb : ∀ (i : grid0.Coords) (k0_t10 : Fin (k0_t10_loop i).trips) (v408 : IVec S16 32) (k0_hw321 : k0_chk321 i k0_t10 v408), ∀ a x, ((![v408] : Fin 1 → IVec S16 32) a x).toNat < S32000.size a := fun i k0_t10 v408 k0_hw321 => k0_hw321
def k0_off347 (k0_t12 : Fin k0_t12_loop.trips) : Fin 2 → Nat :=
  let c28_i32_211 : BitVec 32 := 28#32
  let v411 : Index := Scalar.indexCast c28_i32_211
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk322 (i : grid0.Coords) (k0_t10 : Fin (k0_t10_loop i).trips) (v415 : IVec S16 32) : Prop :=
  (∀ a x, ((![v415] : Fin 1 → IVec S16 32) a x).toNat < S32000.size a)
theorem k0_idx318_inb : ∀ (i : grid0.Coords) (k0_t10 : Fin (k0_t10_loop i).trips) (v415 : IVec S16 32) (k0_hw322 : k0_chk322 i k0_t10 v415), ∀ a x, ((![v415] : Fin 1 → IVec S16 32) a x).toNat < S32000.size a := fun i k0_t10 v415 k0_hw322 => k0_hw322
def k0_off348 (k0_t12 : Fin k0_t12_loop.trips) : Fin 2 → Nat :=
  let c29_i32_213 : BitVec 32 := 29#32
  let v418 : Index := Scalar.indexCast c29_i32_213
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk323 (i : grid0.Coords) (k0_t10 : Fin (k0_t10_loop i).trips) (v422 : IVec S16 32) : Prop :=
  (∀ a x, ((![v422] : Fin 1 → IVec S16 32) a x).toNat < S32000.size a)
theorem k0_idx319_inb : ∀ (i : grid0.Coords) (k0_t10 : Fin (k0_t10_loop i).trips) (v422 : IVec S16 32) (k0_hw323 : k0_chk323 i k0_t10 v422), ∀ a x, ((![v422] : Fin 1 → IVec S16 32) a x).toNat < S32000.size a := fun i k0_t10 v422 k0_hw323 => k0_hw323
def k0_off349 (k0_t12 : Fin k0_t12_loop.trips) : Fin 2 → Nat :=
  let c30_i32_215 : BitVec 32 := 30#32
  let v425 : Index := Scalar.indexCast c30_i32_215
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk324 (i : grid0.Coords) (k0_t10 : Fin (k0_t10_loop i).trips) (v429 : IVec S16 32) : Prop :=
  (∀ a x, ((![v429] : Fin 1 → IVec S16 32) a x).toNat < S32000.size a)
theorem k0_idx320_inb : ∀ (i : grid0.Coords) (k0_t10 : Fin (k0_t10_loop i).trips) (v429 : IVec S16 32) (k0_hw324 : k0_chk324 i k0_t10 v429), ∀ a x, ((![v429] : Fin 1 → IVec S16 32) a x).toNat < S32000.size a := fun i k0_t10 v429 k0_hw324 => k0_hw324
def k0_off350 (k0_t12 : Fin k0_t12_loop.trips) : Fin 2 → Nat :=
  let c31_i32_217 : BitVec 32 := 31#32
  let v432 : Index := Scalar.indexCast c31_i32_217
  let c0_i32_142 : BitVec 32 := 0#32
  let c0_i32_43 : BitVec 32 := 0#32
  let c1_i32_45 : BitVec 32 := 1#32
  let arg20 : BitVec 32 := Scf.iv c0_i32_43 c1_i32_45 k0_t12
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult41 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_47 : BitVec 32 := 32#32
  let v79 : BitVec 32 := Scalar.muli v35 c32_i32_47
  v79
def k0_mult42 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  v66
def k0_off351 (i : grid0.Coords) (k0_t10 : Fin (k0_t10_loop i).trips) (c1_i32_33 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_47 : BitVec 32 := 32#32
  let v79 : BitVec 32 := Scalar.muli v35 c32_i32_47
  let v80 : BitVec 32 := v79
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let v65 : BitVec 32 := Scalar.addi v64 c1_i32_33
  let c512_i32_34 : BitVec 32 := 512#32
  let v66 : BitVec 32 := Scalar.muli v65 c512_i32_34
  let v81 : BitVec 32 := v66
  ![v80.toNat, v81.toNat]
def k0_off352 (i : grid0.Coords) (k0_t10 : Fin (k0_t10_loop i).trips) (c2_i32_49 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c4_i32_16 : BitVec 32 := 4#32
  let v36 : BitVec 32 := Scalar.muli c4_i32_16 v35
  let v37 : BitVec 32 := Scalar.subi v18 v36
  let c8_i32_48 : BitVec 32 := 8#32
  let v84 : BitVec 32 := Scalar.muli v37 c8_i32_48
  let v85 : BitVec 32 := Scalar.addi v84 c2_i32_49
  let c0_i32_51 : BitVec 32 := 0#32
  let c0_i32_52 : BitVec 32 := 0#32
  ![v35.toNat, v85.toNat, 0, 0]
def k0_cond11 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let c0_i32_57 : BitVec 32 := 0#32
  let v95 : BitVec 1 := Scalar.cmpi .sge v46 c0_i32_57
  let v96 : BitVec 32 := Scalar.extui v95
  let c0_i32_58 : BitVec 32 := 0#32
  let v97 : BitVec 1 := Scalar.cmpi .ne v96 c0_i32_58
  v97

def k0_mult43 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult44 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  v46
def k0_off353 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_17 : BitVec 32 := 8#32
  let v44 : BitVec 32 := Scalar.muli v37 c8_i32_17
  let c0_i32_18 : BitVec 32 := 0#32
  let v45 : BitVec 32 := Scalar.addi v44 c0_i32_18
  let c512_i32 : BitVec 32 := 512#32
  let v46 : BitVec 32 := Scalar.muli v45 c512_i32
  let v206 : BitVec 32 := v46
  ![v205.toNat, v206.toNat]
@[reducible] def k0_t13_loop : Scf.Loop 32 :=
  let c0_i32_59 : BitVec 32 := 0#32
  let c32_i32_60 : BitVec 32 := 32#32
  let v98 : BitVec 32 := Scalar.addi c0_i32_59 c32_i32_60
  let c1_i32_61 : BitVec 32 := 1#32
  ⟨c0_i32_59, v98, c1_i32_61⟩
def k0_off354 (k0_t13 : Fin k0_t13_loop.trips) : Fin 1 → Nat :=
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk325 (i : grid0.Coords) (k0_t10 : Fin (k0_t10_loop i).trips) (v212 : IVec S16 32) : Prop :=
  (∀ a x, ((![v212] : Fin 1 → IVec S16 32) a x).toNat < S32000.size a)
theorem k0_idx321_inb : ∀ (i : grid0.Coords) (k0_t10 : Fin (k0_t10_loop i).trips) (v212 : IVec S16 32) (k0_hw325 : k0_chk325 i k0_t10 v212), ∀ a x, ((![v212] : Fin 1 → IVec S16 32) a x).toNat < S32000.size a := fun i k0_t10 v212 k0_hw325 => k0_hw325
def k0_off355 (k0_t13 : Fin k0_t13_loop.trips) : Fin 2 → Nat :=
  let c0_i32_146 : BitVec 32 := 0#32
  let v215 : Index := Scalar.indexCast c0_i32_146
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk326 (i : grid0.Coords) (k0_t10 : Fin (k0_t10_loop i).trips) (v219 : IVec S16 32) : Prop :=
  (∀ a x, ((![v219] : Fin 1 → IVec S16 32) a x).toNat < S32000.size a)
theorem k0_idx322_inb : ∀ (i : grid0.Coords) (k0_t10 : Fin (k0_t10_loop i).trips) (v219 : IVec S16 32) (k0_hw326 : k0_chk326 i k0_t10 v219), ∀ a x, ((![v219] : Fin 1 → IVec S16 32) a x).toNat < S32000.size a := fun i k0_t10 v219 k0_hw326 => k0_hw326
def k0_off356 (k0_t13 : Fin k0_t13_loop.trips) : Fin 2 → Nat :=
  let c1_i32_149 : BitVec 32 := 1#32
  let v222 : Index := Scalar.indexCast c1_i32_149
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk327 (i : grid0.Coords) (k0_t10 : Fin (k0_t10_loop i).trips) (v226 : IVec S16 32) : Prop :=
  (∀ a x, ((![v226] : Fin 1 → IVec S16 32) a x).toNat < S32000.size a)
theorem k0_idx323_inb : ∀ (i : grid0.Coords) (k0_t10 : Fin (k0_t10_loop i).trips) (v226 : IVec S16 32) (k0_hw327 : k0_chk327 i k0_t10 v226), ∀ a x, ((![v226] : Fin 1 → IVec S16 32) a x).toNat < S32000.size a := fun i k0_t10 v226 k0_hw327 => k0_hw327
def k0_off357 (k0_t13 : Fin k0_t13_loop.trips) : Fin 2 → Nat :=
  let c2_i32_152 : BitVec 32 := 2#32
  let v229 : Index := Scalar.indexCast c2_i32_152
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk328 (i : grid0.Coords) (k0_t10 : Fin (k0_t10_loop i).trips) (v233 : IVec S16 32) : Prop :=
  (∀ a x, ((![v233] : Fin 1 → IVec S16 32) a x).toNat < S32000.size a)
theorem k0_idx324_inb : ∀ (i : grid0.Coords) (k0_t10 : Fin (k0_t10_loop i).trips) (v233 : IVec S16 32) (k0_hw328 : k0_chk328 i k0_t10 v233), ∀ a x, ((![v233] : Fin 1 → IVec S16 32) a x).toNat < S32000.size a := fun i k0_t10 v233 k0_hw328 => k0_hw328
def k0_off358 (k0_t13 : Fin k0_t13_loop.trips) : Fin 2 → Nat :=
  let c3_i32_155 : BitVec 32 := 3#32
  let v236 : Index := Scalar.indexCast c3_i32_155
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk329 (i : grid0.Coords) (k0_t10 : Fin (k0_t10_loop i).trips) (v240 : IVec S16 32) : Prop :=
  (∀ a x, ((![v240] : Fin 1 → IVec S16 32) a x).toNat < S32000.size a)
theorem k0_idx325_inb : ∀ (i : grid0.Coords) (k0_t10 : Fin (k0_t10_loop i).trips) (v240 : IVec S16 32) (k0_hw329 : k0_chk329 i k0_t10 v240), ∀ a x, ((![v240] : Fin 1 → IVec S16 32) a x).toNat < S32000.size a := fun i k0_t10 v240 k0_hw329 => k0_hw329
def k0_off359 (k0_t13 : Fin k0_t13_loop.trips) : Fin 2 → Nat :=
  let c4_i32_158 : BitVec 32 := 4#32
  let v243 : Index := Scalar.indexCast c4_i32_158
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk330 (i : grid0.Coords) (k0_t10 : Fin (k0_t10_loop i).trips) (v247 : IVec S16 32) : Prop :=
  (∀ a x, ((![v247] : Fin 1 → IVec S16 32) a x).toNat < S32000.size a)
theorem k0_idx326_inb : ∀ (i : grid0.Coords) (k0_t10 : Fin (k0_t10_loop i).trips) (v247 : IVec S16 32) (k0_hw330 : k0_chk330 i k0_t10 v247), ∀ a x, ((![v247] : Fin 1 → IVec S16 32) a x).toNat < S32000.size a := fun i k0_t10 v247 k0_hw330 => k0_hw330
def k0_off360 (k0_t13 : Fin k0_t13_loop.trips) : Fin 2 → Nat :=
  let c5_i32_161 : BitVec 32 := 5#32
  let v250 : Index := Scalar.indexCast c5_i32_161
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk331 (i : grid0.Coords) (k0_t10 : Fin (k0_t10_loop i).trips) (v254 : IVec S16 32) : Prop :=
  (∀ a x, ((![v254] : Fin 1 → IVec S16 32) a x).toNat < S32000.size a)
theorem k0_idx327_inb : ∀ (i : grid0.Coords) (k0_t10 : Fin (k0_t10_loop i).trips) (v254 : IVec S16 32) (k0_hw331 : k0_chk331 i k0_t10 v254), ∀ a x, ((![v254] : Fin 1 → IVec S16 32) a x).toNat < S32000.size a := fun i k0_t10 v254 k0_hw331 => k0_hw331
def k0_off361 (k0_t13 : Fin k0_t13_loop.trips) : Fin 2 → Nat :=
  let c6_i32_164 : BitVec 32 := 6#32
  let v257 : Index := Scalar.indexCast c6_i32_164
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk332 (i : grid0.Coords) (k0_t10 : Fin (k0_t10_loop i).trips) (v261 : IVec S16 32) : Prop :=
  (∀ a x, ((![v261] : Fin 1 → IVec S16 32) a x).toNat < S32000.size a)
theorem k0_idx328_inb : ∀ (i : grid0.Coords) (k0_t10 : Fin (k0_t10_loop i).trips) (v261 : IVec S16 32) (k0_hw332 : k0_chk332 i k0_t10 v261), ∀ a x, ((![v261] : Fin 1 → IVec S16 32) a x).toNat < S32000.size a := fun i k0_t10 v261 k0_hw332 => k0_hw332
def k0_off362 (k0_t13 : Fin k0_t13_loop.trips) : Fin 2 → Nat :=
  let c7_i32_167 : BitVec 32 := 7#32
  let v264 : Index := Scalar.indexCast c7_i32_167
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk333 (i : grid0.Coords) (k0_t10 : Fin (k0_t10_loop i).trips) (v268 : IVec S16 32) : Prop :=
  (∀ a x, ((![v268] : Fin 1 → IVec S16 32) a x).toNat < S32000.size a)
theorem k0_idx329_inb : ∀ (i : grid0.Coords) (k0_t10 : Fin (k0_t10_loop i).trips) (v268 : IVec S16 32) (k0_hw333 : k0_chk333 i k0_t10 v268), ∀ a x, ((![v268] : Fin 1 → IVec S16 32) a x).toNat < S32000.size a := fun i k0_t10 v268 k0_hw333 => k0_hw333
def k0_off363 (k0_t13 : Fin k0_t13_loop.trips) : Fin 2 → Nat :=
  let c8_i32_170 : BitVec 32 := 8#32
  let v271 : Index := Scalar.indexCast c8_i32_170
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk334 (i : grid0.Coords) (k0_t10 : Fin (k0_t10_loop i).trips) (v275 : IVec S16 32) : Prop :=
  (∀ a x, ((![v275] : Fin 1 → IVec S16 32) a x).toNat < S32000.size a)
theorem k0_idx330_inb : ∀ (i : grid0.Coords) (k0_t10 : Fin (k0_t10_loop i).trips) (v275 : IVec S16 32) (k0_hw334 : k0_chk334 i k0_t10 v275), ∀ a x, ((![v275] : Fin 1 → IVec S16 32) a x).toNat < S32000.size a := fun i k0_t10 v275 k0_hw334 => k0_hw334
def k0_off364 (k0_t13 : Fin k0_t13_loop.trips) : Fin 2 → Nat :=
  let c9_i32_172 : BitVec 32 := 9#32
  let v278 : Index := Scalar.indexCast c9_i32_172
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk335 (i : grid0.Coords) (k0_t10 : Fin (k0_t10_loop i).trips) (v282 : IVec S16 32) : Prop :=
  (∀ a x, ((![v282] : Fin 1 → IVec S16 32) a x).toNat < S32000.size a)
theorem k0_idx331_inb : ∀ (i : grid0.Coords) (k0_t10 : Fin (k0_t10_loop i).trips) (v282 : IVec S16 32) (k0_hw335 : k0_chk335 i k0_t10 v282), ∀ a x, ((![v282] : Fin 1 → IVec S16 32) a x).toNat < S32000.size a := fun i k0_t10 v282 k0_hw335 => k0_hw335
def k0_off365 (k0_t13 : Fin k0_t13_loop.trips) : Fin 2 → Nat :=
  let c10_i32_174 : BitVec 32 := 10#32
  let v285 : Index := Scalar.indexCast c10_i32_174
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk336 (i : grid0.Coords) (k0_t10 : Fin (k0_t10_loop i).trips) (v289 : IVec S16 32) : Prop :=
  (∀ a x, ((![v289] : Fin 1 → IVec S16 32) a x).toNat < S32000.size a)
theorem k0_idx332_inb : ∀ (i : grid0.Coords) (k0_t10 : Fin (k0_t10_loop i).trips) (v289 : IVec S16 32) (k0_hw336 : k0_chk336 i k0_t10 v289), ∀ a x, ((![v289] : Fin 1 → IVec S16 32) a x).toNat < S32000.size a := fun i k0_t10 v289 k0_hw336 => k0_hw336
def k0_off366 (k0_t13 : Fin k0_t13_loop.trips) : Fin 2 → Nat :=
  let c11_i32_176 : BitVec 32 := 11#32
  let v292 : Index := Scalar.indexCast c11_i32_176
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk337 (i : grid0.Coords) (k0_t10 : Fin (k0_t10_loop i).trips) (v296 : IVec S16 32) : Prop :=
  (∀ a x, ((![v296] : Fin 1 → IVec S16 32) a x).toNat < S32000.size a)
theorem k0_idx333_inb : ∀ (i : grid0.Coords) (k0_t10 : Fin (k0_t10_loop i).trips) (v296 : IVec S16 32) (k0_hw337 : k0_chk337 i k0_t10 v296), ∀ a x, ((![v296] : Fin 1 → IVec S16 32) a x).toNat < S32000.size a := fun i k0_t10 v296 k0_hw337 => k0_hw337
def k0_off367 (k0_t13 : Fin k0_t13_loop.trips) : Fin 2 → Nat :=
  let c12_i32_178 : BitVec 32 := 12#32
  let v299 : Index := Scalar.indexCast c12_i32_178
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk338 (i : grid0.Coords) (k0_t10 : Fin (k0_t10_loop i).trips) (v303 : IVec S16 32) : Prop :=
  (∀ a x, ((![v303] : Fin 1 → IVec S16 32) a x).toNat < S32000.size a)
theorem k0_idx334_inb : ∀ (i : grid0.Coords) (k0_t10 : Fin (k0_t10_loop i).trips) (v303 : IVec S16 32) (k0_hw338 : k0_chk338 i k0_t10 v303), ∀ a x, ((![v303] : Fin 1 → IVec S16 32) a x).toNat < S32000.size a := fun i k0_t10 v303 k0_hw338 => k0_hw338
def k0_off368 (k0_t13 : Fin k0_t13_loop.trips) : Fin 2 → Nat :=
  let c13_i32_180 : BitVec 32 := 13#32
  let v306 : Index := Scalar.indexCast c13_i32_180
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk339 (i : grid0.Coords) (k0_t10 : Fin (k0_t10_loop i).trips) (v310 : IVec S16 32) : Prop :=
  (∀ a x, ((![v310] : Fin 1 → IVec S16 32) a x).toNat < S32000.size a)
theorem k0_idx335_inb : ∀ (i : grid0.Coords) (k0_t10 : Fin (k0_t10_loop i).trips) (v310 : IVec S16 32) (k0_hw339 : k0_chk339 i k0_t10 v310), ∀ a x, ((![v310] : Fin 1 → IVec S16 32) a x).toNat < S32000.size a := fun i k0_t10 v310 k0_hw339 => k0_hw339
def k0_off369 (k0_t13 : Fin k0_t13_loop.trips) : Fin 2 → Nat :=
  let c14_i32_182 : BitVec 32 := 14#32
  let v313 : Index := Scalar.indexCast c14_i32_182
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk340 (i : grid0.Coords) (k0_t10 : Fin (k0_t10_loop i).trips) (v317 : IVec S16 32) : Prop :=
  (∀ a x, ((![v317] : Fin 1 → IVec S16 32) a x).toNat < S32000.size a)
theorem k0_idx336_inb : ∀ (i : grid0.Coords) (k0_t10 : Fin (k0_t10_loop i).trips) (v317 : IVec S16 32) (k0_hw340 : k0_chk340 i k0_t10 v317), ∀ a x, ((![v317] : Fin 1 → IVec S16 32) a x).toNat < S32000.size a := fun i k0_t10 v317 k0_hw340 => k0_hw340
def k0_off370 (k0_t13 : Fin k0_t13_loop.trips) : Fin 2 → Nat :=
  let c15_i32_184 : BitVec 32 := 15#32
  let v320 : Index := Scalar.indexCast c15_i32_184
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk341 (i : grid0.Coords) (k0_t10 : Fin (k0_t10_loop i).trips) (v324 : IVec S16 32) : Prop :=
  (∀ a x, ((![v324] : Fin 1 → IVec S16 32) a x).toNat < S32000.size a)
theorem k0_idx337_inb : ∀ (i : grid0.Coords) (k0_t10 : Fin (k0_t10_loop i).trips) (v324 : IVec S16 32) (k0_hw341 : k0_chk341 i k0_t10 v324), ∀ a x, ((![v324] : Fin 1 → IVec S16 32) a x).toNat < S32000.size a := fun i k0_t10 v324 k0_hw341 => k0_hw341
def k0_off371 (k0_t13 : Fin k0_t13_loop.trips) : Fin 2 → Nat :=
  let c16_i32_187 : BitVec 32 := 16#32
  let v327 : Index := Scalar.indexCast c16_i32_187
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk342 (i : grid0.Coords) (k0_t10 : Fin (k0_t10_loop i).trips) (v331 : IVec S16 32) : Prop :=
  (∀ a x, ((![v331] : Fin 1 → IVec S16 32) a x).toNat < S32000.size a)
theorem k0_idx338_inb : ∀ (i : grid0.Coords) (k0_t10 : Fin (k0_t10_loop i).trips) (v331 : IVec S16 32) (k0_hw342 : k0_chk342 i k0_t10 v331), ∀ a x, ((![v331] : Fin 1 → IVec S16 32) a x).toNat < S32000.size a := fun i k0_t10 v331 k0_hw342 => k0_hw342
def k0_off372 (k0_t13 : Fin k0_t13_loop.trips) : Fin 2 → Nat :=
  let c17_i32_189 : BitVec 32 := 17#32
  let v334 : Index := Scalar.indexCast c17_i32_189
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk343 (i : grid0.Coords) (k0_t10 : Fin (k0_t10_loop i).trips) (v338 : IVec S16 32) : Prop :=
  (∀ a x, ((![v338] : Fin 1 → IVec S16 32) a x).toNat < S32000.size a)
theorem k0_idx339_inb : ∀ (i : grid0.Coords) (k0_t10 : Fin (k0_t10_loop i).trips) (v338 : IVec S16 32) (k0_hw343 : k0_chk343 i k0_t10 v338), ∀ a x, ((![v338] : Fin 1 → IVec S16 32) a x).toNat < S32000.size a := fun i k0_t10 v338 k0_hw343 => k0_hw343
def k0_off373 (k0_t13 : Fin k0_t13_loop.trips) : Fin 2 → Nat :=
  let c18_i32_191 : BitVec 32 := 18#32
  let v341 : Index := Scalar.indexCast c18_i32_191
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk344 (i : grid0.Coords) (k0_t10 : Fin (k0_t10_loop i).trips) (v345 : IVec S16 32) : Prop :=
  (∀ a x, ((![v345] : Fin 1 → IVec S16 32) a x).toNat < S32000.size a)
theorem k0_idx340_inb : ∀ (i : grid0.Coords) (k0_t10 : Fin (k0_t10_loop i).trips) (v345 : IVec S16 32) (k0_hw344 : k0_chk344 i k0_t10 v345), ∀ a x, ((![v345] : Fin 1 → IVec S16 32) a x).toNat < S32000.size a := fun i k0_t10 v345 k0_hw344 => k0_hw344
def k0_off374 (k0_t13 : Fin k0_t13_loop.trips) : Fin 2 → Nat :=
  let c19_i32_193 : BitVec 32 := 19#32
  let v348 : Index := Scalar.indexCast c19_i32_193
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk345 (i : grid0.Coords) (k0_t10 : Fin (k0_t10_loop i).trips) (v352 : IVec S16 32) : Prop :=
  (∀ a x, ((![v352] : Fin 1 → IVec S16 32) a x).toNat < S32000.size a)
theorem k0_idx341_inb : ∀ (i : grid0.Coords) (k0_t10 : Fin (k0_t10_loop i).trips) (v352 : IVec S16 32) (k0_hw345 : k0_chk345 i k0_t10 v352), ∀ a x, ((![v352] : Fin 1 → IVec S16 32) a x).toNat < S32000.size a := fun i k0_t10 v352 k0_hw345 => k0_hw345
def k0_off375 (k0_t13 : Fin k0_t13_loop.trips) : Fin 2 → Nat :=
  let c20_i32_195 : BitVec 32 := 20#32
  let v355 : Index := Scalar.indexCast c20_i32_195
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk346 (i : grid0.Coords) (k0_t10 : Fin (k0_t10_loop i).trips) (v359 : IVec S16 32) : Prop :=
  (∀ a x, ((![v359] : Fin 1 → IVec S16 32) a x).toNat < S32000.size a)
theorem k0_idx342_inb : ∀ (i : grid0.Coords) (k0_t10 : Fin (k0_t10_loop i).trips) (v359 : IVec S16 32) (k0_hw346 : k0_chk346 i k0_t10 v359), ∀ a x, ((![v359] : Fin 1 → IVec S16 32) a x).toNat < S32000.size a := fun i k0_t10 v359 k0_hw346 => k0_hw346
def k0_off376 (k0_t13 : Fin k0_t13_loop.trips) : Fin 2 → Nat :=
  let c21_i32_197 : BitVec 32 := 21#32
  let v362 : Index := Scalar.indexCast c21_i32_197
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk347 (i : grid0.Coords) (k0_t10 : Fin (k0_t10_loop i).trips) (v366 : IVec S16 32) : Prop :=
  (∀ a x, ((![v366] : Fin 1 → IVec S16 32) a x).toNat < S32000.size a)
theorem k0_idx343_inb : ∀ (i : grid0.Coords) (k0_t10 : Fin (k0_t10_loop i).trips) (v366 : IVec S16 32) (k0_hw347 : k0_chk347 i k0_t10 v366), ∀ a x, ((![v366] : Fin 1 → IVec S16 32) a x).toNat < S32000.size a := fun i k0_t10 v366 k0_hw347 => k0_hw347
def k0_off377 (k0_t13 : Fin k0_t13_loop.trips) : Fin 2 → Nat :=
  let c22_i32_199 : BitVec 32 := 22#32
  let v369 : Index := Scalar.indexCast c22_i32_199
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk348 (i : grid0.Coords) (k0_t10 : Fin (k0_t10_loop i).trips) (v373 : IVec S16 32) : Prop :=
  (∀ a x, ((![v373] : Fin 1 → IVec S16 32) a x).toNat < S32000.size a)
theorem k0_idx344_inb : ∀ (i : grid0.Coords) (k0_t10 : Fin (k0_t10_loop i).trips) (v373 : IVec S16 32) (k0_hw348 : k0_chk348 i k0_t10 v373), ∀ a x, ((![v373] : Fin 1 → IVec S16 32) a x).toNat < S32000.size a := fun i k0_t10 v373 k0_hw348 => k0_hw348
def k0_off378 (k0_t13 : Fin k0_t13_loop.trips) : Fin 2 → Nat :=
  let c23_i32_201 : BitVec 32 := 23#32
  let v376 : Index := Scalar.indexCast c23_i32_201
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk349 (i : grid0.Coords) (k0_t10 : Fin (k0_t10_loop i).trips) (v380 : IVec S16 32) : Prop :=
  (∀ a x, ((![v380] : Fin 1 → IVec S16 32) a x).toNat < S32000.size a)
theorem k0_idx345_inb : ∀ (i : grid0.Coords) (k0_t10 : Fin (k0_t10_loop i).trips) (v380 : IVec S16 32) (k0_hw349 : k0_chk349 i k0_t10 v380), ∀ a x, ((![v380] : Fin 1 → IVec S16 32) a x).toNat < S32000.size a := fun i k0_t10 v380 k0_hw349 => k0_hw349
def k0_off379 (k0_t13 : Fin k0_t13_loop.trips) : Fin 2 → Nat :=
  let c24_i32_203 : BitVec 32 := 24#32
  let v383 : Index := Scalar.indexCast c24_i32_203
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk350 (i : grid0.Coords) (k0_t10 : Fin (k0_t10_loop i).trips) (v387 : IVec S16 32) : Prop :=
  (∀ a x, ((![v387] : Fin 1 → IVec S16 32) a x).toNat < S32000.size a)
theorem k0_idx346_inb : ∀ (i : grid0.Coords) (k0_t10 : Fin (k0_t10_loop i).trips) (v387 : IVec S16 32) (k0_hw350 : k0_chk350 i k0_t10 v387), ∀ a x, ((![v387] : Fin 1 → IVec S16 32) a x).toNat < S32000.size a := fun i k0_t10 v387 k0_hw350 => k0_hw350
def k0_off380 (k0_t13 : Fin k0_t13_loop.trips) : Fin 2 → Nat :=
  let c25_i32_205 : BitVec 32 := 25#32
  let v390 : Index := Scalar.indexCast c25_i32_205
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk351 (i : grid0.Coords) (k0_t10 : Fin (k0_t10_loop i).trips) (v394 : IVec S16 32) : Prop :=
  (∀ a x, ((![v394] : Fin 1 → IVec S16 32) a x).toNat < S32000.size a)
theorem k0_idx347_inb : ∀ (i : grid0.Coords) (k0_t10 : Fin (k0_t10_loop i).trips) (v394 : IVec S16 32) (k0_hw351 : k0_chk351 i k0_t10 v394), ∀ a x, ((![v394] : Fin 1 → IVec S16 32) a x).toNat < S32000.size a := fun i k0_t10 v394 k0_hw351 => k0_hw351
def k0_off381 (k0_t13 : Fin k0_t13_loop.trips) : Fin 2 → Nat :=
  let c26_i32_207 : BitVec 32 := 26#32
  let v397 : Index := Scalar.indexCast c26_i32_207
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk352 (i : grid0.Coords) (k0_t10 : Fin (k0_t10_loop i).trips) (v401 : IVec S16 32) : Prop :=
  (∀ a x, ((![v401] : Fin 1 → IVec S16 32) a x).toNat < S32000.size a)
theorem k0_idx348_inb : ∀ (i : grid0.Coords) (k0_t10 : Fin (k0_t10_loop i).trips) (v401 : IVec S16 32) (k0_hw352 : k0_chk352 i k0_t10 v401), ∀ a x, ((![v401] : Fin 1 → IVec S16 32) a x).toNat < S32000.size a := fun i k0_t10 v401 k0_hw352 => k0_hw352
def k0_off382 (k0_t13 : Fin k0_t13_loop.trips) : Fin 2 → Nat :=
  let c27_i32_209 : BitVec 32 := 27#32
  let v404 : Index := Scalar.indexCast c27_i32_209
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk353 (i : grid0.Coords) (k0_t10 : Fin (k0_t10_loop i).trips) (v408 : IVec S16 32) : Prop :=
  (∀ a x, ((![v408] : Fin 1 → IVec S16 32) a x).toNat < S32000.size a)
theorem k0_idx349_inb : ∀ (i : grid0.Coords) (k0_t10 : Fin (k0_t10_loop i).trips) (v408 : IVec S16 32) (k0_hw353 : k0_chk353 i k0_t10 v408), ∀ a x, ((![v408] : Fin 1 → IVec S16 32) a x).toNat < S32000.size a := fun i k0_t10 v408 k0_hw353 => k0_hw353
def k0_off383 (k0_t13 : Fin k0_t13_loop.trips) : Fin 2 → Nat :=
  let c28_i32_211 : BitVec 32 := 28#32
  let v411 : Index := Scalar.indexCast c28_i32_211
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk354 (i : grid0.Coords) (k0_t10 : Fin (k0_t10_loop i).trips) (v415 : IVec S16 32) : Prop :=
  (∀ a x, ((![v415] : Fin 1 → IVec S16 32) a x).toNat < S32000.size a)
theorem k0_idx350_inb : ∀ (i : grid0.Coords) (k0_t10 : Fin (k0_t10_loop i).trips) (v415 : IVec S16 32) (k0_hw354 : k0_chk354 i k0_t10 v415), ∀ a x, ((![v415] : Fin 1 → IVec S16 32) a x).toNat < S32000.size a := fun i k0_t10 v415 k0_hw354 => k0_hw354
def k0_off384 (k0_t13 : Fin k0_t13_loop.trips) : Fin 2 → Nat :=
  let c29_i32_213 : BitVec 32 := 29#32
  let v418 : Index := Scalar.indexCast c29_i32_213
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk355 (i : grid0.Coords) (k0_t10 : Fin (k0_t10_loop i).trips) (v422 : IVec S16 32) : Prop :=
  (∀ a x, ((![v422] : Fin 1 → IVec S16 32) a x).toNat < S32000.size a)
theorem k0_idx351_inb : ∀ (i : grid0.Coords) (k0_t10 : Fin (k0_t10_loop i).trips) (v422 : IVec S16 32) (k0_hw355 : k0_chk355 i k0_t10 v422), ∀ a x, ((![v422] : Fin 1 → IVec S16 32) a x).toNat < S32000.size a := fun i k0_t10 v422 k0_hw355 => k0_hw355
def k0_off385 (k0_t13 : Fin k0_t13_loop.trips) : Fin 2 → Nat :=
  let c30_i32_215 : BitVec 32 := 30#32
  let v425 : Index := Scalar.indexCast c30_i32_215
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk356 (i : grid0.Coords) (k0_t10 : Fin (k0_t10_loop i).trips) (v429 : IVec S16 32) : Prop :=
  (∀ a x, ((![v429] : Fin 1 → IVec S16 32) a x).toNat < S32000.size a)
theorem k0_idx352_inb : ∀ (i : grid0.Coords) (k0_t10 : Fin (k0_t10_loop i).trips) (v429 : IVec S16 32) (k0_hw356 : k0_chk356 i k0_t10 v429), ∀ a x, ((![v429] : Fin 1 → IVec S16 32) a x).toNat < S32000.size a := fun i k0_t10 v429 k0_hw356 => k0_hw356
def k0_off386 (k0_t13 : Fin k0_t13_loop.trips) : Fin 2 → Nat :=
  let c31_i32_217 : BitVec 32 := 31#32
  let v432 : Index := Scalar.indexCast c31_i32_217
  let c0_i32_142 : BitVec 32 := 0#32
  let c0_i32_59 : BitVec 32 := 0#32
  let c1_i32_61 : BitVec 32 := 1#32
  let arg20 : BitVec 32 := Scf.iv c0_i32_59 c1_i32_61 k0_t13
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult45 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_63 : BitVec 32 := 32#32
  let v99 : BitVec 32 := Scalar.muli v35 c32_i32_63
  v99
def k0_mult46 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  v86
def k0_cond12 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  let c0_i32_73 : BitVec 32 := 0#32
  let v115 : BitVec 1 := Scalar.cmpi .sge v66 c0_i32_73
  let v116 : BitVec 32 := Scalar.extui v115
  let c0_i32_74 : BitVec 32 := 0#32
  let v117 : BitVec 1 := Scalar.cmpi .ne v116 c0_i32_74
  v117

def k0_mult47 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult48 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  v66
def k0_off387 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_32 : BitVec 32 := 8#32
  let v64 : BitVec 32 := Scalar.muli v37 c8_i32_32
  let c1_i32_33 : BitVec 32 := 1#32
  let v65 : BitVec 32 := Scalar.addi v64 c1_i32_33
  let c512_i32_34 : BitVec 32 := 512#32
  let v66 : BitVec 32 := Scalar.muli v65 c512_i32_34
  let v206 : BitVec 32 := v66
  ![v205.toNat, v206.toNat]
@[reducible] def k0_t14_loop : Scf.Loop 32 :=
  let c0_i32_75 : BitVec 32 := 0#32
  let c32_i32_76 : BitVec 32 := 32#32
  let v118 : BitVec 32 := Scalar.addi c0_i32_75 c32_i32_76
  let c1_i32_77 : BitVec 32 := 1#32
  ⟨c0_i32_75, v118, c1_i32_77⟩
def k0_off388 (k0_t14 : Fin k0_t14_loop.trips) : Fin 1 → Nat :=
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk357 (i : grid0.Coords) (k0_t10 : Fin (k0_t10_loop i).trips) (v212 : IVec S16 32) : Prop :=
  (∀ a x, ((![v212] : Fin 1 → IVec S16 32) a x).toNat < S32000.size a)
theorem k0_idx353_inb : ∀ (i : grid0.Coords) (k0_t10 : Fin (k0_t10_loop i).trips) (v212 : IVec S16 32) (k0_hw357 : k0_chk357 i k0_t10 v212), ∀ a x, ((![v212] : Fin 1 → IVec S16 32) a x).toNat < S32000.size a := fun i k0_t10 v212 k0_hw357 => k0_hw357
def k0_off389 (k0_t14 : Fin k0_t14_loop.trips) : Fin 2 → Nat :=
  let c0_i32_146 : BitVec 32 := 0#32
  let v215 : Index := Scalar.indexCast c0_i32_146
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk358 (i : grid0.Coords) (k0_t10 : Fin (k0_t10_loop i).trips) (v219 : IVec S16 32) : Prop :=
  (∀ a x, ((![v219] : Fin 1 → IVec S16 32) a x).toNat < S32000.size a)
theorem k0_idx354_inb : ∀ (i : grid0.Coords) (k0_t10 : Fin (k0_t10_loop i).trips) (v219 : IVec S16 32) (k0_hw358 : k0_chk358 i k0_t10 v219), ∀ a x, ((![v219] : Fin 1 → IVec S16 32) a x).toNat < S32000.size a := fun i k0_t10 v219 k0_hw358 => k0_hw358
def k0_off390 (k0_t14 : Fin k0_t14_loop.trips) : Fin 2 → Nat :=
  let c1_i32_149 : BitVec 32 := 1#32
  let v222 : Index := Scalar.indexCast c1_i32_149
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk359 (i : grid0.Coords) (k0_t10 : Fin (k0_t10_loop i).trips) (v226 : IVec S16 32) : Prop :=
  (∀ a x, ((![v226] : Fin 1 → IVec S16 32) a x).toNat < S32000.size a)
theorem k0_idx355_inb : ∀ (i : grid0.Coords) (k0_t10 : Fin (k0_t10_loop i).trips) (v226 : IVec S16 32) (k0_hw359 : k0_chk359 i k0_t10 v226), ∀ a x, ((![v226] : Fin 1 → IVec S16 32) a x).toNat < S32000.size a := fun i k0_t10 v226 k0_hw359 => k0_hw359
def k0_off391 (k0_t14 : Fin k0_t14_loop.trips) : Fin 2 → Nat :=
  let c2_i32_152 : BitVec 32 := 2#32
  let v229 : Index := Scalar.indexCast c2_i32_152
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk360 (i : grid0.Coords) (k0_t10 : Fin (k0_t10_loop i).trips) (v233 : IVec S16 32) : Prop :=
  (∀ a x, ((![v233] : Fin 1 → IVec S16 32) a x).toNat < S32000.size a)
theorem k0_idx356_inb : ∀ (i : grid0.Coords) (k0_t10 : Fin (k0_t10_loop i).trips) (v233 : IVec S16 32) (k0_hw360 : k0_chk360 i k0_t10 v233), ∀ a x, ((![v233] : Fin 1 → IVec S16 32) a x).toNat < S32000.size a := fun i k0_t10 v233 k0_hw360 => k0_hw360
def k0_off392 (k0_t14 : Fin k0_t14_loop.trips) : Fin 2 → Nat :=
  let c3_i32_155 : BitVec 32 := 3#32
  let v236 : Index := Scalar.indexCast c3_i32_155
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk361 (i : grid0.Coords) (k0_t10 : Fin (k0_t10_loop i).trips) (v240 : IVec S16 32) : Prop :=
  (∀ a x, ((![v240] : Fin 1 → IVec S16 32) a x).toNat < S32000.size a)
theorem k0_idx357_inb : ∀ (i : grid0.Coords) (k0_t10 : Fin (k0_t10_loop i).trips) (v240 : IVec S16 32) (k0_hw361 : k0_chk361 i k0_t10 v240), ∀ a x, ((![v240] : Fin 1 → IVec S16 32) a x).toNat < S32000.size a := fun i k0_t10 v240 k0_hw361 => k0_hw361
def k0_off393 (k0_t14 : Fin k0_t14_loop.trips) : Fin 2 → Nat :=
  let c4_i32_158 : BitVec 32 := 4#32
  let v243 : Index := Scalar.indexCast c4_i32_158
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk362 (i : grid0.Coords) (k0_t10 : Fin (k0_t10_loop i).trips) (v247 : IVec S16 32) : Prop :=
  (∀ a x, ((![v247] : Fin 1 → IVec S16 32) a x).toNat < S32000.size a)
theorem k0_idx358_inb : ∀ (i : grid0.Coords) (k0_t10 : Fin (k0_t10_loop i).trips) (v247 : IVec S16 32) (k0_hw362 : k0_chk362 i k0_t10 v247), ∀ a x, ((![v247] : Fin 1 → IVec S16 32) a x).toNat < S32000.size a := fun i k0_t10 v247 k0_hw362 => k0_hw362
def k0_off394 (k0_t14 : Fin k0_t14_loop.trips) : Fin 2 → Nat :=
  let c5_i32_161 : BitVec 32 := 5#32
  let v250 : Index := Scalar.indexCast c5_i32_161
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk363 (i : grid0.Coords) (k0_t10 : Fin (k0_t10_loop i).trips) (v254 : IVec S16 32) : Prop :=
  (∀ a x, ((![v254] : Fin 1 → IVec S16 32) a x).toNat < S32000.size a)
theorem k0_idx359_inb : ∀ (i : grid0.Coords) (k0_t10 : Fin (k0_t10_loop i).trips) (v254 : IVec S16 32) (k0_hw363 : k0_chk363 i k0_t10 v254), ∀ a x, ((![v254] : Fin 1 → IVec S16 32) a x).toNat < S32000.size a := fun i k0_t10 v254 k0_hw363 => k0_hw363
def k0_off395 (k0_t14 : Fin k0_t14_loop.trips) : Fin 2 → Nat :=
  let c6_i32_164 : BitVec 32 := 6#32
  let v257 : Index := Scalar.indexCast c6_i32_164
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk364 (i : grid0.Coords) (k0_t10 : Fin (k0_t10_loop i).trips) (v261 : IVec S16 32) : Prop :=
  (∀ a x, ((![v261] : Fin 1 → IVec S16 32) a x).toNat < S32000.size a)
theorem k0_idx360_inb : ∀ (i : grid0.Coords) (k0_t10 : Fin (k0_t10_loop i).trips) (v261 : IVec S16 32) (k0_hw364 : k0_chk364 i k0_t10 v261), ∀ a x, ((![v261] : Fin 1 → IVec S16 32) a x).toNat < S32000.size a := fun i k0_t10 v261 k0_hw364 => k0_hw364
def k0_off396 (k0_t14 : Fin k0_t14_loop.trips) : Fin 2 → Nat :=
  let c7_i32_167 : BitVec 32 := 7#32
  let v264 : Index := Scalar.indexCast c7_i32_167
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk365 (i : grid0.Coords) (k0_t10 : Fin (k0_t10_loop i).trips) (v268 : IVec S16 32) : Prop :=
  (∀ a x, ((![v268] : Fin 1 → IVec S16 32) a x).toNat < S32000.size a)
theorem k0_idx361_inb : ∀ (i : grid0.Coords) (k0_t10 : Fin (k0_t10_loop i).trips) (v268 : IVec S16 32) (k0_hw365 : k0_chk365 i k0_t10 v268), ∀ a x, ((![v268] : Fin 1 → IVec S16 32) a x).toNat < S32000.size a := fun i k0_t10 v268 k0_hw365 => k0_hw365
def k0_off397 (k0_t14 : Fin k0_t14_loop.trips) : Fin 2 → Nat :=
  let c8_i32_170 : BitVec 32 := 8#32
  let v271 : Index := Scalar.indexCast c8_i32_170
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk366 (i : grid0.Coords) (k0_t10 : Fin (k0_t10_loop i).trips) (v275 : IVec S16 32) : Prop :=
  (∀ a x, ((![v275] : Fin 1 → IVec S16 32) a x).toNat < S32000.size a)
theorem k0_idx362_inb : ∀ (i : grid0.Coords) (k0_t10 : Fin (k0_t10_loop i).trips) (v275 : IVec S16 32) (k0_hw366 : k0_chk366 i k0_t10 v275), ∀ a x, ((![v275] : Fin 1 → IVec S16 32) a x).toNat < S32000.size a := fun i k0_t10 v275 k0_hw366 => k0_hw366
def k0_off398 (k0_t14 : Fin k0_t14_loop.trips) : Fin 2 → Nat :=
  let c9_i32_172 : BitVec 32 := 9#32
  let v278 : Index := Scalar.indexCast c9_i32_172
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk367 (i : grid0.Coords) (k0_t10 : Fin (k0_t10_loop i).trips) (v282 : IVec S16 32) : Prop :=
  (∀ a x, ((![v282] : Fin 1 → IVec S16 32) a x).toNat < S32000.size a)
theorem k0_idx363_inb : ∀ (i : grid0.Coords) (k0_t10 : Fin (k0_t10_loop i).trips) (v282 : IVec S16 32) (k0_hw367 : k0_chk367 i k0_t10 v282), ∀ a x, ((![v282] : Fin 1 → IVec S16 32) a x).toNat < S32000.size a := fun i k0_t10 v282 k0_hw367 => k0_hw367
def k0_off399 (k0_t14 : Fin k0_t14_loop.trips) : Fin 2 → Nat :=
  let c10_i32_174 : BitVec 32 := 10#32
  let v285 : Index := Scalar.indexCast c10_i32_174
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk368 (i : grid0.Coords) (k0_t10 : Fin (k0_t10_loop i).trips) (v289 : IVec S16 32) : Prop :=
  (∀ a x, ((![v289] : Fin 1 → IVec S16 32) a x).toNat < S32000.size a)
theorem k0_idx364_inb : ∀ (i : grid0.Coords) (k0_t10 : Fin (k0_t10_loop i).trips) (v289 : IVec S16 32) (k0_hw368 : k0_chk368 i k0_t10 v289), ∀ a x, ((![v289] : Fin 1 → IVec S16 32) a x).toNat < S32000.size a := fun i k0_t10 v289 k0_hw368 => k0_hw368
def k0_off400 (k0_t14 : Fin k0_t14_loop.trips) : Fin 2 → Nat :=
  let c11_i32_176 : BitVec 32 := 11#32
  let v292 : Index := Scalar.indexCast c11_i32_176
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk369 (i : grid0.Coords) (k0_t10 : Fin (k0_t10_loop i).trips) (v296 : IVec S16 32) : Prop :=
  (∀ a x, ((![v296] : Fin 1 → IVec S16 32) a x).toNat < S32000.size a)
theorem k0_idx365_inb : ∀ (i : grid0.Coords) (k0_t10 : Fin (k0_t10_loop i).trips) (v296 : IVec S16 32) (k0_hw369 : k0_chk369 i k0_t10 v296), ∀ a x, ((![v296] : Fin 1 → IVec S16 32) a x).toNat < S32000.size a := fun i k0_t10 v296 k0_hw369 => k0_hw369
def k0_off401 (k0_t14 : Fin k0_t14_loop.trips) : Fin 2 → Nat :=
  let c12_i32_178 : BitVec 32 := 12#32
  let v299 : Index := Scalar.indexCast c12_i32_178
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk370 (i : grid0.Coords) (k0_t10 : Fin (k0_t10_loop i).trips) (v303 : IVec S16 32) : Prop :=
  (∀ a x, ((![v303] : Fin 1 → IVec S16 32) a x).toNat < S32000.size a)
theorem k0_idx366_inb : ∀ (i : grid0.Coords) (k0_t10 : Fin (k0_t10_loop i).trips) (v303 : IVec S16 32) (k0_hw370 : k0_chk370 i k0_t10 v303), ∀ a x, ((![v303] : Fin 1 → IVec S16 32) a x).toNat < S32000.size a := fun i k0_t10 v303 k0_hw370 => k0_hw370
def k0_off402 (k0_t14 : Fin k0_t14_loop.trips) : Fin 2 → Nat :=
  let c13_i32_180 : BitVec 32 := 13#32
  let v306 : Index := Scalar.indexCast c13_i32_180
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk371 (i : grid0.Coords) (k0_t10 : Fin (k0_t10_loop i).trips) (v310 : IVec S16 32) : Prop :=
  (∀ a x, ((![v310] : Fin 1 → IVec S16 32) a x).toNat < S32000.size a)
theorem k0_idx367_inb : ∀ (i : grid0.Coords) (k0_t10 : Fin (k0_t10_loop i).trips) (v310 : IVec S16 32) (k0_hw371 : k0_chk371 i k0_t10 v310), ∀ a x, ((![v310] : Fin 1 → IVec S16 32) a x).toNat < S32000.size a := fun i k0_t10 v310 k0_hw371 => k0_hw371
def k0_off403 (k0_t14 : Fin k0_t14_loop.trips) : Fin 2 → Nat :=
  let c14_i32_182 : BitVec 32 := 14#32
  let v313 : Index := Scalar.indexCast c14_i32_182
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk372 (i : grid0.Coords) (k0_t10 : Fin (k0_t10_loop i).trips) (v317 : IVec S16 32) : Prop :=
  (∀ a x, ((![v317] : Fin 1 → IVec S16 32) a x).toNat < S32000.size a)
theorem k0_idx368_inb : ∀ (i : grid0.Coords) (k0_t10 : Fin (k0_t10_loop i).trips) (v317 : IVec S16 32) (k0_hw372 : k0_chk372 i k0_t10 v317), ∀ a x, ((![v317] : Fin 1 → IVec S16 32) a x).toNat < S32000.size a := fun i k0_t10 v317 k0_hw372 => k0_hw372
def k0_off404 (k0_t14 : Fin k0_t14_loop.trips) : Fin 2 → Nat :=
  let c15_i32_184 : BitVec 32 := 15#32
  let v320 : Index := Scalar.indexCast c15_i32_184
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk373 (i : grid0.Coords) (k0_t10 : Fin (k0_t10_loop i).trips) (v324 : IVec S16 32) : Prop :=
  (∀ a x, ((![v324] : Fin 1 → IVec S16 32) a x).toNat < S32000.size a)
theorem k0_idx369_inb : ∀ (i : grid0.Coords) (k0_t10 : Fin (k0_t10_loop i).trips) (v324 : IVec S16 32) (k0_hw373 : k0_chk373 i k0_t10 v324), ∀ a x, ((![v324] : Fin 1 → IVec S16 32) a x).toNat < S32000.size a := fun i k0_t10 v324 k0_hw373 => k0_hw373
def k0_off405 (k0_t14 : Fin k0_t14_loop.trips) : Fin 2 → Nat :=
  let c16_i32_187 : BitVec 32 := 16#32
  let v327 : Index := Scalar.indexCast c16_i32_187
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk374 (i : grid0.Coords) (k0_t10 : Fin (k0_t10_loop i).trips) (v331 : IVec S16 32) : Prop :=
  (∀ a x, ((![v331] : Fin 1 → IVec S16 32) a x).toNat < S32000.size a)
theorem k0_idx370_inb : ∀ (i : grid0.Coords) (k0_t10 : Fin (k0_t10_loop i).trips) (v331 : IVec S16 32) (k0_hw374 : k0_chk374 i k0_t10 v331), ∀ a x, ((![v331] : Fin 1 → IVec S16 32) a x).toNat < S32000.size a := fun i k0_t10 v331 k0_hw374 => k0_hw374
def k0_off406 (k0_t14 : Fin k0_t14_loop.trips) : Fin 2 → Nat :=
  let c17_i32_189 : BitVec 32 := 17#32
  let v334 : Index := Scalar.indexCast c17_i32_189
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk375 (i : grid0.Coords) (k0_t10 : Fin (k0_t10_loop i).trips) (v338 : IVec S16 32) : Prop :=
  (∀ a x, ((![v338] : Fin 1 → IVec S16 32) a x).toNat < S32000.size a)
theorem k0_idx371_inb : ∀ (i : grid0.Coords) (k0_t10 : Fin (k0_t10_loop i).trips) (v338 : IVec S16 32) (k0_hw375 : k0_chk375 i k0_t10 v338), ∀ a x, ((![v338] : Fin 1 → IVec S16 32) a x).toNat < S32000.size a := fun i k0_t10 v338 k0_hw375 => k0_hw375
def k0_off407 (k0_t14 : Fin k0_t14_loop.trips) : Fin 2 → Nat :=
  let c18_i32_191 : BitVec 32 := 18#32
  let v341 : Index := Scalar.indexCast c18_i32_191
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk376 (i : grid0.Coords) (k0_t10 : Fin (k0_t10_loop i).trips) (v345 : IVec S16 32) : Prop :=
  (∀ a x, ((![v345] : Fin 1 → IVec S16 32) a x).toNat < S32000.size a)
theorem k0_idx372_inb : ∀ (i : grid0.Coords) (k0_t10 : Fin (k0_t10_loop i).trips) (v345 : IVec S16 32) (k0_hw376 : k0_chk376 i k0_t10 v345), ∀ a x, ((![v345] : Fin 1 → IVec S16 32) a x).toNat < S32000.size a := fun i k0_t10 v345 k0_hw376 => k0_hw376
def k0_off408 (k0_t14 : Fin k0_t14_loop.trips) : Fin 2 → Nat :=
  let c19_i32_193 : BitVec 32 := 19#32
  let v348 : Index := Scalar.indexCast c19_i32_193
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk377 (i : grid0.Coords) (k0_t10 : Fin (k0_t10_loop i).trips) (v352 : IVec S16 32) : Prop :=
  (∀ a x, ((![v352] : Fin 1 → IVec S16 32) a x).toNat < S32000.size a)
theorem k0_idx373_inb : ∀ (i : grid0.Coords) (k0_t10 : Fin (k0_t10_loop i).trips) (v352 : IVec S16 32) (k0_hw377 : k0_chk377 i k0_t10 v352), ∀ a x, ((![v352] : Fin 1 → IVec S16 32) a x).toNat < S32000.size a := fun i k0_t10 v352 k0_hw377 => k0_hw377
def k0_off409 (k0_t14 : Fin k0_t14_loop.trips) : Fin 2 → Nat :=
  let c20_i32_195 : BitVec 32 := 20#32
  let v355 : Index := Scalar.indexCast c20_i32_195
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk378 (i : grid0.Coords) (k0_t10 : Fin (k0_t10_loop i).trips) (v359 : IVec S16 32) : Prop :=
  (∀ a x, ((![v359] : Fin 1 → IVec S16 32) a x).toNat < S32000.size a)
theorem k0_idx374_inb : ∀ (i : grid0.Coords) (k0_t10 : Fin (k0_t10_loop i).trips) (v359 : IVec S16 32) (k0_hw378 : k0_chk378 i k0_t10 v359), ∀ a x, ((![v359] : Fin 1 → IVec S16 32) a x).toNat < S32000.size a := fun i k0_t10 v359 k0_hw378 => k0_hw378
def k0_off410 (k0_t14 : Fin k0_t14_loop.trips) : Fin 2 → Nat :=
  let c21_i32_197 : BitVec 32 := 21#32
  let v362 : Index := Scalar.indexCast c21_i32_197
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk379 (i : grid0.Coords) (k0_t10 : Fin (k0_t10_loop i).trips) (v366 : IVec S16 32) : Prop :=
  (∀ a x, ((![v366] : Fin 1 → IVec S16 32) a x).toNat < S32000.size a)
theorem k0_idx375_inb : ∀ (i : grid0.Coords) (k0_t10 : Fin (k0_t10_loop i).trips) (v366 : IVec S16 32) (k0_hw379 : k0_chk379 i k0_t10 v366), ∀ a x, ((![v366] : Fin 1 → IVec S16 32) a x).toNat < S32000.size a := fun i k0_t10 v366 k0_hw379 => k0_hw379
def k0_off411 (k0_t14 : Fin k0_t14_loop.trips) : Fin 2 → Nat :=
  let c22_i32_199 : BitVec 32 := 22#32
  let v369 : Index := Scalar.indexCast c22_i32_199
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk380 (i : grid0.Coords) (k0_t10 : Fin (k0_t10_loop i).trips) (v373 : IVec S16 32) : Prop :=
  (∀ a x, ((![v373] : Fin 1 → IVec S16 32) a x).toNat < S32000.size a)
theorem k0_idx376_inb : ∀ (i : grid0.Coords) (k0_t10 : Fin (k0_t10_loop i).trips) (v373 : IVec S16 32) (k0_hw380 : k0_chk380 i k0_t10 v373), ∀ a x, ((![v373] : Fin 1 → IVec S16 32) a x).toNat < S32000.size a := fun i k0_t10 v373 k0_hw380 => k0_hw380
def k0_off412 (k0_t14 : Fin k0_t14_loop.trips) : Fin 2 → Nat :=
  let c23_i32_201 : BitVec 32 := 23#32
  let v376 : Index := Scalar.indexCast c23_i32_201
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk381 (i : grid0.Coords) (k0_t10 : Fin (k0_t10_loop i).trips) (v380 : IVec S16 32) : Prop :=
  (∀ a x, ((![v380] : Fin 1 → IVec S16 32) a x).toNat < S32000.size a)
theorem k0_idx377_inb : ∀ (i : grid0.Coords) (k0_t10 : Fin (k0_t10_loop i).trips) (v380 : IVec S16 32) (k0_hw381 : k0_chk381 i k0_t10 v380), ∀ a x, ((![v380] : Fin 1 → IVec S16 32) a x).toNat < S32000.size a := fun i k0_t10 v380 k0_hw381 => k0_hw381
def k0_off413 (k0_t14 : Fin k0_t14_loop.trips) : Fin 2 → Nat :=
  let c24_i32_203 : BitVec 32 := 24#32
  let v383 : Index := Scalar.indexCast c24_i32_203
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk382 (i : grid0.Coords) (k0_t10 : Fin (k0_t10_loop i).trips) (v387 : IVec S16 32) : Prop :=
  (∀ a x, ((![v387] : Fin 1 → IVec S16 32) a x).toNat < S32000.size a)
theorem k0_idx378_inb : ∀ (i : grid0.Coords) (k0_t10 : Fin (k0_t10_loop i).trips) (v387 : IVec S16 32) (k0_hw382 : k0_chk382 i k0_t10 v387), ∀ a x, ((![v387] : Fin 1 → IVec S16 32) a x).toNat < S32000.size a := fun i k0_t10 v387 k0_hw382 => k0_hw382
def k0_off414 (k0_t14 : Fin k0_t14_loop.trips) : Fin 2 → Nat :=
  let c25_i32_205 : BitVec 32 := 25#32
  let v390 : Index := Scalar.indexCast c25_i32_205
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk383 (i : grid0.Coords) (k0_t10 : Fin (k0_t10_loop i).trips) (v394 : IVec S16 32) : Prop :=
  (∀ a x, ((![v394] : Fin 1 → IVec S16 32) a x).toNat < S32000.size a)
theorem k0_idx379_inb : ∀ (i : grid0.Coords) (k0_t10 : Fin (k0_t10_loop i).trips) (v394 : IVec S16 32) (k0_hw383 : k0_chk383 i k0_t10 v394), ∀ a x, ((![v394] : Fin 1 → IVec S16 32) a x).toNat < S32000.size a := fun i k0_t10 v394 k0_hw383 => k0_hw383
def k0_off415 (k0_t14 : Fin k0_t14_loop.trips) : Fin 2 → Nat :=
  let c26_i32_207 : BitVec 32 := 26#32
  let v397 : Index := Scalar.indexCast c26_i32_207
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk384 (i : grid0.Coords) (k0_t10 : Fin (k0_t10_loop i).trips) (v401 : IVec S16 32) : Prop :=
  (∀ a x, ((![v401] : Fin 1 → IVec S16 32) a x).toNat < S32000.size a)
theorem k0_idx380_inb : ∀ (i : grid0.Coords) (k0_t10 : Fin (k0_t10_loop i).trips) (v401 : IVec S16 32) (k0_hw384 : k0_chk384 i k0_t10 v401), ∀ a x, ((![v401] : Fin 1 → IVec S16 32) a x).toNat < S32000.size a := fun i k0_t10 v401 k0_hw384 => k0_hw384
def k0_off416 (k0_t14 : Fin k0_t14_loop.trips) : Fin 2 → Nat :=
  let c27_i32_209 : BitVec 32 := 27#32
  let v404 : Index := Scalar.indexCast c27_i32_209
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk385 (i : grid0.Coords) (k0_t10 : Fin (k0_t10_loop i).trips) (v408 : IVec S16 32) : Prop :=
  (∀ a x, ((![v408] : Fin 1 → IVec S16 32) a x).toNat < S32000.size a)
theorem k0_idx381_inb : ∀ (i : grid0.Coords) (k0_t10 : Fin (k0_t10_loop i).trips) (v408 : IVec S16 32) (k0_hw385 : k0_chk385 i k0_t10 v408), ∀ a x, ((![v408] : Fin 1 → IVec S16 32) a x).toNat < S32000.size a := fun i k0_t10 v408 k0_hw385 => k0_hw385
def k0_off417 (k0_t14 : Fin k0_t14_loop.trips) : Fin 2 → Nat :=
  let c28_i32_211 : BitVec 32 := 28#32
  let v411 : Index := Scalar.indexCast c28_i32_211
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk386 (i : grid0.Coords) (k0_t10 : Fin (k0_t10_loop i).trips) (v415 : IVec S16 32) : Prop :=
  (∀ a x, ((![v415] : Fin 1 → IVec S16 32) a x).toNat < S32000.size a)
theorem k0_idx382_inb : ∀ (i : grid0.Coords) (k0_t10 : Fin (k0_t10_loop i).trips) (v415 : IVec S16 32) (k0_hw386 : k0_chk386 i k0_t10 v415), ∀ a x, ((![v415] : Fin 1 → IVec S16 32) a x).toNat < S32000.size a := fun i k0_t10 v415 k0_hw386 => k0_hw386
def k0_off418 (k0_t14 : Fin k0_t14_loop.trips) : Fin 2 → Nat :=
  let c29_i32_213 : BitVec 32 := 29#32
  let v418 : Index := Scalar.indexCast c29_i32_213
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk387 (i : grid0.Coords) (k0_t10 : Fin (k0_t10_loop i).trips) (v422 : IVec S16 32) : Prop :=
  (∀ a x, ((![v422] : Fin 1 → IVec S16 32) a x).toNat < S32000.size a)
theorem k0_idx383_inb : ∀ (i : grid0.Coords) (k0_t10 : Fin (k0_t10_loop i).trips) (v422 : IVec S16 32) (k0_hw387 : k0_chk387 i k0_t10 v422), ∀ a x, ((![v422] : Fin 1 → IVec S16 32) a x).toNat < S32000.size a := fun i k0_t10 v422 k0_hw387 => k0_hw387
def k0_off419 (k0_t14 : Fin k0_t14_loop.trips) : Fin 2 → Nat :=
  let c30_i32_215 : BitVec 32 := 30#32
  let v425 : Index := Scalar.indexCast c30_i32_215
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk388 (i : grid0.Coords) (k0_t10 : Fin (k0_t10_loop i).trips) (v429 : IVec S16 32) : Prop :=
  (∀ a x, ((![v429] : Fin 1 → IVec S16 32) a x).toNat < S32000.size a)
theorem k0_idx384_inb : ∀ (i : grid0.Coords) (k0_t10 : Fin (k0_t10_loop i).trips) (v429 : IVec S16 32) (k0_hw388 : k0_chk388 i k0_t10 v429), ∀ a x, ((![v429] : Fin 1 → IVec S16 32) a x).toNat < S32000.size a := fun i k0_t10 v429 k0_hw388 => k0_hw388
def k0_off420 (k0_t14 : Fin k0_t14_loop.trips) : Fin 2 → Nat :=
  let c31_i32_217 : BitVec 32 := 31#32
  let v432 : Index := Scalar.indexCast c31_i32_217
  let c0_i32_142 : BitVec 32 := 0#32
  let c0_i32_75 : BitVec 32 := 0#32
  let c1_i32_77 : BitVec 32 := 1#32
  let arg20 : BitVec 32 := Scf.iv c0_i32_75 c1_i32_77 k0_t14
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult49 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_79 : BitVec 32 := 32#32
  let v119 : BitVec 32 := Scalar.muli v35 c32_i32_79
  v119
def k0_mult50 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  v106
def k0_cond13 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  let c0_i32_89 : BitVec 32 := 0#32
  let v135 : BitVec 1 := Scalar.cmpi .sge v86 c0_i32_89
  let v136 : BitVec 32 := Scalar.extui v135
  let c0_i32_90 : BitVec 32 := 0#32
  let v137 : BitVec 1 := Scalar.cmpi .ne v136 c0_i32_90
  v137

def k0_mult51 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult52 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  v86
def k0_off421 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_48 : BitVec 32 := 8#32
  let v84 : BitVec 32 := Scalar.muli v37 c8_i32_48
  let c2_i32_49 : BitVec 32 := 2#32
  let v85 : BitVec 32 := Scalar.addi v84 c2_i32_49
  let c512_i32_50 : BitVec 32 := 512#32
  let v86 : BitVec 32 := Scalar.muli v85 c512_i32_50
  let v206 : BitVec 32 := v86
  ![v205.toNat, v206.toNat]
@[reducible] def k0_t15_loop : Scf.Loop 32 :=
  let c0_i32_91 : BitVec 32 := 0#32
  let c32_i32_92 : BitVec 32 := 32#32
  let v138 : BitVec 32 := Scalar.addi c0_i32_91 c32_i32_92
  let c1_i32_93 : BitVec 32 := 1#32
  ⟨c0_i32_91, v138, c1_i32_93⟩
def k0_off422 (k0_t15 : Fin k0_t15_loop.trips) : Fin 1 → Nat :=
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk389 (i : grid0.Coords) (k0_t10 : Fin (k0_t10_loop i).trips) (v212 : IVec S16 32) : Prop :=
  (∀ a x, ((![v212] : Fin 1 → IVec S16 32) a x).toNat < S32000.size a)
theorem k0_idx385_inb : ∀ (i : grid0.Coords) (k0_t10 : Fin (k0_t10_loop i).trips) (v212 : IVec S16 32) (k0_hw389 : k0_chk389 i k0_t10 v212), ∀ a x, ((![v212] : Fin 1 → IVec S16 32) a x).toNat < S32000.size a := fun i k0_t10 v212 k0_hw389 => k0_hw389
def k0_off423 (k0_t15 : Fin k0_t15_loop.trips) : Fin 2 → Nat :=
  let c0_i32_146 : BitVec 32 := 0#32
  let v215 : Index := Scalar.indexCast c0_i32_146
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk390 (i : grid0.Coords) (k0_t10 : Fin (k0_t10_loop i).trips) (v219 : IVec S16 32) : Prop :=
  (∀ a x, ((![v219] : Fin 1 → IVec S16 32) a x).toNat < S32000.size a)
theorem k0_idx386_inb : ∀ (i : grid0.Coords) (k0_t10 : Fin (k0_t10_loop i).trips) (v219 : IVec S16 32) (k0_hw390 : k0_chk390 i k0_t10 v219), ∀ a x, ((![v219] : Fin 1 → IVec S16 32) a x).toNat < S32000.size a := fun i k0_t10 v219 k0_hw390 => k0_hw390
def k0_off424 (k0_t15 : Fin k0_t15_loop.trips) : Fin 2 → Nat :=
  let c1_i32_149 : BitVec 32 := 1#32
  let v222 : Index := Scalar.indexCast c1_i32_149
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk391 (i : grid0.Coords) (k0_t10 : Fin (k0_t10_loop i).trips) (v226 : IVec S16 32) : Prop :=
  (∀ a x, ((![v226] : Fin 1 → IVec S16 32) a x).toNat < S32000.size a)
theorem k0_idx387_inb : ∀ (i : grid0.Coords) (k0_t10 : Fin (k0_t10_loop i).trips) (v226 : IVec S16 32) (k0_hw391 : k0_chk391 i k0_t10 v226), ∀ a x, ((![v226] : Fin 1 → IVec S16 32) a x).toNat < S32000.size a := fun i k0_t10 v226 k0_hw391 => k0_hw391
def k0_off425 (k0_t15 : Fin k0_t15_loop.trips) : Fin 2 → Nat :=
  let c2_i32_152 : BitVec 32 := 2#32
  let v229 : Index := Scalar.indexCast c2_i32_152
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk392 (i : grid0.Coords) (k0_t10 : Fin (k0_t10_loop i).trips) (v233 : IVec S16 32) : Prop :=
  (∀ a x, ((![v233] : Fin 1 → IVec S16 32) a x).toNat < S32000.size a)
theorem k0_idx388_inb : ∀ (i : grid0.Coords) (k0_t10 : Fin (k0_t10_loop i).trips) (v233 : IVec S16 32) (k0_hw392 : k0_chk392 i k0_t10 v233), ∀ a x, ((![v233] : Fin 1 → IVec S16 32) a x).toNat < S32000.size a := fun i k0_t10 v233 k0_hw392 => k0_hw392
def k0_off426 (k0_t15 : Fin k0_t15_loop.trips) : Fin 2 → Nat :=
  let c3_i32_155 : BitVec 32 := 3#32
  let v236 : Index := Scalar.indexCast c3_i32_155
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk393 (i : grid0.Coords) (k0_t10 : Fin (k0_t10_loop i).trips) (v240 : IVec S16 32) : Prop :=
  (∀ a x, ((![v240] : Fin 1 → IVec S16 32) a x).toNat < S32000.size a)
theorem k0_idx389_inb : ∀ (i : grid0.Coords) (k0_t10 : Fin (k0_t10_loop i).trips) (v240 : IVec S16 32) (k0_hw393 : k0_chk393 i k0_t10 v240), ∀ a x, ((![v240] : Fin 1 → IVec S16 32) a x).toNat < S32000.size a := fun i k0_t10 v240 k0_hw393 => k0_hw393
def k0_off427 (k0_t15 : Fin k0_t15_loop.trips) : Fin 2 → Nat :=
  let c4_i32_158 : BitVec 32 := 4#32
  let v243 : Index := Scalar.indexCast c4_i32_158
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk394 (i : grid0.Coords) (k0_t10 : Fin (k0_t10_loop i).trips) (v247 : IVec S16 32) : Prop :=
  (∀ a x, ((![v247] : Fin 1 → IVec S16 32) a x).toNat < S32000.size a)
theorem k0_idx390_inb : ∀ (i : grid0.Coords) (k0_t10 : Fin (k0_t10_loop i).trips) (v247 : IVec S16 32) (k0_hw394 : k0_chk394 i k0_t10 v247), ∀ a x, ((![v247] : Fin 1 → IVec S16 32) a x).toNat < S32000.size a := fun i k0_t10 v247 k0_hw394 => k0_hw394
def k0_off428 (k0_t15 : Fin k0_t15_loop.trips) : Fin 2 → Nat :=
  let c5_i32_161 : BitVec 32 := 5#32
  let v250 : Index := Scalar.indexCast c5_i32_161
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk395 (i : grid0.Coords) (k0_t10 : Fin (k0_t10_loop i).trips) (v254 : IVec S16 32) : Prop :=
  (∀ a x, ((![v254] : Fin 1 → IVec S16 32) a x).toNat < S32000.size a)
theorem k0_idx391_inb : ∀ (i : grid0.Coords) (k0_t10 : Fin (k0_t10_loop i).trips) (v254 : IVec S16 32) (k0_hw395 : k0_chk395 i k0_t10 v254), ∀ a x, ((![v254] : Fin 1 → IVec S16 32) a x).toNat < S32000.size a := fun i k0_t10 v254 k0_hw395 => k0_hw395
def k0_off429 (k0_t15 : Fin k0_t15_loop.trips) : Fin 2 → Nat :=
  let c6_i32_164 : BitVec 32 := 6#32
  let v257 : Index := Scalar.indexCast c6_i32_164
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk396 (i : grid0.Coords) (k0_t10 : Fin (k0_t10_loop i).trips) (v261 : IVec S16 32) : Prop :=
  (∀ a x, ((![v261] : Fin 1 → IVec S16 32) a x).toNat < S32000.size a)
theorem k0_idx392_inb : ∀ (i : grid0.Coords) (k0_t10 : Fin (k0_t10_loop i).trips) (v261 : IVec S16 32) (k0_hw396 : k0_chk396 i k0_t10 v261), ∀ a x, ((![v261] : Fin 1 → IVec S16 32) a x).toNat < S32000.size a := fun i k0_t10 v261 k0_hw396 => k0_hw396
def k0_off430 (k0_t15 : Fin k0_t15_loop.trips) : Fin 2 → Nat :=
  let c7_i32_167 : BitVec 32 := 7#32
  let v264 : Index := Scalar.indexCast c7_i32_167
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk397 (i : grid0.Coords) (k0_t10 : Fin (k0_t10_loop i).trips) (v268 : IVec S16 32) : Prop :=
  (∀ a x, ((![v268] : Fin 1 → IVec S16 32) a x).toNat < S32000.size a)
theorem k0_idx393_inb : ∀ (i : grid0.Coords) (k0_t10 : Fin (k0_t10_loop i).trips) (v268 : IVec S16 32) (k0_hw397 : k0_chk397 i k0_t10 v268), ∀ a x, ((![v268] : Fin 1 → IVec S16 32) a x).toNat < S32000.size a := fun i k0_t10 v268 k0_hw397 => k0_hw397
def k0_off431 (k0_t15 : Fin k0_t15_loop.trips) : Fin 2 → Nat :=
  let c8_i32_170 : BitVec 32 := 8#32
  let v271 : Index := Scalar.indexCast c8_i32_170
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk398 (i : grid0.Coords) (k0_t10 : Fin (k0_t10_loop i).trips) (v275 : IVec S16 32) : Prop :=
  (∀ a x, ((![v275] : Fin 1 → IVec S16 32) a x).toNat < S32000.size a)
theorem k0_idx394_inb : ∀ (i : grid0.Coords) (k0_t10 : Fin (k0_t10_loop i).trips) (v275 : IVec S16 32) (k0_hw398 : k0_chk398 i k0_t10 v275), ∀ a x, ((![v275] : Fin 1 → IVec S16 32) a x).toNat < S32000.size a := fun i k0_t10 v275 k0_hw398 => k0_hw398
def k0_off432 (k0_t15 : Fin k0_t15_loop.trips) : Fin 2 → Nat :=
  let c9_i32_172 : BitVec 32 := 9#32
  let v278 : Index := Scalar.indexCast c9_i32_172
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk399 (i : grid0.Coords) (k0_t10 : Fin (k0_t10_loop i).trips) (v282 : IVec S16 32) : Prop :=
  (∀ a x, ((![v282] : Fin 1 → IVec S16 32) a x).toNat < S32000.size a)
theorem k0_idx395_inb : ∀ (i : grid0.Coords) (k0_t10 : Fin (k0_t10_loop i).trips) (v282 : IVec S16 32) (k0_hw399 : k0_chk399 i k0_t10 v282), ∀ a x, ((![v282] : Fin 1 → IVec S16 32) a x).toNat < S32000.size a := fun i k0_t10 v282 k0_hw399 => k0_hw399
def k0_off433 (k0_t15 : Fin k0_t15_loop.trips) : Fin 2 → Nat :=
  let c10_i32_174 : BitVec 32 := 10#32
  let v285 : Index := Scalar.indexCast c10_i32_174
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk400 (i : grid0.Coords) (k0_t10 : Fin (k0_t10_loop i).trips) (v289 : IVec S16 32) : Prop :=
  (∀ a x, ((![v289] : Fin 1 → IVec S16 32) a x).toNat < S32000.size a)
theorem k0_idx396_inb : ∀ (i : grid0.Coords) (k0_t10 : Fin (k0_t10_loop i).trips) (v289 : IVec S16 32) (k0_hw400 : k0_chk400 i k0_t10 v289), ∀ a x, ((![v289] : Fin 1 → IVec S16 32) a x).toNat < S32000.size a := fun i k0_t10 v289 k0_hw400 => k0_hw400
def k0_off434 (k0_t15 : Fin k0_t15_loop.trips) : Fin 2 → Nat :=
  let c11_i32_176 : BitVec 32 := 11#32
  let v292 : Index := Scalar.indexCast c11_i32_176
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk401 (i : grid0.Coords) (k0_t10 : Fin (k0_t10_loop i).trips) (v296 : IVec S16 32) : Prop :=
  (∀ a x, ((![v296] : Fin 1 → IVec S16 32) a x).toNat < S32000.size a)
theorem k0_idx397_inb : ∀ (i : grid0.Coords) (k0_t10 : Fin (k0_t10_loop i).trips) (v296 : IVec S16 32) (k0_hw401 : k0_chk401 i k0_t10 v296), ∀ a x, ((![v296] : Fin 1 → IVec S16 32) a x).toNat < S32000.size a := fun i k0_t10 v296 k0_hw401 => k0_hw401
def k0_off435 (k0_t15 : Fin k0_t15_loop.trips) : Fin 2 → Nat :=
  let c12_i32_178 : BitVec 32 := 12#32
  let v299 : Index := Scalar.indexCast c12_i32_178
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk402 (i : grid0.Coords) (k0_t10 : Fin (k0_t10_loop i).trips) (v303 : IVec S16 32) : Prop :=
  (∀ a x, ((![v303] : Fin 1 → IVec S16 32) a x).toNat < S32000.size a)
theorem k0_idx398_inb : ∀ (i : grid0.Coords) (k0_t10 : Fin (k0_t10_loop i).trips) (v303 : IVec S16 32) (k0_hw402 : k0_chk402 i k0_t10 v303), ∀ a x, ((![v303] : Fin 1 → IVec S16 32) a x).toNat < S32000.size a := fun i k0_t10 v303 k0_hw402 => k0_hw402
def k0_off436 (k0_t15 : Fin k0_t15_loop.trips) : Fin 2 → Nat :=
  let c13_i32_180 : BitVec 32 := 13#32
  let v306 : Index := Scalar.indexCast c13_i32_180
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk403 (i : grid0.Coords) (k0_t10 : Fin (k0_t10_loop i).trips) (v310 : IVec S16 32) : Prop :=
  (∀ a x, ((![v310] : Fin 1 → IVec S16 32) a x).toNat < S32000.size a)
theorem k0_idx399_inb : ∀ (i : grid0.Coords) (k0_t10 : Fin (k0_t10_loop i).trips) (v310 : IVec S16 32) (k0_hw403 : k0_chk403 i k0_t10 v310), ∀ a x, ((![v310] : Fin 1 → IVec S16 32) a x).toNat < S32000.size a := fun i k0_t10 v310 k0_hw403 => k0_hw403
def k0_off437 (k0_t15 : Fin k0_t15_loop.trips) : Fin 2 → Nat :=
  let c14_i32_182 : BitVec 32 := 14#32
  let v313 : Index := Scalar.indexCast c14_i32_182
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk404 (i : grid0.Coords) (k0_t10 : Fin (k0_t10_loop i).trips) (v317 : IVec S16 32) : Prop :=
  (∀ a x, ((![v317] : Fin 1 → IVec S16 32) a x).toNat < S32000.size a)
theorem k0_idx400_inb : ∀ (i : grid0.Coords) (k0_t10 : Fin (k0_t10_loop i).trips) (v317 : IVec S16 32) (k0_hw404 : k0_chk404 i k0_t10 v317), ∀ a x, ((![v317] : Fin 1 → IVec S16 32) a x).toNat < S32000.size a := fun i k0_t10 v317 k0_hw404 => k0_hw404
def k0_off438 (k0_t15 : Fin k0_t15_loop.trips) : Fin 2 → Nat :=
  let c15_i32_184 : BitVec 32 := 15#32
  let v320 : Index := Scalar.indexCast c15_i32_184
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk405 (i : grid0.Coords) (k0_t10 : Fin (k0_t10_loop i).trips) (v324 : IVec S16 32) : Prop :=
  (∀ a x, ((![v324] : Fin 1 → IVec S16 32) a x).toNat < S32000.size a)
theorem k0_idx401_inb : ∀ (i : grid0.Coords) (k0_t10 : Fin (k0_t10_loop i).trips) (v324 : IVec S16 32) (k0_hw405 : k0_chk405 i k0_t10 v324), ∀ a x, ((![v324] : Fin 1 → IVec S16 32) a x).toNat < S32000.size a := fun i k0_t10 v324 k0_hw405 => k0_hw405
def k0_off439 (k0_t15 : Fin k0_t15_loop.trips) : Fin 2 → Nat :=
  let c16_i32_187 : BitVec 32 := 16#32
  let v327 : Index := Scalar.indexCast c16_i32_187
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk406 (i : grid0.Coords) (k0_t10 : Fin (k0_t10_loop i).trips) (v331 : IVec S16 32) : Prop :=
  (∀ a x, ((![v331] : Fin 1 → IVec S16 32) a x).toNat < S32000.size a)
theorem k0_idx402_inb : ∀ (i : grid0.Coords) (k0_t10 : Fin (k0_t10_loop i).trips) (v331 : IVec S16 32) (k0_hw406 : k0_chk406 i k0_t10 v331), ∀ a x, ((![v331] : Fin 1 → IVec S16 32) a x).toNat < S32000.size a := fun i k0_t10 v331 k0_hw406 => k0_hw406
def k0_off440 (k0_t15 : Fin k0_t15_loop.trips) : Fin 2 → Nat :=
  let c17_i32_189 : BitVec 32 := 17#32
  let v334 : Index := Scalar.indexCast c17_i32_189
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk407 (i : grid0.Coords) (k0_t10 : Fin (k0_t10_loop i).trips) (v338 : IVec S16 32) : Prop :=
  (∀ a x, ((![v338] : Fin 1 → IVec S16 32) a x).toNat < S32000.size a)
theorem k0_idx403_inb : ∀ (i : grid0.Coords) (k0_t10 : Fin (k0_t10_loop i).trips) (v338 : IVec S16 32) (k0_hw407 : k0_chk407 i k0_t10 v338), ∀ a x, ((![v338] : Fin 1 → IVec S16 32) a x).toNat < S32000.size a := fun i k0_t10 v338 k0_hw407 => k0_hw407
def k0_off441 (k0_t15 : Fin k0_t15_loop.trips) : Fin 2 → Nat :=
  let c18_i32_191 : BitVec 32 := 18#32
  let v341 : Index := Scalar.indexCast c18_i32_191
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk408 (i : grid0.Coords) (k0_t10 : Fin (k0_t10_loop i).trips) (v345 : IVec S16 32) : Prop :=
  (∀ a x, ((![v345] : Fin 1 → IVec S16 32) a x).toNat < S32000.size a)
theorem k0_idx404_inb : ∀ (i : grid0.Coords) (k0_t10 : Fin (k0_t10_loop i).trips) (v345 : IVec S16 32) (k0_hw408 : k0_chk408 i k0_t10 v345), ∀ a x, ((![v345] : Fin 1 → IVec S16 32) a x).toNat < S32000.size a := fun i k0_t10 v345 k0_hw408 => k0_hw408
def k0_off442 (k0_t15 : Fin k0_t15_loop.trips) : Fin 2 → Nat :=
  let c19_i32_193 : BitVec 32 := 19#32
  let v348 : Index := Scalar.indexCast c19_i32_193
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk409 (i : grid0.Coords) (k0_t10 : Fin (k0_t10_loop i).trips) (v352 : IVec S16 32) : Prop :=
  (∀ a x, ((![v352] : Fin 1 → IVec S16 32) a x).toNat < S32000.size a)
theorem k0_idx405_inb : ∀ (i : grid0.Coords) (k0_t10 : Fin (k0_t10_loop i).trips) (v352 : IVec S16 32) (k0_hw409 : k0_chk409 i k0_t10 v352), ∀ a x, ((![v352] : Fin 1 → IVec S16 32) a x).toNat < S32000.size a := fun i k0_t10 v352 k0_hw409 => k0_hw409
def k0_off443 (k0_t15 : Fin k0_t15_loop.trips) : Fin 2 → Nat :=
  let c20_i32_195 : BitVec 32 := 20#32
  let v355 : Index := Scalar.indexCast c20_i32_195
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk410 (i : grid0.Coords) (k0_t10 : Fin (k0_t10_loop i).trips) (v359 : IVec S16 32) : Prop :=
  (∀ a x, ((![v359] : Fin 1 → IVec S16 32) a x).toNat < S32000.size a)
theorem k0_idx406_inb : ∀ (i : grid0.Coords) (k0_t10 : Fin (k0_t10_loop i).trips) (v359 : IVec S16 32) (k0_hw410 : k0_chk410 i k0_t10 v359), ∀ a x, ((![v359] : Fin 1 → IVec S16 32) a x).toNat < S32000.size a := fun i k0_t10 v359 k0_hw410 => k0_hw410
def k0_off444 (k0_t15 : Fin k0_t15_loop.trips) : Fin 2 → Nat :=
  let c21_i32_197 : BitVec 32 := 21#32
  let v362 : Index := Scalar.indexCast c21_i32_197
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk411 (i : grid0.Coords) (k0_t10 : Fin (k0_t10_loop i).trips) (v366 : IVec S16 32) : Prop :=
  (∀ a x, ((![v366] : Fin 1 → IVec S16 32) a x).toNat < S32000.size a)
theorem k0_idx407_inb : ∀ (i : grid0.Coords) (k0_t10 : Fin (k0_t10_loop i).trips) (v366 : IVec S16 32) (k0_hw411 : k0_chk411 i k0_t10 v366), ∀ a x, ((![v366] : Fin 1 → IVec S16 32) a x).toNat < S32000.size a := fun i k0_t10 v366 k0_hw411 => k0_hw411
def k0_off445 (k0_t15 : Fin k0_t15_loop.trips) : Fin 2 → Nat :=
  let c22_i32_199 : BitVec 32 := 22#32
  let v369 : Index := Scalar.indexCast c22_i32_199
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk412 (i : grid0.Coords) (k0_t10 : Fin (k0_t10_loop i).trips) (v373 : IVec S16 32) : Prop :=
  (∀ a x, ((![v373] : Fin 1 → IVec S16 32) a x).toNat < S32000.size a)
theorem k0_idx408_inb : ∀ (i : grid0.Coords) (k0_t10 : Fin (k0_t10_loop i).trips) (v373 : IVec S16 32) (k0_hw412 : k0_chk412 i k0_t10 v373), ∀ a x, ((![v373] : Fin 1 → IVec S16 32) a x).toNat < S32000.size a := fun i k0_t10 v373 k0_hw412 => k0_hw412
def k0_off446 (k0_t15 : Fin k0_t15_loop.trips) : Fin 2 → Nat :=
  let c23_i32_201 : BitVec 32 := 23#32
  let v376 : Index := Scalar.indexCast c23_i32_201
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk413 (i : grid0.Coords) (k0_t10 : Fin (k0_t10_loop i).trips) (v380 : IVec S16 32) : Prop :=
  (∀ a x, ((![v380] : Fin 1 → IVec S16 32) a x).toNat < S32000.size a)
theorem k0_idx409_inb : ∀ (i : grid0.Coords) (k0_t10 : Fin (k0_t10_loop i).trips) (v380 : IVec S16 32) (k0_hw413 : k0_chk413 i k0_t10 v380), ∀ a x, ((![v380] : Fin 1 → IVec S16 32) a x).toNat < S32000.size a := fun i k0_t10 v380 k0_hw413 => k0_hw413
def k0_off447 (k0_t15 : Fin k0_t15_loop.trips) : Fin 2 → Nat :=
  let c24_i32_203 : BitVec 32 := 24#32
  let v383 : Index := Scalar.indexCast c24_i32_203
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk414 (i : grid0.Coords) (k0_t10 : Fin (k0_t10_loop i).trips) (v387 : IVec S16 32) : Prop :=
  (∀ a x, ((![v387] : Fin 1 → IVec S16 32) a x).toNat < S32000.size a)
theorem k0_idx410_inb : ∀ (i : grid0.Coords) (k0_t10 : Fin (k0_t10_loop i).trips) (v387 : IVec S16 32) (k0_hw414 : k0_chk414 i k0_t10 v387), ∀ a x, ((![v387] : Fin 1 → IVec S16 32) a x).toNat < S32000.size a := fun i k0_t10 v387 k0_hw414 => k0_hw414
def k0_off448 (k0_t15 : Fin k0_t15_loop.trips) : Fin 2 → Nat :=
  let c25_i32_205 : BitVec 32 := 25#32
  let v390 : Index := Scalar.indexCast c25_i32_205
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk415 (i : grid0.Coords) (k0_t10 : Fin (k0_t10_loop i).trips) (v394 : IVec S16 32) : Prop :=
  (∀ a x, ((![v394] : Fin 1 → IVec S16 32) a x).toNat < S32000.size a)
theorem k0_idx411_inb : ∀ (i : grid0.Coords) (k0_t10 : Fin (k0_t10_loop i).trips) (v394 : IVec S16 32) (k0_hw415 : k0_chk415 i k0_t10 v394), ∀ a x, ((![v394] : Fin 1 → IVec S16 32) a x).toNat < S32000.size a := fun i k0_t10 v394 k0_hw415 => k0_hw415
def k0_off449 (k0_t15 : Fin k0_t15_loop.trips) : Fin 2 → Nat :=
  let c26_i32_207 : BitVec 32 := 26#32
  let v397 : Index := Scalar.indexCast c26_i32_207
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk416 (i : grid0.Coords) (k0_t10 : Fin (k0_t10_loop i).trips) (v401 : IVec S16 32) : Prop :=
  (∀ a x, ((![v401] : Fin 1 → IVec S16 32) a x).toNat < S32000.size a)
theorem k0_idx412_inb : ∀ (i : grid0.Coords) (k0_t10 : Fin (k0_t10_loop i).trips) (v401 : IVec S16 32) (k0_hw416 : k0_chk416 i k0_t10 v401), ∀ a x, ((![v401] : Fin 1 → IVec S16 32) a x).toNat < S32000.size a := fun i k0_t10 v401 k0_hw416 => k0_hw416
def k0_off450 (k0_t15 : Fin k0_t15_loop.trips) : Fin 2 → Nat :=
  let c27_i32_209 : BitVec 32 := 27#32
  let v404 : Index := Scalar.indexCast c27_i32_209
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk417 (i : grid0.Coords) (k0_t10 : Fin (k0_t10_loop i).trips) (v408 : IVec S16 32) : Prop :=
  (∀ a x, ((![v408] : Fin 1 → IVec S16 32) a x).toNat < S32000.size a)
theorem k0_idx413_inb : ∀ (i : grid0.Coords) (k0_t10 : Fin (k0_t10_loop i).trips) (v408 : IVec S16 32) (k0_hw417 : k0_chk417 i k0_t10 v408), ∀ a x, ((![v408] : Fin 1 → IVec S16 32) a x).toNat < S32000.size a := fun i k0_t10 v408 k0_hw417 => k0_hw417
def k0_off451 (k0_t15 : Fin k0_t15_loop.trips) : Fin 2 → Nat :=
  let c28_i32_211 : BitVec 32 := 28#32
  let v411 : Index := Scalar.indexCast c28_i32_211
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk418 (i : grid0.Coords) (k0_t10 : Fin (k0_t10_loop i).trips) (v415 : IVec S16 32) : Prop :=
  (∀ a x, ((![v415] : Fin 1 → IVec S16 32) a x).toNat < S32000.size a)
theorem k0_idx414_inb : ∀ (i : grid0.Coords) (k0_t10 : Fin (k0_t10_loop i).trips) (v415 : IVec S16 32) (k0_hw418 : k0_chk418 i k0_t10 v415), ∀ a x, ((![v415] : Fin 1 → IVec S16 32) a x).toNat < S32000.size a := fun i k0_t10 v415 k0_hw418 => k0_hw418
def k0_off452 (k0_t15 : Fin k0_t15_loop.trips) : Fin 2 → Nat :=
  let c29_i32_213 : BitVec 32 := 29#32
  let v418 : Index := Scalar.indexCast c29_i32_213
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk419 (i : grid0.Coords) (k0_t10 : Fin (k0_t10_loop i).trips) (v422 : IVec S16 32) : Prop :=
  (∀ a x, ((![v422] : Fin 1 → IVec S16 32) a x).toNat < S32000.size a)
theorem k0_idx415_inb : ∀ (i : grid0.Coords) (k0_t10 : Fin (k0_t10_loop i).trips) (v422 : IVec S16 32) (k0_hw419 : k0_chk419 i k0_t10 v422), ∀ a x, ((![v422] : Fin 1 → IVec S16 32) a x).toNat < S32000.size a := fun i k0_t10 v422 k0_hw419 => k0_hw419
def k0_off453 (k0_t15 : Fin k0_t15_loop.trips) : Fin 2 → Nat :=
  let c30_i32_215 : BitVec 32 := 30#32
  let v425 : Index := Scalar.indexCast c30_i32_215
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk420 (i : grid0.Coords) (k0_t10 : Fin (k0_t10_loop i).trips) (v429 : IVec S16 32) : Prop :=
  (∀ a x, ((![v429] : Fin 1 → IVec S16 32) a x).toNat < S32000.size a)
theorem k0_idx416_inb : ∀ (i : grid0.Coords) (k0_t10 : Fin (k0_t10_loop i).trips) (v429 : IVec S16 32) (k0_hw420 : k0_chk420 i k0_t10 v429), ∀ a x, ((![v429] : Fin 1 → IVec S16 32) a x).toNat < S32000.size a := fun i k0_t10 v429 k0_hw420 => k0_hw420
def k0_off454 (k0_t15 : Fin k0_t15_loop.trips) : Fin 2 → Nat :=
  let c31_i32_217 : BitVec 32 := 31#32
  let v432 : Index := Scalar.indexCast c31_i32_217
  let c0_i32_142 : BitVec 32 := 0#32
  let c0_i32_91 : BitVec 32 := 0#32
  let c1_i32_93 : BitVec 32 := 1#32
  let arg20 : BitVec 32 := Scf.iv c0_i32_91 c1_i32_93 k0_t15
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult53 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_95 : BitVec 32 := 32#32
  let v139 : BitVec 32 := Scalar.muli v35 c32_i32_95
  v139
def k0_mult54 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  v126
def k0_cond14 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  let c0_i32_104 : BitVec 32 := 0#32
  let v155 : BitVec 1 := Scalar.cmpi .sge v106 c0_i32_104
  let v156 : BitVec 32 := Scalar.extui v155
  let c0_i32_105 : BitVec 32 := 0#32
  let v157 : BitVec 1 := Scalar.cmpi .ne v156 c0_i32_105
  v157

def k0_mult55 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult56 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  v106
def k0_off455 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_64 : BitVec 32 := 8#32
  let v104 : BitVec 32 := Scalar.muli v37 c8_i32_64
  let c3_i32_65 : BitVec 32 := 3#32
  let v105 : BitVec 32 := Scalar.addi v104 c3_i32_65
  let c512_i32_66 : BitVec 32 := 512#32
  let v106 : BitVec 32 := Scalar.muli v105 c512_i32_66
  let v206 : BitVec 32 := v106
  ![v205.toNat, v206.toNat]
@[reducible] def k0_t16_loop : Scf.Loop 32 :=
  let c0_i32_106 : BitVec 32 := 0#32
  let c32_i32_107 : BitVec 32 := 32#32
  let v158 : BitVec 32 := Scalar.addi c0_i32_106 c32_i32_107
  let c1_i32_108 : BitVec 32 := 1#32
  ⟨c0_i32_106, v158, c1_i32_108⟩
def k0_off456 (k0_t16 : Fin k0_t16_loop.trips) : Fin 1 → Nat :=
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk421 (i : grid0.Coords) (k0_t10 : Fin (k0_t10_loop i).trips) (v212 : IVec S16 32) : Prop :=
  (∀ a x, ((![v212] : Fin 1 → IVec S16 32) a x).toNat < S32000.size a)
theorem k0_idx417_inb : ∀ (i : grid0.Coords) (k0_t10 : Fin (k0_t10_loop i).trips) (v212 : IVec S16 32) (k0_hw421 : k0_chk421 i k0_t10 v212), ∀ a x, ((![v212] : Fin 1 → IVec S16 32) a x).toNat < S32000.size a := fun i k0_t10 v212 k0_hw421 => k0_hw421
def k0_off457 (k0_t16 : Fin k0_t16_loop.trips) : Fin 2 → Nat :=
  let c0_i32_146 : BitVec 32 := 0#32
  let v215 : Index := Scalar.indexCast c0_i32_146
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk422 (i : grid0.Coords) (k0_t10 : Fin (k0_t10_loop i).trips) (v219 : IVec S16 32) : Prop :=
  (∀ a x, ((![v219] : Fin 1 → IVec S16 32) a x).toNat < S32000.size a)
theorem k0_idx418_inb : ∀ (i : grid0.Coords) (k0_t10 : Fin (k0_t10_loop i).trips) (v219 : IVec S16 32) (k0_hw422 : k0_chk422 i k0_t10 v219), ∀ a x, ((![v219] : Fin 1 → IVec S16 32) a x).toNat < S32000.size a := fun i k0_t10 v219 k0_hw422 => k0_hw422
def k0_off458 (k0_t16 : Fin k0_t16_loop.trips) : Fin 2 → Nat :=
  let c1_i32_149 : BitVec 32 := 1#32
  let v222 : Index := Scalar.indexCast c1_i32_149
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk423 (i : grid0.Coords) (k0_t10 : Fin (k0_t10_loop i).trips) (v226 : IVec S16 32) : Prop :=
  (∀ a x, ((![v226] : Fin 1 → IVec S16 32) a x).toNat < S32000.size a)
theorem k0_idx419_inb : ∀ (i : grid0.Coords) (k0_t10 : Fin (k0_t10_loop i).trips) (v226 : IVec S16 32) (k0_hw423 : k0_chk423 i k0_t10 v226), ∀ a x, ((![v226] : Fin 1 → IVec S16 32) a x).toNat < S32000.size a := fun i k0_t10 v226 k0_hw423 => k0_hw423
def k0_off459 (k0_t16 : Fin k0_t16_loop.trips) : Fin 2 → Nat :=
  let c2_i32_152 : BitVec 32 := 2#32
  let v229 : Index := Scalar.indexCast c2_i32_152
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk424 (i : grid0.Coords) (k0_t10 : Fin (k0_t10_loop i).trips) (v233 : IVec S16 32) : Prop :=
  (∀ a x, ((![v233] : Fin 1 → IVec S16 32) a x).toNat < S32000.size a)
theorem k0_idx420_inb : ∀ (i : grid0.Coords) (k0_t10 : Fin (k0_t10_loop i).trips) (v233 : IVec S16 32) (k0_hw424 : k0_chk424 i k0_t10 v233), ∀ a x, ((![v233] : Fin 1 → IVec S16 32) a x).toNat < S32000.size a := fun i k0_t10 v233 k0_hw424 => k0_hw424
def k0_off460 (k0_t16 : Fin k0_t16_loop.trips) : Fin 2 → Nat :=
  let c3_i32_155 : BitVec 32 := 3#32
  let v236 : Index := Scalar.indexCast c3_i32_155
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk425 (i : grid0.Coords) (k0_t10 : Fin (k0_t10_loop i).trips) (v240 : IVec S16 32) : Prop :=
  (∀ a x, ((![v240] : Fin 1 → IVec S16 32) a x).toNat < S32000.size a)
theorem k0_idx421_inb : ∀ (i : grid0.Coords) (k0_t10 : Fin (k0_t10_loop i).trips) (v240 : IVec S16 32) (k0_hw425 : k0_chk425 i k0_t10 v240), ∀ a x, ((![v240] : Fin 1 → IVec S16 32) a x).toNat < S32000.size a := fun i k0_t10 v240 k0_hw425 => k0_hw425
def k0_off461 (k0_t16 : Fin k0_t16_loop.trips) : Fin 2 → Nat :=
  let c4_i32_158 : BitVec 32 := 4#32
  let v243 : Index := Scalar.indexCast c4_i32_158
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk426 (i : grid0.Coords) (k0_t10 : Fin (k0_t10_loop i).trips) (v247 : IVec S16 32) : Prop :=
  (∀ a x, ((![v247] : Fin 1 → IVec S16 32) a x).toNat < S32000.size a)
theorem k0_idx422_inb : ∀ (i : grid0.Coords) (k0_t10 : Fin (k0_t10_loop i).trips) (v247 : IVec S16 32) (k0_hw426 : k0_chk426 i k0_t10 v247), ∀ a x, ((![v247] : Fin 1 → IVec S16 32) a x).toNat < S32000.size a := fun i k0_t10 v247 k0_hw426 => k0_hw426
def k0_off462 (k0_t16 : Fin k0_t16_loop.trips) : Fin 2 → Nat :=
  let c5_i32_161 : BitVec 32 := 5#32
  let v250 : Index := Scalar.indexCast c5_i32_161
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk427 (i : grid0.Coords) (k0_t10 : Fin (k0_t10_loop i).trips) (v254 : IVec S16 32) : Prop :=
  (∀ a x, ((![v254] : Fin 1 → IVec S16 32) a x).toNat < S32000.size a)
theorem k0_idx423_inb : ∀ (i : grid0.Coords) (k0_t10 : Fin (k0_t10_loop i).trips) (v254 : IVec S16 32) (k0_hw427 : k0_chk427 i k0_t10 v254), ∀ a x, ((![v254] : Fin 1 → IVec S16 32) a x).toNat < S32000.size a := fun i k0_t10 v254 k0_hw427 => k0_hw427
def k0_off463 (k0_t16 : Fin k0_t16_loop.trips) : Fin 2 → Nat :=
  let c6_i32_164 : BitVec 32 := 6#32
  let v257 : Index := Scalar.indexCast c6_i32_164
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk428 (i : grid0.Coords) (k0_t10 : Fin (k0_t10_loop i).trips) (v261 : IVec S16 32) : Prop :=
  (∀ a x, ((![v261] : Fin 1 → IVec S16 32) a x).toNat < S32000.size a)
theorem k0_idx424_inb : ∀ (i : grid0.Coords) (k0_t10 : Fin (k0_t10_loop i).trips) (v261 : IVec S16 32) (k0_hw428 : k0_chk428 i k0_t10 v261), ∀ a x, ((![v261] : Fin 1 → IVec S16 32) a x).toNat < S32000.size a := fun i k0_t10 v261 k0_hw428 => k0_hw428
def k0_off464 (k0_t16 : Fin k0_t16_loop.trips) : Fin 2 → Nat :=
  let c7_i32_167 : BitVec 32 := 7#32
  let v264 : Index := Scalar.indexCast c7_i32_167
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk429 (i : grid0.Coords) (k0_t10 : Fin (k0_t10_loop i).trips) (v268 : IVec S16 32) : Prop :=
  (∀ a x, ((![v268] : Fin 1 → IVec S16 32) a x).toNat < S32000.size a)
theorem k0_idx425_inb : ∀ (i : grid0.Coords) (k0_t10 : Fin (k0_t10_loop i).trips) (v268 : IVec S16 32) (k0_hw429 : k0_chk429 i k0_t10 v268), ∀ a x, ((![v268] : Fin 1 → IVec S16 32) a x).toNat < S32000.size a := fun i k0_t10 v268 k0_hw429 => k0_hw429
def k0_off465 (k0_t16 : Fin k0_t16_loop.trips) : Fin 2 → Nat :=
  let c8_i32_170 : BitVec 32 := 8#32
  let v271 : Index := Scalar.indexCast c8_i32_170
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk430 (i : grid0.Coords) (k0_t10 : Fin (k0_t10_loop i).trips) (v275 : IVec S16 32) : Prop :=
  (∀ a x, ((![v275] : Fin 1 → IVec S16 32) a x).toNat < S32000.size a)
theorem k0_idx426_inb : ∀ (i : grid0.Coords) (k0_t10 : Fin (k0_t10_loop i).trips) (v275 : IVec S16 32) (k0_hw430 : k0_chk430 i k0_t10 v275), ∀ a x, ((![v275] : Fin 1 → IVec S16 32) a x).toNat < S32000.size a := fun i k0_t10 v275 k0_hw430 => k0_hw430
def k0_off466 (k0_t16 : Fin k0_t16_loop.trips) : Fin 2 → Nat :=
  let c9_i32_172 : BitVec 32 := 9#32
  let v278 : Index := Scalar.indexCast c9_i32_172
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk431 (i : grid0.Coords) (k0_t10 : Fin (k0_t10_loop i).trips) (v282 : IVec S16 32) : Prop :=
  (∀ a x, ((![v282] : Fin 1 → IVec S16 32) a x).toNat < S32000.size a)
theorem k0_idx427_inb : ∀ (i : grid0.Coords) (k0_t10 : Fin (k0_t10_loop i).trips) (v282 : IVec S16 32) (k0_hw431 : k0_chk431 i k0_t10 v282), ∀ a x, ((![v282] : Fin 1 → IVec S16 32) a x).toNat < S32000.size a := fun i k0_t10 v282 k0_hw431 => k0_hw431
def k0_off467 (k0_t16 : Fin k0_t16_loop.trips) : Fin 2 → Nat :=
  let c10_i32_174 : BitVec 32 := 10#32
  let v285 : Index := Scalar.indexCast c10_i32_174
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk432 (i : grid0.Coords) (k0_t10 : Fin (k0_t10_loop i).trips) (v289 : IVec S16 32) : Prop :=
  (∀ a x, ((![v289] : Fin 1 → IVec S16 32) a x).toNat < S32000.size a)
theorem k0_idx428_inb : ∀ (i : grid0.Coords) (k0_t10 : Fin (k0_t10_loop i).trips) (v289 : IVec S16 32) (k0_hw432 : k0_chk432 i k0_t10 v289), ∀ a x, ((![v289] : Fin 1 → IVec S16 32) a x).toNat < S32000.size a := fun i k0_t10 v289 k0_hw432 => k0_hw432
def k0_off468 (k0_t16 : Fin k0_t16_loop.trips) : Fin 2 → Nat :=
  let c11_i32_176 : BitVec 32 := 11#32
  let v292 : Index := Scalar.indexCast c11_i32_176
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk433 (i : grid0.Coords) (k0_t10 : Fin (k0_t10_loop i).trips) (v296 : IVec S16 32) : Prop :=
  (∀ a x, ((![v296] : Fin 1 → IVec S16 32) a x).toNat < S32000.size a)
theorem k0_idx429_inb : ∀ (i : grid0.Coords) (k0_t10 : Fin (k0_t10_loop i).trips) (v296 : IVec S16 32) (k0_hw433 : k0_chk433 i k0_t10 v296), ∀ a x, ((![v296] : Fin 1 → IVec S16 32) a x).toNat < S32000.size a := fun i k0_t10 v296 k0_hw433 => k0_hw433
def k0_off469 (k0_t16 : Fin k0_t16_loop.trips) : Fin 2 → Nat :=
  let c12_i32_178 : BitVec 32 := 12#32
  let v299 : Index := Scalar.indexCast c12_i32_178
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk434 (i : grid0.Coords) (k0_t10 : Fin (k0_t10_loop i).trips) (v303 : IVec S16 32) : Prop :=
  (∀ a x, ((![v303] : Fin 1 → IVec S16 32) a x).toNat < S32000.size a)
theorem k0_idx430_inb : ∀ (i : grid0.Coords) (k0_t10 : Fin (k0_t10_loop i).trips) (v303 : IVec S16 32) (k0_hw434 : k0_chk434 i k0_t10 v303), ∀ a x, ((![v303] : Fin 1 → IVec S16 32) a x).toNat < S32000.size a := fun i k0_t10 v303 k0_hw434 => k0_hw434
def k0_off470 (k0_t16 : Fin k0_t16_loop.trips) : Fin 2 → Nat :=
  let c13_i32_180 : BitVec 32 := 13#32
  let v306 : Index := Scalar.indexCast c13_i32_180
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk435 (i : grid0.Coords) (k0_t10 : Fin (k0_t10_loop i).trips) (v310 : IVec S16 32) : Prop :=
  (∀ a x, ((![v310] : Fin 1 → IVec S16 32) a x).toNat < S32000.size a)
theorem k0_idx431_inb : ∀ (i : grid0.Coords) (k0_t10 : Fin (k0_t10_loop i).trips) (v310 : IVec S16 32) (k0_hw435 : k0_chk435 i k0_t10 v310), ∀ a x, ((![v310] : Fin 1 → IVec S16 32) a x).toNat < S32000.size a := fun i k0_t10 v310 k0_hw435 => k0_hw435
def k0_off471 (k0_t16 : Fin k0_t16_loop.trips) : Fin 2 → Nat :=
  let c14_i32_182 : BitVec 32 := 14#32
  let v313 : Index := Scalar.indexCast c14_i32_182
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk436 (i : grid0.Coords) (k0_t10 : Fin (k0_t10_loop i).trips) (v317 : IVec S16 32) : Prop :=
  (∀ a x, ((![v317] : Fin 1 → IVec S16 32) a x).toNat < S32000.size a)
theorem k0_idx432_inb : ∀ (i : grid0.Coords) (k0_t10 : Fin (k0_t10_loop i).trips) (v317 : IVec S16 32) (k0_hw436 : k0_chk436 i k0_t10 v317), ∀ a x, ((![v317] : Fin 1 → IVec S16 32) a x).toNat < S32000.size a := fun i k0_t10 v317 k0_hw436 => k0_hw436
def k0_off472 (k0_t16 : Fin k0_t16_loop.trips) : Fin 2 → Nat :=
  let c15_i32_184 : BitVec 32 := 15#32
  let v320 : Index := Scalar.indexCast c15_i32_184
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk437 (i : grid0.Coords) (k0_t10 : Fin (k0_t10_loop i).trips) (v324 : IVec S16 32) : Prop :=
  (∀ a x, ((![v324] : Fin 1 → IVec S16 32) a x).toNat < S32000.size a)
theorem k0_idx433_inb : ∀ (i : grid0.Coords) (k0_t10 : Fin (k0_t10_loop i).trips) (v324 : IVec S16 32) (k0_hw437 : k0_chk437 i k0_t10 v324), ∀ a x, ((![v324] : Fin 1 → IVec S16 32) a x).toNat < S32000.size a := fun i k0_t10 v324 k0_hw437 => k0_hw437
def k0_off473 (k0_t16 : Fin k0_t16_loop.trips) : Fin 2 → Nat :=
  let c16_i32_187 : BitVec 32 := 16#32
  let v327 : Index := Scalar.indexCast c16_i32_187
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk438 (i : grid0.Coords) (k0_t10 : Fin (k0_t10_loop i).trips) (v331 : IVec S16 32) : Prop :=
  (∀ a x, ((![v331] : Fin 1 → IVec S16 32) a x).toNat < S32000.size a)
theorem k0_idx434_inb : ∀ (i : grid0.Coords) (k0_t10 : Fin (k0_t10_loop i).trips) (v331 : IVec S16 32) (k0_hw438 : k0_chk438 i k0_t10 v331), ∀ a x, ((![v331] : Fin 1 → IVec S16 32) a x).toNat < S32000.size a := fun i k0_t10 v331 k0_hw438 => k0_hw438
def k0_off474 (k0_t16 : Fin k0_t16_loop.trips) : Fin 2 → Nat :=
  let c17_i32_189 : BitVec 32 := 17#32
  let v334 : Index := Scalar.indexCast c17_i32_189
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk439 (i : grid0.Coords) (k0_t10 : Fin (k0_t10_loop i).trips) (v338 : IVec S16 32) : Prop :=
  (∀ a x, ((![v338] : Fin 1 → IVec S16 32) a x).toNat < S32000.size a)
theorem k0_idx435_inb : ∀ (i : grid0.Coords) (k0_t10 : Fin (k0_t10_loop i).trips) (v338 : IVec S16 32) (k0_hw439 : k0_chk439 i k0_t10 v338), ∀ a x, ((![v338] : Fin 1 → IVec S16 32) a x).toNat < S32000.size a := fun i k0_t10 v338 k0_hw439 => k0_hw439
def k0_off475 (k0_t16 : Fin k0_t16_loop.trips) : Fin 2 → Nat :=
  let c18_i32_191 : BitVec 32 := 18#32
  let v341 : Index := Scalar.indexCast c18_i32_191
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk440 (i : grid0.Coords) (k0_t10 : Fin (k0_t10_loop i).trips) (v345 : IVec S16 32) : Prop :=
  (∀ a x, ((![v345] : Fin 1 → IVec S16 32) a x).toNat < S32000.size a)
theorem k0_idx436_inb : ∀ (i : grid0.Coords) (k0_t10 : Fin (k0_t10_loop i).trips) (v345 : IVec S16 32) (k0_hw440 : k0_chk440 i k0_t10 v345), ∀ a x, ((![v345] : Fin 1 → IVec S16 32) a x).toNat < S32000.size a := fun i k0_t10 v345 k0_hw440 => k0_hw440
def k0_off476 (k0_t16 : Fin k0_t16_loop.trips) : Fin 2 → Nat :=
  let c19_i32_193 : BitVec 32 := 19#32
  let v348 : Index := Scalar.indexCast c19_i32_193
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk441 (i : grid0.Coords) (k0_t10 : Fin (k0_t10_loop i).trips) (v352 : IVec S16 32) : Prop :=
  (∀ a x, ((![v352] : Fin 1 → IVec S16 32) a x).toNat < S32000.size a)
theorem k0_idx437_inb : ∀ (i : grid0.Coords) (k0_t10 : Fin (k0_t10_loop i).trips) (v352 : IVec S16 32) (k0_hw441 : k0_chk441 i k0_t10 v352), ∀ a x, ((![v352] : Fin 1 → IVec S16 32) a x).toNat < S32000.size a := fun i k0_t10 v352 k0_hw441 => k0_hw441
def k0_off477 (k0_t16 : Fin k0_t16_loop.trips) : Fin 2 → Nat :=
  let c20_i32_195 : BitVec 32 := 20#32
  let v355 : Index := Scalar.indexCast c20_i32_195
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk442 (i : grid0.Coords) (k0_t10 : Fin (k0_t10_loop i).trips) (v359 : IVec S16 32) : Prop :=
  (∀ a x, ((![v359] : Fin 1 → IVec S16 32) a x).toNat < S32000.size a)
theorem k0_idx438_inb : ∀ (i : grid0.Coords) (k0_t10 : Fin (k0_t10_loop i).trips) (v359 : IVec S16 32) (k0_hw442 : k0_chk442 i k0_t10 v359), ∀ a x, ((![v359] : Fin 1 → IVec S16 32) a x).toNat < S32000.size a := fun i k0_t10 v359 k0_hw442 => k0_hw442
def k0_off478 (k0_t16 : Fin k0_t16_loop.trips) : Fin 2 → Nat :=
  let c21_i32_197 : BitVec 32 := 21#32
  let v362 : Index := Scalar.indexCast c21_i32_197
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk443 (i : grid0.Coords) (k0_t10 : Fin (k0_t10_loop i).trips) (v366 : IVec S16 32) : Prop :=
  (∀ a x, ((![v366] : Fin 1 → IVec S16 32) a x).toNat < S32000.size a)
theorem k0_idx439_inb : ∀ (i : grid0.Coords) (k0_t10 : Fin (k0_t10_loop i).trips) (v366 : IVec S16 32) (k0_hw443 : k0_chk443 i k0_t10 v366), ∀ a x, ((![v366] : Fin 1 → IVec S16 32) a x).toNat < S32000.size a := fun i k0_t10 v366 k0_hw443 => k0_hw443
def k0_off479 (k0_t16 : Fin k0_t16_loop.trips) : Fin 2 → Nat :=
  let c22_i32_199 : BitVec 32 := 22#32
  let v369 : Index := Scalar.indexCast c22_i32_199
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk444 (i : grid0.Coords) (k0_t10 : Fin (k0_t10_loop i).trips) (v373 : IVec S16 32) : Prop :=
  (∀ a x, ((![v373] : Fin 1 → IVec S16 32) a x).toNat < S32000.size a)
theorem k0_idx440_inb : ∀ (i : grid0.Coords) (k0_t10 : Fin (k0_t10_loop i).trips) (v373 : IVec S16 32) (k0_hw444 : k0_chk444 i k0_t10 v373), ∀ a x, ((![v373] : Fin 1 → IVec S16 32) a x).toNat < S32000.size a := fun i k0_t10 v373 k0_hw444 => k0_hw444
def k0_off480 (k0_t16 : Fin k0_t16_loop.trips) : Fin 2 → Nat :=
  let c23_i32_201 : BitVec 32 := 23#32
  let v376 : Index := Scalar.indexCast c23_i32_201
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk445 (i : grid0.Coords) (k0_t10 : Fin (k0_t10_loop i).trips) (v380 : IVec S16 32) : Prop :=
  (∀ a x, ((![v380] : Fin 1 → IVec S16 32) a x).toNat < S32000.size a)
theorem k0_idx441_inb : ∀ (i : grid0.Coords) (k0_t10 : Fin (k0_t10_loop i).trips) (v380 : IVec S16 32) (k0_hw445 : k0_chk445 i k0_t10 v380), ∀ a x, ((![v380] : Fin 1 → IVec S16 32) a x).toNat < S32000.size a := fun i k0_t10 v380 k0_hw445 => k0_hw445
def k0_off481 (k0_t16 : Fin k0_t16_loop.trips) : Fin 2 → Nat :=
  let c24_i32_203 : BitVec 32 := 24#32
  let v383 : Index := Scalar.indexCast c24_i32_203
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk446 (i : grid0.Coords) (k0_t10 : Fin (k0_t10_loop i).trips) (v387 : IVec S16 32) : Prop :=
  (∀ a x, ((![v387] : Fin 1 → IVec S16 32) a x).toNat < S32000.size a)
theorem k0_idx442_inb : ∀ (i : grid0.Coords) (k0_t10 : Fin (k0_t10_loop i).trips) (v387 : IVec S16 32) (k0_hw446 : k0_chk446 i k0_t10 v387), ∀ a x, ((![v387] : Fin 1 → IVec S16 32) a x).toNat < S32000.size a := fun i k0_t10 v387 k0_hw446 => k0_hw446
def k0_off482 (k0_t16 : Fin k0_t16_loop.trips) : Fin 2 → Nat :=
  let c25_i32_205 : BitVec 32 := 25#32
  let v390 : Index := Scalar.indexCast c25_i32_205
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk447 (i : grid0.Coords) (k0_t10 : Fin (k0_t10_loop i).trips) (v394 : IVec S16 32) : Prop :=
  (∀ a x, ((![v394] : Fin 1 → IVec S16 32) a x).toNat < S32000.size a)
theorem k0_idx443_inb : ∀ (i : grid0.Coords) (k0_t10 : Fin (k0_t10_loop i).trips) (v394 : IVec S16 32) (k0_hw447 : k0_chk447 i k0_t10 v394), ∀ a x, ((![v394] : Fin 1 → IVec S16 32) a x).toNat < S32000.size a := fun i k0_t10 v394 k0_hw447 => k0_hw447
def k0_off483 (k0_t16 : Fin k0_t16_loop.trips) : Fin 2 → Nat :=
  let c26_i32_207 : BitVec 32 := 26#32
  let v397 : Index := Scalar.indexCast c26_i32_207
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk448 (i : grid0.Coords) (k0_t10 : Fin (k0_t10_loop i).trips) (v401 : IVec S16 32) : Prop :=
  (∀ a x, ((![v401] : Fin 1 → IVec S16 32) a x).toNat < S32000.size a)
theorem k0_idx444_inb : ∀ (i : grid0.Coords) (k0_t10 : Fin (k0_t10_loop i).trips) (v401 : IVec S16 32) (k0_hw448 : k0_chk448 i k0_t10 v401), ∀ a x, ((![v401] : Fin 1 → IVec S16 32) a x).toNat < S32000.size a := fun i k0_t10 v401 k0_hw448 => k0_hw448
def k0_off484 (k0_t16 : Fin k0_t16_loop.trips) : Fin 2 → Nat :=
  let c27_i32_209 : BitVec 32 := 27#32
  let v404 : Index := Scalar.indexCast c27_i32_209
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk449 (i : grid0.Coords) (k0_t10 : Fin (k0_t10_loop i).trips) (v408 : IVec S16 32) : Prop :=
  (∀ a x, ((![v408] : Fin 1 → IVec S16 32) a x).toNat < S32000.size a)
theorem k0_idx445_inb : ∀ (i : grid0.Coords) (k0_t10 : Fin (k0_t10_loop i).trips) (v408 : IVec S16 32) (k0_hw449 : k0_chk449 i k0_t10 v408), ∀ a x, ((![v408] : Fin 1 → IVec S16 32) a x).toNat < S32000.size a := fun i k0_t10 v408 k0_hw449 => k0_hw449
def k0_off485 (k0_t16 : Fin k0_t16_loop.trips) : Fin 2 → Nat :=
  let c28_i32_211 : BitVec 32 := 28#32
  let v411 : Index := Scalar.indexCast c28_i32_211
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk450 (i : grid0.Coords) (k0_t10 : Fin (k0_t10_loop i).trips) (v415 : IVec S16 32) : Prop :=
  (∀ a x, ((![v415] : Fin 1 → IVec S16 32) a x).toNat < S32000.size a)
theorem k0_idx446_inb : ∀ (i : grid0.Coords) (k0_t10 : Fin (k0_t10_loop i).trips) (v415 : IVec S16 32) (k0_hw450 : k0_chk450 i k0_t10 v415), ∀ a x, ((![v415] : Fin 1 → IVec S16 32) a x).toNat < S32000.size a := fun i k0_t10 v415 k0_hw450 => k0_hw450
def k0_off486 (k0_t16 : Fin k0_t16_loop.trips) : Fin 2 → Nat :=
  let c29_i32_213 : BitVec 32 := 29#32
  let v418 : Index := Scalar.indexCast c29_i32_213
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk451 (i : grid0.Coords) (k0_t10 : Fin (k0_t10_loop i).trips) (v422 : IVec S16 32) : Prop :=
  (∀ a x, ((![v422] : Fin 1 → IVec S16 32) a x).toNat < S32000.size a)
theorem k0_idx447_inb : ∀ (i : grid0.Coords) (k0_t10 : Fin (k0_t10_loop i).trips) (v422 : IVec S16 32) (k0_hw451 : k0_chk451 i k0_t10 v422), ∀ a x, ((![v422] : Fin 1 → IVec S16 32) a x).toNat < S32000.size a := fun i k0_t10 v422 k0_hw451 => k0_hw451
def k0_off487 (k0_t16 : Fin k0_t16_loop.trips) : Fin 2 → Nat :=
  let c30_i32_215 : BitVec 32 := 30#32
  let v425 : Index := Scalar.indexCast c30_i32_215
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk452 (i : grid0.Coords) (k0_t10 : Fin (k0_t10_loop i).trips) (v429 : IVec S16 32) : Prop :=
  (∀ a x, ((![v429] : Fin 1 → IVec S16 32) a x).toNat < S32000.size a)
theorem k0_idx448_inb : ∀ (i : grid0.Coords) (k0_t10 : Fin (k0_t10_loop i).trips) (v429 : IVec S16 32) (k0_hw452 : k0_chk452 i k0_t10 v429), ∀ a x, ((![v429] : Fin 1 → IVec S16 32) a x).toNat < S32000.size a := fun i k0_t10 v429 k0_hw452 => k0_hw452
def k0_off488 (k0_t16 : Fin k0_t16_loop.trips) : Fin 2 → Nat :=
  let c31_i32_217 : BitVec 32 := 31#32
  let v432 : Index := Scalar.indexCast c31_i32_217
  let c0_i32_142 : BitVec 32 := 0#32
  let c0_i32_106 : BitVec 32 := 0#32
  let c1_i32_108 : BitVec 32 := 1#32
  let arg20 : BitVec 32 := Scf.iv c0_i32_106 c1_i32_108 k0_t16
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult57 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_110 : BitVec 32 := 32#32
  let v159 : BitVec 32 := Scalar.muli v35 c32_i32_110
  v159
def k0_mult58 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  v146
def k0_cond15 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  let c0_i32_119 : BitVec 32 := 0#32
  let v175 : BitVec 1 := Scalar.cmpi .sge v126 c0_i32_119
  let v176 : BitVec 32 := Scalar.extui v175
  let c0_i32_120 : BitVec 32 := 0#32
  let v177 : BitVec 1 := Scalar.cmpi .ne v176 c0_i32_120
  v177

def k0_mult59 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult60 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  v126
def k0_off489 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_80 : BitVec 32 := 8#32
  let v124 : BitVec 32 := Scalar.muli v37 c8_i32_80
  let c4_i32_81 : BitVec 32 := 4#32
  let v125 : BitVec 32 := Scalar.addi v124 c4_i32_81
  let c512_i32_82 : BitVec 32 := 512#32
  let v126 : BitVec 32 := Scalar.muli v125 c512_i32_82
  let v206 : BitVec 32 := v126
  ![v205.toNat, v206.toNat]
@[reducible] def k0_t17_loop : Scf.Loop 32 :=
  let c0_i32_121 : BitVec 32 := 0#32
  let c32_i32_122 : BitVec 32 := 32#32
  let v178 : BitVec 32 := Scalar.addi c0_i32_121 c32_i32_122
  let c1_i32_123 : BitVec 32 := 1#32
  ⟨c0_i32_121, v178, c1_i32_123⟩
def k0_off490 (k0_t17 : Fin k0_t17_loop.trips) : Fin 1 → Nat :=
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk453 (i : grid0.Coords) (k0_t10 : Fin (k0_t10_loop i).trips) (v212 : IVec S16 32) : Prop :=
  (∀ a x, ((![v212] : Fin 1 → IVec S16 32) a x).toNat < S32000.size a)
theorem k0_idx449_inb : ∀ (i : grid0.Coords) (k0_t10 : Fin (k0_t10_loop i).trips) (v212 : IVec S16 32) (k0_hw453 : k0_chk453 i k0_t10 v212), ∀ a x, ((![v212] : Fin 1 → IVec S16 32) a x).toNat < S32000.size a := fun i k0_t10 v212 k0_hw453 => k0_hw453
def k0_off491 (k0_t17 : Fin k0_t17_loop.trips) : Fin 2 → Nat :=
  let c0_i32_146 : BitVec 32 := 0#32
  let v215 : Index := Scalar.indexCast c0_i32_146
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk454 (i : grid0.Coords) (k0_t10 : Fin (k0_t10_loop i).trips) (v219 : IVec S16 32) : Prop :=
  (∀ a x, ((![v219] : Fin 1 → IVec S16 32) a x).toNat < S32000.size a)
theorem k0_idx450_inb : ∀ (i : grid0.Coords) (k0_t10 : Fin (k0_t10_loop i).trips) (v219 : IVec S16 32) (k0_hw454 : k0_chk454 i k0_t10 v219), ∀ a x, ((![v219] : Fin 1 → IVec S16 32) a x).toNat < S32000.size a := fun i k0_t10 v219 k0_hw454 => k0_hw454
def k0_off492 (k0_t17 : Fin k0_t17_loop.trips) : Fin 2 → Nat :=
  let c1_i32_149 : BitVec 32 := 1#32
  let v222 : Index := Scalar.indexCast c1_i32_149
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk455 (i : grid0.Coords) (k0_t10 : Fin (k0_t10_loop i).trips) (v226 : IVec S16 32) : Prop :=
  (∀ a x, ((![v226] : Fin 1 → IVec S16 32) a x).toNat < S32000.size a)
theorem k0_idx451_inb : ∀ (i : grid0.Coords) (k0_t10 : Fin (k0_t10_loop i).trips) (v226 : IVec S16 32) (k0_hw455 : k0_chk455 i k0_t10 v226), ∀ a x, ((![v226] : Fin 1 → IVec S16 32) a x).toNat < S32000.size a := fun i k0_t10 v226 k0_hw455 => k0_hw455
def k0_off493 (k0_t17 : Fin k0_t17_loop.trips) : Fin 2 → Nat :=
  let c2_i32_152 : BitVec 32 := 2#32
  let v229 : Index := Scalar.indexCast c2_i32_152
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk456 (i : grid0.Coords) (k0_t10 : Fin (k0_t10_loop i).trips) (v233 : IVec S16 32) : Prop :=
  (∀ a x, ((![v233] : Fin 1 → IVec S16 32) a x).toNat < S32000.size a)
theorem k0_idx452_inb : ∀ (i : grid0.Coords) (k0_t10 : Fin (k0_t10_loop i).trips) (v233 : IVec S16 32) (k0_hw456 : k0_chk456 i k0_t10 v233), ∀ a x, ((![v233] : Fin 1 → IVec S16 32) a x).toNat < S32000.size a := fun i k0_t10 v233 k0_hw456 => k0_hw456
def k0_off494 (k0_t17 : Fin k0_t17_loop.trips) : Fin 2 → Nat :=
  let c3_i32_155 : BitVec 32 := 3#32
  let v236 : Index := Scalar.indexCast c3_i32_155
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk457 (i : grid0.Coords) (k0_t10 : Fin (k0_t10_loop i).trips) (v240 : IVec S16 32) : Prop :=
  (∀ a x, ((![v240] : Fin 1 → IVec S16 32) a x).toNat < S32000.size a)
theorem k0_idx453_inb : ∀ (i : grid0.Coords) (k0_t10 : Fin (k0_t10_loop i).trips) (v240 : IVec S16 32) (k0_hw457 : k0_chk457 i k0_t10 v240), ∀ a x, ((![v240] : Fin 1 → IVec S16 32) a x).toNat < S32000.size a := fun i k0_t10 v240 k0_hw457 => k0_hw457
def k0_off495 (k0_t17 : Fin k0_t17_loop.trips) : Fin 2 → Nat :=
  let c4_i32_158 : BitVec 32 := 4#32
  let v243 : Index := Scalar.indexCast c4_i32_158
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk458 (i : grid0.Coords) (k0_t10 : Fin (k0_t10_loop i).trips) (v247 : IVec S16 32) : Prop :=
  (∀ a x, ((![v247] : Fin 1 → IVec S16 32) a x).toNat < S32000.size a)
theorem k0_idx454_inb : ∀ (i : grid0.Coords) (k0_t10 : Fin (k0_t10_loop i).trips) (v247 : IVec S16 32) (k0_hw458 : k0_chk458 i k0_t10 v247), ∀ a x, ((![v247] : Fin 1 → IVec S16 32) a x).toNat < S32000.size a := fun i k0_t10 v247 k0_hw458 => k0_hw458
def k0_off496 (k0_t17 : Fin k0_t17_loop.trips) : Fin 2 → Nat :=
  let c5_i32_161 : BitVec 32 := 5#32
  let v250 : Index := Scalar.indexCast c5_i32_161
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk459 (i : grid0.Coords) (k0_t10 : Fin (k0_t10_loop i).trips) (v254 : IVec S16 32) : Prop :=
  (∀ a x, ((![v254] : Fin 1 → IVec S16 32) a x).toNat < S32000.size a)
theorem k0_idx455_inb : ∀ (i : grid0.Coords) (k0_t10 : Fin (k0_t10_loop i).trips) (v254 : IVec S16 32) (k0_hw459 : k0_chk459 i k0_t10 v254), ∀ a x, ((![v254] : Fin 1 → IVec S16 32) a x).toNat < S32000.size a := fun i k0_t10 v254 k0_hw459 => k0_hw459
def k0_off497 (k0_t17 : Fin k0_t17_loop.trips) : Fin 2 → Nat :=
  let c6_i32_164 : BitVec 32 := 6#32
  let v257 : Index := Scalar.indexCast c6_i32_164
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk460 (i : grid0.Coords) (k0_t10 : Fin (k0_t10_loop i).trips) (v261 : IVec S16 32) : Prop :=
  (∀ a x, ((![v261] : Fin 1 → IVec S16 32) a x).toNat < S32000.size a)
theorem k0_idx456_inb : ∀ (i : grid0.Coords) (k0_t10 : Fin (k0_t10_loop i).trips) (v261 : IVec S16 32) (k0_hw460 : k0_chk460 i k0_t10 v261), ∀ a x, ((![v261] : Fin 1 → IVec S16 32) a x).toNat < S32000.size a := fun i k0_t10 v261 k0_hw460 => k0_hw460
def k0_off498 (k0_t17 : Fin k0_t17_loop.trips) : Fin 2 → Nat :=
  let c7_i32_167 : BitVec 32 := 7#32
  let v264 : Index := Scalar.indexCast c7_i32_167
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk461 (i : grid0.Coords) (k0_t10 : Fin (k0_t10_loop i).trips) (v268 : IVec S16 32) : Prop :=
  (∀ a x, ((![v268] : Fin 1 → IVec S16 32) a x).toNat < S32000.size a)
theorem k0_idx457_inb : ∀ (i : grid0.Coords) (k0_t10 : Fin (k0_t10_loop i).trips) (v268 : IVec S16 32) (k0_hw461 : k0_chk461 i k0_t10 v268), ∀ a x, ((![v268] : Fin 1 → IVec S16 32) a x).toNat < S32000.size a := fun i k0_t10 v268 k0_hw461 => k0_hw461
def k0_off499 (k0_t17 : Fin k0_t17_loop.trips) : Fin 2 → Nat :=
  let c8_i32_170 : BitVec 32 := 8#32
  let v271 : Index := Scalar.indexCast c8_i32_170
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk462 (i : grid0.Coords) (k0_t10 : Fin (k0_t10_loop i).trips) (v275 : IVec S16 32) : Prop :=
  (∀ a x, ((![v275] : Fin 1 → IVec S16 32) a x).toNat < S32000.size a)
theorem k0_idx458_inb : ∀ (i : grid0.Coords) (k0_t10 : Fin (k0_t10_loop i).trips) (v275 : IVec S16 32) (k0_hw462 : k0_chk462 i k0_t10 v275), ∀ a x, ((![v275] : Fin 1 → IVec S16 32) a x).toNat < S32000.size a := fun i k0_t10 v275 k0_hw462 => k0_hw462
def k0_off500 (k0_t17 : Fin k0_t17_loop.trips) : Fin 2 → Nat :=
  let c9_i32_172 : BitVec 32 := 9#32
  let v278 : Index := Scalar.indexCast c9_i32_172
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk463 (i : grid0.Coords) (k0_t10 : Fin (k0_t10_loop i).trips) (v282 : IVec S16 32) : Prop :=
  (∀ a x, ((![v282] : Fin 1 → IVec S16 32) a x).toNat < S32000.size a)
theorem k0_idx459_inb : ∀ (i : grid0.Coords) (k0_t10 : Fin (k0_t10_loop i).trips) (v282 : IVec S16 32) (k0_hw463 : k0_chk463 i k0_t10 v282), ∀ a x, ((![v282] : Fin 1 → IVec S16 32) a x).toNat < S32000.size a := fun i k0_t10 v282 k0_hw463 => k0_hw463
def k0_off501 (k0_t17 : Fin k0_t17_loop.trips) : Fin 2 → Nat :=
  let c10_i32_174 : BitVec 32 := 10#32
  let v285 : Index := Scalar.indexCast c10_i32_174
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk464 (i : grid0.Coords) (k0_t10 : Fin (k0_t10_loop i).trips) (v289 : IVec S16 32) : Prop :=
  (∀ a x, ((![v289] : Fin 1 → IVec S16 32) a x).toNat < S32000.size a)
theorem k0_idx460_inb : ∀ (i : grid0.Coords) (k0_t10 : Fin (k0_t10_loop i).trips) (v289 : IVec S16 32) (k0_hw464 : k0_chk464 i k0_t10 v289), ∀ a x, ((![v289] : Fin 1 → IVec S16 32) a x).toNat < S32000.size a := fun i k0_t10 v289 k0_hw464 => k0_hw464
def k0_off502 (k0_t17 : Fin k0_t17_loop.trips) : Fin 2 → Nat :=
  let c11_i32_176 : BitVec 32 := 11#32
  let v292 : Index := Scalar.indexCast c11_i32_176
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk465 (i : grid0.Coords) (k0_t10 : Fin (k0_t10_loop i).trips) (v296 : IVec S16 32) : Prop :=
  (∀ a x, ((![v296] : Fin 1 → IVec S16 32) a x).toNat < S32000.size a)
theorem k0_idx461_inb : ∀ (i : grid0.Coords) (k0_t10 : Fin (k0_t10_loop i).trips) (v296 : IVec S16 32) (k0_hw465 : k0_chk465 i k0_t10 v296), ∀ a x, ((![v296] : Fin 1 → IVec S16 32) a x).toNat < S32000.size a := fun i k0_t10 v296 k0_hw465 => k0_hw465
def k0_off503 (k0_t17 : Fin k0_t17_loop.trips) : Fin 2 → Nat :=
  let c12_i32_178 : BitVec 32 := 12#32
  let v299 : Index := Scalar.indexCast c12_i32_178
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk466 (i : grid0.Coords) (k0_t10 : Fin (k0_t10_loop i).trips) (v303 : IVec S16 32) : Prop :=
  (∀ a x, ((![v303] : Fin 1 → IVec S16 32) a x).toNat < S32000.size a)
theorem k0_idx462_inb : ∀ (i : grid0.Coords) (k0_t10 : Fin (k0_t10_loop i).trips) (v303 : IVec S16 32) (k0_hw466 : k0_chk466 i k0_t10 v303), ∀ a x, ((![v303] : Fin 1 → IVec S16 32) a x).toNat < S32000.size a := fun i k0_t10 v303 k0_hw466 => k0_hw466
def k0_off504 (k0_t17 : Fin k0_t17_loop.trips) : Fin 2 → Nat :=
  let c13_i32_180 : BitVec 32 := 13#32
  let v306 : Index := Scalar.indexCast c13_i32_180
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk467 (i : grid0.Coords) (k0_t10 : Fin (k0_t10_loop i).trips) (v310 : IVec S16 32) : Prop :=
  (∀ a x, ((![v310] : Fin 1 → IVec S16 32) a x).toNat < S32000.size a)
theorem k0_idx463_inb : ∀ (i : grid0.Coords) (k0_t10 : Fin (k0_t10_loop i).trips) (v310 : IVec S16 32) (k0_hw467 : k0_chk467 i k0_t10 v310), ∀ a x, ((![v310] : Fin 1 → IVec S16 32) a x).toNat < S32000.size a := fun i k0_t10 v310 k0_hw467 => k0_hw467
def k0_off505 (k0_t17 : Fin k0_t17_loop.trips) : Fin 2 → Nat :=
  let c14_i32_182 : BitVec 32 := 14#32
  let v313 : Index := Scalar.indexCast c14_i32_182
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk468 (i : grid0.Coords) (k0_t10 : Fin (k0_t10_loop i).trips) (v317 : IVec S16 32) : Prop :=
  (∀ a x, ((![v317] : Fin 1 → IVec S16 32) a x).toNat < S32000.size a)
theorem k0_idx464_inb : ∀ (i : grid0.Coords) (k0_t10 : Fin (k0_t10_loop i).trips) (v317 : IVec S16 32) (k0_hw468 : k0_chk468 i k0_t10 v317), ∀ a x, ((![v317] : Fin 1 → IVec S16 32) a x).toNat < S32000.size a := fun i k0_t10 v317 k0_hw468 => k0_hw468
def k0_off506 (k0_t17 : Fin k0_t17_loop.trips) : Fin 2 → Nat :=
  let c15_i32_184 : BitVec 32 := 15#32
  let v320 : Index := Scalar.indexCast c15_i32_184
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk469 (i : grid0.Coords) (k0_t10 : Fin (k0_t10_loop i).trips) (v324 : IVec S16 32) : Prop :=
  (∀ a x, ((![v324] : Fin 1 → IVec S16 32) a x).toNat < S32000.size a)
theorem k0_idx465_inb : ∀ (i : grid0.Coords) (k0_t10 : Fin (k0_t10_loop i).trips) (v324 : IVec S16 32) (k0_hw469 : k0_chk469 i k0_t10 v324), ∀ a x, ((![v324] : Fin 1 → IVec S16 32) a x).toNat < S32000.size a := fun i k0_t10 v324 k0_hw469 => k0_hw469
def k0_off507 (k0_t17 : Fin k0_t17_loop.trips) : Fin 2 → Nat :=
  let c16_i32_187 : BitVec 32 := 16#32
  let v327 : Index := Scalar.indexCast c16_i32_187
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk470 (i : grid0.Coords) (k0_t10 : Fin (k0_t10_loop i).trips) (v331 : IVec S16 32) : Prop :=
  (∀ a x, ((![v331] : Fin 1 → IVec S16 32) a x).toNat < S32000.size a)
theorem k0_idx466_inb : ∀ (i : grid0.Coords) (k0_t10 : Fin (k0_t10_loop i).trips) (v331 : IVec S16 32) (k0_hw470 : k0_chk470 i k0_t10 v331), ∀ a x, ((![v331] : Fin 1 → IVec S16 32) a x).toNat < S32000.size a := fun i k0_t10 v331 k0_hw470 => k0_hw470
def k0_off508 (k0_t17 : Fin k0_t17_loop.trips) : Fin 2 → Nat :=
  let c17_i32_189 : BitVec 32 := 17#32
  let v334 : Index := Scalar.indexCast c17_i32_189
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk471 (i : grid0.Coords) (k0_t10 : Fin (k0_t10_loop i).trips) (v338 : IVec S16 32) : Prop :=
  (∀ a x, ((![v338] : Fin 1 → IVec S16 32) a x).toNat < S32000.size a)
theorem k0_idx467_inb : ∀ (i : grid0.Coords) (k0_t10 : Fin (k0_t10_loop i).trips) (v338 : IVec S16 32) (k0_hw471 : k0_chk471 i k0_t10 v338), ∀ a x, ((![v338] : Fin 1 → IVec S16 32) a x).toNat < S32000.size a := fun i k0_t10 v338 k0_hw471 => k0_hw471
def k0_off509 (k0_t17 : Fin k0_t17_loop.trips) : Fin 2 → Nat :=
  let c18_i32_191 : BitVec 32 := 18#32
  let v341 : Index := Scalar.indexCast c18_i32_191
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk472 (i : grid0.Coords) (k0_t10 : Fin (k0_t10_loop i).trips) (v345 : IVec S16 32) : Prop :=
  (∀ a x, ((![v345] : Fin 1 → IVec S16 32) a x).toNat < S32000.size a)
theorem k0_idx468_inb : ∀ (i : grid0.Coords) (k0_t10 : Fin (k0_t10_loop i).trips) (v345 : IVec S16 32) (k0_hw472 : k0_chk472 i k0_t10 v345), ∀ a x, ((![v345] : Fin 1 → IVec S16 32) a x).toNat < S32000.size a := fun i k0_t10 v345 k0_hw472 => k0_hw472
def k0_off510 (k0_t17 : Fin k0_t17_loop.trips) : Fin 2 → Nat :=
  let c19_i32_193 : BitVec 32 := 19#32
  let v348 : Index := Scalar.indexCast c19_i32_193
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk473 (i : grid0.Coords) (k0_t10 : Fin (k0_t10_loop i).trips) (v352 : IVec S16 32) : Prop :=
  (∀ a x, ((![v352] : Fin 1 → IVec S16 32) a x).toNat < S32000.size a)
theorem k0_idx469_inb : ∀ (i : grid0.Coords) (k0_t10 : Fin (k0_t10_loop i).trips) (v352 : IVec S16 32) (k0_hw473 : k0_chk473 i k0_t10 v352), ∀ a x, ((![v352] : Fin 1 → IVec S16 32) a x).toNat < S32000.size a := fun i k0_t10 v352 k0_hw473 => k0_hw473
def k0_off511 (k0_t17 : Fin k0_t17_loop.trips) : Fin 2 → Nat :=
  let c20_i32_195 : BitVec 32 := 20#32
  let v355 : Index := Scalar.indexCast c20_i32_195
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk474 (i : grid0.Coords) (k0_t10 : Fin (k0_t10_loop i).trips) (v359 : IVec S16 32) : Prop :=
  (∀ a x, ((![v359] : Fin 1 → IVec S16 32) a x).toNat < S32000.size a)
theorem k0_idx470_inb : ∀ (i : grid0.Coords) (k0_t10 : Fin (k0_t10_loop i).trips) (v359 : IVec S16 32) (k0_hw474 : k0_chk474 i k0_t10 v359), ∀ a x, ((![v359] : Fin 1 → IVec S16 32) a x).toNat < S32000.size a := fun i k0_t10 v359 k0_hw474 => k0_hw474
def k0_off512 (k0_t17 : Fin k0_t17_loop.trips) : Fin 2 → Nat :=
  let c21_i32_197 : BitVec 32 := 21#32
  let v362 : Index := Scalar.indexCast c21_i32_197
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk475 (i : grid0.Coords) (k0_t10 : Fin (k0_t10_loop i).trips) (v366 : IVec S16 32) : Prop :=
  (∀ a x, ((![v366] : Fin 1 → IVec S16 32) a x).toNat < S32000.size a)
theorem k0_idx471_inb : ∀ (i : grid0.Coords) (k0_t10 : Fin (k0_t10_loop i).trips) (v366 : IVec S16 32) (k0_hw475 : k0_chk475 i k0_t10 v366), ∀ a x, ((![v366] : Fin 1 → IVec S16 32) a x).toNat < S32000.size a := fun i k0_t10 v366 k0_hw475 => k0_hw475
def k0_off513 (k0_t17 : Fin k0_t17_loop.trips) : Fin 2 → Nat :=
  let c22_i32_199 : BitVec 32 := 22#32
  let v369 : Index := Scalar.indexCast c22_i32_199
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk476 (i : grid0.Coords) (k0_t10 : Fin (k0_t10_loop i).trips) (v373 : IVec S16 32) : Prop :=
  (∀ a x, ((![v373] : Fin 1 → IVec S16 32) a x).toNat < S32000.size a)
theorem k0_idx472_inb : ∀ (i : grid0.Coords) (k0_t10 : Fin (k0_t10_loop i).trips) (v373 : IVec S16 32) (k0_hw476 : k0_chk476 i k0_t10 v373), ∀ a x, ((![v373] : Fin 1 → IVec S16 32) a x).toNat < S32000.size a := fun i k0_t10 v373 k0_hw476 => k0_hw476
def k0_off514 (k0_t17 : Fin k0_t17_loop.trips) : Fin 2 → Nat :=
  let c23_i32_201 : BitVec 32 := 23#32
  let v376 : Index := Scalar.indexCast c23_i32_201
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk477 (i : grid0.Coords) (k0_t10 : Fin (k0_t10_loop i).trips) (v380 : IVec S16 32) : Prop :=
  (∀ a x, ((![v380] : Fin 1 → IVec S16 32) a x).toNat < S32000.size a)
theorem k0_idx473_inb : ∀ (i : grid0.Coords) (k0_t10 : Fin (k0_t10_loop i).trips) (v380 : IVec S16 32) (k0_hw477 : k0_chk477 i k0_t10 v380), ∀ a x, ((![v380] : Fin 1 → IVec S16 32) a x).toNat < S32000.size a := fun i k0_t10 v380 k0_hw477 => k0_hw477
def k0_off515 (k0_t17 : Fin k0_t17_loop.trips) : Fin 2 → Nat :=
  let c24_i32_203 : BitVec 32 := 24#32
  let v383 : Index := Scalar.indexCast c24_i32_203
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk478 (i : grid0.Coords) (k0_t10 : Fin (k0_t10_loop i).trips) (v387 : IVec S16 32) : Prop :=
  (∀ a x, ((![v387] : Fin 1 → IVec S16 32) a x).toNat < S32000.size a)
theorem k0_idx474_inb : ∀ (i : grid0.Coords) (k0_t10 : Fin (k0_t10_loop i).trips) (v387 : IVec S16 32) (k0_hw478 : k0_chk478 i k0_t10 v387), ∀ a x, ((![v387] : Fin 1 → IVec S16 32) a x).toNat < S32000.size a := fun i k0_t10 v387 k0_hw478 => k0_hw478
def k0_off516 (k0_t17 : Fin k0_t17_loop.trips) : Fin 2 → Nat :=
  let c25_i32_205 : BitVec 32 := 25#32
  let v390 : Index := Scalar.indexCast c25_i32_205
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk479 (i : grid0.Coords) (k0_t10 : Fin (k0_t10_loop i).trips) (v394 : IVec S16 32) : Prop :=
  (∀ a x, ((![v394] : Fin 1 → IVec S16 32) a x).toNat < S32000.size a)
theorem k0_idx475_inb : ∀ (i : grid0.Coords) (k0_t10 : Fin (k0_t10_loop i).trips) (v394 : IVec S16 32) (k0_hw479 : k0_chk479 i k0_t10 v394), ∀ a x, ((![v394] : Fin 1 → IVec S16 32) a x).toNat < S32000.size a := fun i k0_t10 v394 k0_hw479 => k0_hw479
def k0_off517 (k0_t17 : Fin k0_t17_loop.trips) : Fin 2 → Nat :=
  let c26_i32_207 : BitVec 32 := 26#32
  let v397 : Index := Scalar.indexCast c26_i32_207
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk480 (i : grid0.Coords) (k0_t10 : Fin (k0_t10_loop i).trips) (v401 : IVec S16 32) : Prop :=
  (∀ a x, ((![v401] : Fin 1 → IVec S16 32) a x).toNat < S32000.size a)
theorem k0_idx476_inb : ∀ (i : grid0.Coords) (k0_t10 : Fin (k0_t10_loop i).trips) (v401 : IVec S16 32) (k0_hw480 : k0_chk480 i k0_t10 v401), ∀ a x, ((![v401] : Fin 1 → IVec S16 32) a x).toNat < S32000.size a := fun i k0_t10 v401 k0_hw480 => k0_hw480
def k0_off518 (k0_t17 : Fin k0_t17_loop.trips) : Fin 2 → Nat :=
  let c27_i32_209 : BitVec 32 := 27#32
  let v404 : Index := Scalar.indexCast c27_i32_209
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk481 (i : grid0.Coords) (k0_t10 : Fin (k0_t10_loop i).trips) (v408 : IVec S16 32) : Prop :=
  (∀ a x, ((![v408] : Fin 1 → IVec S16 32) a x).toNat < S32000.size a)
theorem k0_idx477_inb : ∀ (i : grid0.Coords) (k0_t10 : Fin (k0_t10_loop i).trips) (v408 : IVec S16 32) (k0_hw481 : k0_chk481 i k0_t10 v408), ∀ a x, ((![v408] : Fin 1 → IVec S16 32) a x).toNat < S32000.size a := fun i k0_t10 v408 k0_hw481 => k0_hw481
def k0_off519 (k0_t17 : Fin k0_t17_loop.trips) : Fin 2 → Nat :=
  let c28_i32_211 : BitVec 32 := 28#32
  let v411 : Index := Scalar.indexCast c28_i32_211
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk482 (i : grid0.Coords) (k0_t10 : Fin (k0_t10_loop i).trips) (v415 : IVec S16 32) : Prop :=
  (∀ a x, ((![v415] : Fin 1 → IVec S16 32) a x).toNat < S32000.size a)
theorem k0_idx478_inb : ∀ (i : grid0.Coords) (k0_t10 : Fin (k0_t10_loop i).trips) (v415 : IVec S16 32) (k0_hw482 : k0_chk482 i k0_t10 v415), ∀ a x, ((![v415] : Fin 1 → IVec S16 32) a x).toNat < S32000.size a := fun i k0_t10 v415 k0_hw482 => k0_hw482
def k0_off520 (k0_t17 : Fin k0_t17_loop.trips) : Fin 2 → Nat :=
  let c29_i32_213 : BitVec 32 := 29#32
  let v418 : Index := Scalar.indexCast c29_i32_213
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk483 (i : grid0.Coords) (k0_t10 : Fin (k0_t10_loop i).trips) (v422 : IVec S16 32) : Prop :=
  (∀ a x, ((![v422] : Fin 1 → IVec S16 32) a x).toNat < S32000.size a)
theorem k0_idx479_inb : ∀ (i : grid0.Coords) (k0_t10 : Fin (k0_t10_loop i).trips) (v422 : IVec S16 32) (k0_hw483 : k0_chk483 i k0_t10 v422), ∀ a x, ((![v422] : Fin 1 → IVec S16 32) a x).toNat < S32000.size a := fun i k0_t10 v422 k0_hw483 => k0_hw483
def k0_off521 (k0_t17 : Fin k0_t17_loop.trips) : Fin 2 → Nat :=
  let c30_i32_215 : BitVec 32 := 30#32
  let v425 : Index := Scalar.indexCast c30_i32_215
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk484 (i : grid0.Coords) (k0_t10 : Fin (k0_t10_loop i).trips) (v429 : IVec S16 32) : Prop :=
  (∀ a x, ((![v429] : Fin 1 → IVec S16 32) a x).toNat < S32000.size a)
theorem k0_idx480_inb : ∀ (i : grid0.Coords) (k0_t10 : Fin (k0_t10_loop i).trips) (v429 : IVec S16 32) (k0_hw484 : k0_chk484 i k0_t10 v429), ∀ a x, ((![v429] : Fin 1 → IVec S16 32) a x).toNat < S32000.size a := fun i k0_t10 v429 k0_hw484 => k0_hw484
def k0_off522 (k0_t17 : Fin k0_t17_loop.trips) : Fin 2 → Nat :=
  let c31_i32_217 : BitVec 32 := 31#32
  let v432 : Index := Scalar.indexCast c31_i32_217
  let c0_i32_142 : BitVec 32 := 0#32
  let c0_i32_121 : BitVec 32 := 0#32
  let c1_i32_123 : BitVec 32 := 1#32
  let arg20 : BitVec 32 := Scf.iv c0_i32_121 c1_i32_123 k0_t17
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult61 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_125 : BitVec 32 := 32#32
  let v179 : BitVec 32 := Scalar.muli v35 c32_i32_125
  v179
def k0_mult62 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_111 : BitVec 32 := 8#32
  let v164 : BitVec 32 := Scalar.muli v37 c8_i32_111
  let c6_i32 : BitVec 32 := 6#32
  let v165 : BitVec 32 := Scalar.addi v164 c6_i32
  let c512_i32_112 : BitVec 32 := 512#32
  let v166 : BitVec 32 := Scalar.muli v165 c512_i32_112
  v166
def k0_cond16 (i : grid0.Coords) (k0_t10 : Fin (k0_t10_loop i).trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  let c0_i32_134 : BitVec 32 := 0#32
  let v195 : BitVec 1 := Scalar.cmpi .sge v146 c0_i32_134
  let v196 : BitVec 32 := Scalar.extui v195
  let c0_i32_135 : BitVec 32 := 0#32
  let v197 : BitVec 1 := Scalar.cmpi .ne v196 c0_i32_135
  v197

def k0_mult63 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  v204
def k0_mult64 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  v146
def k0_off523 (i : grid0.Coords) (k0_t10 : Fin (k0_t10_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_141 : BitVec 32 := 32#32
  let v204 : BitVec 32 := Scalar.muli v35 c32_i32_141
  let v205 : BitVec 32 := v204
  let c4_i32_16 : BitVec 32 := 4#32
  let v36 : BitVec 32 := Scalar.muli c4_i32_16 v35
  let v37 : BitVec 32 := Scalar.subi v18 v36
  let c8_i32_96 : BitVec 32 := 8#32
  let v144 : BitVec 32 := Scalar.muli v37 c8_i32_96
  let c5_i32 : BitVec 32 := 5#32
  let v145 : BitVec 32 := Scalar.addi v144 c5_i32
  let c512_i32_97 : BitVec 32 := 512#32
  let v146 : BitVec 32 := Scalar.muli v145 c512_i32_97
  let v206 : BitVec 32 := v146
  ![v205.toNat, v206.toNat]
@[reducible] def k0_t18_loop : Scf.Loop 32 :=
  let c0_i32_136 : BitVec 32 := 0#32
  let c32_i32_137 : BitVec 32 := 32#32
  let v198 : BitVec 32 := Scalar.addi c0_i32_136 c32_i32_137
  let c1_i32_138 : BitVec 32 := 1#32
  ⟨c0_i32_136, v198, c1_i32_138⟩
def k0_off524 (k0_t18 : Fin k0_t18_loop.trips) : Fin 1 → Nat :=
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32 : BitVec 32 := 16#32
  let v206 : BitVec 32 := Scalar.muli v205 c16_i32
  let v207 : Index := Scalar.indexCast v206
  ![v207.toNat]

def k0_chk485 (i : grid0.Coords) (k0_t10 : Fin (k0_t10_loop i).trips) (v212 : IVec S16 32) : Prop :=
  (∀ a x, ((![v212] : Fin 1 → IVec S16 32) a x).toNat < S32000.size a)
theorem k0_idx481_inb : ∀ (i : grid0.Coords) (k0_t10 : Fin (k0_t10_loop i).trips) (v212 : IVec S16 32) (k0_hw485 : k0_chk485 i k0_t10 v212), ∀ a x, ((![v212] : Fin 1 → IVec S16 32) a x).toNat < S32000.size a := fun i k0_t10 v212 k0_hw485 => k0_hw485
def k0_off525 (k0_t18 : Fin k0_t18_loop.trips) : Fin 2 → Nat :=
  let c0_i32_146 : BitVec 32 := 0#32
  let v215 : Index := Scalar.indexCast c0_i32_146
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_145 : BitVec 32 := 16#32
  let v214 : BitVec 32 := Scalar.muli v205 c16_i32_145
  let v216 : Index := Scalar.indexCast v214
  ![0, v216.toNat]

def k0_chk486 (i : grid0.Coords) (k0_t10 : Fin (k0_t10_loop i).trips) (v219 : IVec S16 32) : Prop :=
  (∀ a x, ((![v219] : Fin 1 → IVec S16 32) a x).toNat < S32000.size a)
theorem k0_idx482_inb : ∀ (i : grid0.Coords) (k0_t10 : Fin (k0_t10_loop i).trips) (v219 : IVec S16 32) (k0_hw486 : k0_chk486 i k0_t10 v219), ∀ a x, ((![v219] : Fin 1 → IVec S16 32) a x).toNat < S32000.size a := fun i k0_t10 v219 k0_hw486 => k0_hw486
def k0_off526 (k0_t18 : Fin k0_t18_loop.trips) : Fin 2 → Nat :=
  let c1_i32_149 : BitVec 32 := 1#32
  let v222 : Index := Scalar.indexCast c1_i32_149
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_148 : BitVec 32 := 16#32
  let v221 : BitVec 32 := Scalar.muli v205 c16_i32_148
  let v223 : Index := Scalar.indexCast v221
  ![1, v223.toNat]

def k0_chk487 (i : grid0.Coords) (k0_t10 : Fin (k0_t10_loop i).trips) (v226 : IVec S16 32) : Prop :=
  (∀ a x, ((![v226] : Fin 1 → IVec S16 32) a x).toNat < S32000.size a)
theorem k0_idx483_inb : ∀ (i : grid0.Coords) (k0_t10 : Fin (k0_t10_loop i).trips) (v226 : IVec S16 32) (k0_hw487 : k0_chk487 i k0_t10 v226), ∀ a x, ((![v226] : Fin 1 → IVec S16 32) a x).toNat < S32000.size a := fun i k0_t10 v226 k0_hw487 => k0_hw487
def k0_off527 (k0_t18 : Fin k0_t18_loop.trips) : Fin 2 → Nat :=
  let c2_i32_152 : BitVec 32 := 2#32
  let v229 : Index := Scalar.indexCast c2_i32_152
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_151 : BitVec 32 := 16#32
  let v228 : BitVec 32 := Scalar.muli v205 c16_i32_151
  let v230 : Index := Scalar.indexCast v228
  ![2, v230.toNat]

def k0_chk488 (i : grid0.Coords) (k0_t10 : Fin (k0_t10_loop i).trips) (v233 : IVec S16 32) : Prop :=
  (∀ a x, ((![v233] : Fin 1 → IVec S16 32) a x).toNat < S32000.size a)
theorem k0_idx484_inb : ∀ (i : grid0.Coords) (k0_t10 : Fin (k0_t10_loop i).trips) (v233 : IVec S16 32) (k0_hw488 : k0_chk488 i k0_t10 v233), ∀ a x, ((![v233] : Fin 1 → IVec S16 32) a x).toNat < S32000.size a := fun i k0_t10 v233 k0_hw488 => k0_hw488
def k0_off528 (k0_t18 : Fin k0_t18_loop.trips) : Fin 2 → Nat :=
  let c3_i32_155 : BitVec 32 := 3#32
  let v236 : Index := Scalar.indexCast c3_i32_155
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_154 : BitVec 32 := 16#32
  let v235 : BitVec 32 := Scalar.muli v205 c16_i32_154
  let v237 : Index := Scalar.indexCast v235
  ![3, v237.toNat]

def k0_chk489 (i : grid0.Coords) (k0_t10 : Fin (k0_t10_loop i).trips) (v240 : IVec S16 32) : Prop :=
  (∀ a x, ((![v240] : Fin 1 → IVec S16 32) a x).toNat < S32000.size a)
theorem k0_idx485_inb : ∀ (i : grid0.Coords) (k0_t10 : Fin (k0_t10_loop i).trips) (v240 : IVec S16 32) (k0_hw489 : k0_chk489 i k0_t10 v240), ∀ a x, ((![v240] : Fin 1 → IVec S16 32) a x).toNat < S32000.size a := fun i k0_t10 v240 k0_hw489 => k0_hw489
def k0_off529 (k0_t18 : Fin k0_t18_loop.trips) : Fin 2 → Nat :=
  let c4_i32_158 : BitVec 32 := 4#32
  let v243 : Index := Scalar.indexCast c4_i32_158
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_157 : BitVec 32 := 16#32
  let v242 : BitVec 32 := Scalar.muli v205 c16_i32_157
  let v244 : Index := Scalar.indexCast v242
  ![4, v244.toNat]

def k0_chk490 (i : grid0.Coords) (k0_t10 : Fin (k0_t10_loop i).trips) (v247 : IVec S16 32) : Prop :=
  (∀ a x, ((![v247] : Fin 1 → IVec S16 32) a x).toNat < S32000.size a)
theorem k0_idx486_inb : ∀ (i : grid0.Coords) (k0_t10 : Fin (k0_t10_loop i).trips) (v247 : IVec S16 32) (k0_hw490 : k0_chk490 i k0_t10 v247), ∀ a x, ((![v247] : Fin 1 → IVec S16 32) a x).toNat < S32000.size a := fun i k0_t10 v247 k0_hw490 => k0_hw490
def k0_off530 (k0_t18 : Fin k0_t18_loop.trips) : Fin 2 → Nat :=
  let c5_i32_161 : BitVec 32 := 5#32
  let v250 : Index := Scalar.indexCast c5_i32_161
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_160 : BitVec 32 := 16#32
  let v249 : BitVec 32 := Scalar.muli v205 c16_i32_160
  let v251 : Index := Scalar.indexCast v249
  ![5, v251.toNat]

def k0_chk491 (i : grid0.Coords) (k0_t10 : Fin (k0_t10_loop i).trips) (v254 : IVec S16 32) : Prop :=
  (∀ a x, ((![v254] : Fin 1 → IVec S16 32) a x).toNat < S32000.size a)
theorem k0_idx487_inb : ∀ (i : grid0.Coords) (k0_t10 : Fin (k0_t10_loop i).trips) (v254 : IVec S16 32) (k0_hw491 : k0_chk491 i k0_t10 v254), ∀ a x, ((![v254] : Fin 1 → IVec S16 32) a x).toNat < S32000.size a := fun i k0_t10 v254 k0_hw491 => k0_hw491
def k0_off531 (k0_t18 : Fin k0_t18_loop.trips) : Fin 2 → Nat :=
  let c6_i32_164 : BitVec 32 := 6#32
  let v257 : Index := Scalar.indexCast c6_i32_164
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_163 : BitVec 32 := 16#32
  let v256 : BitVec 32 := Scalar.muli v205 c16_i32_163
  let v258 : Index := Scalar.indexCast v256
  ![6, v258.toNat]

def k0_chk492 (i : grid0.Coords) (k0_t10 : Fin (k0_t10_loop i).trips) (v261 : IVec S16 32) : Prop :=
  (∀ a x, ((![v261] : Fin 1 → IVec S16 32) a x).toNat < S32000.size a)
theorem k0_idx488_inb : ∀ (i : grid0.Coords) (k0_t10 : Fin (k0_t10_loop i).trips) (v261 : IVec S16 32) (k0_hw492 : k0_chk492 i k0_t10 v261), ∀ a x, ((![v261] : Fin 1 → IVec S16 32) a x).toNat < S32000.size a := fun i k0_t10 v261 k0_hw492 => k0_hw492
def k0_off532 (k0_t18 : Fin k0_t18_loop.trips) : Fin 2 → Nat :=
  let c7_i32_167 : BitVec 32 := 7#32
  let v264 : Index := Scalar.indexCast c7_i32_167
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_166 : BitVec 32 := 16#32
  let v263 : BitVec 32 := Scalar.muli v205 c16_i32_166
  let v265 : Index := Scalar.indexCast v263
  ![7, v265.toNat]

def k0_chk493 (i : grid0.Coords) (k0_t10 : Fin (k0_t10_loop i).trips) (v268 : IVec S16 32) : Prop :=
  (∀ a x, ((![v268] : Fin 1 → IVec S16 32) a x).toNat < S32000.size a)
theorem k0_idx489_inb : ∀ (i : grid0.Coords) (k0_t10 : Fin (k0_t10_loop i).trips) (v268 : IVec S16 32) (k0_hw493 : k0_chk493 i k0_t10 v268), ∀ a x, ((![v268] : Fin 1 → IVec S16 32) a x).toNat < S32000.size a := fun i k0_t10 v268 k0_hw493 => k0_hw493
def k0_off533 (k0_t18 : Fin k0_t18_loop.trips) : Fin 2 → Nat :=
  let c8_i32_170 : BitVec 32 := 8#32
  let v271 : Index := Scalar.indexCast c8_i32_170
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_169 : BitVec 32 := 16#32
  let v270 : BitVec 32 := Scalar.muli v205 c16_i32_169
  let v272 : Index := Scalar.indexCast v270
  ![8, v272.toNat]

def k0_chk494 (i : grid0.Coords) (k0_t10 : Fin (k0_t10_loop i).trips) (v275 : IVec S16 32) : Prop :=
  (∀ a x, ((![v275] : Fin 1 → IVec S16 32) a x).toNat < S32000.size a)
theorem k0_idx490_inb : ∀ (i : grid0.Coords) (k0_t10 : Fin (k0_t10_loop i).trips) (v275 : IVec S16 32) (k0_hw494 : k0_chk494 i k0_t10 v275), ∀ a x, ((![v275] : Fin 1 → IVec S16 32) a x).toNat < S32000.size a := fun i k0_t10 v275 k0_hw494 => k0_hw494
def k0_off534 (k0_t18 : Fin k0_t18_loop.trips) : Fin 2 → Nat :=
  let c9_i32_172 : BitVec 32 := 9#32
  let v278 : Index := Scalar.indexCast c9_i32_172
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_171 : BitVec 32 := 16#32
  let v277 : BitVec 32 := Scalar.muli v205 c16_i32_171
  let v279 : Index := Scalar.indexCast v277
  ![9, v279.toNat]

def k0_chk495 (i : grid0.Coords) (k0_t10 : Fin (k0_t10_loop i).trips) (v282 : IVec S16 32) : Prop :=
  (∀ a x, ((![v282] : Fin 1 → IVec S16 32) a x).toNat < S32000.size a)
theorem k0_idx491_inb : ∀ (i : grid0.Coords) (k0_t10 : Fin (k0_t10_loop i).trips) (v282 : IVec S16 32) (k0_hw495 : k0_chk495 i k0_t10 v282), ∀ a x, ((![v282] : Fin 1 → IVec S16 32) a x).toNat < S32000.size a := fun i k0_t10 v282 k0_hw495 => k0_hw495
def k0_off535 (k0_t18 : Fin k0_t18_loop.trips) : Fin 2 → Nat :=
  let c10_i32_174 : BitVec 32 := 10#32
  let v285 : Index := Scalar.indexCast c10_i32_174
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_173 : BitVec 32 := 16#32
  let v284 : BitVec 32 := Scalar.muli v205 c16_i32_173
  let v286 : Index := Scalar.indexCast v284
  ![10, v286.toNat]

def k0_chk496 (i : grid0.Coords) (k0_t10 : Fin (k0_t10_loop i).trips) (v289 : IVec S16 32) : Prop :=
  (∀ a x, ((![v289] : Fin 1 → IVec S16 32) a x).toNat < S32000.size a)
theorem k0_idx492_inb : ∀ (i : grid0.Coords) (k0_t10 : Fin (k0_t10_loop i).trips) (v289 : IVec S16 32) (k0_hw496 : k0_chk496 i k0_t10 v289), ∀ a x, ((![v289] : Fin 1 → IVec S16 32) a x).toNat < S32000.size a := fun i k0_t10 v289 k0_hw496 => k0_hw496
def k0_off536 (k0_t18 : Fin k0_t18_loop.trips) : Fin 2 → Nat :=
  let c11_i32_176 : BitVec 32 := 11#32
  let v292 : Index := Scalar.indexCast c11_i32_176
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_175 : BitVec 32 := 16#32
  let v291 : BitVec 32 := Scalar.muli v205 c16_i32_175
  let v293 : Index := Scalar.indexCast v291
  ![11, v293.toNat]

def k0_chk497 (i : grid0.Coords) (k0_t10 : Fin (k0_t10_loop i).trips) (v296 : IVec S16 32) : Prop :=
  (∀ a x, ((![v296] : Fin 1 → IVec S16 32) a x).toNat < S32000.size a)
theorem k0_idx493_inb : ∀ (i : grid0.Coords) (k0_t10 : Fin (k0_t10_loop i).trips) (v296 : IVec S16 32) (k0_hw497 : k0_chk497 i k0_t10 v296), ∀ a x, ((![v296] : Fin 1 → IVec S16 32) a x).toNat < S32000.size a := fun i k0_t10 v296 k0_hw497 => k0_hw497
def k0_off537 (k0_t18 : Fin k0_t18_loop.trips) : Fin 2 → Nat :=
  let c12_i32_178 : BitVec 32 := 12#32
  let v299 : Index := Scalar.indexCast c12_i32_178
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_177 : BitVec 32 := 16#32
  let v298 : BitVec 32 := Scalar.muli v205 c16_i32_177
  let v300 : Index := Scalar.indexCast v298
  ![12, v300.toNat]

def k0_chk498 (i : grid0.Coords) (k0_t10 : Fin (k0_t10_loop i).trips) (v303 : IVec S16 32) : Prop :=
  (∀ a x, ((![v303] : Fin 1 → IVec S16 32) a x).toNat < S32000.size a)
theorem k0_idx494_inb : ∀ (i : grid0.Coords) (k0_t10 : Fin (k0_t10_loop i).trips) (v303 : IVec S16 32) (k0_hw498 : k0_chk498 i k0_t10 v303), ∀ a x, ((![v303] : Fin 1 → IVec S16 32) a x).toNat < S32000.size a := fun i k0_t10 v303 k0_hw498 => k0_hw498
def k0_off538 (k0_t18 : Fin k0_t18_loop.trips) : Fin 2 → Nat :=
  let c13_i32_180 : BitVec 32 := 13#32
  let v306 : Index := Scalar.indexCast c13_i32_180
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_179 : BitVec 32 := 16#32
  let v305 : BitVec 32 := Scalar.muli v205 c16_i32_179
  let v307 : Index := Scalar.indexCast v305
  ![13, v307.toNat]

def k0_chk499 (i : grid0.Coords) (k0_t10 : Fin (k0_t10_loop i).trips) (v310 : IVec S16 32) : Prop :=
  (∀ a x, ((![v310] : Fin 1 → IVec S16 32) a x).toNat < S32000.size a)
theorem k0_idx495_inb : ∀ (i : grid0.Coords) (k0_t10 : Fin (k0_t10_loop i).trips) (v310 : IVec S16 32) (k0_hw499 : k0_chk499 i k0_t10 v310), ∀ a x, ((![v310] : Fin 1 → IVec S16 32) a x).toNat < S32000.size a := fun i k0_t10 v310 k0_hw499 => k0_hw499
def k0_off539 (k0_t18 : Fin k0_t18_loop.trips) : Fin 2 → Nat :=
  let c14_i32_182 : BitVec 32 := 14#32
  let v313 : Index := Scalar.indexCast c14_i32_182
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_181 : BitVec 32 := 16#32
  let v312 : BitVec 32 := Scalar.muli v205 c16_i32_181
  let v314 : Index := Scalar.indexCast v312
  ![14, v314.toNat]

def k0_chk500 (i : grid0.Coords) (k0_t10 : Fin (k0_t10_loop i).trips) (v317 : IVec S16 32) : Prop :=
  (∀ a x, ((![v317] : Fin 1 → IVec S16 32) a x).toNat < S32000.size a)
theorem k0_idx496_inb : ∀ (i : grid0.Coords) (k0_t10 : Fin (k0_t10_loop i).trips) (v317 : IVec S16 32) (k0_hw500 : k0_chk500 i k0_t10 v317), ∀ a x, ((![v317] : Fin 1 → IVec S16 32) a x).toNat < S32000.size a := fun i k0_t10 v317 k0_hw500 => k0_hw500
def k0_off540 (k0_t18 : Fin k0_t18_loop.trips) : Fin 2 → Nat :=
  let c15_i32_184 : BitVec 32 := 15#32
  let v320 : Index := Scalar.indexCast c15_i32_184
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_183 : BitVec 32 := 16#32
  let v319 : BitVec 32 := Scalar.muli v205 c16_i32_183
  let v321 : Index := Scalar.indexCast v319
  ![15, v321.toNat]

def k0_chk501 (i : grid0.Coords) (k0_t10 : Fin (k0_t10_loop i).trips) (v324 : IVec S16 32) : Prop :=
  (∀ a x, ((![v324] : Fin 1 → IVec S16 32) a x).toNat < S32000.size a)
theorem k0_idx497_inb : ∀ (i : grid0.Coords) (k0_t10 : Fin (k0_t10_loop i).trips) (v324 : IVec S16 32) (k0_hw501 : k0_chk501 i k0_t10 v324), ∀ a x, ((![v324] : Fin 1 → IVec S16 32) a x).toNat < S32000.size a := fun i k0_t10 v324 k0_hw501 => k0_hw501
def k0_off541 (k0_t18 : Fin k0_t18_loop.trips) : Fin 2 → Nat :=
  let c16_i32_187 : BitVec 32 := 16#32
  let v327 : Index := Scalar.indexCast c16_i32_187
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_186 : BitVec 32 := 16#32
  let v326 : BitVec 32 := Scalar.muli v205 c16_i32_186
  let v328 : Index := Scalar.indexCast v326
  ![16, v328.toNat]

def k0_chk502 (i : grid0.Coords) (k0_t10 : Fin (k0_t10_loop i).trips) (v331 : IVec S16 32) : Prop :=
  (∀ a x, ((![v331] : Fin 1 → IVec S16 32) a x).toNat < S32000.size a)
theorem k0_idx498_inb : ∀ (i : grid0.Coords) (k0_t10 : Fin (k0_t10_loop i).trips) (v331 : IVec S16 32) (k0_hw502 : k0_chk502 i k0_t10 v331), ∀ a x, ((![v331] : Fin 1 → IVec S16 32) a x).toNat < S32000.size a := fun i k0_t10 v331 k0_hw502 => k0_hw502
def k0_off542 (k0_t18 : Fin k0_t18_loop.trips) : Fin 2 → Nat :=
  let c17_i32_189 : BitVec 32 := 17#32
  let v334 : Index := Scalar.indexCast c17_i32_189
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_188 : BitVec 32 := 16#32
  let v333 : BitVec 32 := Scalar.muli v205 c16_i32_188
  let v335 : Index := Scalar.indexCast v333
  ![17, v335.toNat]

def k0_chk503 (i : grid0.Coords) (k0_t10 : Fin (k0_t10_loop i).trips) (v338 : IVec S16 32) : Prop :=
  (∀ a x, ((![v338] : Fin 1 → IVec S16 32) a x).toNat < S32000.size a)
theorem k0_idx499_inb : ∀ (i : grid0.Coords) (k0_t10 : Fin (k0_t10_loop i).trips) (v338 : IVec S16 32) (k0_hw503 : k0_chk503 i k0_t10 v338), ∀ a x, ((![v338] : Fin 1 → IVec S16 32) a x).toNat < S32000.size a := fun i k0_t10 v338 k0_hw503 => k0_hw503
def k0_off543 (k0_t18 : Fin k0_t18_loop.trips) : Fin 2 → Nat :=
  let c18_i32_191 : BitVec 32 := 18#32
  let v341 : Index := Scalar.indexCast c18_i32_191
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_190 : BitVec 32 := 16#32
  let v340 : BitVec 32 := Scalar.muli v205 c16_i32_190
  let v342 : Index := Scalar.indexCast v340
  ![18, v342.toNat]

def k0_chk504 (i : grid0.Coords) (k0_t10 : Fin (k0_t10_loop i).trips) (v345 : IVec S16 32) : Prop :=
  (∀ a x, ((![v345] : Fin 1 → IVec S16 32) a x).toNat < S32000.size a)
theorem k0_idx500_inb : ∀ (i : grid0.Coords) (k0_t10 : Fin (k0_t10_loop i).trips) (v345 : IVec S16 32) (k0_hw504 : k0_chk504 i k0_t10 v345), ∀ a x, ((![v345] : Fin 1 → IVec S16 32) a x).toNat < S32000.size a := fun i k0_t10 v345 k0_hw504 => k0_hw504
def k0_off544 (k0_t18 : Fin k0_t18_loop.trips) : Fin 2 → Nat :=
  let c19_i32_193 : BitVec 32 := 19#32
  let v348 : Index := Scalar.indexCast c19_i32_193
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_192 : BitVec 32 := 16#32
  let v347 : BitVec 32 := Scalar.muli v205 c16_i32_192
  let v349 : Index := Scalar.indexCast v347
  ![19, v349.toNat]

def k0_chk505 (i : grid0.Coords) (k0_t10 : Fin (k0_t10_loop i).trips) (v352 : IVec S16 32) : Prop :=
  (∀ a x, ((![v352] : Fin 1 → IVec S16 32) a x).toNat < S32000.size a)
theorem k0_idx501_inb : ∀ (i : grid0.Coords) (k0_t10 : Fin (k0_t10_loop i).trips) (v352 : IVec S16 32) (k0_hw505 : k0_chk505 i k0_t10 v352), ∀ a x, ((![v352] : Fin 1 → IVec S16 32) a x).toNat < S32000.size a := fun i k0_t10 v352 k0_hw505 => k0_hw505
def k0_off545 (k0_t18 : Fin k0_t18_loop.trips) : Fin 2 → Nat :=
  let c20_i32_195 : BitVec 32 := 20#32
  let v355 : Index := Scalar.indexCast c20_i32_195
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_194 : BitVec 32 := 16#32
  let v354 : BitVec 32 := Scalar.muli v205 c16_i32_194
  let v356 : Index := Scalar.indexCast v354
  ![20, v356.toNat]

def k0_chk506 (i : grid0.Coords) (k0_t10 : Fin (k0_t10_loop i).trips) (v359 : IVec S16 32) : Prop :=
  (∀ a x, ((![v359] : Fin 1 → IVec S16 32) a x).toNat < S32000.size a)
theorem k0_idx502_inb : ∀ (i : grid0.Coords) (k0_t10 : Fin (k0_t10_loop i).trips) (v359 : IVec S16 32) (k0_hw506 : k0_chk506 i k0_t10 v359), ∀ a x, ((![v359] : Fin 1 → IVec S16 32) a x).toNat < S32000.size a := fun i k0_t10 v359 k0_hw506 => k0_hw506
def k0_off546 (k0_t18 : Fin k0_t18_loop.trips) : Fin 2 → Nat :=
  let c21_i32_197 : BitVec 32 := 21#32
  let v362 : Index := Scalar.indexCast c21_i32_197
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_196 : BitVec 32 := 16#32
  let v361 : BitVec 32 := Scalar.muli v205 c16_i32_196
  let v363 : Index := Scalar.indexCast v361
  ![21, v363.toNat]

def k0_chk507 (i : grid0.Coords) (k0_t10 : Fin (k0_t10_loop i).trips) (v366 : IVec S16 32) : Prop :=
  (∀ a x, ((![v366] : Fin 1 → IVec S16 32) a x).toNat < S32000.size a)
theorem k0_idx503_inb : ∀ (i : grid0.Coords) (k0_t10 : Fin (k0_t10_loop i).trips) (v366 : IVec S16 32) (k0_hw507 : k0_chk507 i k0_t10 v366), ∀ a x, ((![v366] : Fin 1 → IVec S16 32) a x).toNat < S32000.size a := fun i k0_t10 v366 k0_hw507 => k0_hw507
def k0_off547 (k0_t18 : Fin k0_t18_loop.trips) : Fin 2 → Nat :=
  let c22_i32_199 : BitVec 32 := 22#32
  let v369 : Index := Scalar.indexCast c22_i32_199
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_198 : BitVec 32 := 16#32
  let v368 : BitVec 32 := Scalar.muli v205 c16_i32_198
  let v370 : Index := Scalar.indexCast v368
  ![22, v370.toNat]

def k0_chk508 (i : grid0.Coords) (k0_t10 : Fin (k0_t10_loop i).trips) (v373 : IVec S16 32) : Prop :=
  (∀ a x, ((![v373] : Fin 1 → IVec S16 32) a x).toNat < S32000.size a)
theorem k0_idx504_inb : ∀ (i : grid0.Coords) (k0_t10 : Fin (k0_t10_loop i).trips) (v373 : IVec S16 32) (k0_hw508 : k0_chk508 i k0_t10 v373), ∀ a x, ((![v373] : Fin 1 → IVec S16 32) a x).toNat < S32000.size a := fun i k0_t10 v373 k0_hw508 => k0_hw508
def k0_off548 (k0_t18 : Fin k0_t18_loop.trips) : Fin 2 → Nat :=
  let c23_i32_201 : BitVec 32 := 23#32
  let v376 : Index := Scalar.indexCast c23_i32_201
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_200 : BitVec 32 := 16#32
  let v375 : BitVec 32 := Scalar.muli v205 c16_i32_200
  let v377 : Index := Scalar.indexCast v375
  ![23, v377.toNat]

def k0_chk509 (i : grid0.Coords) (k0_t10 : Fin (k0_t10_loop i).trips) (v380 : IVec S16 32) : Prop :=
  (∀ a x, ((![v380] : Fin 1 → IVec S16 32) a x).toNat < S32000.size a)
theorem k0_idx505_inb : ∀ (i : grid0.Coords) (k0_t10 : Fin (k0_t10_loop i).trips) (v380 : IVec S16 32) (k0_hw509 : k0_chk509 i k0_t10 v380), ∀ a x, ((![v380] : Fin 1 → IVec S16 32) a x).toNat < S32000.size a := fun i k0_t10 v380 k0_hw509 => k0_hw509
def k0_off549 (k0_t18 : Fin k0_t18_loop.trips) : Fin 2 → Nat :=
  let c24_i32_203 : BitVec 32 := 24#32
  let v383 : Index := Scalar.indexCast c24_i32_203
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_202 : BitVec 32 := 16#32
  let v382 : BitVec 32 := Scalar.muli v205 c16_i32_202
  let v384 : Index := Scalar.indexCast v382
  ![24, v384.toNat]

def k0_chk510 (i : grid0.Coords) (k0_t10 : Fin (k0_t10_loop i).trips) (v387 : IVec S16 32) : Prop :=
  (∀ a x, ((![v387] : Fin 1 → IVec S16 32) a x).toNat < S32000.size a)
theorem k0_idx506_inb : ∀ (i : grid0.Coords) (k0_t10 : Fin (k0_t10_loop i).trips) (v387 : IVec S16 32) (k0_hw510 : k0_chk510 i k0_t10 v387), ∀ a x, ((![v387] : Fin 1 → IVec S16 32) a x).toNat < S32000.size a := fun i k0_t10 v387 k0_hw510 => k0_hw510
def k0_off550 (k0_t18 : Fin k0_t18_loop.trips) : Fin 2 → Nat :=
  let c25_i32_205 : BitVec 32 := 25#32
  let v390 : Index := Scalar.indexCast c25_i32_205
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_204 : BitVec 32 := 16#32
  let v389 : BitVec 32 := Scalar.muli v205 c16_i32_204
  let v391 : Index := Scalar.indexCast v389
  ![25, v391.toNat]

def k0_chk511 (i : grid0.Coords) (k0_t10 : Fin (k0_t10_loop i).trips) (v394 : IVec S16 32) : Prop :=
  (∀ a x, ((![v394] : Fin 1 → IVec S16 32) a x).toNat < S32000.size a)
theorem k0_idx507_inb : ∀ (i : grid0.Coords) (k0_t10 : Fin (k0_t10_loop i).trips) (v394 : IVec S16 32) (k0_hw511 : k0_chk511 i k0_t10 v394), ∀ a x, ((![v394] : Fin 1 → IVec S16 32) a x).toNat < S32000.size a := fun i k0_t10 v394 k0_hw511 => k0_hw511
def k0_off551 (k0_t18 : Fin k0_t18_loop.trips) : Fin 2 → Nat :=
  let c26_i32_207 : BitVec 32 := 26#32
  let v397 : Index := Scalar.indexCast c26_i32_207
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_206 : BitVec 32 := 16#32
  let v396 : BitVec 32 := Scalar.muli v205 c16_i32_206
  let v398 : Index := Scalar.indexCast v396
  ![26, v398.toNat]

def k0_chk512 (i : grid0.Coords) (k0_t10 : Fin (k0_t10_loop i).trips) (v401 : IVec S16 32) : Prop :=
  (∀ a x, ((![v401] : Fin 1 → IVec S16 32) a x).toNat < S32000.size a)
theorem k0_idx508_inb : ∀ (i : grid0.Coords) (k0_t10 : Fin (k0_t10_loop i).trips) (v401 : IVec S16 32) (k0_hw512 : k0_chk512 i k0_t10 v401), ∀ a x, ((![v401] : Fin 1 → IVec S16 32) a x).toNat < S32000.size a := fun i k0_t10 v401 k0_hw512 => k0_hw512
def k0_off552 (k0_t18 : Fin k0_t18_loop.trips) : Fin 2 → Nat :=
  let c27_i32_209 : BitVec 32 := 27#32
  let v404 : Index := Scalar.indexCast c27_i32_209
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_208 : BitVec 32 := 16#32
  let v403 : BitVec 32 := Scalar.muli v205 c16_i32_208
  let v405 : Index := Scalar.indexCast v403
  ![27, v405.toNat]

def k0_chk513 (i : grid0.Coords) (k0_t10 : Fin (k0_t10_loop i).trips) (v408 : IVec S16 32) : Prop :=
  (∀ a x, ((![v408] : Fin 1 → IVec S16 32) a x).toNat < S32000.size a)
theorem k0_idx509_inb : ∀ (i : grid0.Coords) (k0_t10 : Fin (k0_t10_loop i).trips) (v408 : IVec S16 32) (k0_hw513 : k0_chk513 i k0_t10 v408), ∀ a x, ((![v408] : Fin 1 → IVec S16 32) a x).toNat < S32000.size a := fun i k0_t10 v408 k0_hw513 => k0_hw513
def k0_off553 (k0_t18 : Fin k0_t18_loop.trips) : Fin 2 → Nat :=
  let c28_i32_211 : BitVec 32 := 28#32
  let v411 : Index := Scalar.indexCast c28_i32_211
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_210 : BitVec 32 := 16#32
  let v410 : BitVec 32 := Scalar.muli v205 c16_i32_210
  let v412 : Index := Scalar.indexCast v410
  ![28, v412.toNat]

def k0_chk514 (i : grid0.Coords) (k0_t10 : Fin (k0_t10_loop i).trips) (v415 : IVec S16 32) : Prop :=
  (∀ a x, ((![v415] : Fin 1 → IVec S16 32) a x).toNat < S32000.size a)
theorem k0_idx510_inb : ∀ (i : grid0.Coords) (k0_t10 : Fin (k0_t10_loop i).trips) (v415 : IVec S16 32) (k0_hw514 : k0_chk514 i k0_t10 v415), ∀ a x, ((![v415] : Fin 1 → IVec S16 32) a x).toNat < S32000.size a := fun i k0_t10 v415 k0_hw514 => k0_hw514
def k0_off554 (k0_t18 : Fin k0_t18_loop.trips) : Fin 2 → Nat :=
  let c29_i32_213 : BitVec 32 := 29#32
  let v418 : Index := Scalar.indexCast c29_i32_213
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_212 : BitVec 32 := 16#32
  let v417 : BitVec 32 := Scalar.muli v205 c16_i32_212
  let v419 : Index := Scalar.indexCast v417
  ![29, v419.toNat]

def k0_chk515 (i : grid0.Coords) (k0_t10 : Fin (k0_t10_loop i).trips) (v422 : IVec S16 32) : Prop :=
  (∀ a x, ((![v422] : Fin 1 → IVec S16 32) a x).toNat < S32000.size a)
theorem k0_idx511_inb : ∀ (i : grid0.Coords) (k0_t10 : Fin (k0_t10_loop i).trips) (v422 : IVec S16 32) (k0_hw515 : k0_chk515 i k0_t10 v422), ∀ a x, ((![v422] : Fin 1 → IVec S16 32) a x).toNat < S32000.size a := fun i k0_t10 v422 k0_hw515 => k0_hw515
def k0_off555 (k0_t18 : Fin k0_t18_loop.trips) : Fin 2 → Nat :=
  let c30_i32_215 : BitVec 32 := 30#32
  let v425 : Index := Scalar.indexCast c30_i32_215
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_214 : BitVec 32 := 16#32
  let v424 : BitVec 32 := Scalar.muli v205 c16_i32_214
  let v426 : Index := Scalar.indexCast v424
  ![30, v426.toNat]

def k0_chk516 (i : grid0.Coords) (k0_t10 : Fin (k0_t10_loop i).trips) (v429 : IVec S16 32) : Prop :=
  (∀ a x, ((![v429] : Fin 1 → IVec S16 32) a x).toNat < S32000.size a)
theorem k0_idx512_inb : ∀ (i : grid0.Coords) (k0_t10 : Fin (k0_t10_loop i).trips) (v429 : IVec S16 32) (k0_hw516 : k0_chk516 i k0_t10 v429), ∀ a x, ((![v429] : Fin 1 → IVec S16 32) a x).toNat < S32000.size a := fun i k0_t10 v429 k0_hw516 => k0_hw516
def k0_off556 (k0_t18 : Fin k0_t18_loop.trips) : Fin 2 → Nat :=
  let c31_i32_217 : BitVec 32 := 31#32
  let v432 : Index := Scalar.indexCast c31_i32_217
  let c0_i32_142 : BitVec 32 := 0#32
  let c0_i32_136 : BitVec 32 := 0#32
  let c1_i32_138 : BitVec 32 := 1#32
  let arg20 : BitVec 32 := Scf.iv c0_i32_136 c1_i32_138 k0_t18
  let c1_i32_141 : BitVec 32 := 1#32
  let v204 : BitVec 32 := Scalar.muli arg20 c1_i32_141
  let v205 : BitVec 32 := Scalar.addi c0_i32_142 v204
  let c16_i32_216 : BitVec 32 := 16#32
  let v431 : BitVec 32 := Scalar.muli v205 c16_i32_216
  let v433 : Index := Scalar.indexCast v431
  ![31, v433.toNat]
def k0_mult65 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let c32_i32_140 : BitVec 32 := 32#32
  let v199 : BitVec 32 := Scalar.muli v35 c32_i32_140
  v199
def k0_mult66 (i : grid0.Coords) (k0_t10 : Fin (k0_t10_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32 : BitVec 32 := 0#32
  let c8_i32 : BitVec 32 := 8#32
  let v2 : BitVec 1 := Scalar.cmpi .slt v1 c8_i32
  let c4_i32 : BitVec 32 := 4#32
  let c3_i32 : BitVec 32 := 3#32
  let v3 : BitVec 32 := Scalar.select v2 c4_i32 c3_i32
  let v4 : BitVec 32 := Scalar.subi v3 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_4 : BitVec 32 := 1#32
  let arg15 : BitVec 32 := Scf.iv v8 c1_i32_4 k0_t10
  let v17 : BitVec 32 := Scalar.muli c32_i32 arg15
  let v18 : BitVec 32 := Scalar.addi v1 v17
  let c4_i32_16 : BitVec 32 := 4#32
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32_9 : BitVec 32 := 4#32
  let c0_i32_12 : BitVec 32 := 0#32
  let v25 : BitVec 1 := Scalar.cmpi .sgt c4_i32_9 c0_i32_12
  let v26 : BitVec 32 := Scalar.extui v25
  let c0_i32_13 : BitVec 32 := 0#32
  let v27 : BitVec 1 := Scalar.cmpi .slt c4_i32_9 c0_i32_13
  let v28 : BitVec 32 := Scalar.extui v27
  let v29 : BitVec 32 := Scalar.subi v26 v28
  let v30 : BitVec 1 := Scalar.cmpi .ne v24 v29
  let v31 : BitVec 32 := Scalar.remsi v18 c4_i32_9
  let c0_i32_14 : BitVec 32 := 0#32
  let v32 : BitVec 1 := Scalar.cmpi .ne v31 c0_i32_14
  let v33 : BitVec 1 := Scalar.andi v30 v32
  let v19 : BitVec 32 := Scalar.divsi v18 c4_i32_9
  let c1_i32_15 : BitVec 32 := 1#32
  let v34 : BitVec 32 := Scalar.subi v19 c1_i32_15
  let v35 : BitVec 32 := Scalar.select v33 v34 v19
  let v36 : BitVec 32 := Scalar.muli c4_i32_16 v35
  let v37 : BitVec 32 := Scalar.subi v18 v36
  let c8_i32_126 : BitVec 32 := 8#32
  let v184 : BitVec 32 := Scalar.muli v37 c8_i32_126
  let c7_i32 : BitVec 32 := 7#32
  let v185 : BitVec 32 := Scalar.addi v184 c7_i32
  let c512_i32_127 : BitVec 32 := 512#32
  let v186 : BitVec 32 := Scalar.muli v185 c512_i32_127
  v186
def k0_mult67 (v10_0 : BitVec 32) : BitVec 32 :=
  let c32_i32 : BitVec 32 := 32#32
  let v17 : BitVec 32 := Scalar.muli v10_0 c32_i32
  v17
def k0_cond17 (v10_1 : BitVec 32) : BitVec 1 :=
  let c0_i32_5 : BitVec 32 := 0#32
  let v11 : BitVec 1 := Scalar.cmpi .sge v10_1 c0_i32_5
  let v12 : BitVec 32 := Scalar.extui v11
  let c0_i32_6 : BitVec 32 := 0#32
  let v13 : BitVec 1 := Scalar.cmpi .ne v12 c0_i32_6
  v13

def k0_mult68 (v10_1 : BitVec 32) : BitVec 32 :=
  v10_1

def k0_chk518 (v10_1 : BitVec 32) : Prop :=
  (∀ (k0_h17 : k0_cond17 v10_1 = 1#1), 512 ∣ (k0_mult68 v10_1).toNat)
theorem k0_mult68_dvd : ∀ (v10_1 : BitVec 32) (k0_hw518 : k0_chk518 v10_1), ∀ (k0_h17 : k0_cond17 v10_1 = 1#1), 512 ∣ (k0_mult68 v10_1).toNat := fun v10_1 k0_hw518 k0_h17 => k0_hw518 k0_h17

def k0_off557 (v10_1 : BitVec 32) (v10_0 : BitVec 32) : Fin 2 → Nat :=
  let c32_i32 : BitVec 32 := 32#32
  let v17 : BitVec 32 := Scalar.muli v10_0 c32_i32
  let v18 : BitVec 32 := v17
  let v19 : BitVec 32 := v10_1
  ![v18.toNat, v19.toNat]

def k0_chk517 (v10_1 : BitVec 32) (v10_0 : BitVec 32) : Prop :=
  (∀ (k0_h17 : k0_cond17 v10_1 = 1#1), 32 ∣ (k0_mult67 v10_0).toNat) ∧
  (∀ (k0_h17 : k0_cond17 v10_1 = 1#1), ∀ a, (k0_off557 v10_1 v10_0) a + S32x512.size a ≤ S832x16384.size a)
theorem k0_mult67_dvd : ∀ (v10_1 : BitVec 32) (v10_0 : BitVec 32) (k0_hw517 : k0_chk517 v10_1 v10_0), ∀ (k0_h17 : k0_cond17 v10_1 = 1#1), 32 ∣ (k0_mult67 v10_0).toNat := fun v10_1 v10_0 k0_hw517 k0_h17 => k0_hw517.1 k0_h17
theorem k0_off557_inb : ∀ (v10_1 : BitVec 32) (v10_0 : BitVec 32) (k0_hw517 : k0_chk517 v10_1 v10_0), ∀ (k0_h17 : k0_cond17 v10_1 = 1#1), ∀ a, (k0_off557 v10_1 v10_0) a + S32x512.size a ≤ S832x16384.size a := fun v10_1 v10_0 k0_hw517 k0_h17 => k0_hw517.2 k0_h17

def k0_mult69 (v10_2 : BitVec 32) : BitVec 32 :=
  let c32_i32 : BitVec 32 := 32#32
  let v17 : BitVec 32 := Scalar.muli v10_2 c32_i32
  v17
def k0_cond18 (v10_3 : BitVec 32) : BitVec 1 :=
  let c0_i32_7 : BitVec 32 := 0#32
  let v14 : BitVec 1 := Scalar.cmpi .sge v10_3 c0_i32_7
  let v15 : BitVec 32 := Scalar.extui v14
  let c0_i32_8 : BitVec 32 := 0#32
  let v16 : BitVec 1 := Scalar.cmpi .ne v15 c0_i32_8
  v16

def k0_mult70 (v10_3 : BitVec 32) : BitVec 32 :=
  v10_3

def k0_chk520 (v10_3 : BitVec 32) : Prop :=
  (∀ (k0_h18 : k0_cond18 v10_3 = 1#1), 512 ∣ (k0_mult70 v10_3).toNat)
theorem k0_mult70_dvd : ∀ (v10_3 : BitVec 32) (k0_hw520 : k0_chk520 v10_3), ∀ (k0_h18 : k0_cond18 v10_3 = 1#1), 512 ∣ (k0_mult70 v10_3).toNat := fun v10_3 k0_hw520 k0_h18 => k0_hw520 k0_h18

def k0_off558 (v10_3 : BitVec 32) (v10_2 : BitVec 32) : Fin 2 → Nat :=
  let c32_i32 : BitVec 32 := 32#32
  let v17 : BitVec 32 := Scalar.muli v10_2 c32_i32
  let v18 : BitVec 32 := v17
  let v19 : BitVec 32 := v10_3
  ![v18.toNat, v19.toNat]

def k0_chk519 (v10_3 : BitVec 32) (v10_2 : BitVec 32) : Prop :=
  (∀ (k0_h18 : k0_cond18 v10_3 = 1#1), 32 ∣ (k0_mult69 v10_2).toNat) ∧
  (∀ (k0_h18 : k0_cond18 v10_3 = 1#1), ∀ a, (k0_off558 v10_3 v10_2) a + S32x512.size a ≤ S832x16384.size a)
theorem k0_mult69_dvd : ∀ (v10_3 : BitVec 32) (v10_2 : BitVec 32) (k0_hw519 : k0_chk519 v10_3 v10_2), ∀ (k0_h18 : k0_cond18 v10_3 = 1#1), 32 ∣ (k0_mult69 v10_2).toNat := fun v10_3 v10_2 k0_hw519 k0_h18 => k0_hw519.1 k0_h18
theorem k0_off558_inb : ∀ (v10_3 : BitVec 32) (v10_2 : BitVec 32) (k0_hw519 : k0_chk519 v10_3 v10_2), ∀ (k0_h18 : k0_cond18 v10_3 = 1#1), ∀ a, (k0_off558 v10_3 v10_2) a + S32x512.size a ≤ S832x16384.size a := fun v10_3 v10_2 k0_hw519 k0_h18 => k0_hw519.2 k0_h18

abbrev grid1 : Pipeline.Grid := ⟨1, ![32], ![false]⟩

def k1_off1 (i : grid1.Coords) : Fin 2 → Nat :=
  let arg0 : BitVec 32 := BitVec.ofNat 32 (i 0).val
  let c512_i32 : BitVec 32 := 512#32
  let v26 : BitVec 32 := Scalar.muli arg0 c512_i32
  let v27 : Index := Scalar.indexCast v26
  let c0_10 : Index := 0#32
  ![v27.toNat, 0]
def k1_cond2 (i : grid1.Coords) : BitVec 1 :=
  let arg0 : BitVec 32 := BitVec.ofNat 32 (i 0).val
  let c31_i32 : BitVec 32 := 31#32
  let v46 : BitVec 1 := Scalar.cmpi .eq arg0 c31_i32
  let v47 : BitVec 32 := Scalar.extui v46
  let c0_i32_21 : BitVec 32 := 0#32
  let v48 : BitVec 1 := Scalar.cmpi .ne v47 c0_i32_21
  v48

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S832x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S832x150 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S832x150 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x150 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S150x75 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x75 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S75x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x150 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x150 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x75 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x75 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S16384x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S832000 : Shape := ⟨1, ![832000]⟩
abbrev S1300x150 : Shape := ⟨2, ![1300, 150]⟩
abbrev S150 : Shape := ⟨1, ![150]⟩
abbrev S150x75 : Shape := ⟨2, ![150, 75]⟩
abbrev S75 : Shape := ⟨1, ![75]⟩
abbrev S75x1 : Shape := ⟨2, ![75, 1]⟩
abbrev S1 : Shape := ⟨1, ![1]⟩
abbrev S26x1000x2x16 : Shape := ⟨4, ![26, 1000, 2, 16]⟩
abbrev S_ : Shape := ⟨0, ![]⟩
abbrev S26x1000x2x1x16 : Shape := ⟨5, ![26, 1000, 2, 1, 16]⟩
abbrev S26x1000x2x2x16 : Shape := ⟨5, ![26, 1000, 2, 2, 16]⟩
abbrev S26x1000x64 : Shape := ⟨3, ![26, 1000, 64]⟩
abbrev S26x1000x50 : Shape := ⟨3, ![26, 1000, 50]⟩
abbrev S26x16384 : Shape := ⟨2, ![26, 16384]⟩
abbrev S26x16384x1 : Shape := ⟨3, ![26, 16384, 1]⟩
abbrev S26x16384x50 : Shape := ⟨3, ![26, 16384, 50]⟩
abbrev S16384x26x50 : Shape := ⟨3, ![16384, 26, 50]⟩
abbrev S16384x1300 : Shape := ⟨2, ![16384, 1300]⟩
abbrev S16384x150 : Shape := ⟨2, ![16384, 150]⟩
abbrev S1x150 : Shape := ⟨2, ![1, 150]⟩
abbrev S16384x75 : Shape := ⟨2, ![16384, 75]⟩
abbrev S1x75 : Shape := ⟨2, ![1, 75]⟩
abbrev S16384x1 : Shape := ⟨2, ![16384, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S832000, .i32⟩
  | .hbm, ⟨2, _⟩ => ⟨S1300x150, .f32⟩
  | .hbm, ⟨3, _⟩ => ⟨S150, .f32⟩
  | .hbm, ⟨4, _⟩ => ⟨S150x75, .f32⟩
  | .hbm, ⟨5, _⟩ => ⟨S75, .f32⟩
  | .hbm, ⟨6, _⟩ => ⟨S75x1, .f32⟩
  | .hbm, ⟨7, _⟩ => ⟨S1, .f32⟩
  | .hbm, ⟨8, _⟩ => ⟨S150, .f32⟩
  | .hbm, ⟨9, _⟩ => ⟨S150, .f32⟩
  | .hbm, ⟨10, _⟩ => ⟨S75, .f32⟩
  | .hbm, ⟨11, _⟩ => ⟨S75, .f32⟩
  | .hbm, ⟨12, _⟩ => ⟨S26x1000x2x16, .i32⟩
  | .hbm, ⟨13, _⟩ => ⟨S_, .i32⟩
  | .hbm, ⟨14, _⟩ => ⟨S26x1000x2x16, .i32⟩
  | .hbm, ⟨15, _⟩ => ⟨S26x1000x2x16, .i32⟩
  | .hbm, ⟨16, _⟩ => ⟨S26x1000x2x16, .f32⟩
  | .hbm, ⟨17, _⟩ => ⟨S_, .i32⟩
  | .hbm, ⟨18, _⟩ => ⟨S26x1000x2x16, .i32⟩
  | .hbm, ⟨19, _⟩ => ⟨S26x1000x2x16, .i32⟩
  | .hbm, ⟨20, _⟩ => ⟨S26x1000x2x16, .f32⟩
  | .hbm, ⟨21, _⟩ => ⟨S26x1000x2x1x16, .f32⟩
  | .hbm, ⟨22, _⟩ => ⟨S26x1000x2x1x16, .f32⟩
  | .hbm, ⟨23, _⟩ => ⟨S26x1000x2x2x16, .f32⟩
  | .hbm, ⟨24, _⟩ => ⟨S26x1000x64, .f32⟩
  | .hbm, ⟨25, _⟩ => ⟨S26x1000x50, .f32⟩
  | .hbm, ⟨26, _⟩ => ⟨S_, .i32⟩
  | .hbm, ⟨27, _⟩ => ⟨S16384x26, .i32⟩
  | .hbm, ⟨28, _⟩ => ⟨S16384x26, .i1⟩
  | .hbm, ⟨29, _⟩ => ⟨S_, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S26x16384, .i32⟩
  | .hbm, ⟨34, _⟩ => ⟨S26x16384x1, .i32⟩
  | .hbm, ⟨35, _⟩ => ⟨S26x16384x50, .f32⟩
  | .hbm, ⟨36, _⟩ => ⟨S16384x26x50, .f32⟩
  | .hbm, ⟨37, _⟩ => ⟨S16384x1300, .f32⟩
  | .hbm, ⟨38, _⟩ => ⟨S16384x150, .f32⟩
  | .hbm, ⟨39, _⟩ => ⟨S1x150, .f32⟩
  | .hbm, ⟨40, _⟩ => ⟨S16384x150, .f32⟩
  | .hbm, ⟨41, _⟩ => ⟨S16384x150, .f32⟩
  | .hbm, ⟨42, _⟩ => ⟨S_, .f32⟩
  | .hbm, ⟨43, _⟩ => ⟨S16384x150, .f32⟩
  | .hbm, ⟨44, _⟩ => ⟨S16384x150, .f32⟩
  | .hbm, ⟨45, _⟩ => ⟨S_, .f32⟩
  | .hbm, ⟨46, _⟩ => ⟨S150, .f32⟩
  | .hbm, ⟨47, _⟩ => ⟨S_, .f32⟩
  | .hbm, ⟨48, _⟩ => ⟨S150, .f32⟩
  | .hbm, ⟨49, _⟩ => ⟨S150, .f32⟩
  | .hbm, ⟨50, _⟩ => ⟨S1x150, .f32⟩
  | .hbm, ⟨51, _⟩ => ⟨S16384x150, .f32⟩
  | .hbm, ⟨52, _⟩ => ⟨S16384x150, .f32⟩
  | .hbm, ⟨53, _⟩ => ⟨S16384x150, .f32⟩
  | .hbm, ⟨54, _⟩ => ⟨S_, .f32⟩
  | .hbm, ⟨55, _⟩ => ⟨S150, .f32⟩
  | .hbm, ⟨56, _⟩ => ⟨S_, .f32⟩
  | .hbm, ⟨57, _⟩ => ⟨S150, .f32⟩
  | .hbm, ⟨58, _⟩ => ⟨S150, .f32⟩
  | .hbm, ⟨59, _⟩ => ⟨S1x150, .f32⟩
  | .hbm, ⟨60, _⟩ => ⟨S16384x150, .f32⟩
  | .hbm, ⟨61, _⟩ => ⟨S16384x150, .f32⟩
  | .hbm, ⟨62, _⟩ => ⟨S_, .f32⟩
  | .hbm, ⟨63, _⟩ => ⟨S150, .f32⟩
  | .hbm, ⟨64, _⟩ => ⟨S150, .f32⟩
  | .hbm, ⟨65, _⟩ => ⟨S150, .f32⟩
  | .hbm, ⟨66, _⟩ => ⟨S1x150, .f32⟩
  | .hbm, ⟨67, _⟩ => ⟨S16384x150, .f32⟩
  | .hbm, ⟨68, _⟩ => ⟨S16384x150, .f32⟩
  | .hbm, ⟨69, _⟩ => ⟨S1x150, .f32⟩
  | .hbm, ⟨70, _⟩ => ⟨S16384x150, .f32⟩
  | .hbm, ⟨71, _⟩ => ⟨S16384x150, .f32⟩
  | .hbm, ⟨72, _⟩ => ⟨S1x150, .f32⟩
  | .hbm, ⟨73, _⟩ => ⟨S16384x150, .f32⟩
  | .hbm, ⟨74, _⟩ => ⟨S16384x150, .f32⟩
  | .hbm, ⟨75, _⟩ => ⟨S16384x75, .f32⟩
  | .hbm, ⟨76, _⟩ => ⟨S1x75, .f32⟩
  | .hbm, ⟨77, _⟩ => ⟨S16384x75, .f32⟩
  | .hbm, ⟨78, _⟩ => ⟨S16384x75, .f32⟩
  | .hbm, ⟨79, _⟩ => ⟨S_, .f32⟩
  | .hbm, ⟨80, _⟩ => ⟨S16384x75, .f32⟩
  | .hbm, ⟨81, _⟩ => ⟨S16384x75, .f32⟩
  | .hbm, ⟨82, _⟩ => ⟨S_, .f32⟩
  | .hbm, ⟨83, _⟩ => ⟨S75, .f32⟩
  | .hbm, ⟨84, _⟩ => ⟨S_, .f32⟩
  | .hbm, ⟨85, _⟩ => ⟨S75, .f32⟩
  | .hbm, ⟨86, _⟩ => ⟨S75, .f32⟩
  | .hbm, ⟨87, _⟩ => ⟨S1x75, .f32⟩
  | .hbm, ⟨88, _⟩ => ⟨S16384x75, .f32⟩
  | .hbm, ⟨89, _⟩ => ⟨S16384x75, .f32⟩
  | .hbm, ⟨90, _⟩ => ⟨S16384x75, .f32⟩
  | .hbm, ⟨91, _⟩ => ⟨S_, .f32⟩
  | .hbm, ⟨92, _⟩ => ⟨S75, .f32⟩
  | .hbm, ⟨93, _⟩ => ⟨S_, .f32⟩
  | .hbm, ⟨94, _⟩ => ⟨S75, .f32⟩
  | .hbm, ⟨95, _⟩ => ⟨S75, .f32⟩
  | .hbm, ⟨96, _⟩ => ⟨S1x75, .f32⟩
  | .hbm, ⟨97, _⟩ => ⟨S16384x75, .f32⟩
  | .hbm, ⟨98, _⟩ => ⟨S16384x75, .f32⟩
  | .hbm, ⟨99, _⟩ => ⟨S_, .f32⟩
  | .hbm, ⟨100, _⟩ => ⟨S75, .f32⟩
  | .hbm, ⟨101, _⟩ => ⟨S75, .f32⟩
  | .hbm, ⟨102, _⟩ => ⟨S75, .f32⟩
  | .hbm, ⟨103, _⟩ => ⟨S1x75, .f32⟩
  | .hbm, ⟨104, _⟩ => ⟨S16384x75, .f32⟩
  | .hbm, ⟨105, _⟩ => ⟨S16384x75, .f32⟩
  | .hbm, ⟨106, _⟩ => ⟨S1x75, .f32⟩
  | .hbm, ⟨107, _⟩ => ⟨S16384x75, .f32⟩
  | .hbm, ⟨108, _⟩ => ⟨S16384x75, .f32⟩
  | .hbm, ⟨109, _⟩ => ⟨S1x75, .f32⟩
  | .hbm, ⟨110, _⟩ => ⟨S16384x75, .f32⟩
  | .hbm, ⟨111, _⟩ => ⟨S16384x75, .f32⟩
  | .hbm, ⟨112, _⟩ => ⟨S16384x1, .f32⟩
  | .hbm, ⟨113, _⟩ => ⟨S1x1, .f32⟩
  | .hbm, ⟨114, _⟩ => ⟨S16384x1, .f32⟩
  | .hbm, ⟨115, _⟩ => ⟨S16384x1, .f32⟩
  | .hbm, ⟨116, _⟩ => ⟨S16384x1, .f32⟩
  | .hbm, ⟨117, _⟩ => ⟨S16384x1, .f32⟩
  | .hbm, ⟨118, _⟩ => ⟨S_, .f32⟩
  | .hbm, ⟨119, _⟩ => ⟨S16384x1, .f32⟩
  | .hbm, ⟨120, _⟩ => ⟨S16384x1, .f32⟩
  | .hbm, ⟨121, _⟩ => ⟨S_, .f32⟩
  | .hbm, ⟨122, _⟩ => ⟨S16384x1, .f32⟩
  | .hbm, ⟨123, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_cst_13 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Proof.Mlp.lean ====
/-
  The dense layers' kernel at one grid point: what its scratch and its result hold after it, run from whole buffers.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.WritesUnit
public import Idealize.ShloMosaic.Lib.VecWindow
public import Idealize.ShloMosaic.Lib.ValueLayout
public import Idealize.ShloMosaic.Lib.Pipeline.FrameBody

@[expose] public section

noncomputable section

namespace Cert.Proof.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U]

local notation "𝕄" => MT nD τ sig Ix (Elt F) ℕ U ℕ

/-- Whether the body is at the first point. -/
abbrev atFirst (i : grid1.Coords) : BitVec 1 := Scalar.cmpi .ne (Scalar.extui (Scalar.cmpi .eq (BitVec.ofNat 32 (i 0).val) 0#32) : BitVec 32) 0#32

/-- A running sum as a point takes it up: zero at the first point. -/
def fresh (i : grid1.Coords) (z s : Vec F S1x150 .f32) : Vec F S1x150 .f32 := if atFirst i = 1#1 then z else s

/-- The scratch of activations after a point: the point's rows written. -/
def hAfter (i : grid1.Coords) (x1 : Vec F S832x512 .i32) (x2 : Vec F S832x150 .bf16) (x3 : Vec F S832x150 .bf16) (x4 : Vec F S1x150 .f32) (h : Vec F S16384x150 .f32) : Vec F S16384x150 .f32 :=
  VecWindow.put h (k1_off1 i) S512x150.size (k1_pay10 x1 x2 x3 x4)
/-- The running sum after a point. -/
def sAfter (i : grid1.Coords) (x1 : Vec F S832x512 .i32) (x2 : Vec F S832x150 .bf16) (x3 : Vec F S832x150 .bf16) (x4 : Vec F S1x150 .f32) (s : Vec F S1x150 .f32) : Vec F S1x150 .f32 :=
  k1_pay1 (k1_pay11 x1 x2 x3 x4 (fresh i k1_pay7 s))
/-- The running sum of squares after a point. -/
def ssAfter (i : grid1.Coords) (x1 : Vec F S832x512 .i32) (x2 : Vec F S832x150 .bf16) (x3 : Vec F S832x150 .bf16) (x4 : Vec F S1x150 .f32) (ss : Vec F S1x150 .f32) : Vec F S1x150 .f32 :=
  k1_pay2 (k1_pay9 x1 x2 x3 x4) (fresh i k1_pay8 ss)

/-- The kernel's result from the activations and the two sums. -/
def outOf (x5 : Vec F S150x75 .f32) (x6 : Vec F S1x75 .f32) (x7 : Vec F S75x1 .f32) (x8 : Vec F S1x1 .f32) (x9 x10 : Vec F S1x150 .f32) (x11 x12 : Vec F S1x75 .f32) (h : Vec F S16384x150 .f32) (s ss : Vec F S1x150 .f32) : Vec F S16384x1 .f32 :=
  k1_pay3 (k1_pay4 s ss x9 x10 h x5 x6) (k1_pay5 s ss x9 x10 h x5 x6) (k1_pay6 s ss x9 x10 h x5 x6) x11 x12 x7 x8

/-- The result's buffer after a point: written at the last point only. -/
def outAfter (i : grid1.Coords) (x1 : Vec F S832x512 .i32) (x2 : Vec F S832x150 .bf16) (x3 : Vec F S832x150 .bf16) (x4 : Vec F S1x150 .f32) (x5 : Vec F S150x75 .f32) (x6 : Vec F S1x75 .f32) (x7 : Vec F S75x1 .f32) (x8 : Vec F S1x1 .f32) (x9 x10 : Vec F S1x150 .f32) (x11 x12 : Vec F S1x75 .f32)
    (d : Vec F S16384x1 .f32) (h : Vec F S16384x150 .f32) (s ss : Vec F S1x150 .f32) : Vec F S16384x1 .f32 :=
  if k1_cond2 i = 1#1 then outOf x5 x6 x7 x8 x9 x10 x11 x12 (hAfter i x1 x2 x3 x4 h) (sAfter i x1 x2 x3 x4 s) (ssAfter i x1 x2 x3 x4 ss) else d

/-- A store over a rectangle's rows leaves the earlier contents with the rows put there. -/
theorem put_eq {M : Memref sig .tc .vmem S16384x150 .f32} (f : M.view.ty.Contents (Elt F)) (i : grid1.Coords) (w w' : Vec F S512x150 .f32) (e : w = w') :
    M.view.read (Elt F) (M.view.writes (Elt F) f [⟨Rect.unit (k1_off1 i) S512x150.size (k1_off1_inb i), w⟩])
      = VecWindow.put (M.view.read (Elt F) f) (k1_off1 i) S512x150.size w' := by
  subst e
  rw [View.read_writes_cons_put _ _ _ _ _ rfl, View.writes_nil]

/-- A load of a whole running sum, after the first point's reset where there is one. -/
theorem fresh_eq {M : Memref sig .tc .vmem S1x150 .f32} (f : M.view.ty.Contents (Elt F)) (i : grid1.Coords) (z : Vec F S1x150 .f32)
    (inb inb' : ∀ a, (![0, 0] : Fin 2 → ℕ) a + S1x150.size a ≤ S1x150.size a) :
    M.view.readAt (Elt F) (Rect.unit (s := S1x150) ![0, 0] S1x150.size inb).toLoadRect
        (if hc : atFirst i = 1#1 then M.view.writes (Elt F) f [⟨Rect.unit (s := S1x150) ![0, 0] S1x150.size inb', z⟩] else f)
      = fresh i z (M.view.read (Elt F) f) := by
  rw [View.readAt_full]
  unfold fresh
  by_cases hc : atFirst i = 1#1
  · rw [dif_pos hc, if_pos hc, View.read_writes_full]
  · rw [dif_neg hc, if_neg hc]

set_option maxHeartbeats 1000000 in
/-- The body at any point, from its windows and its scratch held whole. -/
theorem step (c : Dev nD) (E : Set ℕ) (i : grid1.Coords)
    (arg1 : Memref sig .tc .vmem S832x512 .i32) (harg1 : arg1.IsWhole) (arg2 : Memref sig .tc .vmem S832x150 .bf16) (harg2 : arg2.IsWhole) (arg3 : Memref sig .tc .vmem S832x150 .bf16) (harg3 : arg3.IsWhole) (arg4 : Memref sig .tc .vmem S1x150 .f32) (harg4 : arg4.IsWhole) (arg5 : Memref sig .tc .vmem S150x75 .f32) (harg5 : arg5.IsWhole) (arg6 : Memref sig .tc .vmem S1x75 .f32) (harg6 : arg6.IsWhole) (arg7 : Memref sig .tc .vmem S75x1 .f32) (harg7 : arg7.IsWhole) (arg8 : Memref sig .tc .vmem S1x1 .f32) (harg8 : arg8.IsWhole) (arg9 : Memref sig .tc .vmem S1x150 .f32) (harg9 : arg9.IsWhole) (arg10 : Memref sig .tc .vmem S1x150 .f32) (harg10 : arg10.IsWhole) (arg11 : Memref sig .tc .vmem S1x75 .f32) (harg11 : arg11.IsWhole) (arg12 : Memref sig .tc .vmem S1x75 .f32) (harg12 : arg12.IsWhole) (arg13 : Memref sig .tc .vmem S16384x1 .f32) (harg13 : arg13.IsWhole) (arg14 : Memref sig .tc .vmem S16384x150 .f32) (harg14 : arg14.IsWhole) (arg15 : Memref sig .tc .vmem S1x150 .f32) (harg15 : arg15.IsWhole) (arg16 : Memref sig .tc .vmem S1x150 .f32) (harg16 : arg16.IsWhole)
    (x1 : Vec F S832x512 .i32) (x2 : Vec F S832x150 .bf16) (x3 : Vec F S832x150 .bf16) (x4 : Vec F S1x150 .f32)
    (x5 : Vec F S150x75 .f32) (x6 : Vec F S1x75 .f32) (x7 : Vec F S75x1 .f32) (x8 : Vec F S1x1 .f32) (x9 x10 : Vec F S1x150 .f32) (x11 x12 : Vec F S1x75 .f32)
    (d : Vec F S16384x1 .f32) (h : Vec F S16384x150 .f32) (s ss : Vec F S1x150 .f32) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare d ∗ owns (c : Thread nD τ) arg14 fullShare h ∗ owns (c : Thread nD τ) arg15 fullShare s ∗ owns (c : Thread nD τ) arg16 fullShare ss
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (outAfter i x1 x2 x3 x4 x5 x6 x7 x8 x9 x10 x11 x12 d h s ss) ∗ owns (c : Thread nD τ) arg14 fullShare (hAfter i x1 x2 x3 x4 h) ∗ owns (c : Thread nD τ) arg15 fullShare (sAfter i x1 x2 x3 x4 s) ∗ owns (c : Thread nD τ) arg16 fullShare (ssAfter i x1 x2 x3 x4 ss)) -∗ Q ⟨⟩))
      ⊢ wp frame (wpE (defs₀ (F := F)) Variants.none c none) E (cc1__mlp_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  simp only [cc1__mlp_body_eq_skeleton]; unfold cc1__mlp_body_skel
  simp only [k1_part2_eq_skeleton]; unfold k1_part2_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec
  have l1 : arg1.view.readAt (Elt F) (Rect.unit ![0, 0] ![832, 512] inb_S832x512_S832x512_0_0).toLoadRect f1 = arg1.view.read (Elt F) f1 := View.readAt_full (s := S832x512) _ _ _
  have l2 : arg2.view.readAt (Elt F) (Rect.unit ![0, 0] ![832, 150] inb_S832x150_S832x150_0_0).toLoadRect f2 = arg2.view.read (Elt F) f2 := View.readAt_full (s := S832x150) _ _ _
  have l3 : arg3.view.readAt (Elt F) (Rect.unit ![0, 0] ![832, 150] inb_S832x150_S832x150_0_0).toLoadRect f3 = arg3.view.read (Elt F) f3 := View.readAt_full (s := S832x150) _ _ _
  have l4 : arg4.view.readAt (Elt F) (Rect.unit ![0, 0] ![1, 150] inb_S1x150_S1x150_0_0).toLoadRect f4 = arg4.view.read (Elt F) f4 := View.readAt_full (s := S1x150) _ _ _
  have l31 : step.sl.v31 c i arg15 f15 = fresh i k1_pay7 (arg15.view.read (Elt F) f15) := fresh_eq (M := arg15) f15 i _ inb_S1x150_S1x150_0_0 inb_S1x150_S1x150_0_0
  have l38 : step.sl.v38 c i arg16 f16 = fresh i k1_pay8 (arg16.view.read (Elt F) f16) := fresh_eq (M := arg16) f16 i _ inb_S1x150_S1x150_0_0 inb_S1x150_S1x150_0_0
  have p15 : step.sl.H15_1 c i arg1 arg2 arg3 arg4 arg15 f1 f2 f3 f4 f15 = [⟨Rect.unit ![0, 0] S1x150.size inb_S1x150_S1x150_0_0, sAfter i (arg1.view.read (Elt F) f1) (arg2.view.read (Elt F) f2) (arg3.view.read (Elt F) f3) (arg4.view.read (Elt F) f4) (arg15.view.read (Elt F) f15)⟩] := by
    unfold step.sl.H15_1 step.sl.r_1 sAfter
    rw [l1, l2, l3, l4, l31]
  have p16 : step.sl.H16_1 c i arg1 arg2 arg3 arg4 arg16 f1 f2 f3 f4 f16 = [⟨Rect.unit ![0, 0] S1x150.size inb_S1x150_S1x150_0_0, ssAfter i (arg1.view.read (Elt F) f1) (arg2.view.read (Elt F) f2) (arg3.view.read (Elt F) f3) (arg4.view.read (Elt F) f4) (arg16.view.read (Elt F) f16)⟩] := by
    unfold step.sl.H16_1 step.sl.r ssAfter
    rw [l1, l2, l3, l4, l38]
  have p14 : step.sl.H14_1 c i arg1 arg2 arg3 arg4 f1 f2 f3 f4 = [⟨Rect.unit (k1_off1 i) S512x150.size (k1_off1_inb i), k1_pay10 (arg1.view.read (Elt F) f1) (arg2.view.read (Elt F) f2) (arg3.view.read (Elt F) f3) (arg4.view.read (Elt F) f4)⟩] := by
    unfold step.sl.H14_1
    rw [l1, l2, l3, l4]
  have e15 : step.sl.v49 c i arg1 arg2 arg3 arg4 arg15 f1 f2 f3 f4 f15 = sAfter i (arg1.view.read (Elt F) f1) (arg2.view.read (Elt F) f2) (arg3.view.read (Elt F) f3) (arg4.view.read (Elt F) f4) (arg15.view.read (Elt F) f15) := by
    unfold step.sl.v49; rw [p15]; exact View.readCov_full (Val := Elt F) (s := S1x150) _ _ _ _ _
  have e16 : step.sl.v52 c i arg1 arg2 arg3 arg4 arg16 f1 f2 f3 f4 f16 = ssAfter i (arg1.view.read (Elt F) f1) (arg2.view.read (Elt F) f2) (arg3.view.read (Elt F) f3) (arg4.view.read (Elt F) f4) (arg16.view.read (Elt F) f16) := by
    unfold step.sl.v52; rw [p16]; exact View.readCov_full (Val := Elt F) (s := S1x150) _ _ _ _ _
  have l14 : arg14.view.readAt (Elt F) (Rect.unit ![0, 0] S16384x150.size inb_S16384x150_S16384x150_0_0).toLoadRect (arg14.view.writes (Elt F) f14 [⟨Rect.unit (k1_off1 i) S512x150.size (k1_off1_inb i), k1_pay10 (arg1.view.read (Elt F) f1) (arg2.view.read (Elt F) f2) (arg3.view.read (Elt F) f3) (arg4.view.read (Elt F) f4)⟩])
      = hAfter i (arg1.view.read (Elt F) f1) (arg2.view.read (Elt F) f2) (arg3.view.read (Elt F) f3) (arg4.view.read (Elt F) f4) (arg14.view.read (Elt F) f14) := (View.readAt_full _ _ _).trans (put_eq _ _ _ _ rfl)
  have l5 : arg5.view.readAt (Elt F) (Rect.unit ![0, 0] S150x75.size inb_S150x75_S150x75_0_0).toLoadRect f5 = arg5.view.read (Elt F) f5 := View.readAt_full _ _ _
  have l6 : arg6.view.readAt (Elt F) (Rect.unit ![0, 0] S1x75.size inb_S1x75_S1x75_0_0).toLoadRect f6 = arg6.view.read (Elt F) f6 := View.readAt_full _ _ _
  have l9 : arg9.view.readAt (Elt F) (Rect.unit ![0, 0] S1x150.size inb_S1x150_S1x150_0_0).toLoadRect f9 = arg9.view.read (Elt F) f9 := View.readAt_full _ _ _
  have l10 : arg10.view.readAt (Elt F) (Rect.unit ![0, 0] S1x150.size inb_S1x150_S1x150_0_0).toLoadRect f10 = arg10.view.read (Elt F) f10 := View.readAt_full _ _ _
  have l7 : arg7.view.readAt (Elt F) (Rect.unit ![0, 0] ![75, 1] inb_S75x1_S75x1_0_0).toLoadRect f7 = arg7.view.read (Elt F) f7 := View.readAt_full (s := S75x1) _ _ _
  have l8 : arg8.view.readAt (Elt F) (Rect.unit ![0, 0] ![1, 1] inb_S1x1_S1x1_0_0).toLoadRect f8 = arg8.view.read (Elt F) f8 := View.readAt_full (s := S1x1) _ _ _
  have l11 : arg11.view.readAt (Elt F) (Rect.unit ![0, 0] ![1, 75] inb_S1x75_S1x75_0_0).toLoadRect f11 = arg11.view.read (Elt F) f11 := View.readAt_full (s := S1x75) _ _ _
  have l12 : arg12.view.readAt (Elt F) (Rect.unit ![0, 0] ![1, 75] inb_S1x75_S1x75_0_0).toLoadRect f12 = arg12.view.read (Elt F) f12 := View.readAt_full (s := S1x75) _ _ _
  rw [p15, p16, p14]
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  isplitl [H11]; · iexists f11; isplitr; swap; (· iexact H11); ipureintro; rfl
  isplitl [H12]; · iexists f12; isplitr; swap; (· iexact H12); ipureintro; rfl
  isplitl [H13]
  · iexists _; isplitr; swap; · iexact H13
    ipureintro
    unfold outAfter outOf
    by_cases hc : k1_cond2 i = 1#1
    · rw [if_pos hc, dif_pos hc]
      refine (View.read_writes_full _ _ _ _ _).trans ?_
      dsimp only
      rw [e15, e16, l14, l5, l6, l7, l8, l9, l10, l11, l12]
    · rw [if_neg hc, dif_neg hc]
  isplitl [H14]
  · iexists _; isplitr; swap; · iexact H14
    ipureintro; exact put_eq _ _ _ _ rfl
  isplitl [H15]
  · iexists _; isplitr; swap; · iexact H15
    ipureintro; exact View.read_writes_full _ _ _ _ _
  iexists _; isplitr; swap; · iexact H16
  ipureintro; exact View.read_writes_full _ _ _ _ _

end Cert.Proof.Mlp

end
-- ==== Proof.Region.lean ====
/-
  The dense layers' kernel over its whole grid: its proof data from any arrays, and its body at every point.
-/
module

public import proofs.«01_k».proof.Proof.Mlp
public import Idealize.ShloMosaic.Lib.Pipeline.ValueKit.Geometry
public import Idealize.ShloMosaic.Lib.Pipeline.Regions
public import Idealize.ShloMosaic.Lib.SparseCore.Quiescent

@[expose] public section

noncomputable section

namespace Cert.Proof.Mlp

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

variable (V : (c : Dev nD) → (b : Ref sig .tc) → Buf (Elt F) ((c : Thread nD τ).loc b))

/-- A window's block at a point, from the arrays. -/
abbrev iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A grid point from its number. -/
abbrev pt (n : ℕ) (h : n < 32) : Fin cfg1.N := ⟨n, lt_of_lt_of_eq h N_1.symm⟩

theorem coords_val : ∀ t : Fin grid1.N, (grid1.coords t 0).val = t.val := by decide +kernel
theorem first_iff : ∀ t : Fin grid1.N, (atFirst (grid1.coords t) = 1#1) ↔ t.val = 0 := by decide +kernel
theorem last_iff : ∀ t : Fin grid1.N, (k1_cond2 (grid1.coords t) = 1#1) ↔ t.val = 31 := by decide +kernel
theorem lt_N (t : Fin cfg1.N) : t.val < 32 := lt_of_lt_of_eq t.isLt N_1

/-- The activations of the rows of one point. -/
abbrev rowsAt (c : Dev nD) (t : Fin cfg1.N) : Vec F S512x150 .f32 := k1_pay10 (iblk V c 0 t) (iblk V c 1 t) (iblk V c 2 t) (iblk V c 3 t)

/-- The running sum, and the running sum of squares, after the first points. -/
def sumTo (c : Dev nD) : ℕ → Vec F S1x150 .f32
  | 0 => k1_pay7
  | n + 1 => if h : n < 32 then k1_pay1 (k1_pay11 (iblk V c 0 (pt n h)) (iblk V c 1 (pt n h)) (iblk V c 2 (pt n h)) (iblk V c 3 (pt n h)) (sumTo c n)) else k1_pay7
def sqTo (c : Dev nD) : ℕ → Vec F S1x150 .f32
  | 0 => k1_pay8
  | n + 1 => if h : n < 32 then k1_pay2 (k1_pay9 (iblk V c 0 (pt n h)) (iblk V c 1 (pt n h)) (iblk V c 2 (pt n h)) (iblk V c 3 (pt n h))) (sqTo c n) else k1_pay8

/-- The activations of all rows. -/
def hAll (c : Dev nD) : Vec F S16384x150 .f32 := fun j =>
  rowsAt V c (pt ((j 0).val / 512) (by have h : (j 0).val < 16384 := (j 0).isLt; omega)) (ix2 ⟨(j 0).val % 512, Nat.mod_lt _ (by norm_num)⟩ (j 1))

/-- What the scratch holds after the first `n` points. -/
def Good (c : Dev nD) (n : ℕ) (h : Vec F S16384x150 .f32) (s ss : Vec F S1x150 .f32) : Prop :=
  (∀ j : S16384x150.Idx, (j 0).val < 512 * n → h j = hAll V c j) ∧ (0 < n → s = sumTo V c n ∧ ss = sqTo V c n)

theorem good_zero (c : Dev nD) (h : Vec F S16384x150 .f32) (s ss : Vec F S1x150 .f32) : Good V c 0 h s ss :=
  ⟨fun j hj => absurd hj (by omega), fun h => absurd h (by omega)⟩

theorem good_next (c : Dev nD) (t : Fin cfg1.N) (h : Vec F S16384x150 .f32) (s ss : Vec F S1x150 .f32) (hg : Good V c t.val h s ss) :
    Good V c (t.val + 1) (hAfter (grid1.coords t) (iblk V c 0 t) (iblk V c 1 t) (iblk V c 2 t) (iblk V c 3 t) h)
      (sAfter (grid1.coords t) (iblk V c 0 t) (iblk V c 1 t) (iblk V c 2 t) (iblk V c 3 t) s) (ssAfter (grid1.coords t) (iblk V c 0 t) (iblk V c 1 t) (iblk V c 2 t) (iblk V c 3 t) ss) := by
  have hl : t.val < 32 := lt_N t
  have e : pt t.val hl = t := rfl
  refine ⟨fun j hj => ?_, fun _ => ?_⟩
  · unfold hAfter VecWindow.put
    have h1 : (j 1).val < 150 := (j 1).isLt
    by_cases hin : 512 * t.val ≤ (j 0).val
    · have hr : ∀ a, k1_off1 (grid1.coords t) a ≤ (j a).val ∧ (j a).val < k1_off1 (grid1.coords t) a + S512x150.size a := by
        rw [k1_off1_eq]
        intro a
        match a with
        | 0 => show 512 * (grid1.coords t 0).val ≤ _ ∧ _ < 512 * (grid1.coords t 0).val + 512; rw [coords_val]; omega
        | 1 => show 0 ≤ _ ∧ _ < 0 + 150; omega
      rw [dif_pos hr]
      have hq : (j 0).val / 512 = t.val := by omega
      unfold hAll
      have hp : ∀ hh, (pt ((j 0).val / 512) hh) = t := fun _ => Fin.ext hq
      rw [hp]
      refine congrArg (rowsAt V c t) (funext fun a => Fin.ext ?_)
      match a with
      | 0 =>
        show (j 0).val - k1_off1 (grid1.coords t) 0 = (j 0).val % 512
        rw [k1_off1_eq]
        show (j 0).val - 512 * (grid1.coords t 0).val = _
        rw [coords_val]; omega
      | 1 =>
        show (j 1).val - k1_off1 (grid1.coords t) 1 = (j 1).val
        rw [k1_off1_eq]; rfl
    · rw [dif_neg fun hr => hin ?_]
      · exact hg.1 j (by omega)
      · have := (hr 0).1
        rw [k1_off1_eq] at this
        have h2 : 512 * (grid1.coords t 0).val ≤ (j 0).val := this
        rw [coords_val] at h2; exact h2
  · have f : ∀ (z z' : Vec F S1x150 .f32), (0 < t.val → z' = z) → ∀ w, (t.val = 0 → w = z) → fresh (grid1.coords t) w z' = z := fun z z' h1 w h2 => by
      unfold fresh
      by_cases h0 : t.val = 0
      · rw [if_pos ((first_iff t).mpr h0), h2 h0]
      · rw [if_neg fun hc => h0 ((first_iff t).mp hc), h1 (by omega)]
    unfold sAfter ssAfter
    rw [f (sumTo V c t.val) s (fun h0 => (hg.2 h0).1) _ (fun h0 => by rw [h0]; rfl), f (sqTo V c t.val) ss (fun h0 => (hg.2 h0).2) _ (fun h0 => by rw [h0]; rfl)]
    constructor
    · rw [sumTo, dif_pos hl]
    · rw [sqTo, dif_pos hl]

/-- The kernel's result, from the arrays. -/
def outAll (c : Dev nD) : Vec F S16384x1 .f32 :=
  outOf (iblk V c 4 (pt 31 (by norm_num))) (iblk V c 5 (pt 31 (by norm_num))) (iblk V c 6 (pt 31 (by norm_num))) (iblk V c 7 (pt 31 (by norm_num))) (iblk V c 8 (pt 31 (by norm_num)))
    (iblk V c 9 (pt 31 (by norm_num))) (iblk V c 10 (pt 31 (by norm_num))) (iblk V c 11 (pt 31 (by norm_num))) (hAll V c) (sumTo V c 32) (sqTo V c 32)

/-- The scratch between two points. -/
def Inv (c : Dev nD) (n : ℕ) : sProp 𝕄 :=
  iprop(∃ h s ss, ⌜Good V c n h s ss⌝ ∗ owns (c : Thread nD τ) (Memref.whole cc1_scratch0) fullShare h ∗ owns (c : Thread nD τ) (Memref.whole cc1_scratch1) fullShare s
    ∗ owns (c : Thread nD τ) (Memref.whole cc1_scratch2) fullShare ss)

variable (B : Set (SemLoc sig × HIx 1))

/-- The region's proof data: the arrays as found, the inputs' buffers at their blocks, the result's at the kernel's result. -/
def dat (c : Dev nD) : Dat τ (Elt F) (HIx 1) ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => outAll V c
  Φ t := Inv V c t.val
  q _ := fullShare
  owed _ := 0
  recorded _ := B

theorem A_eq (c : Dev nD) (w : Fin cfg1.W) : (dat (U := U) V B c).A w = V c (Pipeline.arrRef spec1 w) := by dsimp only [dat]

theorem before_of (c : Dev nD) (w : Fin cfg1.W) (hw : (cfg1.win w).isOut = false) (hl : ∀ i, cfg1.idle w i = false)
    (hc : ∀ t t' : Fin cfg1.N, (cfg1.win w).index t = (cfg1.win w).index t' → (cfg1.win w).clip (cfg1.grid.coords t) = (cfg1.win w).clip (cfg1.grid.coords t'))
    (hk : ∀ t, (cfg1.win w).cut (cfg1.grid.coords t) ((dat (U := U) V B c).after w t) = (dat (U := U) V B c).blockOf w t) (t : Fin cfg1.N) (d) :
    (dat (U := U) V B c).before w t d = (dat (U := U) V B c).fetched w t d :=
  (dat (U := U) V B c).before_in_eq_fetched w hw hl hc hk t d

theorem before_0 (c : Dev nD) (t : Fin cfg1.N) (d) : (dat (U := U) V B c).before 0 t d = iblk V c 0 t :=
  (before_of V B c 0 rfl (fun _ => rfl) (fun _ _ _ => rfl) (fun _ => rfl) t d).trans rfl
theorem before_1 (c : Dev nD) (t : Fin cfg1.N) (d) : (dat (U := U) V B c).before 1 t d = iblk V c 1 t :=
  (before_of V B c 1 rfl (fun _ => rfl) (fun _ _ _ => rfl) (fun _ => rfl) t d).trans rfl
theorem before_2 (c : Dev nD) (t : Fin cfg1.N) (d) : (dat (U := U) V B c).before 2 t d = iblk V c 2 t :=
  (before_of V B c 2 rfl (fun _ => rfl) (fun _ _ _ => rfl) (fun _ => rfl) t d).trans rfl
theorem before_3 (c : Dev nD) (t : Fin cfg1.N) (d) : (dat (U := U) V B c).before 3 t d = iblk V c 3 t :=
  (before_of V B c 3 rfl (fun _ => rfl) (fun _ _ _ => rfl) (fun _ => rfl) t d).trans rfl
theorem before_4 (c : Dev nD) (t : Fin cfg1.N) (d) : (dat (U := U) V B c).before 4 t d = iblk V c 4 t :=
  (before_of V B c 4 rfl (fun _ => rfl) (fun _ _ _ => rfl) (fun _ => rfl) t d).trans rfl
theorem before_5 (c : Dev nD) (t : Fin cfg1.N) (d) : (dat (U := U) V B c).before 5 t d = iblk V c 5 t :=
  (before_of V B c 5 rfl (fun _ => rfl) (fun _ _ _ => rfl) (fun _ => rfl) t d).trans rfl
theorem before_6 (c : Dev nD) (t : Fin cfg1.N) (d) : (dat (U := U) V B c).before 6 t d = iblk V c 6 t :=
  (before_of V B c 6 rfl (fun _ => rfl) (fun _ _ _ => rfl) (fun _ => rfl) t d).trans rfl
theorem before_7 (c : Dev nD) (t : Fin cfg1.N) (d) : (dat (U := U) V B c).before 7 t d = iblk V c 7 t :=
  (before_of V B c 7 rfl (fun _ => rfl) (fun _ _ _ => rfl) (fun _ => rfl) t d).trans rfl
theorem before_8 (c : Dev nD) (t : Fin cfg1.N) (d) : (dat (U := U) V B c).before 8 t d = iblk V c 8 t :=
  (before_of V B c 8 rfl (fun _ => rfl) (fun _ _ _ => rfl) (fun _ => rfl) t d).trans rfl
theorem before_9 (c : Dev nD) (t : Fin cfg1.N) (d) : (dat (U := U) V B c).before 9 t d = iblk V c 9 t :=
  (before_of V B c 9 rfl (fun _ => rfl) (fun _ _ _ => rfl) (fun _ => rfl) t d).trans rfl
theorem before_10 (c : Dev nD) (t : Fin cfg1.N) (d) : (dat (U := U) V B c).before 10 t d = iblk V c 10 t :=
  (before_of V B c 10 rfl (fun _ => rfl) (fun _ _ _ => rfl) (fun _ => rfl) t d).trans rfl
theorem before_11 (c : Dev nD) (t : Fin cfg1.N) (d) : (dat (U := U) V B c).before 11 t d = iblk V c 11 t :=
  (before_of V B c 11 rfl (fun _ => rfl) (fun _ _ _ => rfl) (fun _ => rfl) t d).trans rfl

/-- What the last point leaves in the result's buffer is the kernel's result. -/
theorem out_last (c : Dev nD) (t : Fin cfg1.N) (ht : t.val = 31) (d : Vec F S16384x1 .f32) (h : Vec F S16384x150 .f32) (s ss : Vec F S1x150 .f32) (hg : Good V c t.val h s ss) :
    outAfter (grid1.coords t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) d h s ss = outAll V c := by
  have hn := good_next V c t h s ss hg
  have e : t = pt 31 (by norm_num) := Fin.ext ht
  unfold outAfter
  rw [if_pos ((last_iff t).mpr ht)]
  have e1 : hAfter (grid1.coords t) (iblk V c 0 t) (iblk V c 1 t) (iblk V c 2 t) (iblk V c 3 t) h = hAll V c :=
    funext fun j => hn.1 j (by have hj : (j 0).val < 16384 := (j 0).isLt; omega)
  have e2 := hn.2 (by omega)
  rw [ht] at e2
  rw [e1, e2.1, e2.2]
  subst e
  rfl

theorem out_other (c : Dev nD) (t : Fin cfg1.N) (ht : t.val ≠ 31) (d : Vec F S16384x1 .f32) (h : Vec F S16384x150 .f32) (s ss : Vec F S1x150 .f32) :
    outAfter (grid1.coords t) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) d h s ss = d := by
  unfold outAfter
  rw [if_neg fun hc => ht ((last_iff t).mp hc)]

theorem idle_iff (t : Fin cfg1.N) : cfg1.idle 12 (cfg1.grid.coords t) = !(k1_cond2 (grid1.coords t) == 1#1) := rfl

/-- The body at any point keeps the pipeline's invariant. -/
theorem body_obligation (c : Dev nD) : BodyObligation (dat (U := U) V B c) (defs₀ (F := F)) Variants.none none Set.univ := fun t => by
  rw [bigSep_W1, bigSep_W1]
  show _ ⊢ wp frame _ _ (bodyAt1 t) _
  rw [show (dat (U := U) V B c).Φ t.castSucc = Inv V c t.val from rfl, show (dat (U := U) V B c).Φ t.succ = Inv V c (t.val + 1) from rfl,
    show (dat (U := U) V B c).owesAt none t.succ = (dat (U := U) V B c).owesAt none t.castSucc from rfl]
  unfold Inv
  iintro ⟨⟨%h, %s, %ss, %hg, Hh, Hs, Hss⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before_0, before_1, before_2, before_3, before_4, before_5, before_6, before_7, before_8, before_9, before_10, before_11]
  iapply (step c Set.univ (grid1.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) ((dat (U := U) V B c).before 12 t d12) h s ss _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hh]; · iexact Hh
  isplitl [Hs]; · iexact Hs
  isplitl [Hss]; · iexact Hss
  iintro ⟨H0, H1, H2, H3, H4, H5, H6, H7, H8, H9, H10, H11, H12, Hh, Hs, Hss⟩
  isplitl [Hh Hs Hss]
  · iexists _, _, _
    isplitr
    · ipureintro; exact good_next V c t h s ss hg
    isplitl [Hh]; · iexact Hh
    isplitl [Hs]; · iexact Hs
    iexact Hss
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases ht : t.val = 31
  · have hi : cfg1.idle 12 (cfg1.grid.coords t) = false := by rw [idle_iff, (last_iff t).mpr ht]; rfl
    rw [hi, out_last V c t ht _ h s ss hg]
    iexact H12
  · have hc : ¬ k1_cond2 (grid1.coords t) = 1#1 := fun hc => ht ((last_iff t).mp hc)
    have hi : cfg1.idle 12 (cfg1.grid.coords t) = true := by rw [idle_iff]; simp [hc]
    have hf : (cfg1.win 12).flush t = false := by
      rw [Bool.eq_false_iff]; intro hh
      have := (flush1_12 t).mp hh
      have := lt_N t
      omega
    rw [hi, hf]
    rw [out_other V c t ht]
    iexists d12
    iexact H12

end Cert.Proof.Mlp

end
-- ==== Proof.Maths.lean ====
/-
  Normalization over a batch in two forms, as extended reals, and the sum of a field's columns by its words.
-/
module

public import Idealize.ShloMosaic.Lib.IdealHost
public import Idealize.ShloMosaic.PureOps

@[expose] public section

noncomputable section

namespace Cert.Proof.Maths

open Idealize.ShloMosaic
open scoped BigOperators

/-- The batch's size, as the host and the kernel divide by it. -/
theorem size_word : Ideal.ofBits .f32 0x46800000#32 = ((16384 : ℝ) : EReal) := by
  simp [Ideal.ofBits, Ideal.ieee, -EReal.coe_mul]; norm_num
/-- The reciprocal the kernel multiplies by. -/
theorem recip_word : Ideal.ofBits .f32 0x38800000#32 = ((1 / 16384 : ℝ) : EReal) := by
  simp [Ideal.ofBits, Ideal.ieee, -EReal.coe_mul]; norm_num
/-- What is added to a variance, as a real. -/
def tiny : ℝ := (10995116 : ℝ) / 1099511627776
theorem tiny_pos : 0 < tiny := by unfold tiny; norm_num
theorem tiny_word : Ideal.ofBits .f32 0x3727C5AC#32 = (tiny : EReal) := by
  simp [Ideal.ofBits, Ideal.ieee, -EReal.coe_mul, tiny]; norm_num

/-- An extended real that is a real. -/
abbrev Fin' (x : EReal) : Prop := ∃ r : ℝ, x = (r : EReal)

theorem fin_add {x y : EReal} : Fin' x → Fin' y → Fin' (x + y) := by
  rintro ⟨a, rfl⟩ ⟨b, rfl⟩; exact ⟨a + b, (EReal.coe_add a b).symm⟩
theorem fin_mul {x y : EReal} : Fin' x → Fin' y → Fin' (x * y) := by
  rintro ⟨a, rfl⟩ ⟨b, rfl⟩; exact ⟨a * b, (EReal.coe_mul a b).symm⟩
theorem fin_max {x : EReal} : Fin' x → Fin' (max x 0) := by
  rintro ⟨a, rfl⟩; exact ⟨max a 0, by rw [← EReal.coe_zero, EReal.coe_strictMono.monotone.map_max]⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem fin_sum {ι : Type} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

/-- The mean, and the variance about it. -/
def mean (h : Fin 16384 → ℝ) : ℝ := (∑ i, h i) * (1 / 16384)
def var (h : Fin 16384 → ℝ) : ℝ := (∑ i, (h i - mean h) * (h i - mean h)) * (1 / 16384)
/-- A value normalized and scaled. -/
def unit (h : Fin 16384 → ℝ) (g : ℝ) (b : Fin 16384) : ℝ := (h b - mean h) * (1 / √(var h + tiny)) * g

theorem var_nonneg (h : Fin 16384 → ℝ) : 0 ≤ var h :=
  mul_nonneg (Finset.sum_nonneg fun i _ => mul_self_nonneg _) (by norm_num)

/-- The variance is the mean of the squares less the square of the mean. -/
theorem var_eq (h : Fin 16384 → ℝ) : (∑ i, h i * h i) * (1 / 16384) - mean h * mean h = var h := by
  have e : ∀ i, (h i - mean h) * (h i - mean h) = h i * h i - 2 * mean h * h i + mean h * mean h := fun i => by ring
  have hs : (∑ i, h i) = 16384 * mean h := by unfold mean; ring
  unfold var
  simp only [e, Finset.sum_add_distrib, Finset.sum_sub_distrib, ← Finset.mul_sum, hs, Finset.sum_const, Finset.card_univ, Fintype.card_fin, nsmul_eq_mul]
  push_cast
  ring

/-- The kernel's form: a scale and a shift found from the sum and the sum of squares. -/
def scale (mu sq g : EReal) : EReal := g * Ideal.rsqrt ((sq - mu * mu) + Ideal.ofBits .f32 0x3727C5AC#32)
def byScale (mu sq g be x : EReal) : EReal := x * scale mu sq g + (be - mu * scale mu sq g)
/-- The reference's form: the distance from the mean over the deviation, scaled and shifted. -/
def size : EReal := Ideal.ofBits .f32 0x46800000#32
def meanOf (h : Fin 16384 → EReal) : EReal := Ideal.div (0 + ∑ i, h i) size
def plain (h : Fin 16384 → EReal) (g be : EReal) (b : Fin 16384) : EReal :=
  Ideal.div (h b - meanOf h) (Ideal.sqrt (meanOf (fun i => (h i - meanOf h) * (h i - meanOf h)) + Ideal.ofBits .f32 0x3727C5AC#32)) * g + be

theorem div_size (x : EReal) : Ideal.div x size = x * ((1 / 16384 : ℝ) : EReal) := by
  unfold size; rw [size_word, Ideal.div_coe (by norm_num)]

theorem meanOf_coe (h : Fin 16384 → ℝ) : meanOf (fun i => (h i : EReal)) = (((∑ i, h i) * (1 / 16384) : ℝ) : EReal) := by
  unfold meanOf; rw [div_size, zero_add, ← coe_sum, ← EReal.coe_mul]

theorem plain_eq (h : Fin 16384 → ℝ) (g : ℝ) (be : EReal) (b : Fin 16384) :
    plain (fun i => (h i : EReal)) g be b = (unit h g b : EReal) + be := by
  have hm : meanOf (fun i => (h i : EReal)) = (mean h : EReal) := meanOf_coe h
  have hv : meanOf (fun i => ((h i : EReal) - (mean h : EReal)) * ((h i : EReal) - (mean h : EReal))) = (var h : EReal) := by
    have : (fun i => ((h i : EReal) - (mean h : EReal)) * ((h i : EReal) - (mean h : EReal))) = fun i => (((h i - mean h) * (h i - mean h) : ℝ) : EReal) :=
      funext fun i => by rw [EReal.coe_mul, EReal.coe_sub]
    rw [this, meanOf_coe]; rfl
  have hp : 0 < var h + tiny := add_pos_of_nonneg_of_pos (var_nonneg h) tiny_pos
  unfold plain
  simp only [hm, hv]
  rw [tiny_word, ← EReal.coe_add, Ideal.sqrt_coe, if_neg (not_lt.mpr hp.le), Ideal.div_coe (Real.sqrt_pos.mpr hp).ne', ← EReal.coe_sub, ← EReal.coe_mul, ← EReal.coe_mul]
  rfl

theorem shift (a c : ℝ) (be : EReal) : (a : EReal) + (be - (c : EReal)) = ((a - c : ℝ) : EReal) + be := by
  rw [sub_eq_add_neg, sub_eq_add_neg, EReal.coe_add, EReal.coe_neg, add_assoc, add_comm be]

theorem byScale_eq (h : Fin 16384 → ℝ) (g : ℝ) (be : EReal) (b : Fin 16384) :
    byScale ((∑ i, (h i : EReal)) * ((1 / 16384 : ℝ) : EReal)) ((∑ i, (h i : EReal) * (h i : EReal)) * ((1 / 16384 : ℝ) : EReal)) g be (h b)
      = (unit h g b : EReal) + be := by
  have hm : (∑ i, (h i : EReal)) * ((1 / 16384 : ℝ) : EReal) = (mean h : EReal) := by rw [← coe_sum, ← EReal.coe_mul]; rfl
  have hq : (∑ i, (h i : EReal) * (h i : EReal)) * ((1 / 16384 : ℝ) : EReal) = (((∑ i, h i * h i) * (1 / 16384) : ℝ) : EReal) := by
    simp only [← EReal.coe_mul, ← coe_sum]
  have hp : 0 < var h + tiny := add_pos_of_nonneg_of_pos (var_nonneg h) tiny_pos
  have hc : scale (mean h) (((∑ i, h i * h i) * (1 / 16384) : ℝ) : EReal) g = ((g * (√(var h + tiny))⁻¹ : ℝ) : EReal) := by
    unfold scale
    rw [tiny_word, ← EReal.coe_mul, ← EReal.coe_sub, var_eq, ← EReal.coe_add, Ideal.rsqrt_coe, if_neg (not_lt.mpr hp.le), if_neg hp.ne', ← EReal.coe_mul]
  unfold byScale
  simp only [hm, hq, hc]
  have e : h b * (g * (√(var h + tiny))⁻¹) - mean h * (g * (√(var h + tiny))⁻¹) = unit h g b := by
    unfold unit; rw [one_div]; ring
  rw [← EReal.coe_mul, ← EReal.coe_mul, shift, e]

/-- The two forms agree over a batch of reals, for any shift. -/
theorem forms_eq {h : Fin 16384 → EReal} (hh : ∀ i, Fin' (h i)) {g : EReal} (hg : Fin' g) (be : EReal) (b : Fin 16384) :
    byScale ((∑ i, h i) * ((1 / 16384 : ℝ) : EReal)) ((∑ i, h i * h i) * ((1 / 16384 : ℝ) : EReal)) g be (h b) = plain h g be b := by
  choose r hr using hh
  obtain ⟨g, rfl⟩ := hg
  obtain rfl : h = fun i => (r i : EReal) := funext hr
  rw [plain_eq]; exact byScale_eq r g be b

/-- A normalized batch of reals is one of reals. -/
theorem plain_fin {h : Fin 16384 → EReal} (hh : ∀ i, Fin' (h i)) {g be : EReal} (hg : Fin' g) (hb : Fin' be) (b : Fin 16384) : Fin' (plain h g be b) := by
  choose r hr using hh
  obtain ⟨g, rfl⟩ := hg
  obtain rfl : h = fun i => (r i : EReal) := funext hr
  rw [plain_eq]; exact fin_add ⟨_, rfl⟩ hb

/-- The first of a word's two columns; the second stands sixteen after it. -/
def lo (w : ℕ) : ℕ := w / 16 * 32 + w % 16

/-- A sum over 64 columns goes over the 32 words, two columns of each. -/
theorem sum_words (T : ℕ → EReal) : ∑ w ∈ Finset.range 32, (T (lo w) + T (lo w + 16)) = ∑ j ∈ Finset.range 64, T j := by
  have h32 (f : ℕ → EReal) : ∑ w ∈ Finset.range 32, f w = ∑ k ∈ Finset.range 16, f k + ∑ k ∈ Finset.range 16, f (16 + k) := Finset.sum_range_add (n := 16) (m := 16) ..
  have h64 : ∑ w ∈ Finset.range 64, T w = ∑ k ∈ Finset.range 32, T k + ∑ k ∈ Finset.range 32, T (32 + k) := Finset.sum_range_add (n := 32) (m := 32) ..
  have l0 (k : ℕ) (hk : k ∈ Finset.range 16) : T (lo k) + T (lo k + 16) = T k + T (16 + k) := by
    have := Finset.mem_range.mp hk; unfold lo; congr 2 <;> omega
  have l1 (k : ℕ) (hk : k ∈ Finset.range 16) : T (lo (16 + k)) + T (lo (16 + k) + 16) = T (32 + k) + T (32 + (16 + k)) := by
    have := Finset.mem_range.mp hk; unfold lo; congr 2 <;> omega
  rw [h32, h64, h32, h32 fun k => T (32 + k), Finset.sum_congr rfl l0, Finset.sum_congr rfl l1, Finset.sum_add_distrib, Finset.sum_add_distrib]

/-- The columns past the fiftieth count for nothing. -/
theorem sum_cols (T : ℕ → EReal) (h : ∀ j, 50 ≤ j → T j = 0) : ∑ j ∈ Finset.range 64, T j = ∑ j ∈ Finset.range 50, T j := by
  rw [show 64 = 50 + 14 from rfl, Finset.sum_range_add, Finset.sum_eq_zero (s := Finset.range 14) fun j _ => h _ (Nat.le_add_right _ _), add_zero]

/-- A sum over pairs, told along their rows. -/
theorem sum_pairs (f : ℕ → EReal) (a b : ℕ) (hb : 0 < b) : ∑ k ∈ Finset.range (a * b), f k = ∑ i ∈ Finset.range a, ∑ j ∈ Finset.range b, f (i * b + j) := by
  induction a with
  | zero => simp
  | succ a ih => rw [Nat.succ_mul, Finset.sum_range_add, ih, Finset.sum_range_succ]

/-- Over the 26 fields: the sum by words, two columns each, is the sum by columns. -/
theorem sum_fields (T : ℕ → ℕ → EReal) (h : ∀ f j, 50 ≤ j → T f j = 0) :
    ∑ r ∈ Finset.range 832, (T (r / 32) (lo (r % 32)) + T (r / 32) (lo (r % 32) + 16)) = ∑ k ∈ Finset.range 1300, T (k / 50) (k % 50) := by
  rw [show 832 = 26 * 32 from rfl, show 1300 = 26 * 50 from rfl, sum_pairs _ 26 32 (by decide), sum_pairs _ 26 50 (by decide)]
  refine Finset.sum_congr rfl fun f _ => ?_
  have hl : ∀ w ∈ Finset.range 32, T ((f * 32 + w) / 32) (lo ((f * 32 + w) % 32)) + T ((f * 32 + w) / 32) (lo ((f * 32 + w) % 32) + 16) = T f (lo w) + T f (lo w + 16) := fun w hw => by
    have := Finset.mem_range.mp hw
    rw [show (f * 32 + w) / 32 = f by omega, show (f * 32 + w) % 32 = w by omega]
  have hr : ∀ j ∈ Finset.range 50, T ((f * 50 + j) / 50) ((f * 50 + j) % 50) = T f j := fun j hj => by
    have := Finset.mem_range.mp hj
    rw [show (f * 50 + j) / 50 = f by omega, show (f * 50 + j) % 50 = j by omega]
  rw [Finset.sum_congr rfl hl, Finset.sum_congr rfl hr, sum_words, sum_cols (T f) (h f)]

end Cert.Proof.Maths

end
-- ==== Proof.Layers.lean ====
/-
  The dense layers' payloads at one place, as extended reals.
-/
module

public import proofs.«01_k».proof.Proof.Region
public import proofs.«01_k».proof.Proof.Maths
public import Idealize.ShloMosaic.Lib.Pointwise

@[expose] public section

noncomputable section

namespace Cert.Proof.Layers

open Cert.KernelIdeal Cert.KernelIdeal.Gen Cert.Proof.Maths
open Idealize.ShloMosaic

/-- A word's two halves, as the numbers they stand for. -/
abbrev low (w : BitVec 32) : EReal := Ideal.ofBits .f32 (IntOp.shli .vector w 16#32)
abbrev high (w : BitVec 32) : EReal := Ideal.ofBits .f32 (IntOp.andi w 4294901760#32)

theorem first_at (x1 : Vec Ideal S832x512 .i32) (x2 x3 : Vec Ideal S832x150 .bf16) (x4 : Vec Ideal S1x150 .f32) (r : Fin 512) (n : Fin 150) :
    k1_pay9 x1 x2 x3 x4 (ix2 r n) = max (((∑ k : Fin 832, low (x1 (ix2 k r)) * x2 (ix2 k n)) + (∑ k : Fin 832, high (x1 (ix2 k r)) * x3 (ix2 k n))) + x4 (ix2 0 n)) 0 := by
  pointwise [k1_pay9]

theorem sum_at (x1 : Vec Ideal S832x512 .i32) (x2 x3 : Vec Ideal S832x150 .bf16) (x4 s : Vec Ideal S1x150 .f32) (n : Fin 150) :
    k1_pay1 (k1_pay11 x1 x2 x3 x4 s) (ix2 0 n) = s (ix2 0 n) + ∑ r : Fin 512, k1_pay9 x1 x2 x3 x4 (ix2 r n) := by
  pointwise [k1_pay1, k1_pay11]

theorem sq_at (h : Vec Ideal S512x150 .f32) (s : Vec Ideal S1x150 .f32) (n : Fin 150) :
    k1_pay2 h s (ix2 0 n) = s (ix2 0 n) + ∑ r : Fin 512, h (ix2 r n) * h (ix2 r n) := by
  pointwise [k1_pay2]

theorem zero_at (n : Fin 150) : (k1_pay7 (F := Ideal)) (ix2 0 n) = 0 := by
  pointwise [k1_pay7]
theorem zero_at' (n : Fin 150) : (k1_pay8 (F := Ideal)) (ix2 0 n) = 0 := by
  pointwise [k1_pay8]

theorem second_at (s ss g be : Vec Ideal S1x150 .f32) (h : Vec Ideal S16384x150 .f32) (w : Vec Ideal S150x75 .f32) (b : Vec Ideal S1x75 .f32) (r : Fin 16384) (q : Fin 75) :
    k1_pay4 s ss g be h w b (ix2 r q) = max ((∑ n : Fin 150, byScale (s (ix2 0 n) * Ideal.ofBits .f32 0x38800000#32) (ss (ix2 0 n) * Ideal.ofBits .f32 0x38800000#32) (g (ix2 0 n)) (be (ix2 0 n)) (h (ix2 r n)) * w (ix2 n q)) + b (ix2 0 q)) 0 := by
  pointwise [k1_pay4, byScale, scale]

theorem mean_at (s ss g be : Vec Ideal S1x150 .f32) (h : Vec Ideal S16384x150 .f32) (w : Vec Ideal S150x75 .f32) (b : Vec Ideal S1x75 .f32) (q : Fin 75) :
    k1_pay5 s ss g be h w b (ix2 0 q) = Ideal.div (∑ r : Fin 16384, k1_pay4 s ss g be h w b (ix2 r q)) size := by
  pointwise [k1_pay5, size]
theorem meanSq_at (s ss g be : Vec Ideal S1x150 .f32) (h : Vec Ideal S16384x150 .f32) (w : Vec Ideal S150x75 .f32) (b : Vec Ideal S1x75 .f32) (q : Fin 75) :
    k1_pay6 s ss g be h w b (ix2 0 q) = ∑ r : Fin 16384, k1_pay4 s ss g be h w b (ix2 r q) * k1_pay4 s ss g be h w b (ix2 r q) := by
  pointwise [k1_pay6]

theorem last_at (h : Vec Ideal S16384x75 .f32) (mu sq g be : Vec Ideal S1x75 .f32) (w : Vec Ideal S75x1 .f32) (b : Vec Ideal S1x1 .f32) (r : Fin 16384) :
    k1_pay3 h mu sq g be w b (ix2 r 0) = Ideal.logistic ((∑ q : Fin 75, byScale (mu (ix2 0 q)) (Ideal.div (sq (ix2 0 q)) size) (g (ix2 0 q)) (be (ix2 0 q)) (h (ix2 r q)) * w (ix2 q 0)) + b (ix2 0 0)) := by
  pointwise [k1_pay3, byScale, scale, size]

end Cert.Proof.Layers

end
-- ==== Proof.Blocks.lean ====
/-
  The dense layers' blocks as the arrays they are cut from.
-/
module

public import proofs.«01_k».proof.Proof.Region
public import Idealize.ShloMosaic.Lib.Pointwise
public import Idealize.ShloMosaic.Lib.Pipeline.ValueKit

@[expose] public section

noncomputable section

namespace Cert.Proof.Layers

open Cert.KernelIdeal Cert.KernelIdeal.Gen Cert.Proof.Mlp
open Idealize.ShloMosaic Idealize.ShloMosaic.TcCoe

variable {F : FTy → Type} [FloatOps F]
variable (V : (c : Dev nD) → (b : Ref sig .tc) → Buf (Elt F) ((c : Thread nD τ).loc b))

theorem idx_first : ∀ t : Fin grid1.N, win1_0.index t = ![0, t.val] := by decide +kernel
/-- Every other input's block is its whole array. -/
theorem idx_rest : ∀ t : Fin grid1.N, win1_1.index t = ![0, 0] ∧ win1_2.index t = ![0, 0] ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0] ∧ win1_11.index t = ![0, 0] := by decide +kernel

theorem block_first (c : Dev nD) (t : Fin cfg1.N) (k : Fin 832) (r : Fin 512) :
    iblk V c 0 t (ix2 k r) = (V c main_v2 : S832x16384.Idx → Elt F .i32) (ix2 k ⟨512 * t.val + r.val, by have := lt_N t; omega⟩) := by
  blk_ext [iblk, idx_first t]

set_option maxHeartbeats 4000000 in
theorem block_rest (c : Dev nD) (t : Fin cfg1.N) :
    iblk V c 1 t = (V c main_v21 : S832x150.Idx → Elt F .bf16) ∧ iblk V c 2 t = (V c main_v22 : S832x150.Idx → Elt F .bf16) ∧ iblk V c 3 t = (V c main_v23 : S1x150.Idx → Elt F .f32)
    ∧ iblk V c 4 t = (V c main_arg4 : S150x75.Idx → Elt F .f32) ∧ iblk V c 5 t = (V c main_v24 : S1x75.Idx → Elt F .f32) ∧ iblk V c 6 t = (V c main_arg6 : S75x1.Idx → Elt F .f32)
    ∧ iblk V c 7 t = (V c main_v25 : S1x1.Idx → Elt F .f32) ∧ iblk V c 8 t = (V c main_v26 : S1x150.Idx → Elt F .f32) ∧ iblk V c 9 t = (V c main_v27 : S1x150.Idx → Elt F .f32)
    ∧ iblk V c 10 t = (V c main_v28 : S1x75.Idx → Elt F .f32) ∧ iblk V c 11 t = (V c main_v29 : S1x75.Idx → Elt F .f32) := by
  refine ⟨?_, ?_, ?_, ?_, ?_, ?_, ?_, ?_, ?_, ?_, ?_⟩ <;> (funext j; blk_ext [iblk, idx_rest t])

end Cert.Proof.Layers

end
-- ==== Proof.Totals.lean ====
/-
  The activations of all rows and their column sums, from the arrays that the dense layers are given.
-/
module

public import proofs.«01_k».proof.Proof.Layers
public import proofs.«01_k».proof.Proof.Blocks

@[expose] public section

noncomputable section

namespace Cert.Proof.Layers

open Cert.KernelIdeal Cert.KernelIdeal.Gen Cert.Proof.Maths Cert.Proof.Mlp
open Idealize.ShloMosaic Idealize.ShloMosaic.TcCoe

variable (V : (c : Dev nD) → (b : Ref sig .tc) → Buf (Elt Ideal) ((c : Thread nD τ).loc b))

theorem rows_first (x1 : Vec Ideal S832x512 .i32) (x2 x3 : Vec Ideal S832x150 .bf16) (x4 : Vec Ideal S1x150 .f32) (r : Fin 512) (n : Fin 150) :
    k1_pay10 x1 x2 x3 x4 (ix2 r n) = k1_pay9 x1 x2 x3 x4 (ix2 r n) := by
  pointwise [k1_pay10]

theorem hAll_block (c : Dev nD) (i : ℕ) (h : i < 32) (r : Fin 512) (n : Fin 150) :
    hAll V c (ix2 (⟨i * 512 + r.val, by omega⟩ : Fin 16384) n) = k1_pay9 (iblk V c 0 (pt i h)) (iblk V c 1 (pt i h)) (iblk V c 2 (pt i h)) (iblk V c 3 (pt i h)) (ix2 r n) := by
  have hi : (i * 512 + r.val) / 512 = i := by omega
  have hr : (i * 512 + r.val) % 512 = r.val := by omega
  have key : ∀ (q : ℕ) (hq : q < 32) (p : ℕ) (hp : p < 512), q = i → p = r.val →
      rowsAt V c (pt q hq) (ValueIdx.ix2 ⟨p, hp⟩ n) = k1_pay9 (iblk V c 0 (pt i h)) (iblk V c 1 (pt i h)) (iblk V c 2 (pt i h)) (iblk V c 3 (pt i h)) (ix2 r n) := by
    rintro _ hq _ hp rfl rfl
    rw [← ix2_eq_valueIdx, rowsAt, rows_first]
  exact key _ _ _ _ hi hr

theorem hAll_at (c : Dev nD) (b : Fin 16384) (n : Fin 150) :
    hAll V c (ix2 b n) = max (((∑ k : Fin 832, low ((V c main_v2 : S832x16384.Idx → BitVec 32) (ix2 k b)) * (V c main_v21 : S832x150.Idx → EReal) (ix2 k n))
      + (∑ k : Fin 832, high ((V c main_v2 : S832x16384.Idx → BitVec 32) (ix2 k b)) * (V c main_v22 : S832x150.Idx → EReal) (ix2 k n))) + (V c main_v23 : S1x150.Idx → EReal) (ix2 0 n)) 0 := by
  have hb : b = ⟨b.val / 512 * 512 + b.val % 512, by omega⟩ := Fin.ext (by show b.val = b.val / 512 * 512 + b.val % 512; omega)
  have hq : b.val / 512 < 32 := by omega
  have e := hAll_block V c (b.val / 512) hq ⟨b.val % 512, Nat.mod_lt _ (by norm_num)⟩ n
  rw [first_at] at e
  have e' : ∀ k, iblk V c 0 (pt (b.val / 512) hq) (ix2 k ⟨b.val % 512, Nat.mod_lt _ (by norm_num)⟩) = (V c main_v2 : S832x16384.Idx → BitVec 32) (ix2 k b) := fun k =>
    (block_first V c _ _ _).trans (congrArg (fun q => (V c main_v2 : S832x16384.Idx → BitVec 32) (ix2 k q)) (Fin.ext (by show 512 * (b.val / 512) + b.val % 512 = b.val; omega)))
  obtain ⟨h1, h2, h3, -⟩ := block_rest V c (pt (b.val / 512) hq)
  simp only [e'] at e
  rw [h1, h2, h3] at e
  exact (congrArg (fun q => hAll V c (ix2 q n)) hb).trans e

/-- A function of rows over all numbers: zero past the last row. -/
def past (f : Fin 16384 → EReal) (b : ℕ) : EReal := if h : b < 16384 then f ⟨b, h⟩ else 0

theorem past_lt (f : Fin 16384 → EReal) (b : ℕ) (h : b < 16384) : past f b = f ⟨b, h⟩ := dif_pos h

/-- A sum taken up block after block is the sum over all rows. -/
theorem blocks_sum (f : Fin 16384 → EReal) (s : ℕ → EReal) (h0 : s 0 = 0)
    (hs : ∀ i (h : i < 32), s (i + 1) = s i + ∑ r : Fin 512, f ⟨i * 512 + r.val, by omega⟩) : s 32 = ∑ b, f b := by
  have h : ∀ i ≤ 32, s i = ∑ q ∈ Finset.range i, ∑ r ∈ Finset.range 512, past f (q * 512 + r) := by
    intro i
    induction i with
    | zero => intro _; simpa using h0
    | succ i ih =>
      intro hi
      rw [Finset.sum_range_succ, ← ih (by omega), hs i (by omega), Finset.sum_range]
      exact congrArg (s i + ·) (Finset.sum_congr rfl fun r _ => (past_lt f _ _).symm)
  rw [h 32 le_rfl, ← sum_pairs _ 32 512 (by norm_num), Finset.sum_range]
  exact Finset.sum_congr rfl fun b _ => past_lt f _ b.isLt

theorem sumTo_at (c : Dev nD) (n : Fin 150) : sumTo V c 32 (ix2 0 n) = ∑ b : Fin 16384, hAll V c (ix2 b n) := by
  refine blocks_sum (fun b => hAll V c (ix2 b n)) (fun i => sumTo V c i (ix2 0 n)) (zero_at n) fun i h => ?_
  refine (congrFun (show sumTo V c (i + 1) = _ from dif_pos h) (ix2 0 n)).trans ?_
  rw [sum_at]
  exact congrArg (_ + ·) (Finset.sum_congr rfl fun r _ => (hAll_block V c i h r n).symm)

theorem sqTo_at (c : Dev nD) (n : Fin 150) : sqTo V c 32 (ix2 0 n) = ∑ b : Fin 16384, hAll V c (ix2 b n) * hAll V c (ix2 b n) := by
  refine blocks_sum (fun b => hAll V c (ix2 b n) * hAll V c (ix2 b n)) (fun i => sqTo V c i (ix2 0 n)) (zero_at' n) fun i h => ?_
  refine (congrFun (show sqTo V c (i + 1) = _ from dif_pos h) (ix2 0 n)).trans ?_
  rw [sq_at]
  exact congrArg (_ + ·) (Finset.sum_congr rfl fun r _ => by rw [hAll_block V c i h r n])

end Cert.Proof.Layers

end
-- ==== Proof.Grp.lean ====
/-
  The inner loop of the gather kernel, in one form for its eight occurrences: a trip reads sixteen row numbers, and for
  each of the thirty-two words of a table row gathers that word of the sixteen rows out of the table and stores the
  sixteen words as a stretch of the staging buffer's row for that word.
-/
module

public import proofs.«01_k».proof.Proof.Gen.KernelIdeal

@[expose] public section

noncomputable section

namespace Cert.Proof.Gather

open Cert.KernelIdeal Cert.KernelIdeal.Gen
open Idealize.ShloMosaic Idealize.SL.Sem

variable {F : FTy → Type} [FloatOps F]

/-- The processor a tile of the grid runs on. -/
abbrev Tile (i : grid0.Coords) : Proc τ := .scVector ((i 0).castLE hcore0) ((i 1).castLE hsub0)

/-- A program of one tile. -/
abbrev TProg (i : grid0.Coords) (α : Type) : Type 1 := Prog (TpuEff nD τ sig (Elt F) Λ₀ (Tile i)) α

/-- Where trip `k` stores word `w`: row `w` of the staging buffer, sixteen columns from `16 k`. -/
def offS (w : ℕ) (k : Fin k0_t2_loop.trips) : Fin 2 → ℕ := ![w, k0_off4 k 0]

theorem offS_inb (w : ℕ) (hw : w < 32) (k : Fin k0_t2_loop.trips) : ∀ a, offS w k a + S1x16.size a ≤ S32x512.size a := by
  have h := k0_off5_inb k 1
  intro a
  match a with
  | 0 => show w + 1 ≤ 32; omega
  | 1 => exact h

/-- The words a trip gathers for word number `w`: the row numbers scaled to the table's rows, and `w`. -/
abbrev idxW (rows : IVec S16 32) (w : ℕ) : IVec S16 32 := addi rows (broadcast S16 (BitVec.ofNat 32 w))

/-- A trip's gathers and stores, `n` of them from word `w`. -/
def grpSteps (i : grid0.Coords) (tb : Memref sig .scVector .vmem S32000 .i32) (stg : Memref sig .scVector .vmem S32x512 .i32)
    (k : Fin k0_t2_loop.trips) (rows : IVec S16 32) : (n w : ℕ) → w + n = 32 → TProg (F := F) i PUnit
  | 0, _, _ => pure ⟨⟩
  | n + 1, w, h => do
    have hw : k0_chk2 (idxW rows w) := (← Prog.lift (TpuEff.assume (k0_chk2 (idxW rows w)) (k0_chk2.dec (idxW rows w)))).down
    let v : Vec F S16 .i32 ← SparseCore.vectorLoadIdx tb ![idxW rows w] (k0_idx1_inb _ hw) (View.loads_vmem h_S32000)
    let _ld : Vec F S1x16 .i32 ← Prog.lift (.load stg (Rect.unit (s := S32x512) (offS w k) S1x16.size (offS_inb w (by omega) k)).toLoadRect (View.loadsAt_vmem h_S1x16))
    Prog.lift (.store stg (Rect.unit (s := S32x512) (offS w k) S1x16.size (offS_inb w (by omega) k)) (shapeCast S1x16 v shapeCasts_S16_S1x16) Finset.univ (View.stores_vmem_bits_univ h_S1x16 rfl) (.inl rfl))
    grpSteps i tb stg k rows n (w + 1) (by omega)

/-- One trip: the row numbers read, then the thirty-two words. -/
def grpTrip (i : grid0.Coords) (tb : Memref sig .scVector .vmem S32000 .i32) (idx : Memref sig .scVector .vmem S512 .i32)
    (stg : Memref sig .scVector .vmem S32x512 .i32) (k : Fin k0_t2_loop.trips) : TProg (F := F) i PUnit := do
  let x : Vec F S16 .i32 ← Prog.lift (.load idx (Rect.unit (s := S512) (k0_off4 k) S16.size (k0_off4_inb k)).toLoadRect (View.loadsAt_vmem h_S16))
  grpSteps i tb stg k (muli x (broadcast S16 32#32)) 32 0 rfl

end Cert.Proof.Gather

end
-- ==== Proof.Body.lean ====
/-
  The gather kernel of one tile in one form for its eight chunks: a unit of work copies one table in, then for each of
  eight stretches of 512 row numbers copies them in, waits for the staging buffer's previous write-back, gathers, and
  starts the write-back. The printed kernel is this program.
-/
module

public import proofs.«01_k».proof.Proof.Grp

@[expose] public section

set_option maxRecDepth 100000
set_option maxHeartbeats 0

noncomputable section

namespace Cert.Proof.Gather

open Cert.KernelIdeal Cert.KernelIdeal.Gen
open Idealize.ShloMosaic Idealize.SL.Sem

variable {F : FTy → Type} [FloatOps F]

/-- A stretch of 512 row numbers, as the copy reads it. -/
abbrev xSlice (xa : Memref sig .scVector .hbm S26x32x1x512 .i32) (xo : Fin 4 → ℕ) (hxo : ∀ a, xo a + S1x1x1x512.size a ≤ S26x32x1x512.size a) :
    Memref sig .scVector .hbm S512 .i32 :=
  (xa.slice (Rect.unit (s := S26x32x1x512) xo S1x1x1x512.size hxo) (fun _ => rfl)).squeeze S512 squeezes_S1x1x1x512_S512

/-- A block of the result, as the copy writes it. -/
abbrev oSlice (oa : Memref sig .scVector .hbm S832x16384 .i32) (oo : Fin 2 → ℕ) (hoo : ∀ a, oo a + S32x512.size a ≤ S832x16384.size a) :
    Memref sig .scVector .hbm S32x512 .i32 :=
  oa.slice (Rect.unit (s := S832x16384) oo S32x512.size hoo) (fun _ => rfl)

/-- The wait for a staging buffer's previous write-back, made where `p` says there is one. -/
def waitPrev (i : grid0.Coords) (oa : Memref sig .scVector .hbm S832x16384 .i32) (stg : Memref sig .scVector .vmem S32x512 .i32) (hstg : stg.IsWhole)
    (ws : DmaSems sig S_) (p : Prop) [Decidable p] (po : Fin 2 → ℕ) (hpo : p → ∀ a, po a + S32x512.size a ≤ S832x16384.size a) : TProg (F := F) i PUnit :=
  if h : p then do
    Prog.lift (.waitDma2 ws.sem stg (oSlice oa po (hpo h)) hstg.wordExact (View.wordExact_bits rfl))
    pure ⟨⟩
  else do
    pure ⟨⟩

/-- The same wait, in front of the rest of a program. -/
def waitThen (i : grid0.Coords) (oa : Memref sig .scVector .hbm S832x16384 .i32) (stg : Memref sig .scVector .vmem S32x512 .i32) (hstg : stg.IsWhole)
    (ws : DmaSems sig S_) (p : Prop) [Decidable p] (po : Fin 2 → ℕ) (hpo : p → ∀ a, po a + S32x512.size a ≤ S832x16384.size a)
    {α : Type} (rest : TProg (F := F) i α) : TProg (F := F) i α :=
  if h : p then do
    Prog.lift (.waitDma2 ws.sem stg (oSlice oa po (hpo h)) hstg.wordExact (View.wordExact_bits rfl))
    rest
  else rest

theorem waitThen_eq (i : grid0.Coords) (oa : Memref sig .scVector .hbm S832x16384 .i32) (stg : Memref sig .scVector .vmem S32x512 .i32) (hstg : stg.IsWhole)
    (ws : DmaSems sig S_) (p : Prop) [Decidable p] (po : Fin 2 → ℕ) (hpo : p → ∀ a, po a + S32x512.size a ≤ S832x16384.size a)
    {α : Type} (rest : TProg (F := F) i α) :
    waitThen i oa stg hstg ws p po hpo rest = (do waitPrev i oa stg hstg ws p po hpo; rest) := by
  unfold waitThen waitPrev
  split <;> rfl

/-- A chunk's row numbers' copy started. -/
def xIn (i : grid0.Coords) (xa : Memref sig .scVector .hbm S26x32x1x512 .i32) (idx : Memref sig .scVector .vmem S512 .i32) (hidx : idx.IsWhole) (is : DmaSems sig S_)
    (xo : Fin 4 → ℕ) (hxo : ∀ a, xo a + S1x1x1x512.size a ≤ S26x32x1x512.size a) : TProg (F := F) i PUnit :=
  Prog.lift (.enqueueDma (xSlice xa xo hxo) (.here idx) (.dma is.sem) ((View.wordExact_bits rfl).reshape _ _) hidx.wordExact ⟨Or.inl rfl, trivial⟩)

/-- A chunk's row numbers' copy waited for. -/
def xWait (i : grid0.Coords) (xa : Memref sig .scVector .hbm S26x32x1x512 .i32) (idx : Memref sig .scVector .vmem S512 .i32) (hidx : idx.IsWhole) (is : DmaSems sig S_)
    (xo : Fin 4 → ℕ) (hxo : ∀ a, xo a + S1x1x1x512.size a ≤ S26x32x1x512.size a) : TProg (F := F) i PUnit :=
  Prog.lift (.waitDma2 is.sem (xSlice xa xo hxo) idx ((View.wordExact_bits rfl).reshape _ _) hidx.wordExact)

/-- A chunk's gather. -/
def gath (i : grid0.Coords) (tb : Memref sig .scVector .vmem S32000 .i32) (idx : Memref sig .scVector .vmem S512 .i32)
    (stg : Memref sig .scVector .vmem S32x512 .i32) : TProg (F := F) i PUnit :=
  Scf.Loop.for k0_t2_loop k0_t2_ok ⟨⟩ fun k _ => grpTrip i tb idx stg k

/-- A chunk's write-back started. -/
def oPut (i : grid0.Coords) (oa : Memref sig .scVector .hbm S832x16384 .i32) (stg : Memref sig .scVector .vmem S32x512 .i32) (hstg : stg.IsWhole) (ws : DmaSems sig S_)
    (oo : Fin 2 → ℕ) (hoo : ∀ a, oo a + S32x512.size a ≤ S832x16384.size a) : TProg (F := F) i PUnit :=
  Prog.lift (.enqueueDma stg (.here (oSlice oa oo hoo)) (.dma ws.sem) hstg.wordExact (View.wordExact_bits rfl) ⟨Or.inl rfl, trivial⟩)

/-- One chunk: row numbers in, the previous write-back waited for, the gather, the write-back started. -/
def chunk (i : grid0.Coords) (xa : Memref sig .scVector .hbm S26x32x1x512 .i32) (oa : Memref sig .scVector .hbm S832x16384 .i32)
    (tb : Memref sig .scVector .vmem S32000 .i32) (idx : Memref sig .scVector .vmem S512 .i32) (hidx : idx.IsWhole)
    (stg : Memref sig .scVector .vmem S32x512 .i32) (hstg : stg.IsWhole) (is ws : DmaSems sig S_)
    (xo : Fin 4 → ℕ) (hxo : ∀ a, xo a + S1x1x1x512.size a ≤ S26x32x1x512.size a)
    (oo : Fin 2 → ℕ) (hoo : ∀ a, oo a + S32x512.size a ≤ S832x16384.size a)
    (p : Prop) [Decidable p] (po : Fin 2 → ℕ) (hpo : p → ∀ a, po a + S32x512.size a ≤ S832x16384.size a) : TProg (F := F) i PUnit := do
  xIn i xa idx hidx is xo hxo
  xWait i xa idx hidx is xo hxo
  waitPrev i oa stg hstg ws p po hpo
  gath i tb idx stg
  oPut i oa stg hstg ws oo hoo

/-- A unit's number. -/
def unitU (i : grid0.Coords) (t : Fin (k0_t1_loop i).trips) : BitVec 32 :=
  Scalar.addi (Scalar.addi (Scalar.muli (BitVec.ofNat 32 (i 1).val) 2#32) (BitVec.ofNat 32 (i 0).val)) (Scalar.muli 32#32 (Scf.iv 0#32 1#32 t))

/-- A unit's table: its number over four, rounded down. -/
def unitF (i : grid0.Coords) (t : Fin (k0_t1_loop i).trips) : BitVec 32 :=
  Scalar.select
    (Scalar.andi
      (Scalar.cmpi .ne (Scalar.subi (Scalar.extui (Scalar.cmpi .sgt (unitU i t) 0#32)) (Scalar.extui (Scalar.cmpi .slt (unitU i t) 0#32)))
        (Scalar.subi (Scalar.extui (Scalar.cmpi .sgt 4#32 0#32)) (Scalar.extui (Scalar.cmpi .slt 4#32 0#32))))
      (Scalar.cmpi .ne (Scalar.remsi (unitU i t) 4#32) 0#32))
    (Scalar.subi (Scalar.divsi (unitU i t) 4#32) 1#32) (Scalar.divsi (unitU i t) 4#32)

/-- The first column of a unit's chunk `c`. -/
def unitC (i : grid0.Coords) (t : Fin (k0_t1_loop i).trips) (c : BitVec 32) : BitVec 32 :=
  Scalar.muli (Scalar.addi (Scalar.muli (Scalar.subi (unitU i t) (Scalar.muli 4#32 (unitF i t))) 8#32) c) 512#32

section
variable (i : grid0.Coords) (arg2 : Memref sig .scVector .hbm S832000 .i32) (harg2 : arg2.IsWhole) (arg3 : Memref sig .scVector .hbm S26x32x1x512 .i32) (harg3 : arg3.IsWhole)
  (arg4 : Memref sig .scVector .hbm S832x16384 .i32) (harg4 : arg4.IsWhole) (arg5 : Memref sig .scVector .vmem S32000 .i32) (harg5 : arg5.IsWhole)
  (arg6 : Memref sig .scVector .vmem S512 .i32) (harg6 : arg6.IsWhole) (arg7 : Memref sig .scVector .vmem S512 .i32) (harg7 : arg7.IsWhole)
  (arg8 : Memref sig .scVector .vmem S32x512 .i32) (harg8 : arg8.IsWhole) (arg9 : Memref sig .scVector .vmem S32x512 .i32) (harg9 : arg9.IsWhole)
  (arg10 arg11 arg12 arg13 arg14 : DmaSems sig S_)

/-- A unit's table copied in. -/
def tableIn (t : Fin (k0_t1_loop i).trips) : TProg (F := F) i PUnit := do
  Prog.lift (.enqueueDma (arg2.slice (Rect.unit (s := S832000) (k0_off1 i t) S32000.size (k0_off1_inb i t)) (fun _ => rfl)) (.here arg5) (.dma arg10.sem) (View.wordExact_bits rfl) harg5.wordExact ⟨Or.inl rfl, trivial⟩)
  Prog.lift (.waitDma2 arg10.sem (arg2.slice (Rect.unit (s := S832000) (k0_off1 i t) S32000.size (k0_off1_inb i t)) (fun _ => rfl)) arg5 (View.wordExact_bits rfl) harg5.wordExact)

/-- Where a unit's later chunks read their row numbers: chunk `c`. -/
abbrev xOff (t : Fin (k0_t1_loop i).trips) (c : BitVec 32) : Fin 4 → ℕ := k0_off74 i t c

/-- A unit's eight chunks, two staging buffers by turns. -/
def chunks (t : Fin (k0_t1_loop i).trips) (a16 a17 a18 a19 : BitVec 32) (hw34 : k0_chk34 a18 a19) (hw1 : k0_chk1 a16 a17) : TProg (F := F) i PUnit := do
  chunk i arg3 arg4 arg5 arg6 harg6 arg8 harg8 arg11 arg13 (k0_off2 i t) (k0_off2_inb i t) (k0_off37 i t) (k0_off37_inb i t) (k0_cond1 a17 = 1#1) (k0_off3 a16 a17) (k0_off3_inb a16 a17 hw1)
  chunk i arg3 arg4 arg5 arg7 harg7 arg9 harg9 arg12 arg14 (k0_off38 i t) (k0_off38_inb i t) (k0_off73 i t 1#32) (k0_off73_inb i t 0) (k0_cond2 a19 = 1#1) (k0_off39 a18 a19) (k0_off39_inb a18 a19 hw34)
  chunk i arg3 arg4 arg5 arg6 harg6 arg8 harg8 arg11 arg13 (k0_off74 i t 2#32) (k0_off74_inb i t 0) (k0_off73 i t 2#32) (k0_off73_inb i t 1) (k0_cond3 i t = 1#1) (k0_off75 i t) (k0_off75_inb i t)
  chunk i arg3 arg4 arg5 arg7 harg7 arg9 harg9 arg12 arg14 (k0_off74 i t 3#32) (k0_off74_inb i t 1) (k0_off73 i t 3#32) (k0_off73_inb i t 2) (k0_cond4 i t = 1#1) (k0_off109 i t) (k0_off109_inb i t)
  chunk i arg3 arg4 arg5 arg6 harg6 arg8 harg8 arg11 arg13 (k0_off74 i t 4#32) (k0_off74_inb i t 2) (k0_off73 i t 4#32) (k0_off73_inb i t 3) (k0_cond5 i t = 1#1) (k0_off143 i t) (k0_off143_inb i t)
  chunk i arg3 arg4 arg5 arg7 harg7 arg9 harg9 arg12 arg14 (k0_off74 i t 5#32) (k0_off74_inb i t 3) (k0_off73 i t 5#32) (k0_off73_inb i t 4) (k0_cond6 i t = 1#1) (k0_off177 i t) (k0_off177_inb i t)
  chunk i arg3 arg4 arg5 arg6 harg6 arg8 harg8 arg11 arg13 (k0_off74 i t 6#32) (k0_off74_inb i t 4) (k0_off73 i t 6#32) (k0_off73_inb i t 5) (k0_cond7 i t = 1#1) (k0_off211 i t) (k0_off211_inb i t)
  chunk i arg3 arg4 arg5 arg7 harg7 arg9 harg9 arg12 arg14 (k0_off74 i t 7#32) (k0_off74_inb i t 5) (k0_off73 i t 7#32) (k0_off73_inb i t 6) (k0_cond8 i t = 1#1) (k0_off245 i t) (k0_off245_inb i t)

/-! A unit's chunks cut where the printed program is cut, each piece with what it hands on. -/

def winA (t : Fin (k0_t1_loop i).trips) (a16 a17 a18 a19 : BitVec 32) (hw34 : k0_chk34 a18 a19) (hw1 : k0_chk1 a16 a17) {α : Type} (ret : α) : TProg (F := F) i α := do
  xWait i arg3 arg6 harg6 arg11 (k0_off2 i t) (k0_off2_inb i t)
  waitThen i arg4 arg8 harg8 arg13 (k0_cond1 a17 = 1#1) (k0_off3 a16 a17) (k0_off3_inb a16 a17 hw1) do
    gath i arg5 arg6 arg8
    oPut i arg4 arg8 harg8 arg13 (k0_off37 i t) (k0_off37_inb i t)
    xIn i arg3 arg7 harg7 arg12 (k0_off38 i t) (k0_off38_inb i t)
    xWait i arg3 arg7 harg7 arg12 (k0_off38 i t) (k0_off38_inb i t)
    waitThen i arg4 arg9 harg9 arg14 (k0_cond2 a19 = 1#1) (k0_off39 a18 a19) (k0_off39_inb a18 a19 hw34) do
      gath i arg5 arg7 arg9
      pure ret

def winB (t : Fin (k0_t1_loop i).trips) {α : Type} (ret : α) : TProg (F := F) i α := do
  oPut i arg4 arg9 harg9 arg14 (k0_off73 i t 1#32) (k0_off73_inb i t 0)
  xIn i arg3 arg6 harg6 arg11 (k0_off74 i t 2#32) (k0_off74_inb i t 0)
  xWait i arg3 arg6 harg6 arg11 (k0_off74 i t 2#32) (k0_off74_inb i t 0)
  waitThen i arg4 arg8 harg8 arg13 (k0_cond3 i t = 1#1) (k0_off75 i t) (k0_off75_inb i t) do
    gath i arg5 arg6 arg8
    oPut i arg4 arg8 harg8 arg13 (k0_off73 i t 2#32) (k0_off73_inb i t 1)
    xIn i arg3 arg7 harg7 arg12 (k0_off74 i t 3#32) (k0_off74_inb i t 1)
    pure ret

def winC (t : Fin (k0_t1_loop i).trips) {α : Type} (ret : α) : TProg (F := F) i α := do
  xWait i arg3 arg7 harg7 arg12 (k0_off74 i t 3#32) (k0_off74_inb i t 1)
  waitThen i arg4 arg9 harg9 arg14 (k0_cond4 i t = 1#1) (k0_off109 i t) (k0_off109_inb i t) do
    gath i arg5 arg7 arg9
    oPut i arg4 arg9 harg9 arg14 (k0_off73 i t 3#32) (k0_off73_inb i t 2)
    xIn i arg3 arg6 harg6 arg11 (k0_off74 i t 4#32) (k0_off74_inb i t 2)
    xWait i arg3 arg6 harg6 arg11 (k0_off74 i t 4#32) (k0_off74_inb i t 2)
    waitThen i arg4 arg8 harg8 arg13 (k0_cond5 i t = 1#1) (k0_off143 i t) (k0_off143_inb i t) do
      gath i arg5 arg6 arg8
      pure ret

def winD (t : Fin (k0_t1_loop i).trips) {α : Type} (ret : α) : TProg (F := F) i α := do
  oPut i arg4 arg8 harg8 arg13 (k0_off73 i t 4#32) (k0_off73_inb i t 3)
  xIn i arg3 arg7 harg7 arg12 (k0_off74 i t 5#32) (k0_off74_inb i t 3)
  xWait i arg3 arg7 harg7 arg12 (k0_off74 i t 5#32) (k0_off74_inb i t 3)
  waitThen i arg4 arg9 harg9 arg14 (k0_cond6 i t = 1#1) (k0_off177 i t) (k0_off177_inb i t) do
    gath i arg5 arg7 arg9
    oPut i arg4 arg9 harg9 arg14 (k0_off73 i t 5#32) (k0_off73_inb i t 4)
    pure ret

def winE (t : Fin (k0_t1_loop i).trips) {α : Type} (ret : α) : TProg (F := F) i α := do
  xIn i arg3 arg6 harg6 arg11 (k0_off74 i t 6#32) (k0_off74_inb i t 4)
  xWait i arg3 arg6 harg6 arg11 (k0_off74 i t 6#32) (k0_off74_inb i t 4)
  waitThen i arg4 arg8 harg8 arg13 (k0_cond7 i t = 1#1) (k0_off211 i t) (k0_off211_inb i t) do
    gath i arg5 arg6 arg8
    oPut i arg4 arg8 harg8 arg13 (k0_off73 i t 6#32) (k0_off73_inb i t 5)
    xIn i arg3 arg7 harg7 arg12 (k0_off74 i t 7#32) (k0_off74_inb i t 5)
    xWait i arg3 arg7 harg7 arg12 (k0_off74 i t 7#32) (k0_off74_inb i t 5)
    waitThen i arg4 arg9 harg9 arg14 (k0_cond8 i t = 1#1) (k0_off245 i t) (k0_off245_inb i t) do
      pure ret

/-- The pieces in turn. -/
def windows (t : Fin (k0_t1_loop i).trips) (a16 a17 a18 a19 : BitVec 32) (hw34 : k0_chk34 a18 a19) (hw1 : k0_chk1 a16 a17) :
    TProg (F := F) i (BitVec 32 × BitVec 32 × BitVec 32 × BitVec 32) := do
  xIn i arg3 arg6 harg6 arg11 (k0_off2 i t) (k0_off2_inb i t)
  let _ ← winA i arg3 arg4 arg5 arg6 harg6 arg7 harg7 arg8 harg8 arg9 harg9 arg11 arg12 arg13 arg14 t a16 a17 a18 a19 hw34 hw1 (unitC i t 1#32)
  let _ ← winB i arg3 arg4 arg5 arg6 harg6 arg7 harg7 arg8 harg8 arg9 harg9 arg11 arg12 arg13 arg14 t (⟨unitC i t 2#32, unitC i t 3#32⟩ : Σ' (_ : BitVec 32), BitVec 32)
  let _ ← winC i arg3 arg4 arg5 arg6 harg6 arg7 harg7 arg8 harg8 arg9 harg9 arg11 arg12 arg13 arg14 t (unitC i t 4#32)
  let r ← winD i arg3 arg4 arg5 arg7 harg7 arg8 harg8 arg9 harg9 arg12 arg13 arg14 t (⟨unitC i t 5#32, unitC i t 6#32⟩ : Σ' (_ : BitVec 32), BitVec 32)
  let r' ← winE i arg3 arg4 arg5 arg6 harg6 arg7 harg7 arg8 harg8 arg9 harg9 arg11 arg12 arg13 arg14 t (⟨unitC i t 7#32, 0#32⟩ : Σ' (_ : BitVec 32), BitVec 32)
  gath i arg5 arg7 arg9
  oPut i arg4 arg9 harg9 arg14 (k0_off73 i t 7#32) (k0_off73_inb i t 6)
  pure (unitF i t, r.2, unitF i t, r'.1)

theorem windows_eq (t : Fin (k0_t1_loop i).trips) (a16 a17 a18 a19 : BitVec 32) (hw34 : k0_chk34 a18 a19) (hw1 : k0_chk1 a16 a17) :
    windows (F := F) i arg3 arg4 arg5 arg6 harg6 arg7 harg7 arg8 harg8 arg9 harg9 arg11 arg12 arg13 arg14 t a16 a17 a18 a19 hw34 hw1
      = (do chunks i arg3 arg4 arg5 arg6 harg6 arg7 harg7 arg8 harg8 arg9 harg9 arg11 arg12 arg13 arg14 t a16 a17 a18 a19 hw34 hw1; pure (unitF i t, unitC i t 6#32, unitF i t, unitC i t 7#32)) := by
  simp only [windows, winA, winB, winC, winD, winE, chunks, chunk, waitThen_eq, bind_assoc, pure_bind]

/-- One unit: its carried numbers' conditions, its table, its chunks, and the numbers it carries on. -/
def unitProg (t : Fin (k0_t1_loop i).trips) : BitVec 32 × BitVec 32 × BitVec 32 × BitVec 32 → TProg (F := F) i (BitVec 32 × BitVec 32 × BitVec 32 × BitVec 32) :=
  fun (a16, a17, a18, a19) => do
    have hw34 : k0_chk34 a18 a19 := (← Prog.lift (TpuEff.assume (k0_chk34 a18 a19) (k0_chk34.dec a18 a19))).down
    have hw1 : k0_chk1 a16 a17 := (← Prog.lift (TpuEff.assume (k0_chk1 a16 a17) (k0_chk1.dec a16 a17))).down
    tableIn i arg2 arg5 harg5 arg10 t
    windows i arg3 arg4 arg5 arg6 harg6 arg7 harg7 arg8 harg8 arg9 harg9 arg11 arg12 arg13 arg14 t a16 a17 a18 a19 hw34 hw1

/-- After the last unit: the two staging buffers' last write-backs waited for. -/
def drain : BitVec 32 × BitVec 32 × BitVec 32 × BitVec 32 → TProg (F := F) i PUnit :=
  fun (a0, a1, a2, a3) => do
    have hw520 : k0_chk520 a3 := (← Prog.lift (TpuEff.assume (k0_chk520 a3) (k0_chk520.dec a3))).down
    have hw519 : k0_chk519 a3 a2 := (← Prog.lift (TpuEff.assume (k0_chk519 a3 a2) (k0_chk519.dec a3 a2))).down
    have hw518 : k0_chk518 a1 := (← Prog.lift (TpuEff.assume (k0_chk518 a1) (k0_chk518.dec a1))).down
    have hw517 : k0_chk517 a1 a0 := (← Prog.lift (TpuEff.assume (k0_chk517 a1 a0) (k0_chk517.dec a1 a0))).down
    waitThen i arg4 arg8 harg8 arg13 (k0_cond17 a1 = 1#1) (k0_off557 a1 a0) (k0_off557_inb a1 a0 hw517) do
      waitThen i arg4 arg9 harg9 arg14 (k0_cond18 a3 = 1#1) (k0_off558 a3 a2) (k0_off558_inb a3 a2 hw519) do
        pure ⟨⟩

/-- The printed kernel is the loop over units, a second loop, and the two last waits. -/
theorem body_eq : ∃ rest : Fin (k0_t10_loop i).trips → BitVec 32 × BitVec 32 × BitVec 32 × BitVec 32 → TProg (F := F) i (BitVec 32 × BitVec 32 × BitVec 32 × BitVec 32),
    cc0__gather_body i arg2 harg2 arg3 harg3 arg4 harg4 arg5 harg5 arg6 harg6 arg7 harg7 arg8 harg8 arg9 harg9 arg10 arg11 arg12 arg13 arg14
      = (do
        let r ← Scf.Loop.for (k0_t1_loop i) (k0_t1_ok i) (0#32, 4294967295#32, 0#32, 4294967295#32)
          (unitProg i arg2 arg3 arg4 arg5 harg5 arg6 harg6 arg7 harg7 arg8 harg8 arg9 harg9 arg10 arg11 arg12 arg13 arg14)
        let r' ← Scf.Loop.for (k0_t10_loop i) (k0_t10_ok i) (r.1, r.2.1, r.2.2.1, r.2.2.2) rest
        drain i arg4 arg8 harg8 arg9 harg9 arg13 arg14 r' : TProg (F := F) i PUnit) := by
  refine ⟨?_, ?_⟩
  rotate_left
  · unfold cc0__gather_body
    refine congr (congrArg Prog.bind ?_) ?_
    · refine congrArg (Scf.Loop.for (k0_t1_loop i) (k0_t1_ok i) _) ?_
      funext t ⟨a, b, c, d⟩
      rfl
    · funext r
      refine congr (congrArg Prog.bind ?_) ?_
      · rfl
      · funext r'
        rfl

end

end Cert.Proof.Gather

end
-- ==== Proof.Steps.lean ====
/-
  The gather loop's rule: from a table and row numbers below 1000 in a tile's memory, a chunk's loop leaves at row `w`,
  column `j` of the staging buffer the table's word `w` of row number `j`'s row.
-/
module

public import proofs.«01_k».proof.Proof.Body
public import Idealize.ShloMosaic.Lib.SparseCore.Quiescent
public import Idealize.ShloMosaic.Lib.SparseCore.Ops
public import Idealize.ShloMosaic.Lib.Transfers
public import Idealize.ShloMosaic.Lib.ValueLayout
public import Idealize.ShloMosaic.Lib.Tactic

@[expose] public section

noncomputable section

namespace Cert.Proof.Gather

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 shapeCast_a_1a_apply)

variable {F : FTy → Type} [FloatOps F] {U : Type} [URA U]

local notation "𝕄" => MT nD τ sig (HIx 1) (Elt F) ℕ U ℕ

abbrev 𝒱₀ : Variants := Variants.none

/-- The thread of a tile. -/
abbrev tileThr (d : Dev nD) (i : grid0.Coords) : Thread nD τ := (d, Tile i)

variable (d : Dev nD) (i : grid0.Coords)

/-- The staging buffer holds `T`'s gathered words up to column `16 k`, and in the next sixteen columns up to row `w`. -/
def Filled (T X : ℕ → BitVec 32) (k w : ℕ) (g : S32x512.Idx → BitVec 32) : Prop :=
  ∀ y : S32x512.Idx, ((y 1).val < 16 * k ∨ ((y 1).val < 16 * k + 16 ∧ (y 0).val < w)) → g y = T ((X (y 1).val).toNat * 32 + (y 0).val)

theorem offS_zero (w : ℕ) (k : Fin k0_t2_loop.trips) : offS w k 0 = w := rfl
theorem off4_zero (k : Fin k0_t2_loop.trips) : k0_off4 k 0 = 16 * k.val := by rw [k0_off4_eq]; rfl
theorem offS_one (w : ℕ) (k : Fin k0_t2_loop.trips) : offS w k 1 = 16 * k.val := off4_zero k

theorem rowWord (x : BitVec 32) (hx : x.toNat < 1000) (w : ℕ) (hw : w < 32) :
    ((x * 32#32) + BitVec.ofNat 32 w).toNat = x.toNat * 32 + w := by
  rw [BitVec.toNat_add, BitVec.toNat_mul, BitVec.toNat_ofNat]
  show ((x.toNat * (32 % 2 ^ 32)) % 2 ^ 32 + w % 2 ^ 32) % 2 ^ 32 = _
  omega

/-- One store's effect on what the staging buffer reads: word `w` of trip `k` filled in. -/
theorem filled_step {stg : Memref sig .scVector .vmem S32x512 .i32} {k : Fin k0_t2_loop.trips} {w : ℕ} (hw : w < 32)
    {T X : ℕ → BitVec 32} {rows : IVec S16 32} (hrows : ∀ x : S16.Idx, rows x = X (16 * k.val + (x 0).val) * 32#32)
    (hX : ∀ n, (X n).toNat < 1000)
    {tv : S32000.Idx → BitVec 32} (hT : ∀ j, tv j = T (j 0).val) (hk : k0_chk2 (idxW rows w))
    {f : stg.view.ty.Contents (Elt F)} (hf : Filled T X k.val w (stg.view.read (Elt F) f)) :
    Filled T X k.val (w + 1) (stg.view.read (Elt F) ((stg.access (Rect.unit (s := S32x512) (offS w k) S1x16.size (offS_inb w hw k))).write (Elt F) f
      (shapeCast S1x16 (loadIdx (F := F) (e := .i32) tv ![idxW rows w] (k0_idx1_inb _ hk) : Vec F S16 .i32) shapeCasts_S16_S1x16) Finset.univ)) := by
  intro y hy
  by_cases hin : y ∈ (Finset.univ : Finset (Rect.unit (s := S32x512) (offS w k) S1x16.size (offS_inb w hw k)).shape.Idx).map (Rect.unit (s := S32x512) (offS w k) S1x16.size (offS_inb w hw k)).emb
  · obtain ⟨z, -, rfl⟩ := Finset.mem_map.mp hin
    refine (View.read_slice_write_emb (v := stg.view) (Rect.unit (s := S32x512) (offS w k) S1x16.size (offS_inb w hw k)) f _ (Finset.mem_univ z)).trans ?_
    have hz0 : (((Rect.unit (s := S32x512) (offS w k) S1x16.size (offS_inb w hw k)).emb z) 0).val = w := by
      have h0 : (z 0).val < 1 := (z 0).isLt
      show offS w k 0 + 1 * (z 0).val = w
      have := offS_zero w k; omega
    have hz1 : (((Rect.unit (s := S32x512) (offS w k) S1x16.size (offS_inb w hw k)).emb z) 1).val = 16 * k.val + (z 1).val := by
      show offS w k 1 + 1 * (z 1).val = _
      have := offS_one w k; omega
    rw [hz0, hz1]
    have hz : z = ix2 (⟨(z 0).val, (z 0).isLt⟩ : Fin 1) (⟨(z 1).val, (z 1).isLt⟩ : Fin 16) := by
      funext a; match a with
      | 0 => rfl
      | 1 => rfl
    rw [hz, shapeCast_a_1a_apply]
    show tv (idxAt ![idxW rows w] _ (ix1 (⟨(z 1).val, (z 1).isLt⟩ : Fin 16))) = _
    rw [hT]
    congr 1
    show (rows (ix1 (⟨(z 1).val, (z 1).isLt⟩ : Fin 16)) + BitVec.ofNat 32 w).toNat = _
    rw [hrows]
    exact rowWord _ (hX _) _ hw
  · refine (View.read_slice_write_of_not_mem (v := stg.view) (Rect.unit (s := S32x512) (offS w k) S1x16.size (offS_inb w hw k)) f _ _ hin).trans ?_
    apply hf y
    rcases hy with hy | ⟨hy1, hy0⟩
    · exact .inl hy
    · by_cases hlt : (y 1).val < 16 * k.val
      · exact .inl hlt
      · right
        refine ⟨hy1, ?_⟩
        by_contra hge
        apply hin
        refine Finset.mem_map.mpr ⟨ix2 (⟨0, by omega⟩ : Fin 1) (⟨(y 1).val - 16 * k.val, by omega⟩ : Fin 16), Finset.mem_univ _, ?_⟩
        funext a
        apply Fin.ext
        match a with
        | 0 =>
          show offS w k 0 + 1 * 0 = (y 0).val
          have := offS_zero w k; omega
        | 1 =>
          show offS w k 1 + 1 * ((y 1).val - 16 * k.val) = (y 1).val
          have := offS_one w k; omega

/-- A trip's gathers and stores: from word `w` on, the rest of the thirty-two. -/
theorem wp_grpSteps {tb : Memref sig .scVector .vmem S32000 .i32} {stg : Memref sig .scVector .vmem S32x512 .i32} {k : Fin k0_t2_loop.trips}
    {T X : ℕ → BitVec 32} {rows : IVec S16 32} (hrows : ∀ x : S16.Idx, rows x = X (16 * k.val + (x 0).val) * 32#32)
    (hX : ∀ n, (X n).toNat < 1000) {q : PosShare TreeShare} {ft : Buf (Elt F) (tb.view.loc (tileThr d i))}
    (hT : ∀ j, (tb.access (.whole S32000)).read (Elt F) ft j = T (j 0).val) :
    ∀ (n w : ℕ) (h : w + n = 32) (g : Buf (Elt F) (stg.view.loc (tileThr d i))), Filled T X k.val w (stg.view.read (Elt F) g) →
      iprop((tb.view.loc (tileThr d i) ↦{q} ft) ∗ (stg.view.loc (tileThr d i) ↦{fullShare} g))
        ⊢ wp (M := 𝕄) frame (wpE (defs₀ (F := F)) 𝒱₀ (tileThr d i) none) Set.univ (grpSteps i tb stg k rows n w h)
            fun _ => iprop((tb.view.loc (tileThr d i) ↦{q} ft) ∗ ∃ g' : Buf (Elt F) (stg.view.loc (tileThr d i)), ⌜Filled T X (k.val + 1) 0 (stg.view.read (Elt F) g')⌝
              ∗ (stg.view.loc (tileThr d i) ↦{fullShare} g')) := by
  intro n
  induction n with
  | zero =>
    intro w h g hg
    change _ ⊢ wp _ _ _ (Prog.ret PUnit.unit) _
    iintro ⟨Ht, Hs⟩
    sl_step
    isplitl [Ht]; · iexact Ht
    iexists g
    isplitr
    · ipureintro
      intro y hy
      refine hg y ?_
      have hy0 : (y 0).val < 32 := (y 0).isLt
      rcases hy with hy | ⟨hy, hz⟩
      · by_cases hlt : (y 1).val < 16 * k.val
        · exact .inl hlt
        · exact .inr ⟨by omega, by omega⟩
      · omega
    · iexact Hs
  | succ n ih =>
    intro w h g hg
    have hw : w < 32 := by omega
    have hk : k0_chk2 (idxW rows w) := by
      intro a x
      match a with
      | 0 =>
        show (rows x + BitVec.ofNat 32 w).toNat < 32000
        rw [hrows, rowWord _ (hX _) _ hw]
        have := hX (16 * k.val + (x 0).val)
        omega
    change _ ⊢ wp _ _ _ (Prog.op (TpuEff.assume (k0_chk2 (idxW rows w)) (k0_chk2.dec (idxW rows w))) _) _
    iintro ⟨Ht, Hs⟩
    iapply (wp_assume 𝒱₀ (tileThr d i) none Set.univ hk)
    iapply (SparseCore.wp_vectorLoadIdx 𝒱₀ (tileThr d i) none Set.univ (base := tb) (h := k0_idx1_inb _ hk) (hl := View.loads_vmem h_S32000) (S := Finset.univ) (f := ft) (Finset.subset_univ _)) $$ [Ht]
    · iexact Ht
    iintro Ht
    iapply (wp_load_rect 𝒱₀ (tileThr d i) none Set.univ (m := stg) (r := Rect.unit (s := S32x512) (offS w k) S1x16.size (offS_inb w hw k)) (hl := View.loadsAt_vmem h_S1x16) (S := Finset.univ) (f := g) (Finset.subset_univ _)) $$ [Hs]
    · iexact Hs
    iintro Hs
    iapply (wp_store 𝒱₀ (tileThr d i) none Set.univ (m := stg) (r := Rect.unit (s := S32x512) (offS w k) S1x16.size (offS_inb w hw k)) (S := Finset.univ) (f := g) (Finset.subset_univ _)) $$ [Hs]
    · iexact Hs
    iintro Hs
    iapply (ih (w + 1) (by omega) _ (filled_step hw hrows hX hT hk hg))
    isplitl [Ht]; · iexact Ht
    iexact Hs

/-- One trip of the gather loop. -/
theorem wp_grpTrip {tb : Memref sig .scVector .vmem S32000 .i32} {idx : Memref sig .scVector .vmem S512 .i32} {stg : Memref sig .scVector .vmem S32x512 .i32} (k : Fin k0_t2_loop.trips)
    {T X : ℕ → BitVec 32} (hX : ∀ n, (X n).toNat < 1000) {q : PosShare TreeShare} {ft : Buf (Elt F) (tb.view.loc (tileThr d i))}
    (hT : ∀ j, (tb.access (.whole S32000)).read (Elt F) ft j = T (j 0).val)
    {fx : Buf (Elt F) (idx.view.loc (tileThr d i))} (hfx : ∀ j, idx.view.read (Elt F) fx j = X (j 0).val)
    {g : Buf (Elt F) (stg.view.loc (tileThr d i))} (hg : Filled T X k.val 0 (stg.view.read (Elt F) g)) :
    iprop((tb.view.loc (tileThr d i) ↦{q} ft) ∗ (idx.view.loc (tileThr d i) ↦{fullShare} fx) ∗ (stg.view.loc (tileThr d i) ↦{fullShare} g))
      ⊢ wp (M := 𝕄) frame (wpE (defs₀ (F := F)) 𝒱₀ (tileThr d i) none) Set.univ (grpTrip i tb idx stg k)
          fun _ => iprop((idx.view.loc (tileThr d i) ↦{fullShare} fx) ∗ (tb.view.loc (tileThr d i) ↦{q} ft) ∗ ∃ g' : Buf (Elt F) (stg.view.loc (tileThr d i)), ⌜Filled T X (k.val + 1) 0 (stg.view.read (Elt F) g')⌝
            ∗ (stg.view.loc (tileThr d i) ↦{fullShare} g')) := by
  iintro ⟨Ht, Hx, Hs⟩
  iapply (wp_load_rect 𝒱₀ (tileThr d i) none Set.univ (m := idx) (r := Rect.unit (s := S512) (k0_off4 k) S16.size (k0_off4_inb k)) (hl := View.loadsAt_vmem h_S16) (S := Finset.univ) (f := fx) (Finset.subset_univ _)) $$ [Hx]
  · iexact Hx
  iintro Hx
  have hrows : ∀ x : S16.Idx, (muli ((idx.access (Rect.unit (s := S512) (k0_off4 k) S16.size (k0_off4_inb k))).read (Elt F) fx : Vec F S16 .i32) (broadcast S16 32#32) : IVec S16 32) x = X (16 * k.val + (x 0).val) * 32#32 := by
    intro x
    show (idx.view.read (Elt F) fx ((Rect.unit (s := S512) (k0_off4 k) S16.size (k0_off4_inb k)).emb x) : BitVec 32) * 32#32 = _
    rw [hfx]
    congr 2
    show k0_off4 k 0 + 1 * (x 0).val = _
    have := off4_zero k; omega
  iapply (wp_frame_l frame _ _)
  isplitl [Hx]; · iexact Hx
  iapply (wp_grpSteps d i hrows hX hT 32 0 rfl g hg)
  isplitl [Ht]; · iexact Ht
  iexact Hs

theorem trips_t2 : k0_t2_loop.trips = 32 := by decide

/-- The gather loop of a chunk. -/
theorem wp_gath {tb : Memref sig .scVector .vmem S32000 .i32} {idx : Memref sig .scVector .vmem S512 .i32} {stg : Memref sig .scVector .vmem S32x512 .i32}
    {T X : ℕ → BitVec 32} (hX : ∀ n, (X n).toNat < 1000) {q : PosShare TreeShare} {ft : Buf (Elt F) (tb.view.loc (tileThr d i))}
    (hT : ∀ j, (tb.access (.whole S32000)).read (Elt F) ft j = T (j 0).val)
    {fx : Buf (Elt F) (idx.view.loc (tileThr d i))} (hfx : ∀ j, idx.view.read (Elt F) fx j = X (j 0).val) (g : Buf (Elt F) (stg.view.loc (tileThr d i))) :
    iprop((tb.view.loc (tileThr d i) ↦{q} ft) ∗ (idx.view.loc (tileThr d i) ↦{fullShare} fx) ∗ (stg.view.loc (tileThr d i) ↦{fullShare} g))
      ⊢ wp (M := 𝕄) frame (wpE (defs₀ (F := F)) 𝒱₀ (tileThr d i) none) Set.univ (gath i tb idx stg)
          fun _ => iprop((idx.view.loc (tileThr d i) ↦{fullShare} fx) ∗ (tb.view.loc (tileThr d i) ↦{q} ft)
            ∗ ∃ g' : Buf (Elt F) (stg.view.loc (tileThr d i)), ⌜∀ y, stg.view.read (Elt F) g' y = T ((X (y 1).val).toNat * 32 + (y 0).val)⌝
              ∗ (stg.view.loc (tileThr d i) ↦{fullShare} g')) := by
  have hbody : ∀ (k : Fin k0_t2_loop.trips) (acc : PUnit),
      iprop((idx.view.loc (tileThr d i) ↦{fullShare} fx) ∗ (tb.view.loc (tileThr d i) ↦{q} ft)
            ∗ ∃ g' : Buf (Elt F) (stg.view.loc (tileThr d i)), ⌜Filled T X k.val 0 (stg.view.read (Elt F) g')⌝
              ∗ (stg.view.loc (tileThr d i) ↦{fullShare} g'))
        ⊢ wp (M := 𝕄) frame (wpE (defs₀ (F := F)) 𝒱₀ (tileThr d i) none) Set.univ (grpTrip i tb idx stg k)
          fun _ => iprop((idx.view.loc (tileThr d i) ↦{fullShare} fx) ∗ (tb.view.loc (tileThr d i) ↦{q} ft)
            ∗ ∃ g' : Buf (Elt F) (stg.view.loc (tileThr d i)), ⌜Filled T X (k.val + 1) 0 (stg.view.read (Elt F) g')⌝
              ∗ (stg.view.loc (tileThr d i) ↦{fullShare} g')) := by
    intro k _
    iintro ⟨Hx, Ht, %g', %hg', Hs⟩
    iapply (wp_grpTrip d i k hX hT hfx hg')
    isplitl [Ht]; · iexact Ht
    isplitl [Hx]; · iexact Hx
    iexact Hs
  unfold gath
  iintro ⟨Ht, Hx, Hs⟩
  iapply (Scf.wp_for frame (wpE (defs₀ (F := F)) 𝒱₀ (tileThr d i) none) Set.univ _ _ _ k0_t2_ok PUnit.unit (fun k _ => grpTrip i tb idx stg k)
    (fun k _ => iprop((idx.view.loc (tileThr d i) ↦{fullShare} fx) ∗ (tb.view.loc (tileThr d i) ↦{q} ft)
            ∗ ∃ g' : Buf (Elt F) (stg.view.loc (tileThr d i)), ⌜Filled T X k 0 (stg.view.read (Elt F) g')⌝
              ∗ (stg.view.loc (tileThr d i) ↦{fullShare} g'))) hbody)
  isplitl [Ht Hx Hs]
  · isplitl [Hx]; · iexact Hx
    isplitl [Ht]; · iexact Ht
    iexists g
    isplitr
    · ipureintro; intro y hy; omega
    · iexact Hs
  · iintro %_ ⟨Hx, Ht, %g', %hg', Hs⟩
    isplitl [Hx]; · iexact Hx
    isplitl [Ht]; · iexact Ht
    iexists g'
    isplitr
    · ipureintro
      intro y
      have hy : (y 1).val < 512 := (y 1).isLt
      refine hg' y (.inl ?_)
      change (y 1).val < 16 * k0_t2_loop.trips
      rw [trips_t2]; exact hy
    · iexact Hs

end Cert.Proof.Gather

end
-- ==== Proof.Chunk.lean ====
/-
  A chunk's rule: its row numbers copied in, the staging buffer's previous write-back delivered, the gather, and the
  write-back of the gathered words started: in flight, it delivers the result's block at its words.
-/
module

public import proofs.«01_k».proof.Proof.Steps

@[expose] public section

set_option maxHeartbeats 2000000

noncomputable section

namespace Cert.Proof.Gather

open Cert.KernelIdeal Cert.KernelIdeal.Gen
open Idealize.ShloMosaic
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U]

local notation "𝕄" => MT nD τ sig (HIx 1) (Elt F) ℕ U ℕ

variable (d : Dev nD) (i : grid0.Coords) (O : CellTallies nD τ sig (HIx 1)) (W : Waits sig (HIx 1))

/-- What the tile owes, some waits at no call recorded beyond `W`. -/
def Owe : sProp 𝕄 := iprop(∃ W', ⌜∀ p ∈ W', p ∈ W ∨ p.2 = none⌝ ∗ owes (tileThr d i) O W')

theorem owe_open : (Owe d i O W : sProp 𝕄) ⊢ iprop(∃ W', ⌜∀ p ∈ W', p ∈ W ∨ p.2 = none⌝ ∗ owes (tileThr d i) O W') := .rfl

theorem owe_insert {W' : Waits sig (HIx 1)} (hW' : ∀ p ∈ W', p ∈ W ∨ p.2 = none) (sm : SemLoc sig) :
    (owes (tileThr d i) O (insert (sm, (none : HIx 1)) W') : sProp 𝕄) ⊢ Owe d i O W := by
  unfold Owe
  iintro HO
  iexists (insert (sm, (none : HIx 1)) W')
  isplitr
  · ipureintro; intro p hp
    rcases Finset.mem_insert.mp hp with hp | hp
    · exact .inr (hp ▸ rfl)
    · exact hW' p hp
  · iexact HO

variable (EC : UEmb Counters (MT nD τ sig (HIx 1) (Elt F) ℕ U ℕ)) [EC.LandsIn (upEmb : UEmb _ (MT nD τ sig (HIx 1) (Elt F) ℕ U ℕ))]

abbrev TEff (i : grid0.Coords) : Type → Type := TpuEff nD τ sig (Elt F) Λ₀ (Tile i)

/-- A copy started and waited for at once. -/
def copyIn {sp sp' : Space} {s : Shape} {e : EltTy} (i : grid0.Coords) (src : Memref sig .scVector sp s e) (dst : Memref sig .scVector sp' s e) (sm : DmaSem sig)
    (hsrc : src.view.WordExact) (hdst : dst.view.WordExact) (hsem : DmaTarget.Typed (nD := nD) (p := Tile i) sp (.dma sm) (.here dst)) : TProg (F := F) i PUnit :=
  Prog.op (.enqueueDma src (.here dst) (.dma sm) hsrc hdst hsem : TEff (F := F) i PUnit) fun _ => Prog.op (.waitDma2 sm src dst hsrc hdst : TEff (F := F) i PUnit) fun _ => Prog.ret PUnit.unit

include EC in
/-- The destination ends at what the source reads, the source's share back. -/
theorem wp_copyIn {sp sp' : Space} {s : Shape} {e : EltTy} (hs : 0 < s.numel) {src : Memref sig .scVector sp s e} {dst : Memref sig .scVector sp' s e} {sm : DmaSem sig}
    {hsrc : src.view.WordExact} {hdst : dst.view.WordExact} {hsem : DmaTarget.Typed (nD := nD) (p := Tile i) sp (.dma sm) (.here dst)}
    {q : PosShare TreeShare} {fs : Buf (Elt F) (src.view.loc (tileThr d i))} {fd : Buf (Elt F) (dst.view.loc (tileThr d i))} :
    iprop((src.view.loc (tileThr d i) ↦{q} fs) ∗ (dst.view.loc (tileThr d i) ↦{fullShare} fd) ∗ semVal (tileThr d i, .dma sm) 0
        ∗ MayWaits (tileThr d i) (none : HIx 1) O ∗ Owe d i O W)
      ⊢ wp (M := 𝕄) frame (wpE (defs₀ (F := F)) 𝒱₀ (tileThr d i) none) Set.univ (copyIn i src dst sm hsrc hdst hsem)
          fun _ => iprop((src.view.loc (tileThr d i) ↦{q} fs)
            ∗ (dst.view.loc (tileThr d i) ↦{fullShare} (dst.view.write (Elt F) fd (src.view.read (Elt F) fs) Finset.univ)) ∗ semVal (tileThr d i, .dma sm) 0 ∗ Owe d i O W) := by
  unfold copyIn
  iintro ⟨Hs, Hd, Hv, #Hmw, HO⟩
  ihave Hs' := (pointsTo_split_subset (Finset.subset_univ src.view.set)).1 $$ Hs
  icases Hs' with ⟨Hs, Hrest⟩
  iapply (Transfers.wp_dmaLocal EC 𝒱₀ (tileThr d i) none (src := src) (via := .same) (dst := dst) (sm := .dma sm) (fs := fs) (fd := fd) (Sd := Finset.univ)
    none (dst.view.amount (.dma sm)) rfl (View.amount_pos _ _ hs) (Finset.subset_univ _)) $$ [Hs Hd Hv]
  · isplitl [Hs]; · iexact Hs
    isplitl [Hd]; · iexact Hd
    iexact Hv
  iintro Hfl
  ihave HO := (owe_open d i O W) $$ HO
  icases HO with ⟨%W', %hW', HO⟩
  iapply (Transfers.wp_waitLocalO EC 𝒱₀ (tileThr d i) none none (N := dst.view.amount (.dma sm)) rfl) $$ [Hfl HO]
  · isplitl [Hfl]; · iexact Hfl
    isplitl [HO]; · iexact HO
    iapply (Transfers.MayWaits.elim (SemLoc.dma sm)); iexact Hmw
  iintro ⟨⟨Hd, Hs⟩, Hv, HO⟩
  sl_step
  isplitl [Hs Hrest]
  · iapply (pointsTo_split_subset (Finset.subset_univ src.view.set)).2
    isplitl [Hs]; · iexact Hs
    iexact Hrest
  isplitl [Hd]; · iexact Hd
  isplitl [Hv]; · iexact Hv
  iapply (owe_insert d i O W hW' (SemLoc.dma sm)); iexact HO

/-- The credit of a write-back. -/
abbrev NW (oa : Memref sig .scVector .hbm S832x16384 .i32) : ℕ := sig.dmaCredit .scVector (Kind.scVector.table .hbm) oa.view.buf S32x512 .i32

/-- A staging buffer with its semaphore: with a write-back in flight that delivers `D` and the buffer, or at rest. -/
def Slot (EC : UEmb Counters (MT nD τ sig (HIx 1) (Elt F) ℕ U ℕ)) (d : Dev nD) (i : grid0.Coords) (oa : Memref sig .scVector .hbm S832x16384 .i32) (stg : Memref sig .scVector .vmem S32x512 .i32) (ws : DmaSems sig S_) (p : Prop) (D : sProp 𝕄) : sProp 𝕄 :=
  open Classical in
  if p then Flight EC (tileThr d i) (.dma ws.sem) none (NW oa) iprop(D ∗ ∃ g, stg.view.loc (tileThr d i) ↦{fullShare} g)
  else iprop(semVal (tileThr d i, .dma ws.sem) 0 ∗ ∃ g, stg.view.loc (tileThr d i) ↦{fullShare} g)

/-- What a slot's wait delivers. -/
def Back (p : Prop) (D : sProp 𝕄) : sProp 𝕄 := open Classical in if p then D else iprop(emp)

include EC in
theorem wp_waitPrev {oa : Memref sig .scVector .hbm S832x16384 .i32} {stg : Memref sig .scVector .vmem S32x512 .i32} {hstg : stg.IsWhole} {ws : DmaSems sig S_}
    {p p' : Prop} [Decidable p] (hp : p ↔ p') {po : Fin 2 → ℕ} {hpo : p → ∀ a, po a + S32x512.size a ≤ S832x16384.size a} {D : sProp 𝕄} :
    iprop(Slot EC d i oa stg ws p' D ∗ MayWaits (tileThr d i) (none : HIx 1) O ∗ Owe d i O W)
      ⊢ wp (M := 𝕄) frame (wpE (defs₀ (F := F)) 𝒱₀ (tileThr d i) none) Set.univ (waitPrev i oa stg hstg ws p po hpo)
          fun _ => iprop(Back p' D ∗ (∃ g, stg.view.loc (tileThr d i) ↦{fullShare} g) ∗ semVal (tileThr d i, .dma ws.sem) 0 ∗ Owe d i O W) := by
  unfold waitPrev Slot Back
  by_cases h : p
  · rw [dif_pos h, if_pos (hp.mp h), if_pos (hp.mp h)]
    change _ ⊢ wp _ _ _ (Prog.op (.waitDma2 ws.sem stg (oSlice oa po (hpo h)) hstg.wordExact (View.wordExact_bits rfl) : TEff (F := F) i PUnit) fun _ => Prog.ret PUnit.unit) _
    iintro ⟨Hfl, #Hmw, HO⟩
    ihave HO := (owe_open d i O W) $$ HO
    icases HO with ⟨%W', %hW', HO⟩
    iapply (Transfers.wp_waitLocalO EC 𝒱₀ (tileThr d i) none none (N := NW oa) rfl) $$ [Hfl HO]
    · isplitl [Hfl]; · iexact Hfl
      isplitl [HO]; · iexact HO
      iapply (Transfers.MayWaits.elim (SemLoc.dma ws.sem)); iexact Hmw
    iintro ⟨⟨HD, Hs⟩, Hv, HO⟩
    sl_step
    isplitl [HD]; · iexact HD
    isplitl [Hs]; · iexact Hs
    isplitl [Hv]; · iexact Hv
    iapply (owe_insert d i O W hW' (SemLoc.dma ws.sem)); iexact HO
  · rw [dif_neg h, if_neg (fun h' => h (hp.mpr h')), if_neg (fun h' => h (hp.mpr h'))]
    change _ ⊢ wp _ _ _ (Prog.ret PUnit.unit) _
    iintro ⟨⟨Hv, Hs⟩, -, HO⟩
    sl_step
    isplitr; · iempintro
    isplitl [Hs]; · iexact Hs
    isplitl [Hv]; · iexact Hv
    iexact HO

include EC in
/-- A chunk, from a table's words in the tile's memory and the previous write-back's slot. -/
theorem wp_chunk {xa : Memref sig .scVector .hbm S26x32x1x512 .i32} {oa : Memref sig .scVector .hbm S832x16384 .i32}
    {tb : Memref sig .scVector .vmem S32000 .i32} {idx : Memref sig .scVector .vmem S512 .i32} {hidx : idx.IsWhole}
    {stg : Memref sig .scVector .vmem S32x512 .i32} {hstg : stg.IsWhole} {is ws : DmaSems sig S_}
    {xo : Fin 4 → ℕ} {hxo : ∀ a, xo a + S1x1x1x512.size a ≤ S26x32x1x512.size a}
    {oo : Fin 2 → ℕ} {hoo : ∀ a, oo a + S32x512.size a ≤ S832x16384.size a}
    {p p' : Prop} [Decidable p] (hp : p ↔ p') {po : Fin 2 → ℕ} {hpo : p → ∀ a, po a + S32x512.size a ≤ S832x16384.size a} {D : sProp 𝕄}
    {T X : ℕ → BitVec 32} (hX : ∀ n, (X n).toNat < 1000)
    {ft : Buf (Elt F) (tb.view.loc (tileThr d i))} (hT : ∀ j, (tb.access (.whole S32000)).read (Elt F) ft j = T (j 0).val)
    {q : PosShare TreeShare} {xc : Buf (Elt F) (xa.view.loc (tileThr d i))} (hxc : ∀ j, (xSlice xa xo hxo).view.read (Elt F) xc j = X (j 0).val)
    {f₀ G : Buf (Elt F) (oa.view.loc (tileThr d i))} (hG : ∀ y, (oSlice oa oo hoo).view.read (Elt F) G y = T ((X (y 1).val).toNat * 32 + (y 0).val)) :
    iprop(Slot EC d i oa stg ws p' D ∗ (∃ g, idx.view.loc (tileThr d i) ↦{fullShare} g) ∗ semVal (tileThr d i, .dma is.sem) 0
        ∗ (tb.view.loc (tileThr d i) ↦{fullShare} ft) ∗ (xa.view.loc (tileThr d i) ↦{q} xc) ∗ (oa.view.loc (tileThr d i) ↦[(oSlice oa oo hoo).view.set]{fullShare} f₀)
        ∗ MayWaits (tileThr d i) (none : HIx 1) O ∗ Owe d i O W)
      ⊢ wp (M := 𝕄) frame (wpE (defs₀ (F := F)) 𝒱₀ (tileThr d i) none) Set.univ (chunk i xa oa tb idx hidx stg hstg is ws xo hxo oo hoo p po hpo)
          fun _ => iprop(Slot EC d i oa stg ws True (oa.view.loc (tileThr d i) ↦[(oSlice oa oo hoo).view.set]{fullShare} G)
            ∗ (∃ g, idx.view.loc (tileThr d i) ↦{fullShare} g) ∗ semVal (tileThr d i, .dma is.sem) 0
            ∗ (tb.view.loc (tileThr d i) ↦{fullShare} ft) ∗ (xa.view.loc (tileThr d i) ↦{q} xc) ∗ Back p' D ∗ Owe d i O W) := by
  unfold chunk
  change _ ⊢ wp _ _ _ (do
      copyIn i (xSlice xa xo hxo) idx is.sem ((View.wordExact_bits rfl).reshape _ _) hidx.wordExact ⟨Or.inl rfl, trivial⟩
      waitPrev i oa stg hstg ws p po hpo
      gath i tb idx stg
      Prog.op (.enqueueDmaAs stg (.here (oSlice oa oo hoo)) .same (.dma ws.sem) hstg.wordExact (View.wordExact_bits rfl) ⟨Or.inl rfl, trivial⟩ : TEff (F := F) i PUnit) fun _ => Prog.ret PUnit.unit) _
  iintro ⟨Hsl, ⟨%g0, Hi⟩, Hv, Ht, Hx, Ho, #Hmw, HO⟩
  rw [wp_bind]
  ihave Hc := (wp_copyIn d i O W EC (show 0 < S512.numel by decide) (src := xSlice xa xo hxo) (dst := idx) (sm := is.sem)
    (hsrc := (View.wordExact_bits rfl).reshape _ _) (hdst := hidx.wordExact) (hsem := ⟨Or.inl rfl, trivial⟩) (fs := xc) (fd := g0) (q := q)) $$ [Hx Hi Hv HO]
  · isplitl [Hx]; · iexact Hx
    isplitl [Hi]; · iexact Hi
    isplitl [Hv]; · iexact Hv
    isplitr; · iexact Hmw
    iexact HO
  iapply (wp_wand_r frame _ _)
  isplitl [Hc]; · iexact Hc
  iintro %_ ⟨Hx, Hi, Hv, HO⟩
  rw [wp_bind]
  ihave Hw := (wp_waitPrev d i O W EC (hstg := hstg) hp (po := po) (hpo := hpo) (D := D)) $$ [Hsl HO]
  · isplitl [Hsl]; · iexact Hsl
    isplitr; · iexact Hmw
    iexact HO
  iapply (wp_wand_r frame _ _)
  isplitl [Hw]; · iexact Hw
  iintro %_ ⟨HB, ⟨%g1, Hs⟩, Hvw, HO⟩
  rw [wp_bind]
  ihave Hg := (wp_gath (U := U) d i hX hT (fx := idx.view.write (Elt F) g0 ((xSlice xa xo hxo).view.read (Elt F) xc) Finset.univ)
    (fun j => by rw [View.read_write_univ]; exact hxc j) g1) $$ [Ht Hi Hs]
  · isplitl [Ht]; · iexact Ht
    isplitl [Hi]; · iexact Hi
    iexact Hs
  iapply (wp_wand_r frame _ _)
  isplitl [Hg]; · iexact Hg
  iintro %_ ⟨Hi, Ht, %g', %hg', Hs⟩
  have hput : ∀ z ∈ (oSlice oa oo hoo).view.set, (oSlice oa oo hoo).view.write (Elt F) f₀ (stg.view.read (Elt F) g') Finset.univ z = G z := by
    intro z hz
    obtain ⟨y, -, rfl⟩ := Finset.mem_map.mp hz
    have h1 : (oSlice oa oo hoo).view.read (Elt F) ((oSlice oa oo hoo).view.write (Elt F) f₀ (stg.view.read (Elt F) g') Finset.univ) y = (oSlice oa oo hoo).view.read (Elt F) G y := by
      rw [View.read_write_univ, hG, hg']
    rw [View.read_apply, View.read_apply] at h1
    exact (cast_inj _).mp h1
  iapply (Transfers.wp_dmaLocal EC 𝒱₀ (tileThr d i) none (src := stg) (via := .same) (dst := oSlice oa oo hoo) (sm := .dma ws.sem) (fs := g') (fd := f₀)
    (Sd := (oSlice oa oo hoo).view.set) none (NW oa) rfl (View.amount_pos (oSlice oa oo hoo).view (SemLoc.dma ws.sem) (show 0 < S32x512.numel by decide)) (Finset.Subset.refl _)) $$ [Hs Ho Hvw]
  · isplitl [Hs]
    · rw [hstg.set_eq_univ]; iexact Hs
    isplitl [Ho]; · iexact Ho
    iexact Hvw
  iintro Hfl
  sl_step
  isplitl [Hfl]
  · unfold Slot
    rw [if_pos trivial]
    have hmono : iprop(((oSlice oa oo hoo).view.loc (tileThr d i) ↦[(oSlice oa oo hoo).view.set]{fullShare}
            (oSlice oa oo hoo).view.write (Elt F) f₀ (ReadAs.same.apply (stg.view.read (Elt F) g')) Finset.univ)
          ∗ (stg.view.loc (tileThr d i) ↦[stg.view.set]{fullShare} g'))
        ⊢ (iprop((oa.view.loc (tileThr d i) ↦[(oSlice oa oo hoo).view.set]{fullShare} G) ∗ ∃ g, stg.view.loc (tileThr d i) ↦{fullShare} g) : sProp 𝕄) := by
      rw [hstg.set_eq_univ]
      iintro ⟨Ho, Hs⟩
      isplitl [Ho]
      · iapply (Entails.of_eq (pointsTo_congr (ℓ := oa.view.loc (tileThr d i)) (I := (oSlice oa oo hoo).view.set) (q := fullShare) hput)) $$ Ho
      · iexists g'; iexact Hs
    iapply (Transfers.Flight_mono EC (tileThr d i) hmono) $$ Hfl
  isplitl [Hi]; · iexists _; iexact Hi
  isplitl [Hv]; · iexact Hv
  isplitl [Ht]; · iexact Ht
  isplitl [Hx]; · iexact Hx
  isplitl [HB]; · iexact HB
  iexact HO

end Cert.Proof.Gather

end
-- ==== Proof.Facts.lean ====
/-
  What the kernel's words come to: the table and the columns of a tile's chunks, and the conditions it computes.
-/
module

public import proofs.«01_k».proof.Proof.Body

@[expose] public section

set_option maxRecDepth 100000
set_option maxHeartbeats 0

namespace Cert.Proof.Gather

open Cert.KernelIdeal Cert.KernelIdeal.Gen
open Idealize.ShloMosaic

/-- A tile's number. -/
def wid (i : grid0.Coords) : ℕ := 2 * (i 1).val + (i 0).val

/-- The units a tile does. -/
def nu (i : grid0.Coords) : ℕ := if wid i < 8 then 4 else 3

/-- The table of a tile's chunk `m`. -/
def fOf (i : grid0.Coords) (m : ℕ) : ℕ := (wid i + 32 * (m / 8)) / 4

/-- The 512-column block of a tile's chunk `m`. -/
def cOf (i : grid0.Coords) (m : ℕ) : ℕ := (wid i + 32 * (m / 8)) % 4 * 8 + m % 8

theorem trips_t1 : ∀ i : grid0.Coords, (k0_t1_loop i).trips = nu i := by decide +kernel
theorem trips_t10 : ∀ i : grid0.Coords, (k0_t10_loop i).trips = 0 := by decide +kernel

theorem wid_lt (i : grid0.Coords) : wid i < 32 := by
  have h0 : (i 0).val < 2 := (i 0).isLt
  have h1 : (i 1).val < 16 := (i 1).isLt
  unfold wid; omega

theorem fOf_lt (i : grid0.Coords) {m : ℕ} (hm : m < 8 * nu i) : fOf i m < 26 := by
  have := wid_lt i
  unfold fOf; unfold nu at hm; split at hm <;> omega

theorem cOf_lt (i : grid0.Coords) (m : ℕ) : cOf i m < 32 := by
  unfold cOf; omega

theorem off1_at : ∀ (i : grid0.Coords) (t : Fin (k0_t1_loop i).trips), k0_off1 i t 0 = fOf i (8 * t.val) * 32000 := by decide +kernel

theorem off2_at : ∀ (i : grid0.Coords) (t : Fin (k0_t1_loop i).trips), k0_off2 i t = ![fOf i (8 * t.val), cOf i (8 * t.val), 0, 0] := by decide +kernel
theorem off38_at : ∀ (i : grid0.Coords) (t : Fin (k0_t1_loop i).trips), k0_off38 i t = ![fOf i (8 * t.val + 1), cOf i (8 * t.val + 1), 0, 0] := by decide +kernel
theorem off74_at : ∀ (i : grid0.Coords) (t : Fin (k0_t1_loop i).trips) (c : Fin 6),
    k0_off74 i t (BitVec.ofNat 32 (c.val + 2)) = ![fOf i (8 * t.val + (c.val + 2)), cOf i (8 * t.val + (c.val + 2)), 0, 0] := by decide +kernel
theorem off37_at : ∀ (i : grid0.Coords) (t : Fin (k0_t1_loop i).trips), k0_off37 i t = ![32 * fOf i (8 * t.val), 512 * cOf i (8 * t.val)] := by decide +kernel
theorem off73_at : ∀ (i : grid0.Coords) (t : Fin (k0_t1_loop i).trips) (c : Fin 7),
    k0_off73 i t (BitVec.ofNat 32 (c.val + 1)) = ![32 * fOf i (8 * t.val + (c.val + 1)), 512 * cOf i (8 * t.val + (c.val + 1))] := by decide +kernel

theorem conds_at : ∀ (i : grid0.Coords) (t : Fin (k0_t1_loop i).trips),
    k0_cond3 i t = 1#1 ∧ k0_cond4 i t = 1#1 ∧ k0_cond5 i t = 1#1 ∧ k0_cond6 i t = 1#1 ∧ k0_cond7 i t = 1#1 ∧ k0_cond8 i t = 1#1 := by decide +kernel

/-- What a unit hands on to the next. -/
def handOn (i : grid0.Coords) (t : Fin (k0_t1_loop i).trips) : BitVec 32 × BitVec 32 × BitVec 32 × BitVec 32 := (unitF i t, unitC i t 6#32, unitF i t, unitC i t 7#32)

/-- What the first unit starts from. -/
def start : BitVec 32 × BitVec 32 × BitVec 32 × BitVec 32 := (0#32, 4294967295#32, 0#32, 4294967295#32)

/-- What holds of a unit's carried words: the side conditions, and the waits made or not. -/
def CarryOk (b : Prop) (a : BitVec 32 × BitVec 32 × BitVec 32 × BitVec 32) : Prop :=
  k0_chk34 a.2.2.1 a.2.2.2 ∧ k0_chk1 a.1 a.2.1 ∧ (k0_cond1 a.2.1 = 1#1 ↔ b) ∧ (k0_cond2 a.2.2.2 = 1#1 ↔ b)

/-- What holds of the words left for the last waits. -/
def DrainOk (a : BitVec 32 × BitVec 32 × BitVec 32 × BitVec 32) : Prop :=
  k0_chk520 a.2.2.2 ∧ k0_chk519 a.2.2.2 a.2.2.1 ∧ k0_chk518 a.2.1 ∧ k0_chk517 a.2.1 a.1 ∧ k0_cond17 a.2.1 = 1#1 ∧ k0_cond18 a.2.2.2 = 1#1

instance (b : Prop) [Decidable b] (a : BitVec 32 × BitVec 32 × BitVec 32 × BitVec 32) : Decidable (CarryOk b a) := by
  unfold CarryOk
  exact @instDecidableAnd _ _ (k0_chk34.dec _ _) (@instDecidableAnd _ _ (k0_chk1.dec _ _) inferInstance)

instance (a : BitVec 32 × BitVec 32 × BitVec 32 × BitVec 32) : Decidable (DrainOk a) := by
  unfold DrainOk
  exact @instDecidableAnd _ _ (k0_chk520.dec _) (@instDecidableAnd _ _ (k0_chk519.dec _ _) (@instDecidableAnd _ _ (k0_chk518.dec _) (@instDecidableAnd _ _ (k0_chk517.dec _ _) inferInstance)))

theorem start_ok : CarryOk False start := by decide +kernel
theorem handOn_ok : ∀ (i : grid0.Coords) (t : Fin (k0_t1_loop i).trips), CarryOk True (handOn i t) := by decide +kernel
theorem handOn_drain : ∀ (i : grid0.Coords) (t : Fin (k0_t1_loop i).trips), DrainOk (handOn i t) := by decide +kernel

end Cert.Proof.Gather
-- ==== Proof.Geo.lean ====
/-
  The gather's words and the result's blocks: what each entry of the result is, which entries a block holds, and what
  the kernel's slices read.
-/
module

public import proofs.«01_k».proof.Proof.Facts
public import Idealize.ShloMosaic.Lib.ValueLayout
public import Idealize.ShloMosaic.Lib.Pipeline.Value

@[expose] public section

noncomputable section

namespace Cert.Proof.Gather

open Cert.KernelIdeal Cert.KernelIdeal.Gen
open Idealize.ShloMosaic
open Idealize.ShloMosaic.ValueIdx (ix1 ix2 ix4)

/-- Word `n` of the packed tables. -/
def tkn (tk : S832000.Idx → BitVec 32) (n : ℕ) : BitVec 32 := tk (ix1 (Fin.ofNat 832000 n))

/-- Row number `n` of stretch `c` of table `f`'s row numbers. -/
def xn (xc : S26x32x1x512.Idx → BitVec 32) (f c n : ℕ) : BitVec 32 := xc (ix4 (Fin.ofNat 26 f) (Fin.ofNat 32 c) 0 (Fin.ofNat 512 n))

/-- The gathered words: row `32 f + w` at column `r` is word `w` of the row that table `f`'s row number `r` names. -/
def gout (tk : S832000.Idx → BitVec 32) (xc : S26x32x1x512.Idx → BitVec 32) : S832x16384.Idx → BitVec 32 := fun y =>
  tkn tk ((y 0).val / 32 * 32000 + ((xn xc ((y 0).val / 32) ((y 1).val / 512) ((y 1).val % 512)).toNat * 32 + (y 0).val % 32))

/-- The result's block of table `f` and stretch `c`. -/
def blk (f c : ℕ) : Finset S832x16384.Idx := Finset.univ.filter fun y => (y 0).val / 32 = f ∧ (y 1).val / 512 = c

abbrev tkW : Memref sig .scVector .hbm S832000 .i32 := Memref.whole main_arg1_scv
abbrev xW : Memref sig .scVector .hbm S26x32x1x512 .i32 := Memref.whole main_v1_scv
abbrev oW : Memref sig .scVector .hbm S832x16384 .i32 := Memref.whole main_v2_scv

theorem unitEmb {s : Shape} (off size : Fin s.rank → ℕ) (h : ∀ a, off a + size a ≤ s.size a) (j : (Rect.unit off size h).shape.Idx) (a : Fin s.rank) :
    ((Rect.unit off size h).emb j a).val = off a + (j a).val := by
  show off a + 1 * (j a).val = _
  rw [Nat.one_mul]

theorem oEmb (f c : ℕ) (h : ∀ a, (![32 * f, 512 * c] : Fin 2 → ℕ) a + S32x512.size a ≤ S832x16384.size a) (y : S32x512.Idx) :
    (((Rect.unit (s := S832x16384) ![32 * f, 512 * c] S32x512.size h).emb y : S832x16384.Idx) 0).val = 32 * f + (y 0).val
      ∧ (((Rect.unit (s := S832x16384) ![32 * f, 512 * c] S32x512.size h).emb y : S832x16384.Idx) 1).val = 512 * c + (y 1).val :=
  ⟨(unitEmb (s := S832x16384) _ _ _ y 0), (unitEmb (s := S832x16384) _ _ _ y 1)⟩

theorem oSet (f c : ℕ) (h : ∀ a, (![32 * f, 512 * c] : Fin 2 → ℕ) a + S32x512.size a ≤ S832x16384.size a) :
    (oSlice oW ![32 * f, 512 * c] h).view.set = blk f c := by
  apply Finset.ext
  intro (z : S832x16384.Idx)
  unfold blk
  rw [Finset.mem_filter]
  constructor
  · intro hz
    obtain ⟨y, -, rfl⟩ := Finset.mem_map.mp hz
    have h0 : (y 0).val < 32 := (y 0).isLt
    have h1 : (y 1).val < 512 := (y 1).isLt
    obtain ⟨e0, e1⟩ := oEmb f c h y
    refine ⟨Finset.mem_univ _, ?_, ?_⟩
    · refine (congrArg (· / 32) e0).trans ?_; show (32 * f + (y 0).val) / 32 = f; omega
    · refine (congrArg (· / 512) e1).trans ?_; show (512 * c + (y 1).val) / 512 = c; omega
  · rintro ⟨-, h0, h1⟩
    refine Finset.mem_map.mpr ⟨ix2 ⟨(z 0).val % 32, Nat.mod_lt _ (by decide)⟩ ⟨(z 1).val % 512, Nat.mod_lt _ (by decide)⟩, Finset.mem_univ _, ?_⟩
    obtain ⟨e0, e1⟩ := oEmb f c h (ix2 ⟨(z 0).val % 32, Nat.mod_lt _ (by decide)⟩ ⟨(z 1).val % 512, Nat.mod_lt _ (by decide)⟩)
    funext a
    apply Fin.ext
    match a with
    | 0 => refine e0.trans ?_; show 32 * f + (z 0).val % 32 = (z 0).val; omega
    | 1 => refine e1.trans ?_; show 512 * c + (z 1).val % 512 = (z 1).val; omega

variable {F : FTy → Type}

theorem oRead (tk : S832000.Idx → BitVec 32) (xc : S26x32x1x512.Idx → BitVec 32) (f c : ℕ)
    (h : ∀ a, (![32 * f, 512 * c] : Fin 2 → ℕ) a + S32x512.size a ≤ S832x16384.size a) (y : S32x512.Idx) :
    (oSlice oW ![32 * f, 512 * c] h).view.read (Elt F) (gout tk xc) y = tkn tk (f * 32000 + ((xn xc f c (y 1).val).toNat * 32 + (y 0).val)) := by
  have h0 : (y 0).val < 32 := (y 0).isLt
  have h1 : (y 1).val < 512 := (y 1).isLt
  obtain ⟨e0, e1⟩ := oEmb f c h y
  have key : (oSlice oW ![32 * f, 512 * c] h).view.read (Elt F) (gout tk xc) y = gout tk xc ((Rect.unit (s := S832x16384) ![32 * f, 512 * c] S32x512.size h).emb y) := rfl
  rw [key]
  unfold gout
  rw [e0, e1, show (32 * f + (y 0).val) / 32 = f by omega, show (512 * c + (y 1).val) / 512 = c by omega,
    show (32 * f + (y 0).val) % 32 = (y 0).val by omega, show (512 * c + (y 1).val) % 512 = (y 1).val by omega]

theorem xRead (xc : S26x32x1x512.Idx → BitVec 32) (f c : ℕ)
    (h : ∀ a, (![f, c, 0, 0] : Fin 4 → ℕ) a + S1x1x1x512.size a ≤ S26x32x1x512.size a) (j : S512.Idx) :
    (xSlice xW ![f, c, 0, 0] h).view.read (Elt F) xc j = xn xc f c (j 0).val := by
  have key : (xSlice xW ![f, c, 0, 0] h).view.read (Elt F) xc j
      = shapeCast S512 (fun k : S1x1x1x512.Idx => xc ((Rect.unit (s := S26x32x1x512) ![f, c, 0, 0] S1x1x1x512.size h).emb k)) (by decide) j := rfl
  have hf : f + 1 ≤ 26 := h 0
  have hc : c + 1 ≤ 32 := h 1
  have hj : (j 0).val < 512 := (j 0).isLt
  refine key.trans ((shapeCast_apply _ _ j (ix4 0 0 0 (j 0)) (by rw [Shape.rowMajor_val_four, Shape.rowMajor_val_one]; show ((0 * 1 + 0) * 1 + 0) * 512 + (j 0).val = (j 0).val; omega)).trans ?_)
  unfold xn
  refine congrArg xc ?_
  funext a
  apply Fin.ext
  refine (unitEmb _ _ _ _ a).trans ?_
  match a with
  | 0 => show f + 0 = f % 26; omega
  | 1 => show c + 0 = c % 32; omega
  | 2 => rfl
  | 3 => show 0 + (j 0).val = (j 0).val % 512; omega

theorem tkRead (tk : S832000.Idx → BitVec 32) (o : Fin 1 → ℕ) (h : ∀ a, o a + S32000.size a ≤ S832000.size a) (j : S32000.Idx) :
    (tkW.slice (Rect.unit (s := S832000) o S32000.size h) (fun _ => rfl)).view.read (Elt F) tk j = tkn tk (o 0 + (j 0).val) := by
  have key : (tkW.slice (Rect.unit (s := S832000) o S32000.size h) (fun _ => rfl)).view.read (Elt F) tk j
      = tk ((Rect.unit (s := S832000) o S32000.size h).emb j) := rfl
  rw [key]
  unfold tkn
  have h0 : o 0 + 32000 ≤ 832000 := h 0
  have hj : (j 0).val < 32000 := (j 0).isLt
  refine congrArg tk ?_
  funext a
  apply Fin.ext
  refine (unitEmb _ _ _ _ a).trans ?_
  match a with
  | 0 => show o 0 + (j 0).val = (o 0 + (j 0).val) % 832000; omega

end Cert.Proof.Gather

end
-- ==== Proof.Unit.lean ====
/-
  A tile's run: chunk after chunk, unit after unit, what is still to be written, what is in flight and what is done; and
  the whole run of a tile's kernel.
-/
module

public import proofs.«01_k».proof.Proof.Chunk
public import proofs.«01_k».proof.Proof.Geo
public import Idealize.SL.BI.BigOpNat

@[expose] public section

set_option maxHeartbeats 2000000

noncomputable section

namespace Cert.Proof.Gather

open Cert.KernelIdeal Cert.KernelIdeal.Gen
open Idealize.ShloMosaic
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (i : grid0.Coords) (O : CellTallies nD τ sig (HIx 1)) (W : Waits sig (HIx 1))
variable (tk : S832000.Idx → BitVec 32) (xc : S26x32x1x512.Idx → BitVec 32) (f₀ : S832x16384.Idx → BitVec 32) (qt qx : PosShare TreeShare)

abbrev tbW : Memref sig .scVector .vmem S32000 .i32 := Memref.whole cc0_scratch0
abbrev idA : Memref sig .scVector .vmem S512 .i32 := Memref.whole cc0_scratch1
abbrev idB : Memref sig .scVector .vmem S512 .i32 := Memref.whole cc0_scratch2
abbrev stA : Memref sig .scVector .vmem S32x512 .i32 := Memref.whole cc0_scratch3
abbrev stB : Memref sig .scVector .vmem S32x512 .i32 := Memref.whole cc0_scratch4

/-- Chunk `n`'s block of the result, with its words in it. -/
def Dn (n : ℕ) : sProp 𝕄 := (oW.view.loc (tileThr d i) ↦[blk (fOf i n) (cOf i n)]{fullShare} (gout tk xc : Buf (Elt F) (oW.view.loc (tileThr d i))))

/-- Chunk `n`'s block of the result, as it was. -/
def Pd (n : ℕ) : sProp 𝕄 := (oW.view.loc (tileThr d i) ↦[blk (fOf i n) (cOf i n)]{fullShare} (f₀ : Buf (Elt F) (oW.view.loc (tileThr d i))))

/-- Before chunk `m`: the row numbers' share, the blocks to come, the blocks back. -/
def Cm (m : ℕ) : sProp 𝕄 :=
  iprop((xW.view.loc (tileThr d i) ↦{qx} (xc : Buf (Elt F) (xW.view.loc (tileThr d i))))
    ∗ bigSep (Finset.Ico m (8 * nu i)) (Pd d i f₀) ∗ bigSep (Finset.range (m - 2)) (Dn d i tk xc) ∗ Owe d i O W)

/-- A staging buffer before chunk `m` of its turns. -/
def SlotAt (stg : Memref sig .scVector .vmem S32x512 .i32) (ws : DmaSems sig S_) (m : ℕ) : sProp 𝕄 := Slot EC d i oW stg ws (2 ≤ m) (Dn d i tk xc (m - 2))

/-- A row-number buffer at rest. -/
def Idle (idx : Memref sig .scVector .vmem S512 .i32) (is : DmaSems sig S_) : sProp 𝕄 :=
  iprop((∃ g, idx.view.loc (tileThr d i) ↦{fullShare} g) ∗ semVal (tileThr d i, .dma is.sem) 0)

include EC in
theorem chunk_then {m : ℕ} (hm : m < 8 * nu i) (hxc : ∀ j, (xc j).toNat < 1000)
    {idx : Memref sig .scVector .vmem S512 .i32} {hidx : idx.IsWhole}
    {stg : Memref sig .scVector .vmem S32x512 .i32} {hstg : stg.IsWhole} {is ws : DmaSems sig S_}
    {xo : Fin 4 → ℕ} {hxo : ∀ a, xo a + S1x1x1x512.size a ≤ S26x32x1x512.size a} (exo : xo = ![fOf i m, cOf i m, 0, 0])
    {oo : Fin 2 → ℕ} {hoo : ∀ a, oo a + S32x512.size a ≤ S832x16384.size a} (eoo : oo = ![32 * fOf i m, 512 * cOf i m])
    {p : Prop} [Decidable p] (hp : p ↔ 2 ≤ m) {po : Fin 2 → ℕ} {hpo : p → ∀ a, po a + S32x512.size a ≤ S832x16384.size a}
    {ft : Buf (Elt F) (tbW.view.loc (tileThr d i))} (hT : ∀ j, (tbW.access (.whole S32000)).read (Elt F) ft j = tkn tk (fOf i m * 32000 + (j 0).val))
    {α : Type} {kk : PUnit → TProg (F := F) i α} {Q : α → sProp 𝕄} :
    iprop(SlotAt EC d i tk xc stg ws m ∗ Idle d i idx is ∗ (tbW.view.loc (tileThr d i) ↦{fullShare} ft) ∗ Cm d i O W tk xc f₀ qx m
        ∗ MayWaits (tileThr d i) (none : HIx 1) O)
      ⊢ iprop((iprop(SlotAt EC d i tk xc stg ws (m + 2) ∗ Idle d i idx is ∗ (tbW.view.loc (tileThr d i) ↦{fullShare} ft) ∗ Cm d i O W tk xc f₀ qx (m + 1))
          -∗ wp (M := 𝕄) frame (wpE (defs₀ (F := F)) 𝒱₀ (tileThr d i) none) Set.univ (kk ⟨⟩) Q)
        -∗ wp (M := 𝕄) frame (wpE (defs₀ (F := F)) 𝒱₀ (tileThr d i) none) Set.univ
            (chunk i xW oW tbW idx hidx stg hstg is ws xo hxo oo hoo p po hpo >>= kk) Q) := by
  subst exo eoo
  have hset := oSet (fOf i m) (cOf i m) hoo
  have hpend : (bigSep (Finset.Ico m (8 * nu i)) (Pd (F := F) (U := U) d i f₀)) = iprop(Pd d i f₀ m ∗ bigSep (Finset.Ico (m + 1) (8 * nu i)) (Pd d i f₀)) := by
    have hI : Finset.Ico m (8 * nu i) = insert m (Finset.Ico (m + 1) (8 * nu i)) := by
      ext x; rw [Finset.mem_insert, Finset.mem_Ico, Finset.mem_Ico]; omega
    rw [hI, bigSep_insert (by rw [Finset.mem_Ico]; omega)]
    rfl
  have hdone : iprop(Back (2 ≤ m) (Dn (F := F) (U := U) d i tk xc (m - 2)) ∗ bigSep (Finset.range (m - 2)) (Dn (F := F) (U := U) d i tk xc)) ⊢ bigSep (Finset.range (m + 1 - 2)) (Dn (F := F) (U := U) d i tk xc) := by
    unfold Back
    by_cases h2 : 2 ≤ m
    · rw [if_pos h2, show m + 1 - 2 = (m - 2) + 1 by omega, bigSep_range_succ]
    · rw [if_neg h2, show m - 2 = 0 by omega, show m + 1 - 2 = 0 by omega]
      iintro ⟨-, H⟩; iexact H
  have hslot : Slot EC d i oW stg ws True (Dn (F := F) (U := U) d i tk xc m) ⊢ SlotAt EC d i tk xc stg ws (m + 2) := by
    unfold SlotAt Slot
    rw [if_pos trivial, if_pos (by omega : 2 ≤ m + 2), show m + 2 - 2 = m by omega]
  have hopen : SlotAt (F := F) (U := U) EC d i tk xc stg ws m ⊢ Slot EC d i oW stg ws (2 ≤ m) (Dn d i tk xc (m - 2)) := .rfl
  have hpd : Pd (F := F) (U := U) d i f₀ m ⊢ (oW.view.loc (tileThr d i) ↦[blk (fOf i m) (cOf i m)]{fullShare} (f₀ : Buf (Elt F) (oW.view.loc (tileThr d i)))) := .rfl
  have hc := wp_chunk (F := F) (U := U) d i O W EC (xa := xW) (oa := oW) (tb := tbW) (idx := idx) (hidx := hidx) (stg := stg) (hstg := hstg) (is := is) (ws := ws)
    (hxo := hxo) (hoo := hoo) hp (po := po) (hpo := hpo) (D := Dn d i tk xc (m - 2)) (T := fun n => tkn tk (fOf i m * 32000 + n)) (X := xn xc (fOf i m) (cOf i m))
    (fun n => hxc _) hT (q := qx) (xc := xc) (fun j => xRead xc _ _ hxo j) (f₀ := f₀) (G := gout tk xc) (fun y => oRead tk xc _ _ hoo y)
  unfold Cm Idle
  rw [hpend, wp_bind]
  iintro ⟨Hsl, ⟨Hi, Hv⟩, Ht, ⟨Hx, ⟨Ho, Hpend⟩, Hdone, HO⟩, #Hmw⟩ Hk
  ihave Hc := hc $$ [Hsl Hi Hv Ht Hx Ho HO]
  · isplitl [Hsl]; · iapply hopen; iexact Hsl
    isplitl [Hi]; · iexact Hi
    isplitl [Hv]; · iexact Hv
    isplitl [Ht]; · iexact Ht
    isplitl [Hx]; · iexact Hx
    isplitl [Ho]; · rw [hset]; iapply hpd; iexact Ho
    isplitr; · iexact Hmw
    iexact HO
  iapply (wp_wand_r frame _ _)
  isplitl [Hc]; · iexact Hc
  rw [hset]
  iintro %_ ⟨Hsl, Hi, Hv, Ht, Hx, HB, HO⟩
  iapply Hk
  isplitl [Hsl]; · iapply hslot; iexact Hsl
  isplitl [Hi Hv]
  · isplitl [Hi]; · iexact Hi
    iexact Hv
  isplitl [Ht]; · iexact Ht
  isplitl [Hx]; · iexact Hx
  isplitl [Hpend]; · iexact Hpend
  isplitl [HB Hdone]
  · iapply hdone
    isplitl [HB]; · iexact HB
    iexact Hdone
  iexact HO

end Cert.Proof.Gather

end
-- ==== Proof.Units.lean ====
/-
  A tile's unit of work, its units in turn, its two last waits: the whole of its kernel.
-/
module

public import proofs.«01_k».proof.Proof.Unit
public import Idealize.ShloMosaic.Lib.Pipeline.TableIdle

@[expose] public section

set_option maxHeartbeats 2000000
set_option maxRecDepth 10000

noncomputable section

namespace Cert.Proof.Gather

open Cert.KernelIdeal Cert.KernelIdeal.Gen
open Idealize.ShloMosaic
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (i : grid0.Coords) (O : CellTallies nD τ sig (HIx 1)) (W : Waits sig (HIx 1))
variable (tk : S832000.Idx → BitVec 32) (xc : S26x32x1x512.Idx → BitVec 32) (f₀ : S832x16384.Idx → BitVec 32) (qt qx : PosShare TreeShare)

/-- What a tile holds before its unit `t`. -/
def Ut (t : ℕ) : sProp 𝕄 :=
  iprop(SlotAt EC d i tk xc stA cc0_scratch8 (8 * t) ∗ SlotAt EC d i tk xc stB cc0_scratch9 (8 * t + 1)
    ∗ Idle d i idA cc0_scratch6 ∗ Idle d i idB cc0_scratch7
    ∗ (∃ ft, tbW.view.loc (tileThr d i) ↦{fullShare} ft) ∗ semVal (tileThr d i, .dma cc0_scratch5.sem) 0
    ∗ (tkW.view.loc (tileThr d i) ↦{qt} (tk : Buf (Elt F) (tkW.view.loc (tileThr d i))))
    ∗ Cm d i O W tk xc f₀ qx (8 * t))

abbrev unitP (t : Fin (k0_t1_loop i).trips) (a : BitVec 32 × BitVec 32 × BitVec 32 × BitVec 32) : TProg (F := F) i (BitVec 32 × BitVec 32 × BitVec 32 × BitVec 32) :=
  unitProg i tkW xW oW tbW (Memref.isWhole_whole _) idA (Memref.isWhole_whole _) idB (Memref.isWhole_whole _) stA (Memref.isWhole_whole _) stB (Memref.isWhole_whole _)
    cc0_scratch5 cc0_scratch6 cc0_scratch7 cc0_scratch8 cc0_scratch9 t a

/-- A unit's program after its side conditions. -/
def unitCore (t : Fin (k0_t1_loop i).trips) (a : BitVec 32 × BitVec 32 × BitVec 32 × BitVec 32) (hw34 : k0_chk34 a.2.2.1 a.2.2.2) (hw1 : k0_chk1 a.1 a.2.1) :
    TProg (F := F) i (BitVec 32 × BitVec 32 × BitVec 32 × BitVec 32) := do
  copyIn i (tkW.slice (Rect.unit (s := S832000) (k0_off1 i t) S32000.size (k0_off1_inb i t)) (fun _ => rfl)) tbW cc0_scratch5.sem (View.wordExact_bits rfl) (Memref.isWhole_whole _).wordExact ⟨Or.inl rfl, trivial⟩
  chunks i xW oW tbW idA (Memref.isWhole_whole _) idB (Memref.isWhole_whole _) stA (Memref.isWhole_whole _) stB (Memref.isWhole_whole _)
    cc0_scratch6 cc0_scratch7 cc0_scratch8 cc0_scratch9 t a.1 a.2.1 a.2.2.1 a.2.2.2 hw34 hw1
  pure (handOn i t)

theorem unitP_eq (t : Fin (k0_t1_loop i).trips) (a : BitVec 32 × BitVec 32 × BitVec 32 × BitVec 32) :
    unitP (F := F) i t a = Prog.op (.assume (k0_chk34 a.2.2.1 a.2.2.2) (k0_chk34.dec _ _) : TEff (F := F) i _) fun h34 =>
      Prog.op (.assume (k0_chk1 a.1 a.2.1) (k0_chk1.dec _ _) : TEff (F := F) i _) fun h1 => unitCore i t a h34.down h1.down := by
  obtain ⟨a16, a17, a18, a19⟩ := a
  unfold unitP unitProg
  simp only [windows_eq]
  rfl

theorem readWhole (g : Buf (Elt F) (tbW.view.loc (tileThr d i))) (j : S32000.Idx) : (tbW.access (.whole S32000)).read (Elt F) g j = tbW.view.read (Elt F) g j := by
  refine congrArg g (funext fun a => Fin.ext ?_)
  show 0 + 1 * (j a).val = (j a).val
  omega

include EC in
theorem wp_unitCore (hxc : ∀ j, (xc j).toNat < 1000) (t : Fin (k0_t1_loop i).trips) (a : BitVec 32 × BitVec 32 × BitVec 32 × BitVec 32) (hw34 : k0_chk34 a.2.2.1 a.2.2.2) (hw1 : k0_chk1 a.1 a.2.1)
    (c1 : k0_cond1 a.2.1 = 1#1 ↔ 1 ≤ t.val) (c2 : k0_cond2 a.2.2.2 = 1#1 ↔ 1 ≤ t.val) :
    iprop(Ut EC d i O W tk xc f₀ qt qx t.val ∗ MayWaits (tileThr d i) (none : HIx 1) O)
      ⊢ wp (M := 𝕄) frame (wpE (defs₀ (F := F)) 𝒱₀ (tileThr d i) none) Set.univ (unitCore i t a hw34 hw1)
          fun r => iprop(⌜r = handOn i t⌝ ∗ Ut EC d i O W tk xc f₀ qt qx (t.val + 1)) := by
  have ht : t.val < nu i := by rw [← trips_t1 i]; exact t.isLt
  have hf : ∀ c, c < 8 → fOf i (8 * t.val + c) = fOf i (8 * t.val) := by intro c hc; unfold fOf; omega
  obtain ⟨k3, k4, k5, k6, k7, k8⟩ := conds_at i t
  have hopen : Cm (F := F) (U := U) d i O W tk xc f₀ qx (8 * t.val) ⊢ iprop(Owe d i O W ∗ (Owe d i O W -∗ Cm d i O W tk xc f₀ qx (8 * t.val))) := by
    unfold Cm
    iintro ⟨Hx, Hp, Hd, HO⟩
    isplitl [HO]; · iexact HO
    iintro HO
    isplitl [Hx]; · iexact Hx
    isplitl [Hp]; · iexact Hp
    isplitl [Hd]; · iexact Hd
    iexact HO
  unfold unitCore Ut chunks
  simp only [bind_assoc]
  rw [wp_bind]
  iintro ⟨⟨HsA, HsB, HiA, HiB, ⟨%f, Ht⟩, Hv, Htk, HC⟩, #Hmw⟩
  ihave HC' := hopen $$ HC
  icases HC' with ⟨HO, HC⟩
  ihave Hc := (wp_copyIn (F := F) (U := U) d i O W EC (show 0 < S32000.numel by decide) (src := tkW.slice (Rect.unit (s := S832000) (k0_off1 i t) S32000.size (k0_off1_inb i t)) (fun _ => rfl)) (dst := tbW) (sm := cc0_scratch5.sem)
    (hsrc := View.wordExact_bits rfl) (hdst := (Memref.isWhole_whole _).wordExact) (hsem := ⟨Or.inl rfl, trivial⟩) (fs := tk) (fd := f) (q := qt)) $$ [Htk Ht Hv HO]
  · isplitl [Htk]; · iexact Htk
    isplitl [Ht]; · iexact Ht
    isplitl [Hv]; · iexact Hv
    isplitr; · iexact Hmw
    iexact HO
  iapply (wp_wand_r frame _ _)
  isplitl [Hc]; · iexact Hc
  iintro %_ ⟨Htk, Ht, Hv, HO⟩
  ihave HC := HC $$ HO
  have hT0 : ∀ j : S32000.Idx, (tbW.access (.whole S32000)).read (Elt F) (tbW.view.write (Elt F) f
      ((tkW.slice (Rect.unit (s := S832000) (k0_off1 i t) S32000.size (k0_off1_inb i t)) (fun _ => rfl)).view.read (Elt F) tk) Finset.univ) j = tkn tk (fOf i (8 * t.val) * 32000 + (j 0).val) := by
    intro j
    rw [readWhole d i, View.read_write_univ, tkRead, off1_at]
  have hT : ∀ c, c < 8 → ∀ j : S32000.Idx, (tbW.access (.whole S32000)).read (Elt F) (tbW.view.write (Elt F) f
      ((tkW.slice (Rect.unit (s := S832000) (k0_off1 i t) S32000.size (k0_off1_inb i t)) (fun _ => rfl)).view.read (Elt F) tk) Finset.univ) j = tkn tk (fOf i (8 * t.val + c) * 32000 + (j 0).val) := by
    intro c hc; rw [hf c hc]; exact hT0
  iapply (chunk_then EC d i O W tk xc f₀ qx (m := 8 * t.val) (by omega) hxc (off2_at i t) (off37_at i t) (c1.trans (by omega)) hT0) $$ [HsA HiA Ht HC]
  · isplitl [HsA]; · iexact HsA
    isplitl [HiA]; · iexact HiA
    isplitl [Ht]; · iexact Ht
    isplitl [HC]; · iexact HC
    iexact Hmw
  iintro ⟨HsA, HiA, Ht, HC⟩
  iapply (chunk_then EC d i O W tk xc f₀ qx (m := 8 * t.val + 1) (by omega) hxc (off38_at i t) (off73_at i t 0) (c2.trans (by omega)) (hT 1 (by omega))) $$ [HsB HiB Ht HC]
  · isplitl [HsB]; · iexact HsB
    isplitl [HiB]; · iexact HiB
    isplitl [Ht]; · iexact Ht
    isplitl [HC]; · iexact HC
    iexact Hmw
  iintro ⟨HsB, HiB, Ht, HC⟩
  iapply (chunk_then EC d i O W tk xc f₀ qx (m := 8 * t.val + 2) (by omega) hxc (off74_at i t 0) (off73_at i t 1) (iff_of_true k3 (by omega)) (hT 2 (by omega))) $$ [HsA HiA Ht HC]
  · isplitl [HsA]; · iexact HsA
    isplitl [HiA]; · iexact HiA
    isplitl [Ht]; · iexact Ht
    isplitl [HC]; · iexact HC
    iexact Hmw
  iintro ⟨HsA, HiA, Ht, HC⟩
  iapply (chunk_then EC d i O W tk xc f₀ qx (m := 8 * t.val + 3) (by omega) hxc (off74_at i t 1) (off73_at i t 2) (iff_of_true k4 (by omega)) (hT 3 (by omega))) $$ [HsB HiB Ht HC]
  · isplitl [HsB]; · iexact HsB
    isplitl [HiB]; · iexact HiB
    isplitl [Ht]; · iexact Ht
    isplitl [HC]; · iexact HC
    iexact Hmw
  iintro ⟨HsB, HiB, Ht, HC⟩
  iapply (chunk_then EC d i O W tk xc f₀ qx (m := 8 * t.val + 4) (by omega) hxc (off74_at i t 2) (off73_at i t 3) (iff_of_true k5 (by omega)) (hT 4 (by omega))) $$ [HsA HiA Ht HC]
  · isplitl [HsA]; · iexact HsA
    isplitl [HiA]; · iexact HiA
    isplitl [Ht]; · iexact Ht
    isplitl [HC]; · iexact HC
    iexact Hmw
  iintro ⟨HsA, HiA, Ht, HC⟩
  iapply (chunk_then EC d i O W tk xc f₀ qx (m := 8 * t.val + 5) (by omega) hxc (off74_at i t 3) (off73_at i t 4) (iff_of_true k6 (by omega)) (hT 5 (by omega))) $$ [HsB HiB Ht HC]
  · isplitl [HsB]; · iexact HsB
    isplitl [HiB]; · iexact HiB
    isplitl [Ht]; · iexact Ht
    isplitl [HC]; · iexact HC
    iexact Hmw
  iintro ⟨HsB, HiB, Ht, HC⟩
  iapply (chunk_then EC d i O W tk xc f₀ qx (m := 8 * t.val + 6) (by omega) hxc (off74_at i t 4) (off73_at i t 5) (iff_of_true k7 (by omega)) (hT 6 (by omega))) $$ [HsA HiA Ht HC]
  · isplitl [HsA]; · iexact HsA
    isplitl [HiA]; · iexact HiA
    isplitl [Ht]; · iexact Ht
    isplitl [HC]; · iexact HC
    iexact Hmw
  iintro ⟨HsA, HiA, Ht, HC⟩
  iapply (chunk_then EC d i O W tk xc f₀ qx (m := 8 * t.val + 7) (by omega) hxc (off74_at i t 5) (off73_at i t 6) (iff_of_true k8 (by omega)) (hT 7 (by omega))) $$ [HsB HiB Ht HC]
  · isplitl [HsB]; · iexact HsB
    isplitl [HiB]; · iexact HiB
    isplitl [Ht]; · iexact Ht
    isplitl [HC]; · iexact HC
    iexact Hmw
  iintro ⟨HsB, HiB, Ht, HC⟩
  sl_step
  isplitr; · ipureintro; rfl
  isplitl [HsA]; · iexact HsA
  isplitl [HsB]; · iexact HsB
  isplitl [HiA]; · iexact HiA
  isplitl [HiB]; · iexact HiB
  isplitl [Ht]; · iexists _; iexact Ht
  isplitl [Hv]; · iexact Hv
  isplitl [Htk]; · iexact Htk
  iexact HC

include EC in
theorem wp_unit (hxc : ∀ j, (xc j).toNat < 1000) (t : Fin (k0_t1_loop i).trips) (a : BitVec 32 × BitVec 32 × BitVec 32 × BitVec 32) (ha : CarryOk (1 ≤ t.val) a) :
    iprop(Ut EC d i O W tk xc f₀ qt qx t.val ∗ MayWaits (tileThr d i) (none : HIx 1) O)
      ⊢ wp (M := 𝕄) frame (wpE (defs₀ (F := F)) 𝒱₀ (tileThr d i) none) Set.univ (unitP i t a)
          fun r => iprop(⌜r = handOn i t⌝ ∗ Ut EC d i O W tk xc f₀ qt qx (t.val + 1)) := by
  obtain ⟨h34, h1, c1, c2⟩ := ha
  rw [unitP_eq]
  iintro H
  iapply (wp_assume 𝒱₀ (tileThr d i) none Set.univ h34)
  iapply (wp_assume 𝒱₀ (tileThr d i) none Set.univ h1)
  iapply (wp_unitCore EC d i O W tk xc f₀ qt qx hxc t a h34 h1 c1 c2)
  iexact H

/-- What holds of the carried words before unit `t`. -/
def Carried (t : ℕ) (a : BitVec 32 × BitVec 32 × BitVec 32 × BitVec 32) : Prop := CarryOk (1 ≤ t) a ∧ (1 ≤ t → DrainOk a)

theorem carried_zero : Carried 0 start := ⟨by have := start_ok; unfold CarryOk at this ⊢; simpa using this, by omega⟩

theorem carried_succ (t : Fin (k0_t1_loop i).trips) : Carried (t.val + 1) (handOn i t) :=
  ⟨by have := handOn_ok i t; unfold CarryOk at this ⊢; simpa using this, fun _ => handOn_drain i t⟩

/-- The tile's program. -/
abbrev bodyP : TProg (F := F) i PUnit :=
  cc0__gather_body i tkW (Memref.isWhole_whole _) xW (Memref.isWhole_whole _) oW (Memref.isWhole_whole _) tbW (Memref.isWhole_whole _) idA (Memref.isWhole_whole _) idB (Memref.isWhole_whole _) stA (Memref.isWhole_whole _) stB (Memref.isWhole_whole _)
    cc0_scratch5 cc0_scratch6 cc0_scratch7 cc0_scratch8 cc0_scratch9

abbrev drainP (a : BitVec 32 × BitVec 32 × BitVec 32 × BitVec 32) : TProg (F := F) i PUnit :=
  drain i oW stA (Memref.isWhole_whole _) stB (Memref.isWhole_whole _) cc0_scratch8 cc0_scratch9 a

theorem bodyP_eq : bodyP (F := F) i = (do
    let r ← Scf.Loop.for (k0_t1_loop i) (k0_t1_ok i) start (unitP i)
    drainP i (r.1, r.2.1, r.2.2.1, r.2.2.2)) := by
  obtain ⟨rest, h⟩ := body_eq (F := F) i tkW (Memref.isWhole_whole _) xW (Memref.isWhole_whole _) oW (Memref.isWhole_whole _) tbW (Memref.isWhole_whole _) idA (Memref.isWhole_whole _) idB (Memref.isWhole_whole _) stA (Memref.isWhole_whole _) stB (Memref.isWhole_whole _)
    cc0_scratch5 cc0_scratch6 cc0_scratch7 cc0_scratch8 cc0_scratch9
  refine h.trans ?_
  refine congrArg (Prog.bind _) (funext fun r => ?_)
  exact Scf.for_trips0_bind _ _ (trips_t10 i) _ _ _

/-- The last waits after their side conditions. -/
def drainCore (a : BitVec 32 × BitVec 32 × BitVec 32 × BitVec 32) (h519 : k0_chk519 a.2.2.2 a.2.2.1) (h517 : k0_chk517 a.2.1 a.1) : TProg (F := F) i PUnit := do
  waitPrev i oW stA (Memref.isWhole_whole _) cc0_scratch8 (k0_cond17 a.2.1 = 1#1) (k0_off557 a.2.1 a.1) (k0_off557_inb a.2.1 a.1 h517)
  waitPrev i oW stB (Memref.isWhole_whole _) cc0_scratch9 (k0_cond18 a.2.2.2 = 1#1) (k0_off558 a.2.2.2 a.2.2.1) (k0_off558_inb a.2.2.2 a.2.2.1 h519)
  pure ⟨⟩

theorem drainP_eq (a : BitVec 32 × BitVec 32 × BitVec 32 × BitVec 32) :
    drainP (F := F) i a = Prog.op (.assume (k0_chk520 a.2.2.2) (k0_chk520.dec _) : TEff (F := F) i _) fun _ =>
      Prog.op (.assume (k0_chk519 a.2.2.2 a.2.2.1) (k0_chk519.dec _ _) : TEff (F := F) i _) fun h519 =>
      Prog.op (.assume (k0_chk518 a.2.1) (k0_chk518.dec _) : TEff (F := F) i _) fun _ =>
      Prog.op (.assume (k0_chk517 a.2.1 a.1) (k0_chk517.dec _ _) : TEff (F := F) i _) fun h517 => drainCore i a h519.down h517.down := by
  obtain ⟨a0, a1, a2, a3⟩ := a
  unfold drainP drain
  simp only [waitThen_eq]
  rfl

/-- What a tile's buffers and semaphores are at rest. -/
def Rest : sProp 𝕄 :=
  iprop((∃ g, tbW.view.loc (tileThr d i) ↦{fullShare} g) ∗ (∃ g, idA.view.loc (tileThr d i) ↦{fullShare} g) ∗ (∃ g, idB.view.loc (tileThr d i) ↦{fullShare} g)
    ∗ (∃ g, stA.view.loc (tileThr d i) ↦{fullShare} g) ∗ (∃ g, stB.view.loc (tileThr d i) ↦{fullShare} g)
    ∗ semVal (tileThr d i, .dma cc0_scratch5.sem) 0 ∗ semVal (tileThr d i, .dma cc0_scratch6.sem) 0 ∗ semVal (tileThr d i, .dma cc0_scratch7.sem) 0
    ∗ semVal (tileThr d i, .dma cc0_scratch8.sem) 0 ∗ semVal (tileThr d i, .dma cc0_scratch9.sem) 0)

include EC in
theorem wp_drain (a : BitVec 32 × BitVec 32 × BitVec 32 × BitVec 32) (ha : DrainOk a) :
    iprop(Ut EC d i O W tk xc f₀ qt qx (nu i) ∗ MayWaits (tileThr d i) (none : HIx 1) O)
      ⊢ wp (M := 𝕄) frame (wpE (defs₀ (F := F)) 𝒱₀ (tileThr d i) none) Set.univ (drainP i a)
          fun _ => iprop((tkW.view.loc (tileThr d i) ↦{qt} (tk : Buf (Elt F) (tkW.view.loc (tileThr d i)))) ∗ (xW.view.loc (tileThr d i) ↦{qx} (xc : Buf (Elt F) (xW.view.loc (tileThr d i))))
            ∗ bigSep (Finset.range (8 * nu i)) (Dn d i tk xc) ∗ Rest d i ∗ Owe d i O W) := by
  obtain ⟨h520, h519, h518, h517, c17, c18⟩ := ha
  have hnu : 3 ≤ nu i := by unfold nu; split <;> omega
  have hdone : iprop(Dn (F := F) (U := U) d i tk xc (8 * nu i + 1 - 2) ∗ Dn (F := F) (U := U) d i tk xc (8 * nu i - 2) ∗ bigSep (Finset.range (8 * nu i - 2)) (Dn (F := F) (U := U) d i tk xc))
      ⊢ bigSep (Finset.range (8 * nu i)) (Dn (F := F) (U := U) d i tk xc) := by
    conv => rhs; rw [show 8 * nu i = ((8 * nu i - 2) + 1) + 1 by omega]
    rw [bigSep_range_succ, bigSep_range_succ, show 8 * nu i + 1 - 2 = 8 * nu i - 2 + 1 by omega]
  have hA := wp_waitPrev (F := F) (U := U) d i O W EC (oa := oW) (stg := stA) (hstg := Memref.isWhole_whole _) (ws := cc0_scratch8) (p := k0_cond17 a.2.1 = 1#1) (p' := 2 ≤ 8 * nu i) (iff_of_true c17 (by omega))
    (po := k0_off557 a.2.1 a.1) (hpo := k0_off557_inb a.2.1 a.1 h517) (D := Dn d i tk xc (8 * nu i - 2))
  have hB := wp_waitPrev (F := F) (U := U) d i O W EC (oa := oW) (stg := stB) (hstg := Memref.isWhole_whole _) (ws := cc0_scratch9) (p := k0_cond18 a.2.2.2 = 1#1) (p' := 2 ≤ 8 * nu i + 1) (iff_of_true c18 (by omega))
    (po := k0_off558 a.2.2.2 a.2.2.1) (hpo := k0_off558_inb a.2.2.2 a.2.2.1 h519) (D := Dn d i tk xc (8 * nu i + 1 - 2))
  have eA : Back (F := F) (U := U) (2 ≤ 8 * nu i) (Dn d i tk xc (8 * nu i - 2)) = Dn d i tk xc (8 * nu i - 2) := by unfold Back; rw [if_pos (by omega)]
  have eB : Back (F := F) (U := U) (2 ≤ 8 * nu i + 1) (Dn d i tk xc (8 * nu i + 1 - 2)) = Dn d i tk xc (8 * nu i + 1 - 2) := by unfold Back; rw [if_pos (by omega)]
  rw [eA] at hA
  rw [eB] at hB
  rw [drainP_eq]
  iintro ⟨HU, #Hmw⟩
  iapply (wp_assume 𝒱₀ (tileThr d i) none Set.univ h520)
  iapply (wp_assume 𝒱₀ (tileThr d i) none Set.univ h519)
  iapply (wp_assume 𝒱₀ (tileThr d i) none Set.univ h518)
  iapply (wp_assume 𝒱₀ (tileThr d i) none Set.univ h517)
  unfold drainCore Ut Cm Idle SlotAt Rest
  icases HU with ⟨HsA, HsB, ⟨HiA, HvA⟩, ⟨HiB, HvB⟩, Ht, Hv, Htk, Hx, -, Hd, HO⟩
  rw [wp_bind]
  ihave Hw := hA $$ [HsA HO]
  · isplitl [HsA]; · iexact HsA
    isplitr; · iexact Hmw
    iexact HO
  iapply (wp_wand_r frame _ _)
  isplitl [Hw]; · iexact Hw
  iintro %_ ⟨HDA, HsA, HvsA, HO⟩
  rw [wp_bind]
  ihave Hw := hB $$ [HsB HO]
  · isplitl [HsB]; · iexact HsB
    isplitr; · iexact Hmw
    iexact HO
  iapply (wp_wand_r frame _ _)
  isplitl [Hw]; · iexact Hw
  iintro %_ ⟨HDB, HsB, HvsB, HO⟩
  sl_step
  isplitl [Htk]; · iexact Htk
  isplitl [Hx]; · iexact Hx
  isplitl [HDA HDB Hd]
  · iapply hdone
    isplitl [HDB]; · iexact HDB
    isplitl [HDA]; · iexact HDA
    iexact Hd
  isplitr [HO]
  · isplitl [Ht]; · iexact Ht
    isplitl [HiA]; · iexact HiA
    isplitl [HiB]; · iexact HiB
    isplitl [HsA]; · iexact HsA
    isplitl [HsB]; · iexact HsB
    isplitl [Hv]; · iexact Hv
    isplitl [HvA]; · iexact HvA
    isplitl [HvB]; · iexact HvB
    isplitl [HvsA]; · iexact HvsA
    iexact HvsB
  · iexact HO

theorem slot_rest {stg : Memref sig .scVector .vmem S32x512 .i32} {ws : DmaSems sig S_} {m : ℕ} (hm : m < 2) :
    iprop(semVal (tileThr d i, .dma ws.sem) 0 ∗ ∃ g, stg.view.loc (tileThr d i) ↦{fullShare} g) ⊢ SlotAt (F := F) (U := U) EC d i tk xc stg ws m := by
  unfold SlotAt Slot
  rw [if_neg (by omega)]

include EC in
/-- The tile's whole program: its units' blocks at their words, its shares and its memory back. -/
theorem wp_body (hxc : ∀ j, (xc j).toNat < 1000) :
    iprop((tkW.view.loc (tileThr d i) ↦{qt} (tk : Buf (Elt F) (tkW.view.loc (tileThr d i)))) ∗ (xW.view.loc (tileThr d i) ↦{qx} (xc : Buf (Elt F) (xW.view.loc (tileThr d i))))
        ∗ bigSep (Finset.range (8 * nu i)) (Pd d i f₀) ∗ Rest d i ∗ Owe d i O W ∗ MayWaits (tileThr d i) (none : HIx 1) O)
      ⊢ wp (M := 𝕄) frame (wpE (defs₀ (F := F)) 𝒱₀ (tileThr d i) none) Set.univ (bodyP i)
          fun _ => iprop((tkW.view.loc (tileThr d i) ↦{qt} (tk : Buf (Elt F) (tkW.view.loc (tileThr d i)))) ∗ (xW.view.loc (tileThr d i) ↦{qx} (xc : Buf (Elt F) (xW.view.loc (tileThr d i))))
            ∗ bigSep (Finset.range (8 * nu i)) (Dn d i tk xc) ∗ Rest d i ∗ Owe d i O W) := by
  have hbody : ∀ (t : Fin (k0_t1_loop i).trips) (a : BitVec 32 × BitVec 32 × BitVec 32 × BitVec 32),
      iprop(⌜Carried t.val a⌝ ∗ Ut EC d i O W tk xc f₀ qt qx t.val ∗ MayWaits (tileThr d i) (none : HIx 1) O)
        ⊢ wp (M := 𝕄) frame (wpE (defs₀ (F := F)) 𝒱₀ (tileThr d i) none) Set.univ (unitP i t a)
          fun r => iprop(⌜Carried (t.val + 1) r⌝ ∗ Ut EC d i O W tk xc f₀ qt qx (t.val + 1) ∗ MayWaits (tileThr d i) (none : HIx 1) O) := by
    intro t a
    iintro ⟨%ha, HU, #Hmw⟩
    ihave Hw := (wp_unit EC d i O W tk xc f₀ qt qx hxc t a ha.1) $$ [HU]
    · isplitl [HU]; · iexact HU
      iexact Hmw
    iapply (wp_wand_r frame _ _)
    isplitl [Hw]; · iexact Hw
    iintro %r ⟨%hr, HU⟩
    isplitr; · ipureintro; rw [hr]; exact carried_succ i t
    isplitl [HU]; · iexact HU
    iexact Hmw
  rw [bodyP_eq, wp_bind]
  iintro ⟨Htk, Hx, Hp, HR, HO, #Hmw⟩
  iapply (Scf.wp_for frame (wpE (defs₀ (F := F)) 𝒱₀ (tileThr d i) none) Set.univ _ _ _ (k0_t1_ok i) start (unitP i)
    (fun t a => iprop(⌜Carried t a⌝ ∗ Ut EC d i O W tk xc f₀ qt qx t ∗ MayWaits (tileThr d i) (none : HIx 1) O)) hbody)
  isplitl [Htk Hx Hp HR HO]
  · unfold Rest
    icases HR with ⟨Ht, HiA, HiB, HsA, HsB, Hv, HvA, HvB, HvsA, HvsB⟩
    isplitr; · ipureintro; exact carried_zero
    isplitl
    · unfold Ut Cm Idle
      isplitl [HsA HvsA]
      · iapply (slot_rest EC d i tk xc (by omega))
        isplitl [HvsA]; · iexact HvsA
        iexact HsA
      isplitl [HsB HvsB]
      · iapply (slot_rest EC d i tk xc (by omega))
        isplitl [HvsB]; · iexact HvsB
        iexact HsB
      isplitl [HiA HvA]
      · isplitl [HiA]; · iexact HiA
        iexact HvA
      isplitl [HiB HvB]
      · isplitl [HiB]; · iexact HiB
        iexact HvB
      isplitl [Ht]; · iexact Ht
      isplitl [Hv]; · iexact Hv
      isplitl [Htk]; · iexact Htk
      isplitl [Hx]; · iexact Hx
      isplitl [Hp]
      · rw [show Finset.Ico (8 * 0) (8 * nu i) = Finset.range (8 * nu i) by rw [Finset.range_eq_Ico]]; iexact Hp
      isplitr
      · rw [show Finset.range (8 * 0 - 2) = ∅ by rfl, bigSep_empty]; iempintro
      iexact HO
    · iexact Hmw
  · rw [show Scf.trips (k0_t1_loop i).lb (k0_t1_loop i).ub (k0_t1_loop i).st = nu i from trips_t1 i]
    iintro %r ⟨%hr, HU, -⟩
    have hd : DrainOk (r.1, r.2.1, r.2.2.1, r.2.2.2) := hr.2 (by unfold nu; split <;> omega)
    iapply (wp_drain EC d i O W tk xc f₀ qt qx _ hd)
    isplitl [HU]; · iexact HU
    iexact Hmw

end Cert.Proof.Gather

end
-- ==== Proof.Share.lean ====
/-
  How the tables, the row numbers and the result are shared out: among the two SparseCores, each one's sixteen tiles, and
  each tile's chunks.
-/
module

public import proofs.«01_k».proof.Proof.Units

@[expose] public section

noncomputable section

namespace Cert.Proof.Gather

open Cert.KernelIdeal Cert.KernelIdeal.Gen
open Idealize.ShloMosaic
open Idealize.ShloMosaic.SparseCore.Cfg (HIx)
open Idealize.ShloMosaic.Transfers (dealOf)
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig (HIx 1) (Elt F) ℕ U ℕ

/-- Number of the work unit that writes an entry of the result. -/
def unitOf (y : S832x16384.Idx) : ℕ := 4 * ((y 0).val / 32) + (y 1).val / 512 / 8

/-- The entries tile `w` writes. -/
def tileSet (w : ℕ) : Finset S832x16384.Idx := Finset.univ.filter fun y => unitOf y % 32 = w

/-- The entries SparseCore `c` writes. -/
def coreSet (c : ℕ) : Finset S832x16384.Idx := Finset.univ.filter fun y => unitOf y % 2 = c

/-- The place of tile `s` of SparseCore `c`. -/
def place (c : Fin 2) (s : Fin 16) : grid0.Coords :=
  fun | 0 => c | 1 => s | ⟨_ + 2, h⟩ => absurd h (Nat.not_lt.2 (Nat.le_add_left _ _))

theorem wid_place (c : Fin 2) (s : Fin 16) : wid (place c s) = 2 * s.val + c.val := rfl

theorem chunk_of (a b w : ℕ) (ha : a < 832) (hb : b < 16384) (hw : w < 32) :
    (4 * (a / 32) + b / 512 / 8) % 32 = w ↔ ∃ n, n < 8 * (if w < 8 then 4 else 3) ∧ a / 32 = (w + 32 * (n / 8)) / 4 ∧ b / 512 = (w + 32 * (n / 8)) % 4 * 8 + n % 8 := by
  constructor
  · intro h
    refine ⟨8 * ((4 * (a / 32) + b / 512 / 8) / 32) + b / 512 % 8, ?_, ?_, ?_⟩
    · split <;> omega
    · omega
    · omega
  · rintro ⟨n, hn, e0, e1⟩
    omega

theorem chunk_inj (w n n' : ℕ) (e0 : (w + 32 * (n / 8)) / 4 = (w + 32 * (n' / 8)) / 4)
    (e1 : (w + 32 * (n / 8)) % 4 * 8 + n % 8 = (w + 32 * (n' / 8)) % 4 * 8 + n' % 8) : n = n' := by omega

theorem tileSet_chunks (i : grid0.Coords) : tileSet (wid i) = (Finset.range (8 * nu i)).biUnion fun n => blk (fOf i n) (cOf i n) := by
  apply Finset.ext
  intro y
  simp only [tileSet, blk, Finset.mem_filter, Finset.mem_univ, true_and, Finset.mem_biUnion, Finset.mem_range]
  exact chunk_of _ _ (wid i) (y 0).isLt (y 1).isLt (wid_lt i)

theorem chunks_apart (i : grid0.Coords) : ∀ n ∈ Finset.range (8 * nu i), ∀ n' ∈ Finset.range (8 * nu i), n ≠ n' → Disjoint (blk (fOf i n) (cOf i n)) (blk (fOf i n') (cOf i n')) := by
  intro n _ n' _ hne
  refine Finset.disjoint_left.mpr fun y h h' => hne ?_
  have h := (Finset.mem_filter.mp h).2
  have h' := (Finset.mem_filter.mp h').2
  exact chunk_inj (wid i) n n' (h.1.symm.trans h'.1) (h.2.symm.trans h'.2)

theorem coreSet_tiles (c : Fin 2) : coreSet c.val = (Finset.univ : Finset (Fin 16)).biUnion fun s => tileSet (2 * s.val + c.val) := by
  apply Finset.ext
  intro y
  have hc := c.isLt
  simp only [tileSet, coreSet, Finset.mem_filter, Finset.mem_univ, true_and, Finset.mem_biUnion]
  constructor
  · intro h
    refine ⟨⟨unitOf y % 32 / 2, by omega⟩, ?_⟩
    show _ = 2 * (unitOf y % 32 / 2) + _
    omega
  · rintro ⟨s, hs⟩
    have := s.isLt
    omega

theorem tiles_apart (c : Fin 2) : ∀ s ∈ (Finset.univ : Finset (Fin 16)), ∀ s' ∈ (Finset.univ : Finset (Fin 16)), s ≠ s' → Disjoint (tileSet (2 * s.val + c.val)) (tileSet (2 * s'.val + c.val)) := by
  intro s _ s' _ hne
  refine Finset.disjoint_left.mpr fun y h h' => hne (Fin.ext ?_)
  simp only [tileSet, Finset.mem_filter, Finset.mem_univ, true_and] at h h'
  omega

theorem cores_cover : (Finset.univ : Finset (Fin 2)).biUnion (fun c => coreSet c.val) = Finset.univ := by
  apply Finset.ext
  intro y
  simp only [coreSet, Finset.mem_filter, Finset.mem_univ, true_and, Finset.mem_biUnion, iff_true]
  exact ⟨⟨unitOf y % 2, Nat.mod_lt _ (by decide)⟩, rfl⟩

theorem cores_apart : ∀ c ∈ (Finset.univ : Finset (Fin 2)), ∀ c' ∈ (Finset.univ : Finset (Fin 2)), c ≠ c' → Disjoint (coreSet c.val) (coreSet c'.val) := by
  intro c _ c' _ hne
  refine Finset.disjoint_left.mpr fun y h h' => hne (Fin.ext ?_)
  simp only [coreSet, Finset.mem_filter, Finset.mem_univ, true_and] at h h'
  omega

/-- The packed tables, the row numbers and the result, as locations of device `d`. -/
abbrev tkLoc (d : Dev nD) : Loc nD τ sig := (SparseCore.T d).loc main_arg1
abbrev xLoc (d : Dev nD) : Loc nD τ sig := (SparseCore.T d).loc main_v1
abbrev oLoc (d : Dev nD) : Loc nD τ sig := (SparseCore.T d).loc main_v2

variable (d : Dev nD) (tk : S832000.Idx → BitVec 32) (xc : S26x32x1x512.Idx → BitVec 32) (f : S832x16384.Idx → BitVec 32)

/-- What a SparseCore reads at. -/
abbrev qCore (c : Fin 2) : PosShare TreeShare := dealOf fullShare (Finset.univ : Finset (Fin 2)) c
/-- What a tile reads at. -/
abbrev qTile (c : Fin 2) (s : Fin 16) : PosShare TreeShare := dealOf (qCore c) (Finset.univ : Finset (Fin 16)) s

/-- The three arrays whole, the result at `f`. -/
def forCall : sProp 𝕄 :=
  iprop((tkLoc d ↦{fullShare} (tk : Buf (Elt F) (tkLoc d))) ∗ (xLoc d ↦{fullShare} (xc : Buf (Elt F) (xLoc d))) ∗ (oLoc d ↦{fullShare} (f : Buf (Elt F) (oLoc d))))

/-- One SparseCore's part of them. -/
def forCore (c : Fin 2) : sProp 𝕄 :=
  iprop((tkLoc d ↦{qCore c} (tk : Buf (Elt F) (tkLoc d))) ∗ (xLoc d ↦{qCore c} (xc : Buf (Elt F) (xLoc d))) ∗ (oLoc d ↦[coreSet c.val]{fullShare} (f : Buf (Elt F) (oLoc d))))

/-- One tile's part of them. -/
def forTile (c : Fin 2) (s : Fin 16) : sProp 𝕄 :=
  iprop((tkLoc d ↦{qTile c s} (tk : Buf (Elt F) (tkLoc d))) ∗ (xLoc d ↦{qTile c s} (xc : Buf (Elt F) (xLoc d))) ∗ (oLoc d ↦[tileSet (2 * s.val + c.val)]{fullShare} (f : Buf (Elt F) (oLoc d))))

instance forCore_storable (c : Fin 2) : BI.Storable (upEmb : UEmb _ 𝕄) (forCore d tk xc f c) := by unfold forCore; infer_instance
instance forTile_storable (c : Fin 2) (s : Fin 16) : BI.Storable (upEmb : UEmb _ 𝕄) (forTile d tk xc f c s) := by unfold forTile; infer_instance

theorem forCall_cores : (forCall d tk xc f : sProp 𝕄) = bigSep Finset.univ fun c : Fin 2 => forCore d tk xc f c := by
  have e1 : (tkLoc d ↦{fullShare} (tk : Buf (Elt F) (tkLoc d)) : sProp 𝕄) = bigSep Finset.univ fun c : Fin 2 => tkLoc d ↦{qCore c} (tk : Buf (Elt F) (tkLoc d)) :=
    Transfers.pointsTo_deal _ Finset.univ_nonempty _
  have e2 : (xLoc d ↦{fullShare} (xc : Buf (Elt F) (xLoc d)) : sProp 𝕄) = bigSep Finset.univ fun c : Fin 2 => xLoc d ↦{qCore c} (xc : Buf (Elt F) (xLoc d)) :=
    Transfers.pointsTo_deal _ Finset.univ_nonempty _
  have e3 : (oLoc d ↦{fullShare} (f : Buf (Elt F) (oLoc d)) : sProp 𝕄) = bigSep Finset.univ fun c : Fin 2 => oLoc d ↦[coreSet c.val]{fullShare} (f : Buf (Elt F) (oLoc d)) := by
    refine Eq.trans ?_ (pointsTo_biUnion Finset.univ (ℓ := oLoc d) (fun c : Fin 2 => coreSet c.val) cores_apart)
    exact congrArg (fun I => (oLoc d ↦[I]{fullShare} (f : Buf (Elt F) (oLoc d)) : sProp 𝕄)) cores_cover.symm
  have h := congrArg₂ (fun A B : sProp 𝕄 => iprop(A ∗ B)) e1 (congrArg₂ (fun A B : sProp 𝕄 => iprop(A ∗ B)) e2 e3)
  rw [← bigSep_sep', ← bigSep_sep'] at h
  exact h

theorem forCore_tiles (c : Fin 2) : (forCore d tk xc f c : sProp 𝕄) = bigSep Finset.univ fun s : Fin 16 => forTile d tk xc f c s := by
  have e1 : (tkLoc d ↦{qCore c} (tk : Buf (Elt F) (tkLoc d)) : sProp 𝕄) = bigSep Finset.univ fun s : Fin 16 => tkLoc d ↦{qTile c s} (tk : Buf (Elt F) (tkLoc d)) :=
    Transfers.pointsTo_deal _ Finset.univ_nonempty _
  have e2 : (xLoc d ↦{qCore c} (xc : Buf (Elt F) (xLoc d)) : sProp 𝕄) = bigSep Finset.univ fun s : Fin 16 => xLoc d ↦{qTile c s} (xc : Buf (Elt F) (xLoc d)) :=
    Transfers.pointsTo_deal _ Finset.univ_nonempty _
  have e3 : (oLoc d ↦[coreSet c.val]{fullShare} (f : Buf (Elt F) (oLoc d)) : sProp 𝕄) = bigSep Finset.univ fun s : Fin 16 => oLoc d ↦[tileSet (2 * s.val + c.val)]{fullShare} (f : Buf (Elt F) (oLoc d)) := by
    refine Eq.trans ?_ (pointsTo_biUnion Finset.univ (ℓ := oLoc d) (fun s : Fin 16 => tileSet (2 * s.val + c.val)) (tiles_apart c))
    exact congrArg (fun I => (oLoc d ↦[I]{fullShare} (f : Buf (Elt F) (oLoc d)) : sProp 𝕄)) (coreSet_tiles c)
  have h := congrArg₂ (fun A B : sProp 𝕄 => iprop(A ∗ B)) e1 (congrArg₂ (fun A B : sProp 𝕄 => iprop(A ∗ B)) e2 e3)
  rw [← bigSep_sep', ← bigSep_sep'] at h
  exact h

theorem tile_chunks (i : grid0.Coords) : (oLoc d ↦[tileSet (wid i)]{fullShare} (f : Buf (Elt F) (oLoc d)) : sProp 𝕄) = bigSep (Finset.range (8 * nu i)) (Pd d i f) := by
  have h := pointsTo_biUnion (Val := Elt F) (U := U) (Name := ℕ) (Ix := HIx 1) (Lvl := ℕ) (ℓ := oLoc d) (q := fullShare) (f := (f : Buf (Elt F) (oLoc d)))
    (Finset.range (8 * nu i)) (fun n => blk (fOf i n) (cOf i n)) (chunks_apart i)
  refine (congrArg (fun I => (oLoc d ↦[I]{fullShare} (f : Buf (Elt F) (oLoc d)) : sProp 𝕄)) (tileSet_chunks i)).trans (h.trans (bigSep_congr fun n _ => ?_))
  unfold Pd
  rfl

end Cert.Proof.Gather

end
-- ==== Proof.Launch.lean ====
/-
  The gather as the launch theorem takes it: what the call hands each SparseCore and each tile, and that a tile's program
  does what it must.
-/
module

public import proofs.«01_k».proof.Proof.Share
public import Idealize.ShloMosaic.Lib.SparseCore.Quiescent
public import Idealize.ShloMosaic.Lib.StableHlo.Run
public import Idealize.ShloMosaic.Lib.Pipeline.Kit

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.ShloMosaic.Transfers (MayWaits)
open Idealize.SL Idealize.SL.RA Idealize.SL.BI
open scoped Idealize.SL.BI
open Idealize.SL.BI.BIBase Idealize.SL.BI.Laws Idealize.SL.ProofMode Idealize.SL.Sem

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (UR sig nD τ × Counters)

local notation "𝕄" => MT nD τ sig (HIx 1) (Elt F) ℕ UU ℕ

/-- The handshakes' part of the ghost state. -/
abbrev EH : Emb UH (MT nD τ sig (HIx 1) (Elt F) ℕ UU ℕ) := embL

/-- The transfers' part of it. -/
abbrev EC : UEmb Counters (MT nD τ sig (HIx 1) (Elt F) ℕ UU ℕ) := countersEmb

variable [FloatOps F]
variable (tk : Dev nD → S832000.Idx → BitVec 32) (xc : Dev nD → S26x32x1x512.Idx → BitVec 32) (f₀ : Dev nD → S832x16384.Idx → BitVec 32)

/-- What the call's signals carry: the three arrays in parts, the result's part first as it was and then written. -/
def P : (K (F := F)).Pay (nD := nD) (Val := Elt F) (Name := ℕ) (U := UU) where
  st q d := match q with | 0 => fun c => forCore d (tk d) (xc d) (f₀ d) c
  dn q d := match q with | 0 => fun c => forCore d (tk d) (xc d) (gout (tk d) (xc d)) c
  go q d := match q with | 0 => fun c s => forTile d (tk d) (xc d) (f₀ d) c s
  td q d := match q with | 0 => fun c s => forTile d (tk d) (xc d) (gout (tk d) (xc d)) c s
  x _ _ := iprop(emp)

instance P_storable : (P (F := F) tk xc f₀).IsStorable where
  st q d c := match q with | 0 => (inferInstance : BI.Storable (upEmb : UEmb _ 𝕄) (forCore d (tk d) (xc d) (f₀ d) c))
  dn q d c := match q with | 0 => (inferInstance : BI.Storable (upEmb : UEmb _ 𝕄) (forCore d (tk d) (xc d) (gout (tk d) (xc d)) c))
  go q d c s := match q with | 0 => (inferInstance : BI.Storable (upEmb : UEmb _ 𝕄) (forTile d (tk d) (xc d) (f₀ d) c s))
  td q d c s := match q with | 0 => (inferInstance : BI.Storable (upEmb : UEmb _ 𝕄) (forTile d (tk d) (xc d) (gout (tk d) (xc d)) c s))

section Tile

variable (d : Dev nD) (i : grid0.Coords)

/-- A tile's own cell. -/
abbrev cell (s : DmaSems sig S_) : GSem nD τ sig := (tileThr d i, .dma s.sem)
/-- A tile's own buffer. -/
abbrev bufOf (b : Ref sig .scVector) : DevRef τ sig := (Tile i).devRef b

theorem own_cell (s : DmaSems sig S_) (h : (SemLoc.dma s.sem : SemLoc sig).isScoped .scVector = true) : cell d i s ∈ ownCells (tileThr d i) :=
  mem_ownCells.mpr ⟨rfl, h⟩

theorem cell_ne {s s' : DmaSems sig S_} (h : (SemLoc.dma s.sem : SemLoc sig) ≠ .dma s'.sem) : cell d i s ≠ cell d i s' :=
  fun e => h (Prod.mk.inj e).2

/-- The tile's semaphores: the kernel's five and the rest. -/
theorem ownSems0_V : ∃ R : sProp 𝕄, (ownSems0 (tileThr d i) : sProp 𝕄)
    = iprop(semVal (cell d i cc0_scratch5) 0 ∗ semVal (cell d i cc0_scratch6) 0 ∗ semVal (cell d i cc0_scratch7) 0 ∗ semVal (cell d i cc0_scratch8) 0
        ∗ semVal (cell d i cc0_scratch9) 0 ∗ R) := by
  refine ⟨bigSep ((((((ownCells (tileThr d i)).erase (cell d i cc0_scratch5)).erase (cell d i cc0_scratch6)).erase (cell d i cc0_scratch7)).erase (cell d i cc0_scratch8)).erase
    (cell d i cc0_scratch9)) fun g => semVal g 0, ?_⟩
  unfold SparseCore.Cfg.ownSems0
  rw [SparseCore.bigSep_erase' (own_cell d i cc0_scratch5 (by decide)),
    SparseCore.bigSep_erase' (i := cell d i cc0_scratch6) (by simp only [Finset.mem_erase]; exact ⟨cell_ne d i (by decide), own_cell d i _ (by decide)⟩),
    SparseCore.bigSep_erase' (i := cell d i cc0_scratch7) (by simp only [Finset.mem_erase]; exact ⟨cell_ne d i (by decide), cell_ne d i (by decide), own_cell d i _ (by decide)⟩),
    SparseCore.bigSep_erase' (i := cell d i cc0_scratch8)
      (by simp only [Finset.mem_erase]; exact ⟨cell_ne d i (by decide), cell_ne d i (by decide), cell_ne d i (by decide), own_cell d i _ (by decide)⟩),
    SparseCore.bigSep_erase' (i := cell d i cc0_scratch9)
      (by simp only [Finset.mem_erase]; exact ⟨cell_ne d i (by decide), cell_ne d i (by decide), cell_ne d i (by decide), cell_ne d i (by decide), own_cell d i _ (by decide)⟩)]

theorem own_buf (b : Ref sig .scVector) (h : (bufOf i b).owner = .proc (Tile i)) : bufOf i b ∈ ownRefs (τ := τ) (Tile i) := SparseCore.Cfg.mem_ownRefs_of_owner h

theorem buf_ne {b b' : Ref sig .scVector} (h : b ≠ b') : bufOf i b ≠ bufOf i b' := fun e => h (Proc.devRef_injective _ e)

/-- The tile's buffers: the kernel's five and the rest. -/
theorem ownBufs_V : ∃ R : sProp 𝕄, (ownBufs (tileThr d i) : sProp 𝕄)
    = iprop((∃ g, tbW.view.loc (tileThr d i) ↦{fullShare} g) ∗ (∃ g, idA.view.loc (tileThr d i) ↦{fullShare} g) ∗ (∃ g, idB.view.loc (tileThr d i) ↦{fullShare} g)
        ∗ (∃ g, stA.view.loc (tileThr d i) ↦{fullShare} g) ∗ (∃ g, stB.view.loc (tileThr d i) ↦{fullShare} g) ∗ R) := by
  refine ⟨bigSep ((((((ownRefs (τ := τ) (Tile i)).erase (bufOf i cc0_scratch0)).erase (bufOf i cc0_scratch1)).erase (bufOf i cc0_scratch2)).erase (bufOf i cc0_scratch3)).erase
    (bufOf i cc0_scratch4)) fun b => iprop(∃ f, (((tileThr d i).1, b) : Loc nD τ sig) ↦{fullShare} f), ?_⟩
  unfold SparseCore.Cfg.ownBufs
  refine (SparseCore.bigSep_erase' (own_buf i cc0_scratch0 rfl)).trans ?_
  rw [SparseCore.bigSep_erase' (i := bufOf i cc0_scratch1) (by simp only [Finset.mem_erase]; exact ⟨buf_ne i (by decide), own_buf i _ rfl⟩),
    SparseCore.bigSep_erase' (i := bufOf i cc0_scratch2) (by simp only [Finset.mem_erase]; exact ⟨buf_ne i (by decide), buf_ne i (by decide), own_buf i _ rfl⟩),
    SparseCore.bigSep_erase' (i := bufOf i cc0_scratch3) (by simp only [Finset.mem_erase]; exact ⟨buf_ne i (by decide), buf_ne i (by decide), buf_ne i (by decide), own_buf i _ rfl⟩),
    SparseCore.bigSep_erase' (i := bufOf i cc0_scratch4)
      (by simp only [Finset.mem_erase]; exact ⟨buf_ne i (by decide), buf_ne i (by decide), buf_ne i (by decide), buf_ne i (by decide), own_buf i _ rfl⟩)]

end Tile

theorem defs₀_vector (c : Fin τ.nSC) (s : Fin τ.nSub) :
    defs₀ (F := F) (.scVector c s) 0 () = SparseCore.onTile hcore0 hsub0 (fun c s => bodyP (F := F) (place c s)) ⟨⟩ c s := rfl

/-- A tile's program, from its part of the arrays and its own memory. -/
theorem tile_body (hxc : ∀ d j, (xc d j).toNat < 1000) (d : Dev nD) (c : Fin 2) (s : Fin 16) (O : CellTallies nD τ sig (HIx 1)) (W : Waits sig (HIx 1)) (hO : ∀ g, O g none = 0)
    {q : Fin 1} :
    iprop(levAts (K (F := F)).L (K (F := F)).lev ∗ emp ∗ forTile d (tk d) (xc d) (f₀ d) c s
        ∗ scopedBufs (tileThr d (place c s)) ∗ scopedSems0 (tileThr d (place c s)) ∗ owes (tileThr d (place c s)) O W)
      ⊢ wp (M := 𝕄) frame (wpE (defs₀ (F := F)) 𝒱₀ (tileThr d (place c s)) none) Set.univ (bodyP (place c s))
          fun _ => iprop(forTile d (tk d) (xc d) (gout (tk d) (xc d)) c s ∗ scopedBufs (tileThr d (place c s)) ∗ scopedSems0 (tileThr d (place c s))
            ∗ ∃ W', ⌜∀ p ∈ W', p ∈ W ∨ p.2 = none ∨ p.2 = some q⌝ ∗ owes (tileThr d (place c s)) O W') := by
  obtain ⟨RB, hB⟩ := ownBufs_V (F := F) d (place c s)
  obtain ⟨RS, hS⟩ := ownSems0_V (F := F) d (place c s)
  have hbufs : (scopedBufs (tileThr d (place c s)) : sProp 𝕄) = ownBufs (tileThr d (place c s)) :=
    (K (F := F)).scopedBufs_V facts d ((place c s 0).castLE hcore0) ((place c s 1).castLE hsub0)
  have hsems : (scopedSems0 (tileThr d (place c s)) : sProp 𝕄) = ownSems0 (tileThr d (place c s)) :=
    SparseCore.Cfg.scopedSems0_V d ((place c s 0).castLE hcore0) ((place c s 1).castLE hsub0)
  have hch := fun f => tile_chunks (F := F) (U := UU) d f (place c s)
  rw [hbufs, hsems, hS, hB]
  unfold forTile
  rw [← wid_place c s, hch, hch]
  iintro ⟨#Hlv, -, ⟨Htk, Hx, Ho⟩, ⟨Hb0, Hb1, Hb2, Hb3, Hb4, HRB⟩, ⟨Hs5, Hs6, Hs7, Hs8, Hs9, HRS⟩, HO⟩
  ihave Hw := (wp_body (F := F) (U := UU) EC d (place c s) O W (tk d) (xc d) (f₀ d) (qTile c s) (qTile c s) (hxc d)) $$ [Htk Hx Ho Hb0 Hb1 Hb2 Hb3 Hb4 Hs5 Hs6 Hs7 Hs8 Hs9 HO]
  · isplitl [Htk]; · iexact Htk
    isplitl [Hx]; · iexact Hx
    isplitl [Ho]; · iexact Ho
    isplitl [Hb0 Hb1 Hb2 Hb3 Hb4 Hs5 Hs6 Hs7 Hs8 Hs9]
    · unfold Rest
      isplitl [Hb0]; · iexact Hb0
      isplitl [Hb1]; · iexact Hb1
      isplitl [Hb2]; · iexact Hb2
      isplitl [Hb3]; · iexact Hb3
      isplitl [Hb4]; · iexact Hb4
      isplitl [Hs5]; · iexact Hs5
      isplitl [Hs6]; · iexact Hs6
      isplitl [Hs7]; · iexact Hs7
      isplitl [Hs8]; · iexact Hs8
      iexact Hs9
    isplitl [HO]
    · unfold Owe
      iexists W
      isplitr; · ipureintro; exact fun p hp => Or.inl hp
      iexact HO
    · iapply ((K (F := F)).mayWaits_none hO); iexact Hlv
  iapply (wp_wand_r frame _ _)
  isplitl [Hw]; · iexact Hw
  unfold Rest Owe
  iintro %_ ⟨Htk, Hx, Ho, ⟨Hb0, Hb1, Hb2, Hb3, Hb4, Hs5, Hs6, Hs7, Hs8, Hs9⟩, %W', %hW', HO⟩
  isplitl [Htk Hx Ho]
  · isplitl [Htk]; · iexact Htk
    isplitl [Hx]; · iexact Hx
    have e : bigSep (Finset.range (8 * nu (place c s))) (Dn (F := F) (U := UU) d (place c s) (tk d) (xc d))
        ⊢ bigSep (Finset.range (8 * nu (place c s))) (Pd (F := F) (U := UU) d (place c s) (gout (tk d) (xc d))) := .rfl
    iapply e; iexact Ho
  isplitl [Hb0 Hb1 Hb2 Hb3 Hb4 HRB]
  · isplitl [Hb0]; · iexact Hb0
    isplitl [Hb1]; · iexact Hb1
    isplitl [Hb2]; · iexact Hb2
    isplitl [Hb3]; · iexact Hb3
    isplitl [Hb4]; · iexact Hb4
    iexact HRB
  isplitl [Hs5 Hs6 Hs7 Hs8 Hs9 HRS]
  · isplitl [Hs5]; · iexact Hs5
    isplitl [Hs6]; · iexact Hs6
    isplitl [Hs7]; · iexact Hs7
    isplitl [Hs8]; · iexact Hs8
    isplitl [Hs9]; · iexact Hs9
    iexact HRS
  iexists W'
  isplitr; · ipureintro; exact fun p hp => (hW' p hp).imp_right Or.inl
  iexact HO

theorem tileObl (hxc : ∀ d j, (xc d j).toNat < 1000) : (K (F := F)).TileObl (D (F := F)) 𝒱 (P tk xc f₀) v₀ 0 := by
  intro d c s O W hO _ _
  simp only [show (P (F := F) tk xc f₀).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact tile_body tk xc f₀ hxc d ⟨_, hc.1⟩ ⟨_, hc.2⟩ O W hO

theorem vecSplit : (K (F := F)).VecSplit' (P tk xc f₀) 0 := by
  intro d c
  have h : ∀ f, (bigSep Finset.univ fun s : Fin ((K (F := F)).nSub 0) => (forTile d (tk d) (xc d) f c s : sProp 𝕄)) = forCore d (tk d) (xc d) f c :=
    fun f => (forCore_tiles d (tk d) (xc d) f c).symm
  show iprop(forCore d (tk d) (xc d) (f₀ d) c) ⊢ |={Set.univ}=> iprop((bigSep Finset.univ fun s : Fin ((K (F := F)).nSub 0) => forTile d (tk d) (xc d) (f₀ d) c s)
    ∗ ((bigSep Finset.univ fun s : Fin ((K (F := F)).nSub 0) => forTile d (tk d) (xc d) (gout (tk d) (xc d)) c s) -∗ forCore d (tk d) (xc d) (gout (tk d) (xc d)) c))
  rw [h, h]
  iintro H; imodintro
  isplitl [H]; · iexact H
  iintro H; iexact H

theorem st_eq (d : Dev nD) : (bigSep Finset.univ fun c : Fin ((K (F := F)).nCore 0) => (P tk xc f₀).st 0 d c) = (forCall d (tk d) (xc d) (f₀ d) : sProp 𝕄) :=
  (forCall_cores d (tk d) (xc d) (f₀ d)).symm
theorem dn_eq (d : Dev nD) : (bigSep Finset.univ fun c : Fin ((K (F := F)).nCore 0) => (P tk xc f₀).dn 0 d c) = (forCall d (tk d) (xc d) (gout (tk d) (xc d)) : sProp 𝕄) :=
  (forCall_cores d (tk d) (xc d) (gout (tk d) (xc d))).symm

end Cert.Proof.Gather

end
-- ==== Proof.Seg.lean ====
/-
  The dense layers' kernel as one stretch of the program: entered with the arrays at any contents, left with the result's array at the kernel's result.
-/
module

public import proofs.«01_k».proof.Proof.Region
public import Idealize.ShloMosaic.Lib.SparseCore.Threads
public import Idealize.ShloMosaic.Lib.Pipeline.RegionsLoop

@[expose] public section

noncomputable section

namespace Cert.Proof.Mlp

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

abbrev adm : (p : Fin 1) → (pcfgs (F := F) p).Adm := fun p => (cfgs p).toPCfg_adm

variable (V Vp : (c : Dev nD) → (b : Ref sig .tc) → Buf (Elt F) ((c : Thread nD τ).loc b))
variable (B : Dev nD → Set (SemLoc sig × HIx 1))

def pdats : (p : Fin 1) → (c : Dev nD) → Dat τ (Elt F) (HIx 1) ℕ U ℕ (Pipeline.pin (pcfgs (F := F)) adm p) c
  | ⟨0, _⟩ => fun c => dat V (B c) c

theorem inv_scratch (c : Dev nD) : (Pipeline.scopedRest (Ix := HIx 1) (Name := ℕ) (U := U) (Lvl := ℕ) (Val := Elt F) spec1 c : sProp 𝕄) ⊢ Inv V c 0 := by
  rw [scopedRest1_eq]
  unfold Inv
  simp only [owns_whole]
  iintro ⟨⟨%h, Hh⟩, ⟨%s, Hs⟩, ⟨%ss, Hss⟩⟩
  iexists h, s, ss
  isplitr; · ipureintro; exact good_zero V c h s ss
  isplitl [Hh]; · iexact Hh
  isplitl [Hs]; · iexact Hs
  iexact Hss

theorem scratch_inv (c : Dev nD) (n : ℕ) : (Inv V c n : sProp 𝕄) ⊢ Pipeline.scopedRest (Ix := HIx 1) (Name := ℕ) (U := U) (Lvl := ℕ) (Val := Elt F) spec1 c := by
  rw [scopedRest1_eq]
  unfold Inv
  simp only [owns_whole]
  iintro ⟨%h, %s, %ss, -, Hh, Hs, Hss⟩
  isplitl [Hh]; · iexists h; iexact Hh
  isplitl [Hs]; · iexists s; iexact Hs
  iexists ss; iexact Hss

theorem in_of : ∀ w : Fin cfg1.W, w ≠ 12 → (cfg1.win w).isOut = false := by decide
theorem arr_of : ∀ w : Fin cfg1.W, w ≠ 12 → Pipeline.arrRef spec1 w ≠ main_v30 := by decide

/-- The result's array once every block has been written back. -/
theorem arr_out (c : Dev nD) (B : Set (SemLoc sig × HIx 1)) : ((dat (U := U) V B c).arrAt 12 cfg1.N : S16384x1.Idx → Elt F .f32) = outAll V c := by
  refine (dat (U := U) V B c).arrAt_eq_of_after_last 12 (pt 31 (by norm_num)) (by decide +kernel) _ fun j => ?_
  blk_simp
  dsimp only [dat]

set_option backward.isDefEq.respectTransparency.types false in
def reg (L : GSem nD τ sig → Finset (HIx 1)) (lv : GSem nD τ sig → HIx 1 → ℕ) (R : Dev nD → sProp 𝕄) (hVp_out : ∀ c, (Vp c main_v30 : S16384x1.Idx → Elt F .f32) = outAll V c)
    (hVp_ne : ∀ c (b : Ref sig .tc), b ≠ main_v30 → Vp c b = V c b) : Pipeline.RegionSeg (pcfgs (F := F)) adm (pdats (U := U) V B) none defs₀ Variants.none L lv 0 where
  win := launch1.win.to₀
  block_pos := launch1.block_pos
  stage_whole := launch1.stage_whole
  K := PEmpty
  osem k := k.elim
  ho := Pipeline.OwnSemFacts.none _
  hbody c := (body_obligation V (B c) c).loose
  hwaits := Pipeline.hwaits_of_owed_zero _ _ _ _ L lv 0 fun _ _ => rfl
  pre c := iprop(unscopedBufs c (V c) ∗ R c ∗ (pdats (U := U) V B 0 c).owesAt none 0)
  post c := iprop(unscopedBufs c (Vp c) ∗ R c ∗ (pdats (U := U) V B 0 c).owesAt none (Fin.last _))
  X _ := BI.emp
  Y _ := BI.emp
  Z c := iprop(Pipeline.unscopedRest (Ix := HIx 1) (Name := ℕ) (U := U) (Lvl := ℕ) spec1 c (V c) ∗ R c)
  hentry c := by
    rw [Pipeline.ownSems0_none]
    have hsplit := Pipeline.arrays_of_unscopedBufs (p := 0) (pcfgs (F := F)) adm (pdats (U := U) V B) launch1.win launch1.arr_whole c
      ((pdats (U := U) V B 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    isplitl [Hrest] <;> iassumption
  hin c := by
    rw [show (pdats (U := U) V B 0 c).Φ 0 = Inv V c 0 from rfl]
    iintro ⟨-, -, Hr⟩
    iapply (inv_scratch V c) $$ Hr
  hout c := by
    rw [Pipeline.ownSems0_none, show (pdats (U := U) V B 0 c).Φ (Fin.last _) = Inv V c 32 from rfl]
    iintro Hr
    isplitr; · iempintro
    isplitr; · iempintro
    iapply (scratch_inv V c 32) $$ Hr
  hexit c := by
    have hjoin := Pipeline.unscopedBufs_of_arrays (p := 0) (pcfgs (F := F)) adm (Ix := HIx 1) (Name := ℕ) (U := U) (Lvl := ℕ) launch1.win launch1.arr_whole c
      (pdats (U := U) V B) ((pdats (U := U) V B 0 c).share_full fun _ => rfl) (V c) (Vp c) ((pdats (U := U) V B 0 c).arrAt · cfg1.N)
      (fun w => by
        by_cases hw : w = 12
        · subst hw
          exact (arr_out V c (B c)).trans (hVp_out c).symm
        · exact ((pdats (U := U) V B 0 c).arrAt_in w (in_of w hw) _).trans (hVp_ne c _ (arr_of w hw)).symm)
      (fun b hb => hVp_ne c b fun h => hb (h ▸ Finset.mem_image.mpr ⟨12, Finset.mem_univ _, rfl⟩))
    iintro ⟨Ha, HO, -, Hrest, HR⟩
    imodintro
    isplitl [Ha Hrest]
    · iapply hjoin; isplitl [Ha] <;> iassumption
    isplitl [HR]; · iexact HR
    iexact HO

end Cert.Proof.Mlp

end
-- ==== Proof.Run.lean ====
/-
  The whole program's run: the host's operations, the gather, the dense layers, and what the machine holds at the end.
-/
module

public import proofs.«01_k».proof.Proof.Launch
public import proofs.«01_k».proof.Proof.Seg

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay)
open Idealize.ShloMosaic.Rounds
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F]

/-- The host's operations before the gather, and between it and the dense layers. -/
abbrev ops1 : List (HloOp τ sig (Elt F)) := [
  StableHlo.nullary main_c (constantI S832 1 1#1),
  StableHlo.nullary main_c_0 (fun i => lit0 (S832.rowMajor i)),
  StableHlo.nullary main_c_1 (fun i => lit1 (S832.rowMajor i)),
  StableHlo.nullary main_c_2 (fun i => lit2 (S832.rowMajor i)),
  StableHlo.unary main_arg0 main_v0 ((transpose S26x16384 [1, 0] · transposes_S16384x26_S26x16384_1_0) : (⟨S16384x26, .i32⟩ : BufTy).Contents (Elt F) → (⟨S26x16384, .i32⟩ : BufTy).Contents (Elt F)),
  StableHlo.reshape main_v0 main_v1 (rfl : (.i32 : EltTy) = .i32) shapeCasts_S26x16384_S26x32x1x512]
abbrev ops2 : List (HloOp τ sig (Elt F)) := [
  StableHlo.unary main_c main_v3 (broadcastInDim S832x1 ![0] bcast_S832_S832x1_0 : (⟨S832, .i1⟩ : BufTy).Contents (Elt F) → (⟨S832x1, .i1⟩ : BufTy).Contents (Elt F)),
  StableHlo.nullary main_c_3 (constantI S_ 32 0#32),
  StableHlo.unary main_c_3 main_v4 (broadcastInDim S832 ![] bcast_S_S832 : (⟨S_, .i32⟩ : BufTy).Contents (Elt F) → (⟨S832, .i32⟩ : BufTy).Contents (Elt F)),
  StableHlo.binary main_c_0 main_v4 main_v5 (cmpi .slt : (⟨S832, .i32⟩ : BufTy).Contents (Elt F) → (⟨S832, .i32⟩ : BufTy).Contents (Elt F) → (⟨S832, .i1⟩ : BufTy).Contents (Elt F)),
  StableHlo.nullary main_c_4 (constantI S_ 32 1300#32),
  StableHlo.unary main_c_4 main_v6 (broadcastInDim S832 ![] bcast_S_S832 : (⟨S_, .i32⟩ : BufTy).Contents (Elt F) → (⟨S832, .i32⟩ : BufTy).Contents (Elt F)),
  StableHlo.binary main_c_0 main_v6 main_v7 (addi : (⟨S832, .i32⟩ : BufTy).Contents (Elt F) → (⟨S832, .i32⟩ : BufTy).Contents (Elt F) → (⟨S832, .i32⟩ : BufTy).Contents (Elt F)),
  StableHlo.ternary main_v5 main_v7 main_c_0 main_v8 (select : (⟨S832, .i1⟩ : BufTy).Contents (Elt F) → (⟨S832, .i32⟩ : BufTy).Contents (Elt F) → (⟨S832, .i32⟩ : BufTy).Contents (Elt F) → (⟨S832, .i32⟩ : BufTy).Contents (Elt F)),
  StableHlo.unary main_v8 main_v9 (broadcastInDim S832x1 ![0] bcast_S832_S832x1_0 : (⟨S832, .i32⟩ : BufTy).Contents (Elt F) → (⟨S832x1, .i32⟩ : BufTy).Contents (Elt F)),
  StableHlo.binary main_arg2 main_v9 main_v10 ((fun x i => Host.gather gather_S1300x150_S832x1_S832x150_1_0_n_n_0_1_1150 x i) : (⟨S1300x150, .f32⟩ : BufTy).Contents (Elt F) → (⟨S832x1, .i32⟩ : BufTy).Contents (Elt F) → (⟨S832x150, .f32⟩ : BufTy).Contents (Elt F)),
  StableHlo.nullary main_cst (constant S_ .f32 0x00000000#32),
  StableHlo.TRef.unary (.of main_cst : StableHlo.TRef sig ⟨S_, .f32⟩) main_call0.v0 id,
  StableHlo.TRef.unary (.of main_v3 : StableHlo.TRef sig ⟨S832x1, .i1⟩) main_call0.v1 (broadcastInDim S832x150 ![0, 1] bcast_S832x1_S832x150_0_1),
  StableHlo.TRef.unary main_call0.v0 main_call0.v2 (broadcastInDim S832x150 ![] bcast_S_S832x150),
  StableHlo.TRef.ternary main_call0.v1 (.of main_v10 : StableHlo.TRef sig ⟨S832x150, .f32⟩) main_call0.v2 main_call0.v3 select,
  StableHlo.unary main_c_1 main_v12 (broadcastInDim S832x1 ![0] bcast_S832_S832x1_0 : (⟨S832, .i1⟩ : BufTy).Contents (Elt F) → (⟨S832x1, .i1⟩ : BufTy).Contents (Elt F)),
  StableHlo.nullary main_c_5 (constantI S_ 32 0#32),
  StableHlo.unary main_c_5 main_v13 (broadcastInDim S832 ![] bcast_S_S832 : (⟨S_, .i32⟩ : BufTy).Contents (Elt F) → (⟨S832, .i32⟩ : BufTy).Contents (Elt F)),
  StableHlo.binary main_c_2 main_v13 main_v14 (cmpi .slt : (⟨S832, .i32⟩ : BufTy).Contents (Elt F) → (⟨S832, .i32⟩ : BufTy).Contents (Elt F) → (⟨S832, .i1⟩ : BufTy).Contents (Elt F)),
  StableHlo.nullary main_c_6 (constantI S_ 32 1300#32),
  StableHlo.unary main_c_6 main_v15 (broadcastInDim S832 ![] bcast_S_S832 : (⟨S_, .i32⟩ : BufTy).Contents (Elt F) → (⟨S832, .i32⟩ : BufTy).Contents (Elt F)),
  StableHlo.binary main_c_2 main_v15 main_v16 (addi : (⟨S832, .i32⟩ : BufTy).Contents (Elt F) → (⟨S832, .i32⟩ : BufTy).Contents (Elt F) → (⟨S832, .i32⟩ : BufTy).Contents (Elt F)),
  StableHlo.ternary main_v14 main_v16 main_c_2 main_v17 (select : (⟨S832, .i1⟩ : BufTy).Contents (Elt F) → (⟨S832, .i32⟩ : BufTy).Contents (Elt F) → (⟨S832, .i32⟩ : BufTy).Contents (Elt F) → (⟨S832, .i32⟩ : BufTy).Contents (Elt F)),
  StableHlo.unary main_v17 main_v18 (broadcastInDim S832x1 ![0] bcast_S832_S832x1_0 : (⟨S832, .i32⟩ : BufTy).Contents (Elt F) → (⟨S832x1, .i32⟩ : BufTy).Contents (Elt F)),
  StableHlo.binary main_arg2 main_v18 main_v19 ((fun x i => Host.gather gather_S1300x150_S832x1_S832x150_1_0_n_n_0_1_1150 x i) : (⟨S1300x150, .f32⟩ : BufTy).Contents (Elt F) → (⟨S832x1, .i32⟩ : BufTy).Contents (Elt F) → (⟨S832x150, .f32⟩ : BufTy).Contents (Elt F)),
  StableHlo.nullary main_cst_7 (constant S_ .f32 0x00000000#32),
  StableHlo.TRef.unary (.of main_cst_7 : StableHlo.TRef sig ⟨S_, .f32⟩) main_call1.v0 id,
  StableHlo.TRef.unary (.of main_v12 : StableHlo.TRef sig ⟨S832x1, .i1⟩) main_call1.v1 (broadcastInDim S832x150 ![0, 1] bcast_S832x1_S832x150_0_1),
  StableHlo.TRef.unary main_call1.v0 main_call1.v2 (broadcastInDim S832x150 ![] bcast_S_S832x150),
  StableHlo.TRef.ternary main_call1.v1 (.of main_v19 : StableHlo.TRef sig ⟨S832x150, .f32⟩) main_call1.v2 main_call1.v3 select,
  StableHlo.unary main_v11 main_v21 ((truncf .bf16 · bitsLt_bf16_f32) : (⟨S832x150, .f32⟩ : BufTy).Contents (Elt F) → (⟨S832x150, .bf16⟩ : BufTy).Contents (Elt F)),
  StableHlo.unary main_v20 main_v22 ((truncf .bf16 · bitsLt_bf16_f32) : (⟨S832x150, .f32⟩ : BufTy).Contents (Elt F) → (⟨S832x150, .bf16⟩ : BufTy).Contents (Elt F)),
  StableHlo.reshape main_arg3 main_v23 (rfl : (.f32 : EltTy) = .f32) shapeCasts_S150_S1x150,
  StableHlo.reshape main_arg5 main_v24 (rfl : (.f32 : EltTy) = .f32) shapeCasts_S75_S1x75,
  StableHlo.reshape main_arg7 main_v25 (rfl : (.f32 : EltTy) = .f32) shapeCasts_S1_S1x1,
  StableHlo.reshape main_arg8 main_v26 (rfl : (.f32 : EltTy) = .f32) shapeCasts_S150_S1x150,
  StableHlo.reshape main_arg9 main_v27 (rfl : (.f32 : EltTy) = .f32) shapeCasts_S150_S1x150,
  StableHlo.reshape main_arg10 main_v28 (rfl : (.f32 : EltTy) = .f32) shapeCasts_S75_S1x75,
  StableHlo.reshape main_arg11 main_v29 (rfl : (.f32 : EltTy) = .f32) shapeCasts_S75_S1x75]

theorem main_eq (d : Dev nD) : main (F := F) d = seq ops1 >>= fun _ => sc.run d 0 >>= fun _ => seq ops2 >>= fun _ => Prog.lift (.customCall (SparseCore.inner (Pipeline.entry 0)) ()) >>= fun _ => pure ⟨⟩ := by
  simp only [main, seq, fn_where.body, ops1, ops2, bind_assoc, pure_bind]

theorem ops1_sub : (ops1 (F := F)).Forall fun op => op.bufs ⊆ StableHlo.tcRefs τ sig :=
  ⟨StableHlo.nullary_bufs_sub .., StableHlo.nullary_bufs_sub .., StableHlo.nullary_bufs_sub .., StableHlo.nullary_bufs_sub .., StableHlo.unary_bufs_sub .., StableHlo.reshape_bufs_sub ..⟩
theorem ops2_sub : (ops2 (F := F)).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩
theorem ops1_fresh : (ops1 (F := F)).Forall fun op => op.fresh = ∅ := StableHlo.forall_fresh_of_map rfl
theorem ops2_fresh : (ops2 (F := F)).Forall fun op => op.fresh = ∅ := StableHlo.forall_fresh_of_map rfl

/-- The unscoped arrays. -/
abbrev live : Finset (DevRef τ sig) := Pipeline.ucRefs τ sig

abbrev kRef : DevRef τ sig := Proc.devRef .tc (main_arg1 : Ref sig .tc)
abbrev xRef : DevRef τ sig := Proc.devRef .tc (main_v1 : Ref sig .tc)
abbrev oRef : DevRef τ sig := Proc.devRef .tc (main_v2 : Ref sig .tc)
abbrev rRef : DevRef τ sig := Proc.devRef .tc (main_v30 : Ref sig .tc)

variable (m : (ℓ : Loc nD τ sig) → Buf (Elt F) ℓ) (ρ : Dev nD → PrngReg)

/-- The row numbers as the kernel takes them: field, stretch, one, place. -/
def cols (a : S16384x26.Idx → BitVec 32) : S26x32x1x512.Idx → BitVec 32 :=
  shapeCast S26x32x1x512 (transpose S26x16384 [1, 0] a transposes_S16384x26_S26x16384_1_0) shapeCasts_S26x16384_S26x32x1x512

abbrev aLoc (d : Dev nD) : Loc nD τ sig := (SparseCore.T d).loc main_arg0
abbrev tkM (d : Dev nD) : S832000.Idx → BitVec 32 := m (tkLoc d)
abbrev xcM (d : Dev nD) : S26x32x1x512.Idx → BitVec 32 := cols (m (aLoc d))
abbrev oM (d : Dev nD) : S832x16384.Idx → BitVec 32 := m (oLoc d)

/-- The arrays at the start, when the gather begins, when it has ended, when the dense layers begin, and at the end. -/
def V0 (d : Dev nD) : Valuation τ sig (Elt F) := fun b => m (d, b)
def Va (d : Dev nD) : Valuation τ sig (Elt F) := after ops1 (V0 m d)
def Vb (d : Dev nD) : Valuation τ sig (Elt F) := Function.update (Va m d) oRef (gout (tkM m d) (xcM m d))
def Vc (d : Dev nD) : Valuation τ sig (Elt F) := after ops2 (Vb m d)
abbrev Vin (d : Dev nD) (b : Ref sig .tc) : Buf (Elt F) ((d.tc : Thread nD τ).loc b) := Vc m d (Proc.devRef .tc b)
def Vd (d : Dev nD) : Valuation τ sig (Elt F) := Function.update (Vc m d) rRef (Mlp.outAll (Vin m) d)
abbrev Vout (d : Dev nD) (b : Ref sig .tc) : Buf (Elt F) ((d.tc : Thread nD τ).loc b) := Vd m d (Proc.devRef .tc b)

/-- The references the host's operations write. -/
abbrev W1 : List (Ref sig .tc) := [main_c, main_c_0, main_c_1, main_c_2, main_v0, main_v1]

theorem Va_other (d : Dev nD) (r : Ref sig .tc) (hr : r ∉ W1) : Va m d (Proc.devRef .tc r) = m (d, Proc.devRef .tc r) :=
  StableHlo.after_of_writes_sub ops1 _ (StableHlo.forall_writes_sub_of_map (W := W1) rfl) hr

theorem Va_x (d : Dev nD) : Va m d xRef = cols (m (aLoc d)) := by
  unfold Va
  after_results
  rfl

abbrev PM : (K (F := F)).Pay (nD := nD) (Val := Elt F) (Name := ℕ) (U := UU) := P (tkM m) (xcM m) (oM m)

abbrev calls : Finset (DevRef τ sig) := {kRef, xRef, oRef}
theorem calls_sub : calls ⊆ live := by decide

theorem held_calls (d : Dev nD) (W : Valuation τ sig (Elt F)) :
    (held (T d) calls W : sProp 𝕄) = iprop((tkLoc d ↦{fullShare} W kRef) ∗ (xLoc d ↦{fullShare} W xRef) ∗ (oLoc d ↦{fullShare} W oRef)) := by
  unfold held calls
  rw [SparseCore.bigSep_insert' (by decide), SparseCore.bigSep_insert' (by decide), bigSep_singleton]

theorem held_a (d : Dev nD) : (held (T d) live (Va m d) : sProp 𝕄) = iprop(forCall d (tkM m d) (xcM m d) (oM m d) ∗ held (T d) (live \ calls) (Va m d)) := by
  rw [StableHlo.held_sub_split (T d) calls_sub, held_calls, Va_x, Va_other m d main_arg1 (by decide), Va_other m d main_v2 (by decide)]
  rfl

theorem held_b (d : Dev nD) : (held (T d) live (Vb m d) : sProp 𝕄) = iprop(forCall d (tkM m d) (xcM m d) (gout (tkM m d) (xcM m d)) ∗ held (T d) (live \ calls) (Va m d)) := by
  rw [StableHlo.held_sub_split (T d) calls_sub, held_calls]
  have h : ∀ b, b ≠ oRef → Vb m d b = Va m d b := fun b hb => Function.update_of_ne hb _ _
  rw [h kRef (by decide), h xRef (by decide), Va_x, Va_other m d main_arg1 (by decide), show Vb m d oRef = gout (tkM m d) (xcM m d) from Function.update_self _ _ _,
    StableHlo.held_congr (T d) (S := live \ calls) (V := Vb m d) (V' := Va m d) fun b hb => h b fun e => (Finset.mem_sdiff.mp hb).2 (by rw [e]; decide)]
  rfl

/-- The pipeline's part of the ghost state. -/
abbrev EP : Emb (UR sig nD τ) (MT nD τ sig (HIx 1) (Elt F) ℕ UU ℕ) := (Emb.inl : Emb (UR sig nD τ) (UR sig nD τ × Counters)).trans embR

/-- The pairs a wait may have recorded by the end of the gather's call. -/
abbrev lowPairs (d : Dev nD) : Set (SemLoc sig × HIx 1) := {p | (K (F := F)).lev (T d, p.1) p.2 ≤ 8 * (SparseCore.Cfg.Blocks.fst (Q := 1) (N := 1) 1)}

abbrev pd : (p : Fin 1) → (c : Dev nD) → Pipeline.Dat τ (Elt F) (HIx 1) ℕ UU ℕ (Pipeline.pin (pcfgs (F := F)) Mlp.adm p) c := Mlp.pdats (Vin m) (lowPairs (F := F))

theorem Vout_out (d : Dev nD) : (Vout m d main_v30 : S16384x1.Idx → Elt F .f32) = Mlp.outAll (Vin m) d := Function.update_self _ _ _
theorem Vout_ne (d : Dev nD) (b : Ref sig .tc) (hb : b ≠ main_v30) : Vout m d b = Vin m d b :=
  Function.update_of_ne (fun e => hb (Proc.devRef_injective _ e)) _ _

def region : Pipeline.RegionSeg (pcfgs (F := F)) Mlp.adm (pd m) none defs₀ Variants.none (K (F := F)).L (K (F := F)).lev 0 :=
  Mlp.reg (U := UU) (Vin m) (Vout m) (lowPairs (F := F)) (K (F := F)).L (K (F := F)).lev (fun _ => iprop(emp)) (Vout_out m) (Vout_ne m)

/-- What the pipeline's launch hands each core. -/
def ghost (d : Dev nD) : sProp 𝕄 :=
  iprop(Pipeline.cellsGhost (Pipeline.pin (pcfgs (F := F)) Mlp.adm) EP 0 d ∗ Pipeline.toksInit (Pipeline.pin (pcfgs (F := F)) Mlp.adm) EP 0 d)

theorem owes_in (d : Dev nD) : iprop(∃ W, ⌜(K (F := F)).WBelow (T d) W (8 * (SparseCore.Cfg.Blocks.fst (Q := 1) (N := 1) 1))⌝ ∗ owes (T d) ((K (F := F)).Otc d 1) W) ⊢ ((pd m 0 d).owesAt none 0 : sProp 𝕄) := by
  rw [(K (F := F)).Otc_end d (le_refl 1)]
  unfold Pipeline.Dat.owesAt Pipeline.owesWithin
  iintro ⟨%W, %hW, HO⟩
  iexists W
  isplitr
  · ipureintro; exact fun p hp => Or.inl (hW p hp)
  iexact HO

theorem owes_out (d : Dev nD) : ((pd m 0 d).owesAt none (Fin.last _) : sProp 𝕄) ⊢ iprop(∃ W, ⌜(K (F := F)).WBelow (T d) W (8 * (SparseCore.Cfg.Blocks.fst (Q := 1) (N := 1) 1))⌝ ∗ owes (T d) ((K (F := F)).Otc d 1) W) := by
  rw [(K (F := F)).Otc_end d (le_refl 1)]
  unfold Pipeline.Dat.owesAt Pipeline.owesWithin
  iintro ⟨%W, %hW, HO⟩
  iexists W
  isplitr
  · ipureintro
    intro p hp
    rcases hW hp with h | h
    · exact h
    · obtain ⟨w, s, rfl⟩ := h
      exact Nat.zero_le _
  iexact HO

theorem cells_inj : Function.Injective (Pipeline.cellOf (nD := nD) (τ := τ) (Pipeline.pin (pcfgs (F := F)) Mlp.adm)) := cellOf_inj

theorem call_inner [∀ e, Nonempty (Elt F e)] (d : Dev nD) (Q : PUnit → sProp 𝕄) :
    iprop((iprop(boundary (T d) ∗ (region m).post d) -∗ wp frame (wpE (D (F := F)) 𝒱 (T d) none) Set.univ (.ret PUnit.unit) Q)
        ∗ boundary (T d) ∗ (region m).pre d ∗ levAts (K (F := F)).L (K (F := F)).lev
        ∗ Pipeline.cellsGhost (Pipeline.pin (pcfgs (F := F)) Mlp.adm) EP 0 d ∗ Pipeline.toksInit (Pipeline.pin (pcfgs (F := F)) Mlp.adm) EP 0 d)
      ⊢ wp frame (wpE (D (F := F)) 𝒱 (T d) none) Set.univ (.op (.customCall (Pipeline.entry 0) ()) fun _ => .ret PUnit.unit : Prog (TpuEff nD τ sig (Elt F) (ΛP (F := F)) .tc) PUnit) Q :=
  Pipeline.RegionSeg.wp (pcfgs (F := F)) Mlp.adm (pd m) none cells_inj EP defs₀ Variants.none (K (F := F)).L (K (F := F)).lev (region m) d none
    (fun u hu => absurd hu (by simp)) (fun _ => .ret PUnit.unit) Q

theorem lift_call (d : Dev nD) (Q : PUnit → sProp 𝕄) :
    wp frame (wpE (D (F := F)) 𝒱 (T d) none) Set.univ (.op (.customCall (Pipeline.entry 0) ()) fun _ => .ret PUnit.unit : Prog (TpuEff nD τ sig (Elt F) (ΛP (F := F)) .tc) PUnit) Q
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q := by
  have h := (K (F := F)).wp_liftProg (D (F := F)) 𝒱 (T d) Set.univ none (.op (.customCall (Pipeline.entry 0) ()) fun _ => .ret PUnit.unit : Prog (TpuEff nD τ sig (Elt F) (ΛP (F := F)) .tc) PUnit) Q
  exact h

theorem uc_held (d : Dev nD) : (unscopedBufs d (fun b => m ((SparseCore.T d).loc b)) : sProp 𝕄) = held (T d) live (V0 m d) := by
  rw [← Pipeline.unscopedBufs_held d (V0 m d)]
  rfl

theorem call_tc [∀ e, Nonempty (Elt F e)] (d : Dev nD) (Q : PUnit → sProp 𝕄) :
    iprop((iprop(boundary (T d) ∗ (region m).post d) -∗ Q ⟨⟩) ∗ boundary (T d) ∗ (region m).pre d ∗ levAts (K (F := F)).L (K (F := F)).lev ∗ ghost d)
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q := by
  unfold ghost
  iintro ⟨Hk, Hb, Hp, Hl, Hg, Ht⟩
  iapply (lift_call d Q)
  iapply (call_inner m d Q)
  isplitl [Hk]
  · iintro H
    rw [wp_ret]
    imodintro
    iapply Hk $$ H
  isplitl [Hb]; · iexact Hb
  isplitl [Hp]; · iexact Hp
  isplitl [Hl]; · iexact Hl
  isplitl [Hg]; · iexact Hg
  iexact Ht

/-- What the TensorCore still owes after the gather's call, with the pairs its waits recorded. -/
def owing (d : Dev nD) : sProp 𝕄 :=
  iprop(∃ W, ⌜(K (F := F)).WBelow (T d) W (8 * (SparseCore.Cfg.Blocks.fst (Q := 1) (N := 1) 1))⌝ ∗ owes (T d) ((K (F := F)).Otc d 1) W)

theorem tcSt_split (d : Dev nD) : ∃ R : sProp 𝕄, ((K (F := F)).tcSt EH d 1 : sProp 𝕄) = iprop(owing d ∗ R) := ⟨_, rfl⟩

theorem pre_eq (d : Dev nD) : (region m).pre d = iprop(held (T d) live (Vc m d) ∗ emp ∗ (pd m 0 d).owesAt none 0) := by
  rw [← Pipeline.unscopedBufs_held d (Vc m d)]; rfl
theorem post_eq (d : Dev nD) : (region m).post d = iprop(held (T d) live (Vd m d) ∗ emp ∗ (pd m 0 d).owesAt none (Fin.last _)) := by
  rw [← Pipeline.unscopedBufs_held d (Vd m d)]; rfl

/-- What the host program leaves: every array of the program at its final contents. -/
def FIN (d : Dev nD) : sProp 𝕄 := held (T d) live (Vd m d)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [uc_held, main_eq]
  iintro ⟨#Hctx, Hst, ⟨Hb, Hheld, Hts, -⟩, Hgh⟩
  iapply (StableHlo.wp_seq 𝒱 none Set.univ d live _ ops1 (fun op h => Pipeline.sub_ucRefs op (List.forall_iff_forall_mem.mp ops1_sub op h)) (List.forall_iff_forall_mem.mp ops1_fresh) (V0 m d)) $$ [Hb Hheld]
  · isplitl [Hb]; · iexact Hb
    iexact Hheld
  iintro ⟨Hb, Hheld⟩
  ihave Hh := (show (held (T d) live (after ops1 (V0 m d)) : sProp 𝕄) ⊢ _ from Entails.of_eq (held_a m d)) $$ Hheld
  icases Hh with ⟨Hcall, Hrest⟩
  rw [wp_bind]
  iapply ((K (F := F)).wp_run (D (F := F)) 𝒱 (EH := EH) (P := PM m) κ d 0) $$ [Hst Hcall Hrest Hb Hts Hgh]
  isplitr; · iexact Hctx
  isplitl [Hst]; · iexact Hst
  isplitl [Hcall]; · rw [st_eq]; iexact Hcall
  iintro ⟨Hst, Hdn⟩
  ihave Hdn' := (Entails.of_eq (dn_eq (tkM m) (xcM m) (oM m) d)) $$ Hdn
  ihave Hheld := (Entails.of_eq (held_b m d).symm) $$ [Hdn' Hrest]
  · isplitl [Hdn'] <;> iassumption
  iapply (StableHlo.wp_seq 𝒱 none Set.univ d live _ ops2 (fun op h => Pipeline.sub_ucRefs op (List.forall_iff_forall_mem.mp ops2_sub op h)) (List.forall_iff_forall_mem.mp ops2_fresh) (Vb m d)) $$ [Hb Hheld]
  · isplitl [Hb]; · iexact Hb
    iexact Hheld
  iintro ⟨Hb, Hheld⟩
  rw [wp_bind]
  obtain ⟨R, hR⟩ := tcSt_split (F := F) d
  ihave Hst' := (show ((K (F := F)).tcSt EH d ((0 : Fin 1).val + 1) : sProp 𝕄) ⊢ iprop(owing d ∗ R) from Entails.of_eq hR) $$ Hst
  icases Hst' with ⟨How, HR⟩
  ihave Hw := (show (owing d : sProp 𝕄) ⊢ _ from owes_in m d) $$ How
  ihave #Hl := ((K (F := F)).ctx_levAts κ) $$ Hctx
  iapply (call_tc m d _) $$ [Hb Hheld Hw HR Hts Hgh]
  rw [pre_eq, post_eq]
  isplitl [HR Hts]
  · iintro ⟨Hb, Hheld, -, Hw⟩
    rw [wp_pure]
    imodintro
    ihave How := (show _ ⊢ (owing d : sProp 𝕄) from owes_out m d) $$ Hw
    ihave Hst := (Entails.of_eq hR.symm) $$ [How HR]
    · isplitl [How] <;> iassumption
    isplitl [Hst]; · iexact Hst
    isplitl [Hheld]; · unfold FIN; iexact Hheld
    isplitl [Hb] <;> iassumption
  isplitl [Hb]; · iexact Hb
  isplitl [Hheld Hw]
  · isplitl [Hheld]; · iexact Hheld
    isplitr; · iempintro
    iexact Hw
  isplitr; · iexact Hl
  iexact Hgh

def fq (d : Dev nD) (s' : Phys nD τ sig (Elt F)) : Prop := ∀ b ∈ live, s'.mem.mem (d, b) = Vd m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') live) $$ [H HSI]
  isplitl [HSI] <;> iassumption

/-- The ghost state at launch: the handshake's counters and the pipeline's. -/
def u₀ : UU := (initOf (K (F := F)).hsCells (K (F := F)).hsToks,
  (initOf (Pipeline.cells (nD := nD) (τ := τ) (Pipeline.pin (pcfgs (F := F)) Mlp.adm) cells_inj) (Pipeline.launchToks (nD := nD) (τ := τ) (Pipeline.pin (pcfgs (F := F)) Mlp.adm) cells_inj), 1))

theorem bigSep_none {I : Type} (s : Finset I) : (bigSep s fun _ => iprop(emp)) = (iprop(emp) : sProp 𝕄) := bigSep_emp_const s

theorem ghosts_eq : (iprop((bigSep Finset.univ fun c : Dev nD => bigSep Finset.univ fun p : Fin 1 => Pipeline.cellsGhost (Pipeline.pin (pcfgs (F := F)) Mlp.adm) EP p c)
      ∗ (bigSep Finset.univ fun c : Dev nD => bigSep Finset.univ fun p : Fin 1 => Pipeline.toksInit (Pipeline.pin (pcfgs (F := F)) Mlp.adm) EP p c)) : sProp 𝕄)
    = bigSep Finset.univ fun d : Dev nD => ghost d := by
  rw [← bigSep_sep']
  refine bigSep_congr fun d _ => ?_
  rw [show (Finset.univ : Finset (Fin 1)) = {0} from rfl, bigSep_singleton, bigSep_singleton]
  rfl

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PM m).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) Mlp.adm) EP cells_inj) $$ HP with HP
  imodintro
  isplitl [HH]; · iexact HH
  isplitl [HP]; · rw [← ghosts_eq]; iexact HP
  unfold PM P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-- The run: every array of the program at its final contents, every semaphore at rest. -/
def QC : PUnit × MemSt nD τ sig (Elt F) → Prop := fun r => (∀ d : Dev nD, ∀ b ∈ live, r.2.mem (d, b) = Vd m d b) ∧ r.2.sem = fun _ => 0

theorem run_main [∀ e, Nonempty (Elt F e)] (hxc : ∀ d j, (xcM m d j).toNat < 1000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tkM m) (xcM m) (oM m) hxc)
    (fun q _ => match q with | 0 => SparseCore.Cfg.VecSplit.of_plain (vecSplit (tkM m) (xcM m) (oM m)))
    m ρ main ghost (FIN m) (u₀ (F := F)) (sep_elim_left.trans (hu₀ m)) (hmain m ρ) (fq m) (hfin m) (QC m) (fun _ h hz => ⟨h, hz⟩)

end Cert.Proof.Gather

end
-- ==== Proof.Look.lean ====
/-
  A batched row lookup read at an index: one table per field, one row number per field and column.
-/
module

public import Idealize.ShloMosaic.Lib.ValueLayout
public import Idealize.ShloMosaic.Lib.ReduceAll

@[expose] public section

noncomputable section

namespace Cert.Proof.Look

open Idealize.ShloMosaic
open Idealize.ShloMosaic.ValueIdx

variable {α : Type} {A N B C : ℕ}

/-- The lookup's axes: the field is a batch axis of tables and row numbers, the row is looked up, the columns are kept. -/
abbrev dims (A N B C : ℕ) (wf : GatherDims.WF ⟨3, ![A, N, C]⟩ ⟨3, ![A, B, 1]⟩ ⟨3, ![A, B, C]⟩ [2] [1] [0] [1] [0] 2 ![1, 1, C]) :
    GatherDims ⟨3, ![A, N, C]⟩ ⟨3, ![A, B, 1]⟩ ⟨3, ![A, B, C]⟩ where
  offsetDims := [2]
  collapsedSliceDims := [1]
  operandBatchingDims := [0]
  startIndicesBatchingDims := [0]
  startIndexMap := [1]
  indexVectorDim := 2
  sliceSizes := ![1, 1, C]
  wf := wf

/-- The lookup at field `f`, column `r`, place `w`: that place of the row that the number names, clamped into the table. -/
theorem gather_apply (hN : 0 < N) (wf : GatherDims.WF ⟨3, ![A, N, C]⟩ ⟨3, ![A, B, 1]⟩ ⟨3, ![A, B, C]⟩ [2] [1] [0] [1] [0] 2 ![1, 1, C])
    (x : (⟨3, ![A, N, C]⟩ : Shape).Idx → α) (idx : IVec ⟨3, ![A, B, 1]⟩ 32) (f : Fin A) (r : Fin B) (w : Fin C) :
    Host.gather (dims A N B C wf) x idx (ix3 f r w) = x (ix3 f ⟨min (idx (ix3 f r (0 : Fin 1))).toInt.toNat (N - 1), by omega⟩ w) := by
  unfold Host.gather
  congr 1
  funext a
  refine Fin.ext ?_
  show (dims A N B C wf).start (ix3 f r w) idx a + (dims A N B C wf).batchCoord (ix3 f r w) a + (dims A N B C wf).offCoord (ix3 f r w) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (dims A N B C wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (dims A N B C wf).startIndexMap from List.mem_singleton.mpr rfl)]
    have hsi : (dims A N B C wf).siIdx (ix3 f r w) ⟨List.idxOf (1 : Fin 3) (dims A N B C wf).startIndexMap,
        List.idxOf_lt_length_iff.2 (List.mem_singleton.mpr rfl)⟩ = ix3 f r (0 : Fin 1) := by
      funext b; refine Fin.ext ?_
      match b with
      | ⟨0, _⟩ => rfl
      | ⟨1, _⟩ => rfl
      | ⟨2, _⟩ => rfl
    exact congrArg (fun j => min (idx j).toInt.toNat (N - 1)) hsi
  · rw [GatherDims.batchCoord_eq_zero _ _ _ (fun h => by simp at h)]
    have hs : (dims A N B C wf).start (ix3 f r w) idx 2 = 0 := by
      unfold GatherDims.start
      exact dif_neg (fun h => by simp at h)
    rw [hs]
    simp only [Nat.zero_add, Nat.add_zero]
    rfl

/-- Rows of one table taken by number: the rows' axes. -/
abbrev rowDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `b` taken, at place `w`: that place of the row that the number names, clamped into the table. -/
theorem row_apply (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (w : Fin C) :
    Host.gather (rowDims N C B wf) x idx (ix2 b w) = x (ix2 ⟨min (idx (ix2 b (0 : Fin 1))).toInt.toNat (N - 1), by omega⟩ w) := by
  unfold Host.gather
  refine congrArg x (funext fun a => Fin.ext ?_)
  show (rowDims N C B wf).start (ix2 b w) idx a + (rowDims N C B wf).batchCoord (ix2 b w) a + (rowDims N C B wf).offCoord (ix2 b w) a = _
  rw [GatherDims.batchCoord_eq_zero _ _ _ List.not_mem_nil, Nat.add_zero]
  rcases (show a = 0 ∨ a = 1 from match a with | ⟨0, _⟩ => Or.inl rfl | ⟨1, _⟩ => Or.inr rfl) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C B wf).startIndexMap from List.mem_singleton.mpr rfl)]
    refine congrArg (fun j => min (idx j).toInt.toNat (N - 1)) (funext fun e => Fin.ext ?_)
    match e with
    | ⟨0, _⟩ => rfl
    | ⟨1, _⟩ => rfl
  · have hs : (rowDims N C B wf).start (ix2 b w) idx 1 = 0 := by
      unfold GatherDims.start
      exact dif_neg (fun h => by simp at h)
    rw [hs, Nat.zero_add]
    rfl

/-- A stack of matrices with the stack's axis and the rows' exchanged. -/
theorem exchange_apply {l : ℕ} (x : (⟨3, ![A, B, l]⟩ : Shape).Idx → α)
    (h : (⟨3, ![A, B, l]⟩ : Shape).Transposes [1, 0, 2] ⟨3, ![B, A, l]⟩) (r : Fin B) (f : Fin A) (w : Fin l) :
    transpose ⟨3, ![B, A, l]⟩ [1, 0, 2] x h (ix3 r f w) = x (ix3 f r w) :=
  transpose_apply _ x h _ _ fun c => match c with | ⟨0, _⟩ => rfl | ⟨1, _⟩ => rfl | ⟨2, _⟩ => rfl

/-- A row number below 1000 is not taken from the table's end. -/
theorem plain_number (v : BitVec 32) (hv : v.toNat < 1000) :
    min (Scalar.select (IntOp.cmpi .slt v 0#32) (IntOp.addi v 1000#32) v).toInt.toNat (1000 - 1) = v.toNat := by
  have hs : IntOp.cmpi .slt v 0#32 = 0#1 := by
    have h0 : v.slt 0#32 = false := by
      rw [BitVec.slt_eq_decide, decide_eq_false_iff_not, BitVec.toInt_eq_toNat_cond]
      simp only [BitVec.toInt_zero, not_lt]
      rw [if_pos (by omega)]
      exact Int.natCast_nonneg _
    show BitVec.ofBool (v.slt 0#32) = 0#1
    rw [h0]; rfl
  rw [hs]
  show min v.toInt.toNat (1000 - 1) = v.toNat
  rw [BitVec.toInt_eq_toNat_cond, if_pos (by omega)]
  simp only [Int.toNat_natCast]
  omega

/-- A word from zero up, below 1000 as a signed number, is below 1000. -/
theorem lt_of_range (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Look

end
-- ==== Proof.Cols.lean ====
/-
  The row numbers as the gather takes them, read back at the index array.
-/
module

public import proofs.«01_k».proof.Proof.Run
public import proofs.«01_k».proof.Proof.Look

@[expose] public section

noncomputable section

namespace Cert.Proof.Gather

open Cert.KernelIdeal Cert.KernelIdeal.Gen
open Idealize.ShloMosaic
open Idealize.ShloMosaic.ValueIdx

/-- The row number of field `f` and column `512 c + n`. -/
theorem cols_apply (a : S16384x26.Idx → BitVec 32) (f : Fin 26) (c : Fin 32) (n : Fin 512) :
    cols a (ix4 f c (0 : Fin 1) n) = a (ix2 (⟨c.val * 512 + n.val, by omega⟩ : Fin 16384) f) := by
  unfold cols
  refine (shapeCast_apply _ _ (ix4 f c (0 : Fin 1) n) (ix2 f (⟨c.val * 512 + n.val, by omega⟩ : Fin 16384)) ?_).trans ?_
  · rw [Shape.rowMajor_val_four, Shape.rowMajor_val_two]
    show f.val * 16384 + (c.val * 512 + n.val) = ((f.val * 32 + c.val) * 1 + 0) * 512 + n.val
    omega
  · exact transpose_ix2_apply _ _ _ _

theorem cols_lt (a : S16384x26.Idx → BitVec 32) (ha : ∀ j, (a j).toNat < 1000) (j : S26x32x1x512.Idx) : (cols a j).toNat < 1000 := ha _

/-- The gathered words, read at the index array: row `32 f + w` at column `r` is word `w` of row `a r f` of table `f`. -/
theorem gout_apply (tk : S832000.Idx → BitVec 32) (a : S16384x26.Idx → BitVec 32) (ha : ∀ j, (a j).toNat < 1000) (q : Fin 832) (r : Fin 16384) :
    gout tk (cols a) (ix2 q r) = tk (ix1 (⟨q.val / 32 * 32000 + (a (ix2 r (⟨q.val / 32, by omega⟩ : Fin 26))).toNat * 32 + q.val % 32, by
      have := ha (ix2 r (⟨q.val / 32, by omega⟩ : Fin 26)); omega⟩ : Fin 832000)) := by
  have hx : xn (cols a) (q.val / 32) (r.val / 512) (r.val % 512) = a (ix2 r (⟨q.val / 32, by omega⟩ : Fin 26)) := by
    unfold xn
    have e := cols_apply a (Fin.ofNat 26 (q.val / 32)) (Fin.ofNat 32 (r.val / 512)) (Fin.ofNat 512 (r.val % 512))
    refine e.trans (congrArg a ?_)
    have h1 : (Fin.ofNat 26 (q.val / 32)) = (⟨q.val / 32, by omega⟩ : Fin 26) := Fin.ext (by show q.val / 32 % 26 = _; simp only []; omega)
    rw [h1]
    congr 1
    refine Fin.ext ?_
    show r.val / 512 % 32 * 512 + r.val % 512 % 512 = r.val
    omega
  have hn := ha (ix2 r (⟨q.val / 32, by omega⟩ : Fin 26))
  show tkn tk (q.val / 32 * 32000 + ((xn (cols a) (q.val / 32) (r.val / 512) (r.val % 512)).toNat * 32 + q.val % 32)) = _
  rw [hx]
  unfold tkn
  congr 2
  refine Fin.ext ?_
  show (q.val / 32 * 32000 + ((a (ix2 r (⟨q.val / 32, by omega⟩ : Fin 26))).toNat * 32 + q.val % 32)) % 832000 = _
  simp only []
  omega

end Cert.Proof.Gather

end
-- ==== Proof.Frames.lean ====
/-
  The arguments at the end of the run, and what the preconditions say of the row numbers.
-/
module

public import proofs.«01_k».proof.Proof.Run
public import proofs.«01_k».proof.Proof.Cols
public import proofs.«01_k».proof.Proof.Gen.Pre_idx_in_range
public import proofs.«01_k».proof.Proof.Gen.Pre_inputs_ok
public import proofs.«01_k».proof.Proof.Look

@[expose] public section

noncomputable section

namespace Cert.Proof.Gather

open Cert.KernelIdeal Cert.KernelIdeal.Gen
open Idealize.ShloMosaic Idealize.SL.Sem

variable {F : FTy → Type} [FloatOps F]
variable (m : (ℓ : Loc nD τ sig) → Buf (Elt F) ℓ)

/-- The references that the operations after the gather write. -/
abbrev W2 : List (Ref sig .tc) := [main_v3, main_c_3, main_v4, main_v5, main_c_4, main_v6, main_v7, main_v8, main_v9, main_v10, main_cst, main_call0_v0, main_call0_v1, main_call0_v2, main_v11, main_v12, main_c_5, main_v13, main_v14, main_c_6, main_v15, main_v16, main_v17, main_v18, main_v19, main_cst_7, main_call1_v0, main_call1_v1, main_call1_v2, main_v20, main_v21, main_v22, main_v23, main_v24, main_v25, main_v26, main_v27, main_v28, main_v29]

theorem Vc_other (d : Dev nD) (r : Ref sig .tc) (hr : r ∉ W2) : Vc m d (Proc.devRef .tc r) = Vb m d (Proc.devRef .tc r) :=
  StableHlo.after_of_writes_sub ops2 _ (StableHlo.forall_writes_sub_of_map (W := W2) rfl) hr

/-- An array that nothing writes ends as it began. -/
theorem Vd_kept (d : Dev nD) (r : Ref sig .tc) (h : r ∉ W1 ∧ r ∉ W2 ∧ r ≠ main_v2 ∧ r ≠ main_v30) : Vd m d (Proc.devRef .tc r) = m (d, Proc.devRef .tc r) := by
  unfold Vd
  rw [Function.update_of_ne (fun e => h.2.2.2 (Proc.devRef_injective .tc e)), Vc_other m d r h.2.1]
  unfold Vb
  rw [Function.update_of_ne (fun e => h.2.2.1 (Proc.devRef_injective .tc e)), Va_other m d r h.1]

/-- Every argument is kept. -/
theorem kept (d : Dev nD) {s : MemSt nD τ sig (Elt F)} (h : ∀ b ∈ live, s.mem (d, b) = Vd m d b) :
    s.mem ((d.tc : Thread nD τ).loc main_arg0) = m ((d.tc : Thread nD τ).loc main_arg0)
    ∧ s.mem ((d.tc : Thread nD τ).loc main_arg1) = m ((d.tc : Thread nD τ).loc main_arg1)
    ∧ s.mem ((d.tc : Thread nD τ).loc main_arg2) = m ((d.tc : Thread nD τ).loc main_arg2)
    ∧ s.mem ((d.tc : Thread nD τ).loc main_arg3) = m ((d.tc : Thread nD τ).loc main_arg3)
    ∧ s.mem ((d.tc : Thread nD τ).loc main_arg4) = m ((d.tc : Thread nD τ).loc main_arg4)
    ∧ s.mem ((d.tc : Thread nD τ).loc main_arg5) = m ((d.tc : Thread nD τ).loc main_arg5)
    ∧ s.mem ((d.tc : Thread nD τ).loc main_arg6) = m ((d.tc : Thread nD τ).loc main_arg6)
    ∧ s.mem ((d.tc : Thread nD τ).loc main_arg7) = m ((d.tc : Thread nD τ).loc main_arg7)
    ∧ s.mem ((d.tc : Thread nD τ).loc main_arg8) = m ((d.tc : Thread nD τ).loc main_arg8)
    ∧ s.mem ((d.tc : Thread nD τ).loc main_arg9) = m ((d.tc : Thread nD τ).loc main_arg9)
    ∧ s.mem ((d.tc : Thread nD τ).loc main_arg10) = m ((d.tc : Thread nD τ).loc main_arg10)
    ∧ s.mem ((d.tc : Thread nD τ).loc main_arg11) = m ((d.tc : Thread nD τ).loc main_arg11) := by
  have k (r : Ref sig .tc) (hl : Proc.devRef .tc r ∈ (live : Finset (DevRef τ sig))) (hr : r ∉ W1 ∧ r ∉ W2 ∧ r ≠ main_v2 ∧ r ≠ main_v30) :
      s.mem ((d.tc : Thread nD τ).loc r) = m ((d.tc : Thread nD τ).loc r) := (h _ hl).trans (Vd_kept m d r hr)
  refine ⟨k _ ?_ ?_, k _ ?_ ?_, k _ ?_ ?_, k _ ?_ ?_, k _ ?_ ?_, k _ ?_ ?_, k _ ?_ ?_, k _ ?_ ?_, k _ ?_ ?_, k _ ?_ ?_, k _ ?_ ?_, k _ ?_ ?_⟩ <;> decide

/-- The range precondition's row numbers are below 1000. -/
theorem below (a : S16384x26.Idx → BitVec 32) (x1 : IVec S832000 32) (x2 : FVec F S1300x150 .f32) (x3 : FVec F S150 .f32) (x4 : FVec F S150x75 .f32) (x5 : FVec F S75 .f32) (x6 : FVec F S75x1 .f32) (x7 : FVec F S1 .f32) (x8 x9 : FVec F S150 .f32) (x10 x11 : FVec F S75 .f32)
    (h : Cert.Pre_idx_in_range.fn (F := F) a x1 x2 x3 x4 x5 x6 x7 x8 x9 x10 x11 = fun _ => 1#1) (j : S16384x26.Idx) : (a j).toNat < 1000 := by
  haveI : Subsingleton (⟨0, ![]⟩ : Shape).Idx := ⟨fun p q => funext fun i => i.elim0⟩
  exact Look.lt_of_range _ (Host.reduce_andi_all _ _ _ _ ValueIdx.ix0 (congrFun h ValueIdx.ix0) j)

end Cert.Proof.Gather

end
-- ==== Proof.Arrays.lean ====
/-
  What the dense layers find in their arrays: the words gathered, the weights by words, the vectors as rows.
-/
module

public import proofs.«01_k».proof.Proof.Frames
public import proofs.«01_k».proof.Proof.Maths
public import Idealize.ShloMosaic.Lib.Pointwise
public import Idealize.ShloMosaic.Lib.StableHlo.ReadAt

@[expose] public section

noncomputable section

namespace Cert.Proof.Gather

open Cert.KernelIdeal Cert.KernelIdeal.Gen Cert.Proof.Maths
open Idealize.ShloMosaic

variable (m : (ℓ : Loc nD τ sig) → Buf (Elt Ideal) ℓ)

theorem Vc_words (d : Dev nD) : (Vin m d main_v2 : S832x16384.Idx → BitVec 32) = gout (tkM m d) (xcM m d) := by
  show Vc m d _ = _
  rw [Vc_other m d main_v2 (by decide)]
  exact Function.update_self _ _ _

/-- An argument, as it was at the start. -/
theorem Vb_arg (d : Dev nD) (r : Ref sig .tc) (h : r ∉ W1 ∧ r ≠ main_v2) : Vb m d (Proc.devRef .tc r) = m ((d.tc : Thread nD τ).loc r) := by
  unfold Vb
  rw [Function.update_of_ne (fun e => h.2 (Proc.devRef_injective .tc e)), Va_other m d r h.1]

theorem Vc_arg (d : Dev nD) (r : Ref sig .tc) (h : r ∉ W1 ∧ r ≠ main_v2) (h' : r ∉ W2) : Vin m d r = m ((d.tc : Thread nD τ).loc r) :=
  (Vc_other m d r h').trans (Vb_arg m d r h)

/-- The vectors, laid out as rows. -/
theorem Vc_rows (d : Dev nD) :
    (∀ n : Fin 150, (Vin m d main_v23 : S1x150.Idx → EReal) (ix2 0 n) = (m ((d.tc : Thread nD τ).loc main_arg3) : S150.Idx → EReal) (ix1 n))
    ∧ (∀ n : Fin 75, (Vin m d main_v24 : S1x75.Idx → EReal) (ix2 0 n) = (m ((d.tc : Thread nD τ).loc main_arg5) : S75.Idx → EReal) (ix1 n))
    ∧ ((Vin m d main_v25 : S1x1.Idx → EReal) (ix2 0 0) = (m ((d.tc : Thread nD τ).loc main_arg7) : S1.Idx → EReal) (ix1 0))
    ∧ (∀ n : Fin 150, (Vin m d main_v26 : S1x150.Idx → EReal) (ix2 0 n) = (m ((d.tc : Thread nD τ).loc main_arg8) : S150.Idx → EReal) (ix1 n))
    ∧ (∀ n : Fin 150, (Vin m d main_v27 : S1x150.Idx → EReal) (ix2 0 n) = (m ((d.tc : Thread nD τ).loc main_arg9) : S150.Idx → EReal) (ix1 n))
    ∧ (∀ n : Fin 75, (Vin m d main_v28 : S1x75.Idx → EReal) (ix2 0 n) = (m ((d.tc : Thread nD τ).loc main_arg10) : S75.Idx → EReal) (ix1 n))
    ∧ (∀ n : Fin 75, (Vin m d main_v29 : S1x75.Idx → EReal) (ix2 0 n) = (m ((d.tc : Thread nD τ).loc main_arg11) : S75.Idx → EReal) (ix1 n)) := by
  refine ⟨fun n => ?_, fun n => ?_, ?_, fun n => ?_, fun n => ?_, fun n => ?_, fun n => ?_⟩ <;>
    (show Vc m d _ _ = _; unfold Vc; after_reads_at; exact congrFun (Vb_arg m d _ (by decide)) _)

/-- The row of the weights that a word's first half meets, and whether and where its second half meets one. -/
theorem first_row : ∀ k : Fin 832, min (Scalar.select (IntOp.cmpi .slt (lit0 k) 0#32) (IntOp.addi (lit0 k) 1300#32) (lit0 k)).toInt.toNat (1300 - 1) = k.val / 32 * 50 + lo (k.val % 32) := by
  decide +kernel
theorem second_row : ∀ k : Fin 832, lo (k.val % 32) + 16 < 50 →
    min (Scalar.select (IntOp.cmpi .slt (lit2 k) 0#32) (IntOp.addi (lit2 k) 1300#32) (lit2 k)).toInt.toNat (1300 - 1) = k.val / 32 * 50 + (lo (k.val % 32) + 16) := by
  decide +kernel
theorem second_is : ∀ k : Fin 832, lit1 k = if lo (k.val % 32) + 16 < 50 then 1#1 else 0#1 := by
  decide +kernel

theorem lo_lt (k : Fin 832) : k.val / 32 * 50 + lo (k.val % 32) < 1300 := by unfold lo; omega
theorem hi_lt (k : Fin 832) (h : lo (k.val % 32) + 16 < 50) : k.val / 32 * 50 + (lo (k.val % 32) + 16) < 1300 := by omega

theorem Vb_c (d : Dev nD) (k : Fin 832) : (Vb m d (Proc.devRef .tc main_c) : S832.Idx → BitVec 1) (ix1 k) = 1#1
    ∧ (Vb m d (Proc.devRef .tc main_c_0) : S832.Idx → BitVec 32) (ix1 k) = lit0 k
    ∧ (Vb m d (Proc.devRef .tc main_c_1) : S832.Idx → BitVec 1) (ix1 k) = lit1 k
    ∧ (Vb m d (Proc.devRef .tc main_c_2) : S832.Idx → BitVec 32) (ix1 k) = lit2 k := by
  have e : S832.rowMajor (ix1 k) = k := Fin.ext (Shape.rowMajor_val_one _)
  unfold Vb
  rw [Function.update_of_ne (fun e => by cases Proc.devRef_injective .tc e), Function.update_of_ne (fun e => by cases Proc.devRef_injective .tc e),
    Function.update_of_ne (fun e => by cases Proc.devRef_injective .tc e), Function.update_of_ne (fun e => by cases Proc.devRef_injective .tc e)]
  unfold Va
  refine ⟨?_, ?_, ?_, ?_⟩ <;> after_results
  · rfl
  · exact congrArg lit0 e
  · exact congrArg lit1 e
  · exact congrArg lit2 e

theorem Vc_wa (d : Dev nD) (k : Fin 832) (n : Fin 150) :
    (Vin m d main_v21 : S832x150.Idx → EReal) (ix2 k n) = (m ((d.tc : Thread nD τ).loc main_arg2) : S1300x150.Idx → EReal) (ix2 ⟨_, lo_lt k⟩ n) := by
  show Vc m d _ _ = _
  unfold Vc
  after_reads_at
  rw [(Vb_c m d k).1]
  refine (Look.row_apply (by decide) gather_S1300x150_S832x1_S832x150_1_0_n_n_0_1_1150_wf _ _ k n).trans ?_
  refine congrArg (m ((d.tc : Thread nD τ).loc main_arg2) : S1300x150.Idx → EReal) ((ix2_eq_valueIdx _ _).symm.trans (congrArg (fun q => ix2 q n) (Fin.ext ?_)))
  refine Eq.trans ?_ (first_row k)
  pointwise
  rw [(Vb_c m d k).2.1]

theorem Vc_wb (d : Dev nD) (k : Fin 832) (n : Fin 150) :
    (Vin m d main_v22 : S832x150.Idx → EReal) (ix2 k n)
      = if h : lo (k.val % 32) + 16 < 50 then (m ((d.tc : Thread nD τ).loc main_arg2) : S1300x150.Idx → EReal) (ix2 ⟨_, hi_lt k h⟩ n) else (0 : EReal) := by
  show Vc m d _ _ = _
  unfold Vc
  after_reads_at
  rw [(Vb_c m d k).2.2.1, second_is]
  by_cases h : lo (k.val % 32) + 16 < 50
  · rw [if_pos h, dif_pos h]
    refine (Look.row_apply (by decide) gather_S1300x150_S832x1_S832x150_1_0_n_n_0_1_1150_wf _ _ k n).trans ?_
    refine congrArg (m ((d.tc : Thread nD τ).loc main_arg2) : S1300x150.Idx → EReal) ((ix2_eq_valueIdx _ _).symm.trans (congrArg (fun q => ix2 q n) (Fin.ext ?_)))
    refine Eq.trans ?_ (second_row k h)
    pointwise
    rw [(Vb_c m d k).2.2.2]
  · rw [if_neg h, dif_neg h]
    exact Ideal.ofBits_zero_f32

end Cert.Proof.Gather

end
-- ==== Proof.Pre.lean ====
/-
  What the second precondition says: row numbers in range, and arrays of reals.
-/
module

public import proofs.«01_k».proof.Proof.Gen.Pre_inputs_ok
public import proofs.«01_k».proof.Proof.Look
public import proofs.«01_k».proof.Proof.Maths

@[expose] public section

noncomputable section

namespace Cert.Proof.Pre

open Cert.Pre_inputs_ok Cert.Pre_inputs_ok.Gen Cert.Proof.Maths
open Idealize.ShloMosaic

theorem and_one {a b : BitVec 1} (h : IntOp.andi a b = 1#1) : a = 1#1 ∧ b = 1#1 := by
  revert h; revert a b; decide

/-- An extended real whose size is below infinity is a real. -/
theorem real_of_below {x : EReal} (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- The reference's tables, from their words. -/
def tables (t : IVec S832000 32) : FVec Ideal S26x1000x50 .f32 :=
  have w : IVec S26x1000x2x16 32 := shapeCast S26x1000x2x16 t shapeCasts_S832000_S26x1000x2x16
  have l : FVec Ideal S26x1000x2x16 .f32 := bitcastToFloat .f32 (Host.shli w (broadcastInDim S26x1000x2x16 ![] bcast_S_S26x1000x2x16 (constantI S_ 32 16#32)))
  have h : FVec Ideal S26x1000x2x16 .f32 := bitcastToFloat .f32 (andi w (broadcastInDim S26x1000x2x16 ![] bcast_S_S26x1000x2x16 (constantI S_ 32 4294901760#32)))
  extractStridedSlice S26x1000x50 ![0, 0, 0] (shapeCast S26x1000x64
    (concatenate S26x1000x2x2x16 3 [⟨S26x1000x2x1x16, broadcastInDim S26x1000x2x1x16 ![0, 1, 2, 4] bcast_S26x1000x2x16_S26x1000x2x1x16_0_1_2_4 l⟩,
      ⟨S26x1000x2x1x16, broadcastInDim S26x1000x2x1x16 ![0, 1, 2, 4] bcast_S26x1000x2x16_S26x1000x2x1x16_0_1_2_4 h⟩] concatenates_S26x1000x2x1x16_S26x1000x2x1x16_S26x1000x2x2x16_d3)
    shapeCasts_S26x1000x2x2x16_S26x1000x64) slices_S26x1000x64_S26x1000x50_0_0_0

/-- What is known of the arguments. -/
theorem known (a : IVec S16384x26 32) (t : IVec S832000 32) (x2 : FVec Ideal S1300x150 .f32) (x3 : FVec Ideal S150 .f32) (x4 : FVec Ideal S150x75 .f32) (x5 : FVec Ideal S75 .f32) (x6 : FVec Ideal S75x1 .f32) (x7 : FVec Ideal S1 .f32) (x8 x9 : FVec Ideal S150 .f32) (x10 x11 : FVec Ideal S75 .f32)
    (h : fn (F := Ideal) a t x2 x3 x4 x5 x6 x7 x8 x9 x10 x11 = fun _ => 1#1) :
    (∀ j, (a j).toNat < 1000) ∧ (∀ j, Fin' (tables t j)) ∧ (∀ j, Fin' (x2 j)) ∧ (∀ j, Fin' (x3 j)) ∧ (∀ j, Fin' (x4 j)) ∧ (∀ j, Fin' (x5 j)) ∧ (∀ j, Fin' (x8 j)) ∧ (∀ j, Fin' (x9 j)) ∧ (∀ j, Fin' (x10 j)) := by
  haveI : Subsingleton (⟨0, ![]⟩ : Shape).Idx := ⟨fun p q => funext fun i => i.elim0⟩
  obtain ⟨h, h10⟩ := and_one (congrFun h ValueIdx.ix0)
  obtain ⟨h, h9⟩ := and_one h
  obtain ⟨h, h8⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨fun j => Look.lt_of_range _ (Host.reduce_andi_all _ _ _ _ ValueIdx.ix0 h0 j),
    fun j => real_of_below (Host.reduce_andi_all _ _ _ _ ValueIdx.ix0 h1 j),
    fun j => real_of_below (Host.reduce_andi_all _ _ _ _ ValueIdx.ix0 h2 j),
    fun j => real_of_below (Host.reduce_andi_all _ _ _ _ ValueIdx.ix0 h3 j),
    fun j => real_of_below (Host.reduce_andi_all _ _ _ _ ValueIdx.ix0 h4 j),
    fun j => real_of_below (Host.reduce_andi_all _ _ _ _ ValueIdx.ix0 h5 j),
    fun j => real_of_below (Host.reduce_andi_all _ _ _ _ ValueIdx.ix0 h8 j),
    fun j => real_of_below (Host.reduce_andi_all _ _ _ _ ValueIdx.ix0 h9 j),
    fun j => real_of_below (Host.reduce_andi_all _ _ _ _ ValueIdx.ix0 h10 j)⟩

end Cert.Proof.Pre

end
-- ==== Proof.Ref.lean ====
/-
  The reference's result read at an index.
-/
module

public import proofs.«01_k».proof.Defs
public import proofs.«01_k».proof.Proof.Gen.ReferenceIdeal
public import proofs.«01_k».proof.Proof.Gen.ReferenceIdeal.Run
public import proofs.«01_k».proof.Proof.Pre
public import Idealize.ShloMosaic.Lib.Pointwise

@[expose] public section

noncomputable section

namespace Cert.Proof.Ref

open Cert.ReferenceIdeal Cert.ReferenceIdeal.Gen Cert.Proof.Maths
open Idealize.ShloMosaic

/-- The row numbers as the reference looks them up: a negative one counts from the table's end. -/
def numbers (a : IVec S16384x26 32) : IVec S26x16384x1 32 :=
  broadcastInDim S26x16384x1 ![0, 1] bcast_S26x16384_S26x16384x1_0_1 (transpose S26x16384 [1, 0]
    (select (cmpi .slt a (broadcastInDim S16384x26 ![] bcast_S_S16384x26 (constantI S_ 32 0#32)))
      (addi a (broadcastInDim S16384x26 ![] bcast_S_S16384x26 (constantI S_ 32 1000#32))) a) transposes_S16384x26_S26x16384_1_0)

/-- The looked-up rows side by side. -/
def rows (a : IVec S16384x26 32) (t : IVec S832000 32) : FVec Ideal S16384x1300 .f32 :=
  shapeCast S16384x1300 (transpose S16384x26x50 [1, 0, 2]
    (Host.gather gather_S26x1000x50_S26x16384x1_S26x16384x50_2_1_0_0_1_2_1150 (Pre.tables t) (numbers a))
    transposes_S26x16384x50_S16384x26x50_1_0_2) shapeCasts_S16384x26x50_S16384x1300

/-- A row of 150 spread down the columns. -/
def down (v : FVec Ideal S150 .f32) : FVec Ideal S16384x150 .f32 :=
  broadcastInDim S16384x150 ![0, 1] bcast_S1x150_S16384x150_0_1 (broadcastInDim S1x150 ![1] bcast_S150_S1x150_1 v)

/-- The first layer's values. -/
def first (x : FVec Ideal S16384x1300 .f32) (w : FVec Ideal S1300x150 .f32) (b : FVec Ideal S150 .f32) : FVec Ideal S16384x150 .f32 :=
  maximumf (addf (Host.dotGeneral dot_S16384x1300_S1300x150_S16384x150_1_0_0_1_n_n none x w) (down b))
    (broadcastInDim S16384x150 ![] bcast_S_S16384x150 (constant S_ .f32 0x00000000#32))

/-- The columns' means. -/
def mean (h : FVec Ideal S16384x150 .f32) : FVec Ideal S150 .f32 :=
  Host.divf (Host.reduceAdd h (constant S_ .f32 0x00000000#32) reducesTo_S16384x150_S150_d0 h_S_)
    (broadcastInDim S150 ![] bcast_S_S150 (constant S_ .f32 0x46800000#32))

/-- The columns normalized. -/
def normed (h : FVec Ideal S16384x150 .f32) (g be : FVec Ideal S150 .f32) : FVec Ideal S16384x150 .f32 :=
  addf (mulf (Host.divf (subf h (down (mean h))) (down (Host.sqrt (addf (mean (mulf (subf h (down (mean h))) (subf h (down (mean h)))))
    (broadcastInDim S150 ![] bcast_S_S150 (constant S_ .f32 0x3727C5AC#32)))))) (down g)) (down be)

/-- A row of 75 spread down the columns. -/
def down' (v : FVec Ideal S75 .f32) : FVec Ideal S16384x75 .f32 :=
  broadcastInDim S16384x75 ![0, 1] bcast_S1x75_S16384x75_0_1 (broadcastInDim S1x75 ![1] bcast_S75_S1x75_1 v)

/-- The second layer's values. -/
def second (x : FVec Ideal S16384x150 .f32) (w : FVec Ideal S150x75 .f32) (b : FVec Ideal S75 .f32) : FVec Ideal S16384x75 .f32 :=
  maximumf (addf (Host.dotGeneral dot_S16384x150_S150x75_S16384x75_1_0_0_1_n_n none x w) (down' b))
    (broadcastInDim S16384x75 ![] bcast_S_S16384x75 (constant S_ .f32 0x00000000#32))

/-- The second layer's means. -/
def mean' (h : FVec Ideal S16384x75 .f32) : FVec Ideal S75 .f32 :=
  Host.divf (Host.reduceAdd h (constant S_ .f32 0x00000000#32) reducesTo_S16384x75_S75_d0 h_S_)
    (broadcastInDim S75 ![] bcast_S_S75 (constant S_ .f32 0x46800000#32))

/-- The second layer normalized. -/
def normed' (h : FVec Ideal S16384x75 .f32) (g be : FVec Ideal S75 .f32) : FVec Ideal S16384x75 .f32 :=
  addf (mulf (Host.divf (subf h (down' (mean' h))) (down' (Host.sqrt (addf (mean' (mulf (subf h (down' (mean' h))) (subf h (down' (mean' h)))))
    (broadcastInDim S75 ![] bcast_S_S75 (constant S_ .f32 0x3727C5AC#32)))))) (down' g)) (down' be)

/-- The scores. -/
def score (x : FVec Ideal S16384x75 .f32) (w : FVec Ideal S75x1 .f32) (b : FVec Ideal S1 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf (Host.dotGeneral dot_S16384x75_S75x1_S16384x1_1_0_0_1_n_n none x w)
        (broadcastInDim S16384x1 ![0, 1] bcast_S1x1_S16384x1_0_1 (broadcastInDim S1x1 ![1] bcast_S1_S1x1_1 b))))))

/-- The reference's result of its arguments. -/
def result (a : IVec S16384x26 32) (t : IVec S832000 32) (x2 : FVec Ideal S1300x150 .f32) (x3 : FVec Ideal S150 .f32) (x4 : FVec Ideal S150x75 .f32)
    (x5 : FVec Ideal S75 .f32) (x6 : FVec Ideal S75x1 .f32) (x7 : FVec Ideal S1 .f32) (x8 x9 : FVec Ideal S150 .f32) (x10 x11 : FVec Ideal S75 .f32) : FVec Ideal S16384x1 .f32 :=
  score (normed' (second (normed (first (rows a t) x2 x3) x8 x9) x4 x5) x10 x11) x6 x7

set_option maxRecDepth 16384 in
set_option maxHeartbeats 4000000 in
theorem result_eq (m : (ℓ : Loc nD τ sig) → Buf (Elt Ideal) ℓ) (c : Dev nD) :
    Value.res_main_v91 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) := rfl

theorem first_at (x : FVec Ideal S16384x1300 .f32) (w : FVec Ideal S1300x150 .f32) (b : FVec Ideal S150 .f32) (r : Fin 16384) (n : Fin 150) :
    first x w b (ix2 r n) = max ((∑ k : Fin 1300, x (ix2 r k) * w (ix2 k n)) + b (ix1 n)) 0 := by
  pointwise [first, down]

theorem mean_at (h : FVec Ideal S16384x150 .f32) (n : Fin 150) : mean h (ix1 n) = meanOf fun i => h (ix2 i n) := by
  pointwise [mean, meanOf, size]

theorem normed_at (h : FVec Ideal S16384x150 .f32) (g be : FVec Ideal S150 .f32) (r : Fin 16384) (n : Fin 150) :
    normed h g be (ix2 r n) = plain (fun i => h (ix2 i n)) (g (ix1 n)) (be (ix1 n)) r := by
  pointwise [normed, down, mean, plain, meanOf, size]

theorem second_at (x : FVec Ideal S16384x150 .f32) (w : FVec Ideal S150x75 .f32) (b : FVec Ideal S75 .f32) (r : Fin 16384) (q : Fin 75) :
    second x w b (ix2 r q) = max ((∑ n : Fin 150, x (ix2 r n) * w (ix2 n q)) + b (ix1 q)) 0 := by
  pointwise [second, down']

theorem normed'_at (h : FVec Ideal S16384x75 .f32) (g be : FVec Ideal S75 .f32) (r : Fin 16384) (q : Fin 75) :
    normed' h g be (ix2 r q) = plain (fun i => h (ix2 i q)) (g (ix1 q)) (be (ix1 q)) r := by
  pointwise [normed', down', mean', plain, meanOf, size]

theorem score_at (x : FVec Ideal S16384x75 .f32) (w : FVec Ideal S75x1 .f32) (b : FVec Ideal S1 .f32) (r : Fin 16384) :
    score x w b (ix2 r 0) = Ideal.logistic ((∑ q : Fin 75, x (ix2 r q) * w (ix2 q 0)) + b (ix1 0)) := by
  pointwise [score, Ideal.logistic]

end Cert.Proof.Ref

end
-- ==== Proof.Rows.lean ====
/-
  The reference's looked-up rows at a place, from the words.
-/
module

public import proofs.«01_k».proof.Proof.Ref

@[expose] public section

noncomputable section

namespace Cert.Proof.Ref

open Cert.ReferenceIdeal Cert.ReferenceIdeal.Gen Cert.Proof.Maths
open Idealize.ShloMosaic

/-- A word's half: the number it stands for. -/
def half (p : ℕ) (w : BitVec 32) : EReal :=
  if p = 0 then Ideal.ofBits .f32 (IntOp.shli .vector w 16#32) else Ideal.ofBits .f32 (IntOp.andi w 4294901760#32)

theorem shift_same (w : BitVec 32) : IntOp.shli .host w 16#32 = IntOp.shli .vector w 16#32 := by
  simp [IntOp.shli]

theorem tables_at (t : IVec S832000 32) (f : Fin 26) (v : Fin 1000) (j : Fin 50) :
    Pre.tables t (ix3 f v j) = half (j.val / 16 % 2) (t (ix1 ⟨f.val * 32000 + v.val * 32 + j.val / 32 * 16 + j.val % 16, by omega⟩)) := by
  pointwise [Pre.tables]
  rw [shift_same]
  unfold half
  simp only [Nat.lt_one_iff, dite_eq_ite]

theorem numbers_at (a : IVec S16384x26 32) (f : Fin 26) (r : Fin 16384) : numbers a (ix3 f r 0)
    = Scalar.select (IntOp.cmpi .slt (a (ix2 r f)) 0#32) (IntOp.addi (a (ix2 r f)) 1000#32) (a (ix2 r f)) := by
  pointwise [numbers]

theorem rows_at (a : IVec S16384x26 32) (t : IVec S832000 32) (ha : ∀ j, (a j).toNat < 1000) (b : Fin 16384) (k : Fin 1300) :
    rows a t (ix2 b k) = Pre.tables t (ix3 (⟨k.val / 50, by omega⟩ : Fin 26) ⟨(a (ix2 b ⟨k.val / 50, by omega⟩)).toNat, ha _⟩ ⟨k.val % 50, by omega⟩) := by
  unfold rows
  refine (shapeCast_apply _ _ _ (ValueIdx.ix3 b (⟨k.val / 50, by omega⟩ : Fin 26) (⟨k.val % 50, by omega⟩ : Fin 50)) ?_).trans ?_
  · rw [ix2_eq_valueIdx, Shape.rowMajor_val_three, Shape.rowMajor_val_two]
    show (b.val * 26 + k.val / 50) * 50 + k.val % 50 = b.val * 1300 + k.val
    omega
  refine (Look.exchange_apply _ _ _ _ _).trans ?_
  refine (Look.gather_apply (by decide) gather_S26x1000x50_S26x16384x1_S26x16384x50_2_1_0_0_1_2_1150_wf _ _ _ _ _).trans ?_
  rw [ix3_eq_valueIdx]
  refine congrArg (fun q => Pre.tables t (ValueIdx.ix3 _ q _)) (Fin.ext ?_)
  show min (numbers a _).toInt.toNat (1000 - 1) = _
  rw [← ix3_eq_valueIdx, numbers_at]
  exact Look.plain_number _ (ha _)

end Cert.Proof.Ref

end
-- ==== Proof.First.lean ====
/-
  The first layer: the sums over the words' halves are the sum over the looked-up rows.
-/
module

public import proofs.«01_k».proof.Proof.Layers
public import proofs.«01_k».proof.Proof.Arrays
public import proofs.«01_k».proof.Proof.Rows

@[expose] public section

noncomputable section

namespace Cert.Proof.Layers

open Cert.KernelIdeal Cert.KernelIdeal.Gen Cert.Proof.Maths Cert.Proof.Gather
open Idealize.ShloMosaic

variable (a : IVec S16384x26 32) (t : IVec S832000 32) (w : FVec Ideal S1300x150 .f32) (ha : ∀ j, (a j).toNat < 1000) (b : Fin 16384) (n : Fin 150)

/-- A column of a field's row times its weight: zero past the last column. -/
def term (f j : ℕ) : EReal :=
  if h : f < 26 ∧ j < 50 then Pre.tables t (ix3 ⟨f, h.1⟩ ⟨(a (ix2 b ⟨f, h.1⟩)).toNat, ha _⟩ ⟨j, h.2⟩) * w (ix2 ⟨f * 50 + j, by omega⟩ n) else 0

/-- A gathered word's place in the packed tables. -/
abbrev place (k : Fin 832) : Fin 832000 :=
  ⟨k.val / 32 * 32000 + (a (ix2 b ⟨k.val / 32, by omega⟩)).toNat * 32 + k.val % 32, by have := ha (ix2 b ⟨k.val / 32, by omega⟩); omega⟩

theorem low_term (k : Fin 832) : low (t (ix1 (place a ha b k))) * w (ix2 ⟨_, lo_lt k⟩ n) = term a t w ha b n (k.val / 32) (lo (k.val % 32)) := by
  have hl : lo (k.val % 32) < 50 := by unfold lo; omega
  unfold term
  rw [dif_pos ⟨by omega, hl⟩, Ref.tables_at]
  have e1 : lo (k.val % 32) / 16 % 2 = 0 := by unfold lo; omega
  refine congrArg (· * w _) ?_
  show _ = Ref.half (lo (k.val % 32) / 16 % 2) _
  rw [e1]
  refine congrArg (fun q => low (t (ix1 q))) (Fin.ext ?_)
  show k.val / 32 * 32000 + (a (ix2 b _)).toNat * 32 + k.val % 32 = k.val / 32 * 32000 + (a (ix2 b _)).toNat * 32 + lo (k.val % 32) / 32 * 16 + lo (k.val % 32) % 16
  unfold lo
  omega

theorem high_term (k : Fin 832) : high (t (ix1 (place a ha b k))) * (if h : lo (k.val % 32) + 16 < 50 then w (ix2 ⟨_, hi_lt k h⟩ n) else (0 : EReal))
    = term a t w ha b n (k.val / 32) (lo (k.val % 32) + 16) := by
  unfold term
  by_cases h : lo (k.val % 32) + 16 < 50
  · rw [dif_pos h, dif_pos ⟨by omega, h⟩, Ref.tables_at]
    have e1 : (lo (k.val % 32) + 16) / 16 % 2 = 1 := by unfold lo; omega
    refine congrArg (· * w _) ?_
    show _ = Ref.half ((lo (k.val % 32) + 16) / 16 % 2) _
    rw [e1]
    refine congrArg (fun q => high (t (ix1 q))) (Fin.ext ?_)
    show k.val / 32 * 32000 + (a (ix2 b _)).toNat * 32 + k.val % 32 = k.val / 32 * 32000 + (a (ix2 b _)).toNat * 32 + (lo (k.val % 32) + 16) / 32 * 16 + (lo (k.val % 32) + 16) % 16
    unfold lo
    omega
  · rw [dif_neg h, dif_neg fun q => h q.2, mul_zero]

theorem words_sum :
    (∑ k : Fin 832, low (t (ix1 (place a ha b k))) * w (ix2 ⟨_, lo_lt k⟩ n))
      + (∑ k : Fin 832, high (t (ix1 (place a ha b k))) * (if h : lo (k.val % 32) + 16 < 50 then w (ix2 ⟨_, hi_lt k h⟩ n) else (0 : EReal)))
    = ∑ k : Fin 1300, Ref.rows a t (ix2 b k) * w (ix2 k n) := by
  rw [← Finset.sum_add_distrib]
  have e := sum_fields (term a t w ha b n) fun f j hj => dif_neg fun q => absurd q.2 (by omega)
  rw [Finset.sum_range, Finset.sum_range] at e
  refine (Finset.sum_congr rfl fun k _ => congrArg₂ (· + ·) (low_term a t w ha b n k) (high_term a t w ha b n k)).trans (e.trans (Finset.sum_congr rfl fun k _ => ?_))
  unfold term
  rw [dif_pos ⟨by omega, Nat.mod_lt _ (by norm_num)⟩, Ref.rows_at a t ha]
  refine congrArg (fun q => _ * w (ix2 q n)) (Fin.ext ?_)
  show k.val / 50 * 50 + k.val % 50 = k.val
  omega

end Cert.Proof.Layers

end
-- ==== Proof.Head.lean ====
/-
  The dense layers after the first: the kernel's scale-and-shift form is the reference's normalization.
-/
module

public import proofs.«01_k».proof.Proof.Layers
public import proofs.«01_k».proof.Proof.Rows

@[expose] public section

noncomputable section

namespace Cert.Proof.Layers

open Cert.KernelIdeal Cert.KernelIdeal.Gen Cert.Proof.Maths
open Idealize.ShloMosaic

variable (h : Vec Ideal S16384x150 .f32) (s ss g be : Vec Ideal S1x150 .f32) (w : Vec Ideal S150x75 .f32) (b g' be' : Vec Ideal S1x75 .f32) (w' : Vec Ideal S75x1 .f32) (b' : Vec Ideal S1x1 .f32)
variable (X : FVec Ideal S16384x150 .f32) (rg rbe : FVec Ideal S150 .f32) (rb rg' rbe' : FVec Ideal S75 .f32) (rb' : FVec Ideal S1 .f32)

theorem second_eq (hh : ∀ i n, h (ix2 i n) = X (ix2 i n)) (hs : ∀ n, s (ix2 0 n) = ∑ i : Fin 16384, X (ix2 i n)) (hss : ∀ n, ss (ix2 0 n) = ∑ i : Fin 16384, X (ix2 i n) * X (ix2 i n))
    (hg : ∀ n, g (ix2 0 n) = rg (ix1 n)) (hbe : ∀ n, be (ix2 0 n) = rbe (ix1 n)) (hb : ∀ q, b (ix2 0 q) = rb (ix1 q))
    (fX : ∀ i n, Fin' (X (ix2 i n))) (fg : ∀ n, Fin' (rg (ix1 n))) (r : Fin 16384) (q : Fin 75) :
    k1_pay4 s ss g be h w b (ix2 r q) = Ref.second (Ref.normed X rg rbe) w rb (ix2 r q) := by
  rw [second_at, Ref.second_at, hb]
  refine congrArg (fun z => max (z + rb (ix1 q)) 0) (Finset.sum_congr rfl fun n _ => congrArg (· * w (ix2 n q)) ?_)
  rw [Ref.normed_at, hs, hss, hg, hbe, hh, recip_word]
  exact forms_eq (fun i => fX i n) (fg n) _ r

theorem second_fin (fX : ∀ i n, Fin' (X (ix2 i n))) (fg : ∀ n, Fin' (rg (ix1 n))) (fbe : ∀ n, Fin' (rbe (ix1 n))) (fw : ∀ n q, Fin' (w (ix2 n q))) (fb : ∀ q, Fin' (rb (ix1 q)))
    (r : Fin 16384) (q : Fin 75) : Fin' (Ref.second (Ref.normed X rg rbe) w rb (ix2 r q)) := by
  rw [Ref.second_at]
  refine fin_max (fin_add (fin_sum _ fun n => fin_mul ?_ (fw n q)) (fb q))
  rw [Ref.normed_at]
  exact plain_fin (fun i => fX i n) (fg n) (fbe n) r

theorem head_eq (hh : ∀ i n, h (ix2 i n) = X (ix2 i n)) (hs : ∀ n, s (ix2 0 n) = ∑ i : Fin 16384, X (ix2 i n)) (hss : ∀ n, ss (ix2 0 n) = ∑ i : Fin 16384, X (ix2 i n) * X (ix2 i n))
    (hg : ∀ n, g (ix2 0 n) = rg (ix1 n)) (hbe : ∀ n, be (ix2 0 n) = rbe (ix1 n)) (hb : ∀ q, b (ix2 0 q) = rb (ix1 q))
    (hg' : ∀ q, g' (ix2 0 q) = rg' (ix1 q)) (hbe' : ∀ q, be' (ix2 0 q) = rbe' (ix1 q)) (hb' : b' (ix2 0 0) = rb' (ix1 0))
    (fX : ∀ i n, Fin' (X (ix2 i n))) (fg : ∀ n, Fin' (rg (ix1 n))) (fbe : ∀ n, Fin' (rbe (ix1 n))) (fw : ∀ n q, Fin' (w (ix2 n q))) (fb : ∀ q, Fin' (rb (ix1 q)))
    (fg' : ∀ q, Fin' (rg' (ix1 q))) (r : Fin 16384) :
    Mlp.outOf w b w' b' g be g' be' h s ss (ix2 r 0) = Ref.score (Ref.normed' (Ref.second (Ref.normed X rg rbe) w rb) rg' rbe') w' rb' (ix2 r 0) := by
  have e := second_eq h s ss g be w b X rg rbe rb hh hs hss hg hbe hb fX fg
  unfold Mlp.outOf
  rw [last_at, Ref.score_at, hb']
  refine congrArg (fun z => Ideal.logistic (z + rb' (ix1 0))) (Finset.sum_congr rfl fun q _ => congrArg (· * w' (ix2 q 0)) ?_)
  rw [Ref.normed'_at, mean_at, meanSq_at, hg', hbe', e, div_size, div_size]
  simp only [e]
  exact forms_eq (fun i => second_fin w X rg rbe rb fX fg fbe fw fb i q) (fg' q) _ r

end Cert.Proof.Layers

end
-- ==== Proof.Scores.lean ====
/-
  The run's scores are the reference's of the same arguments.
-/
module

public import proofs.«01_k».proof.Proof.Totals
public import proofs.«01_k».proof.Proof.First
public import proofs.«01_k».proof.Proof.Head

@[expose] public section

noncomputable section

namespace Cert.Proof.Gather

open Cert.KernelIdeal Cert.KernelIdeal.Gen Cert.Proof.Maths Cert.Proof.Layers
open Idealize.ShloMosaic

variable (m : (ℓ : Loc nD τ sig) → Buf (Elt Ideal) ℓ) (d : Dev nD)

abbrev A0 : IVec S16384x26 32 := m ((d.tc : Thread nD τ).loc main_arg0)
abbrev A1 : IVec S832000 32 := m ((d.tc : Thread nD τ).loc main_arg1)
abbrev A2 : FVec Ideal S1300x150 .f32 := m ((d.tc : Thread nD τ).loc main_arg2)
abbrev A3 : FVec Ideal S150 .f32 := m ((d.tc : Thread nD τ).loc main_arg3)
abbrev A4 : FVec Ideal S150x75 .f32 := m ((d.tc : Thread nD τ).loc main_arg4)
abbrev A5 : FVec Ideal S75 .f32 := m ((d.tc : Thread nD τ).loc main_arg5)
abbrev A6 : FVec Ideal S75x1 .f32 := m ((d.tc : Thread nD τ).loc main_arg6)
abbrev A7 : FVec Ideal S1 .f32 := m ((d.tc : Thread nD τ).loc main_arg7)
abbrev A8 : FVec Ideal S150 .f32 := m ((d.tc : Thread nD τ).loc main_arg8)
abbrev A9 : FVec Ideal S150 .f32 := m ((d.tc : Thread nD τ).loc main_arg9)
abbrev A10 : FVec Ideal S75 .f32 := m ((d.tc : Thread nD τ).loc main_arg10)
abbrev A11 : FVec Ideal S75 .f32 := m ((d.tc : Thread nD τ).loc main_arg11)

theorem hAll_first (ha : ∀ j, (A0 m d j).toNat < 1000) (b : Fin 16384) (n : Fin 150) :
    Mlp.hAll (Vin m) d (ix2 b n) = Ref.first (Ref.rows (A0 m d) (A1 m d)) (A2 m d) (A3 m d) (ix2 b n) := by
  rw [hAll_at, Ref.first_at, ← words_sum (A0 m d) (A1 m d) (A2 m d) ha b n, (Vc_rows m d).1]
  have e : ∀ k : Fin 832, (Vin m d main_v2 : S832x16384.Idx → BitVec 32) (ix2 k b) = A1 m d (ix1 (Layers.place (A0 m d) ha b k)) := fun k => by
    rw [Vc_words, ix2_eq_valueIdx, ix1_eq_valueIdx]
    refine (gout_apply (tkM m d) (A0 m d) ha k b).trans (congrArg (fun q => A1 m d (ValueIdx.ix1 q)) (Fin.ext ?_))
    show _ = k.val / 32 * 32000 + (A0 m d (ix2 b ⟨k.val / 32, _⟩)).toNat * 32 + k.val % 32
    rw [ix2_eq_valueIdx]
  refine congrArg (fun z => max (z + A3 m d (ix1 n)) 0) (congrArg₂ (· + ·) (Finset.sum_congr rfl fun k _ => ?_) (Finset.sum_congr rfl fun k _ => ?_))
  · exact congrArg₂ (fun x y => low x * y) (e k) (Vc_wa m d k n)
  · exact congrArg₂ (fun x y => high x * y) (e k) (Vc_wb m d k n)

theorem first_fin (ft : ∀ j, Fin' (Pre.tables (A1 m d) j)) (f2 : ∀ j, Fin' (A2 m d j)) (f3 : ∀ j, Fin' (A3 m d j)) (ha : ∀ j, (A0 m d j).toNat < 1000) (b : Fin 16384) (n : Fin 150) :
    Fin' (Ref.first (Ref.rows (A0 m d) (A1 m d)) (A2 m d) (A3 m d) (ix2 b n)) := by
  rw [Ref.first_at]
  refine fin_max (fin_add (fin_sum _ fun k => fin_mul ?_ (f2 _)) (f3 _))
  rw [Ref.rows_at _ _ ha]
  exact ft _

theorem scores_eq (h : Cert.Pre_inputs_ok.fn (F := Ideal) (A0 m d) (A1 m d) (A2 m d) (A3 m d) (A4 m d) (A5 m d) (A6 m d) (A7 m d) (A8 m d) (A9 m d) (A10 m d) (A11 m d) = fun _ => 1#1) :
    (Mlp.outAll (Vin m) d : S16384x1.Idx → EReal)
      = Ref.result (A0 m d) (A1 m d) (A2 m d) (A3 m d) (A4 m d) (A5 m d) (A6 m d) (A7 m d) (A8 m d) (A9 m d) (A10 m d) (A11 m d) := by
  obtain ⟨ha, ft, f2, f3, f4, f5, f8, f9, f10⟩ := Pre.known _ _ _ _ _ _ _ _ _ _ _ _ h
  funext j
  obtain ⟨r, rfl⟩ : ∃ r : Fin 16384, j = ix2 r 0 := ⟨j 0,
    (ValueIdx.eq_ix2 j).trans ((congrArg (ValueIdx.ix2 (j 0)) (Fin.ext (by have : (j 1).val < 1 := (j 1).isLt; show (j 1).val = 0; omega))).trans (ix2_eq_valueIdx _ _).symm)⟩
  have hh := hAll_first m d ha
  obtain ⟨-, -, -, e4, e5, e6, e7, e8, e9, e10, e11⟩ := block_rest (Vin m) d (Mlp.pt 31 (by norm_num))
  obtain ⟨-, c5, c7, c8, c9, c10, c11⟩ := Vc_rows m d
  unfold Mlp.outAll Ref.result
  rw [e4, e5, e6, e7, e8, e9, e10, e11, Vc_arg m d main_arg4 (by decide) (by decide), Vc_arg m d main_arg6 (by decide) (by decide)]
  refine head_eq _ _ _ _ _ _ _ _ _ _ _ _ _ _ _ _ _ _ hh (fun n => ?_) (fun n => ?_) c8 c9 c5 c10 c11 c7
    (first_fin m d ft f2 f3 ha) (fun n => f8 _) (fun n => f9 _) (fun n q => f4 _) (fun q => f5 _) (fun q => f10 _) r
  · rw [sumTo_at]
    exact Finset.sum_congr rfl fun b _ => hh b n
  · rw [sqTo_at]
    exact Finset.sum_congr rfl fun b _ => by rw [hh b n]

end Cert.Proof.Gather

end
-- ==== Proof.Same.lean ====
/-
  The two printed programs have one text: their body tables are equal, so a run of the one is a run of the other.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxHeartbeats 4000000 in
theorem bodies_same : @Cert.Kernel.defs₀ F _ _ = @Cert.KernelIdeal.defs₀ F _ _ := by
  funext p l a
  match p, l, a with
  | .scVector c s, 0, _ => rfl
  | .tc, 1, (t, s) => rfl
  | .tc, 0, _ => rfl
  | .scVector c s, 1, _ => rfl
  | .scScalar c, 0, _ => rfl
  | .scScalar c, 1, _ => rfl

set_option maxHeartbeats 4000000 in
theorem defs_same : @Cert.Kernel.defs F _ _ = @Cert.KernelIdeal.defs F _ _ :=
  congrArg (fun D => Cert.KernelIdeal.sc.defs (Pipeline.defs Cert.KernelIdeal.pcfgs D)) bodies_same

set_option maxHeartbeats 4000000 in
theorem run_same (s : MemSt Cert.KernelIdeal.nD Cert.KernelIdeal.τ Cert.KernelIdeal.sig (Elt F)) {post}
    (e : θ_run (Cert.KernelIdeal.defs (F := F)) (Cert.KernelIdeal.threads (F := F)) s post) :
    θ_run (Cert.Kernel.defs (F := F)) (Cert.Kernel.threads (F := F)) s post :=
  Eq.mpr (congrArg (fun D => θ_run D (Cert.KernelIdeal.threads (F := F)) s post) defs_same) e

end Cert.Proof.Same

end
-- ==== Proof.Claims.lean ====
/-
  The claims: the run under the preconditions, at words and at extended reals, and its scores those of the reference.
-/
module

public import proofs.«01_k».proof.Proof.Scores
public import proofs.«01_k».proof.Proof.Same

@[expose] public section

noncomputable section

namespace Cert.Proof.Gather

open Idealize.ShloMosaic Idealize.SL.Sem

section
open Cert.KernelIdeal

/-- The run keeps the arguments and leaves every semaphore at zero. -/
theorem frame_of {F : FTy → Type} [FloatOps F] (m : (ℓ : Loc nD τ sig) → Buf (Elt F) ℓ) (ρ : Dev nD → PrngReg) (hxc : ∀ d j, (xcM m d j).toNat < 1000) :
    θ_run (defs (F := F)) (threads (F := F)) ⟨m, fun _ => 0, ρ⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)) ∧ r.2.sem = fun _ => 0) :=
  (θ_run defs _ _).mono (fun _ h => ⟨fun c => kept m c (h.1 c), h.2⟩) (run_main m ρ hxc)

end

set_option maxHeartbeats 4000000 in
theorem frame_kernel : Cert.quiescent_Kernel := fun m ρ h =>
  Same.run_same (F := Bits) _ <| frame_of (F := Bits) m ρ fun d => cols_lt _ (below (F := Bits) _ _ _ _ _ _ _ _ _ _ _ _ (h d))

theorem frame_kernelIdeal : Cert.quiescent_KernelIdeal := fun m ρ h =>
  frame_of (F := Ideal) m ρ fun d => cols_lt _ (below (F := Ideal) _ _ _ _ _ _ _ _ _ _ _ _ (h d))

theorem frame_kernelIdeal_ok : Cert.quiescent_KernelIdeal_pre_inputs_ok := fun m ρ h =>
  frame_of (F := Ideal) m ρ fun d => cols_lt _ (Pre.known _ _ _ _ _ _ _ _ _ _ _ _ (h d)).1

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_ok : Cert.quiescent_ReferenceIdeal_pre_inputs_ok := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal_pre_inputs_ok := by
  intro m ρ m' ρ' hpre hagree
  refine ⟨fun c => Mlp.outAll (Vin m) c, ?_, ?_⟩
  · exact (θ_run Cert.KernelIdeal.defs _ _).mono (fun _ h c => ⟨(h.1 c rRef (by decide)).trans (Vout_out m c), kept m c (h.1 c)⟩)
      (run_main (F := Ideal) m ρ fun d => cols_lt _ (Pre.known _ _ _ _ _ _ _ _ _ _ _ _ (hpre d)).1)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Ref.result_eq, h0, h1, h2, h3, h4, h5, h6, h7, h8, h9, h10, h11]
    exact (scores_eq m c (hpre c)).symm

end Cert.Proof.Gather

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal.Launch
public import proofs.«01_k».proof.Proof.Gen.KernelIdeal.Points
public import proofs.«01_k».proof.Proof.Gen.KernelIdeal
public import proofs.«01_k».proof.Proof.Gen.KernelIdeal.Skeleton
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_idx_in_range.Gen.facts, Cert.Pre_inputs_ok.Gen.facts,
  Gather.frame_kernel, Gather.frame_kernelIdeal, Gather.frame_kernelIdeal_ok, Gather.frame_reference, Gather.frame_reference_ok, Gather.preserves, Gather.algebraic⟩

end Cert.Proof

end
